-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "mask" .f32 0xF149F2CA#32 ⊥

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v20_0)) (v1 : (c : Dev Cert.Kernel10Ideal.nD) → Buf (Elt Ideal) ((c.tc : Thread Cert.Kernel10Ideal.nD Cert.Kernel10Ideal.τ).loc Cert.Kernel10Ideal.main_v20_1)) (v2 : (c : Dev Cert.Kernel10Ideal.nD) → Buf (Elt Ideal) ((c.tc : Thread Cert.Kernel10Ideal.nD Cert.Kernel10Ideal.τ).loc Cert.Kernel10Ideal.main_v20_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20_0) = v0 c
          ∧ r.2.mem ((c.tc : Thread Cert.Kernel10Ideal.nD Cert.Kernel10Ideal.τ).loc Cert.Kernel10Ideal.main_v20_1) = v1 c
          ∧ r.2.mem ((c.tc : Thread Cert.Kernel10Ideal.nD Cert.Kernel10Ideal.τ).loc Cert.Kernel10Ideal.main_v20_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v35) = v1 c
          ∧ r.2.mem ((c.tc : Thread Cert.Reference10Ideal.nD Cert.Reference10Ideal.τ).loc Cert.Reference10Ideal.main_v44) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v58) = v0 c
          ∧ r.2.mem ((c.tc : Thread Cert.Reference11Ideal.nD Cert.Reference11Ideal.τ).loc Cert.Reference11Ideal.main_v82) = v1 c
          ∧ r.2.mem ((c.tc : Thread Cert.Reference11Ideal.nD Cert.Reference11Ideal.τ).loc Cert.Reference11Ideal.main_v63) = v2 c
          ∧ r.2.mem ((c.tc : Thread Cert.Reference11Ideal.nD Cert.Reference11Ideal.τ).loc Cert.Reference11Ideal.main_v69) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite3 : Cert.Pre_finite3.Facts) (hPre_finite4 : Cert.Pre_finite4.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S2x2048x512 : Shape := ⟨3, ![2, 2048, 512]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S2x2048x8x64 : Shape := ⟨4, ![2, 2048, 8, 64]⟩
abbrev S_ : Shape := ⟨0, ![]⟩

class Facts : Prop where
  transposes_S2x8x2048_S2x2048x8_0_2_1 : S2x8x2048.Transposes [0, 2, 1] S2x2048x8
  bcast_S2x2048x8_S2x2048x8x1_0_1_2 : S2x2048x8.BroadcastsInDim S2x2048x8x1 (![0, 1, 2] : Fin 3 → Fin S2x2048x8x1.rank)
  bcast_S2x2048x8x1_S2x2048x8x64_0_1_2_3 : S2x2048x8x1.BroadcastsInDim S2x2048x8x64 (![0, 1, 2, 3] : Fin 4 → Fin S2x2048x8x64.rank)
  shapeCasts_S2x2048x8x64_S2x2048x512 : S2x2048x8x64.ShapeCasts S2x2048x512
  bcast_S_S2x2048x512 : S_.BroadcastsInDim S2x2048x512 (![] : Fin 0 → Fin S2x2048x512.rank)

variable [Facts]

def fn_part1 {F : FTy → Type} [FloatOps F] (main_arg5 : FVec F S2x2048x512 .f32) (main_v18 : IVec S2x2048x512 1) (main_v19 : FVec F S2x2048x512 .f32) : IVec S2x2048x512 1 :=
  let main_cst_3 : FVec F S_ .f32 := constant S_ .f32 0x7F800000#32
  let main_v20 : FVec F S2x2048x512 .f32 := broadcastInDim S2x2048x512 ![] bcast_S_S2x2048x512 main_cst_3
  let main_v21 : IVec S2x2048x512 1 := cmpf .olt main_v19 main_v20
  let main_v22 : IVec S2x2048x512 1 := andi main_v18 main_v21
  let main_v23 : FVec F S2x2048x512 .f32 := Host.absf main_arg5
  let main_cst_4 : FVec F S_ .f32 := constant S_ .f32 0x7F800000#32
  let main_v24 : FVec F S2x2048x512 .f32 := broadcastInDim S2x2048x512 ![] bcast_S_S2x2048x512 main_cst_4
  let main_v25 : IVec S2x2048x512 1 := cmpf .olt main_v23 main_v24
  let main_v26 : IVec S2x2048x512 1 := andi main_v22 main_v25
  main_v26

def fn {F : FTy → Type} [FloatOps F] (main_arg0 : FVec F S2x2048x512 .f32) (main_arg1 : FVec F S2x2048x512 .f32) (main_arg2 : FVec F S2x2048x512 .f32) (main_arg3 : FVec F S2x2048x512 .f32) (main_arg4 : FVec F S2x8x2048 .f32) (main_arg5 : FVec F S2x2048x512 .f32) : IVec S2x2048x512 1 :=
  let main_v0 : FVec F S2x2048x8 .f32 := (transpose S2x2048x8 [0, 2, 1] · transposes_S2x8x2048_S2x2048x8_0_2_1) main_arg4
  let main_v1 : FVec F S2x2048x8x1 .f32 := broadcastInDim S2x2048x8x1 ![0, 1, 2] bcast_S2x2048x8_S2x2048x8x1_0_1_2 main_v0
  let main_v2 : FVec F S2x2048x8x64 .f32 := broadcastInDim S2x2048x8x64 ![0, 1, 2, 3] bcast_S2x2048x8x1_S2x2048x8x64_0_1_2_3 main_v1
  let main_v3 : FVec F S2x2048x512 .f32 := shapeCast S2x2048x512 main_v2 shapeCasts_S2x2048x8x64_S2x2048x512
  let main_v4 : FVec F S2x2048x512 .f32 := Host.absf main_arg0
  let main_cst : FVec F S_ .f32 := constant S_ .f32 0x7F800000#32
  let main_v5 : FVec F S2x2048x512 .f32 := broadcastInDim S2x2048x512 ![] bcast_S_S2x2048x512 main_cst
  let main_v6 : IVec S2x2048x512 1 := cmpf .olt main_v4 main_v5
  let main_v7 : FVec F S2x2048x512 .f32 := Host.absf main_arg1
  let main_cst_0 : FVec F S_ .f32 := constant S_ .f32 0x7F800000#32
  let main_v8 : FVec F S2x2048x512 .f32 := broadcastInDim S2x2048x512 ![] bcast_S_S2x2048x512 main_cst_0
  let main_v9 : IVec S2x2048x512 1 := cmpf .olt main_v7 main_v8
  let main_v10 : IVec S2x2048x512 1 := andi main_v6 main_v9
  let main_v11 : FVec F S2x2048x512 .f32 := Host.absf main_arg2
  let main_cst_1 : FVec F S_ .f32 := constant S_ .f32 0x7F800000#32
  let main_v12 : FVec F S2x2048x512 .f32 := broadcastInDim S2x2048x512 ![] bcast_S_S2x2048x512 main_cst_1
  let main_v13 : IVec S2x2048x512 1 := cmpf .olt main_v11 main_v12
  let main_v14 : IVec S2x2048x512 1 := andi main_v10 main_v13
  let main_v15 : FVec F S2x2048x512 .f32 := Host.absf main_arg3
  let main_cst_2 : FVec F S_ .f32 := constant S_ .f32 0x7F800000#32
  let main_v16 : FVec F S2x2048x512 .f32 := broadcastInDim S2x2048x512 ![] bcast_S_S2x2048x512 main_cst_2
  let main_v17 : IVec S2x2048x512 1 := cmpf .olt main_v15 main_v16
  let main_v18 : IVec S2x2048x512 1 := andi main_v14 main_v17
  let main_v19 : FVec F S2x2048x512 .f32 := Host.absf main_v3
  fn_part1 (F := F) main_arg5 main_v18 main_v19
-- ==== Pre_finite10.lean ====
abbrev S2x2048x512 : Shape := ⟨3, ![2, 2048, 512]⟩
abbrev S2x8x2048 : Shape := ⟨3, ![2, 8, 2048]⟩
abbrev S_ : Shape := ⟨0, ![]⟩
abbrev S2x2048x8 : Shape := ⟨3, ![2, 2048, 8]⟩
abbrev S2x2048x8x1 : Shape := ⟨4, ![2, 2048, 8, 1]⟩
abbrev S2x2048x8x64 : Shape := ⟨4, ![2, 2048, 8, 64]⟩

class Facts : Prop where
  bcast_S_S2x2048x512 : S_.BroadcastsInDim S2x2048x512 (![] : Fin 0 → Fin S2x2048x512.rank)
  transposes_S2x8x2048_S2x2048x8_0_2_1 : S2x8x2048.Transposes [0, 2, 1] S2x2048x8
  bcast_S2x2048x8_S2x2048x8x1_0_1_2 : S2x2048x8.BroadcastsInDim S2x2048x8x1 (![0, 1, 2] : Fin 3 → Fin S2x2048x8x1.rank)
  bcast_S2x2048x8x1_S2x2048x8x64_0_1_2_3 : S2x2048x8x1.BroadcastsInDim S2x2048x8x64 (![0, 1, 2, 3] : Fin 4 → Fin S2x2048x8x64.rank)
  shapeCasts_S2x2048x8x64_S2x2048x512 : S2x2048x8x64.ShapeCasts S2x2048x512

variable [Facts]

def fn_part1 {F : FTy → Type} [FloatOps F] (main_v0 : FVec F S2x2048x512 .f32) (main_v4 : FVec F S2x2048x512 .f32) (main_v15 : IVec S2x2048x512 1) (main_v18 : IVec S2x2048x512 1) : IVec S2x2048x512 1 :=
  let main_v19 : IVec S2x2048x512 1 := andi main_v15 main_v18
  let main_v20 : FVec F S2x2048x512 .f32 := Host.absf main_v4
  let main_cst_4 : FVec F S_ .f32 := constant S_ .f32 0x7F800000#32
  let main_v21 : FVec F S2x2048x512 .f32 := broadcastInDim S2x2048x512 ![] bcast_S_S2x2048x512 main_cst_4
  let main_v22 : IVec S2x2048x512 1 := cmpf .olt main_v20 main_v21
  let main_v23 : IVec S2x2048x512 1 := andi main_v19 main_v22
  let main_v24 : FVec F S2x2048x512 .f32 := Host.absf main_v0
  let main_cst_5 : FVec F S_ .f32 := constant S_ .f32 0x7F800000#32
  let main_v25 : FVec F S2x2048x512 .f32 := broadcastInDim S2x2048x512 ![] bcast_S_S2x2048x512 main_cst_5
  let main_v26 : IVec S2x2048x512 1 := cmpf .olt main_v24 main_v25
  let main_v27 : IVec S2x2048x512 1 := andi main_v23 main_v26
  main_v27

def fn {F : FTy → Type} [FloatOps F] (main_arg0 : FVec F S2x2048x512 .f32) (main_arg1 : FVec F S2x2048x512 .f32) (main_arg2 : FVec F S2x2048x512 .f32) (main_arg3 : FVec F S2x2048x512 .f32) (main_arg4 : FVec F S2x8x2048 .f32) : IVec S2x2048x512 1 :=
  let main_cst : FVec F S_ .f32 := constant S_ .f32 0x00000000#32
  let main_v0 : FVec F S2x2048x512 .f32 := broadcastInDim S2x2048x512 ![] bcast_S_S2x2048x512 main_cst
  let main_v1 : FVec F S2x2048x8 .f32 := (transpose S2x2048x8 [0, 2, 1] · transposes_S2x8x2048_S2x2048x8_0_2_1) main_arg4
  let main_v2 : FVec F S2x2048x8x1 .f32 := broadcastInDim S2x2048x8x1 ![0, 1, 2] bcast_S2x2048x8_S2x2048x8x1_0_1_2 main_v1
  let main_v3 : FVec F S2x2048x8x64 .f32 := broadcastInDim S2x2048x8x64 ![0, 1, 2, 3] bcast_S2x2048x8x1_S2x2048x8x64_0_1_2_3 main_v2
  let main_v4 : FVec F S2x2048x512 .f32 := shapeCast S2x2048x512 main_v3 shapeCasts_S2x2048x8x64_S2x2048x512
  let main_v5 : FVec F S2x2048x512 .f32 := Host.absf main_arg0
  let main_cst_0 : FVec F S_ .f32 := constant S_ .f32 0x7F800000#32
  let main_v6 : FVec F S2x2048x512 .f32 := broadcastInDim S2x2048x512 ![] bcast_S_S2x2048x512 main_cst_0
  let main_v7 : IVec S2x2048x512 1 := cmpf .olt main_v5 main_v6
  let main_v8 : FVec F S2x2048x512 .f32 := Host.absf main_arg1
  let main_cst_1 : FVec F S_ .f32 := constant S_ .f32 0x7F800000#32
  let main_v9 : FVec F S2x2048x512 .f32 := broadcastInDim S2x2048x512 ![] bcast_S_S2x2048x512 main_cst_1
  let main_v10 : IVec S2x2048x512 1 := cmpf .olt main_v8 main_v9
  let main_v11 : IVec S2x2048x512 1 := andi main_v7 main_v10
  let main_v12 : FVec F S2x2048x512 .f32 := Host.absf main_arg2
  let main_cst_2 : FVec F S_ .f32 := constant S_ .f32 0x7F800000#32
  let main_v13 : FVec F S2x2048x512 .f32 := broadcastInDim S2x2048x512 ![] bcast_S_S2x2048x512 main_cst_2
  let main_v14 : IVec S2x2048x512 1 := cmpf .olt main_v12 main_v13
  let main_v15 : IVec S2x2048x512 1 := andi main_v11 main_v14
  let main_v16 : FVec F S2x2048x512 .f32 := Host.absf main_arg3
  let main_cst_3 : FVec F S_ .f32 := constant S_ .f32 0x7F800000#32
  let main_v17 : FVec F S2x2048x512 .f32 := broadcastInDim S2x2048x512 ![] bcast_S_S2x2048x512 main_cst_3
  let main_v18 : IVec S2x2048x512 1 := cmpf .olt main_v16 main_v17
  fn_part1 (F := F) main_v0 main_v4 main_v15 main_v18
-- ==== Pre_finite11.lean ====
abbrev S328x128 : Shape := ⟨2, ![328, 128]⟩
abbrev S2x256 : Shape := ⟨2, ![2, 256]⟩
abbrev S_ : Shape := ⟨0, ![]⟩

class Facts : Prop where
  bcast_S_S2x256 : S_.BroadcastsInDim S2x256 (![] : Fin 0 → Fin S2x256.rank)

variable [Facts]

def fn {F : FTy → Type} [FloatOps F] (main_arg0 : FVec F S328x128 .f32) (main_arg1 : FVec F S2x256 .f32) (main_arg2 : FVec F S328x128 .f32) (main_arg3 : FVec F S328x128 .f32) (main_arg4 : FVec F S328x128 .f32) : IVec S2x256 1 :=
  let main_v0 : FVec F S2x256 .f32 := Host.absf main_arg1
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  main_v2
-- ==== Pre_finite3.lean ====
abbrev S4096x1024 : Shape := ⟨2, ![4096, 1024]⟩
abbrev S1x1024 : Shape := ⟨2, ![1, 1024]⟩
abbrev S1024x3712 : Shape := ⟨2, ![1024, 3712]⟩
abbrev S4096x512 : Shape := ⟨2, ![4096, 512]⟩
abbrev S4096x2048 : Shape := ⟨2, ![4096, 2048]⟩
abbrev S4096x128 : Shape := ⟨2, ![4096, 128]⟩
abbrev S_ : Shape := ⟨0, ![]⟩
abbrev S1x1x1024 : Shape := ⟨3, ![1, 1, 1024]⟩
abbrev S4096x1x1024 : Shape := ⟨3, ![4096, 1, 1024]⟩
abbrev S1x1024x3712 : Shape := ⟨3, ![1, 1024, 3712]⟩
abbrev S4x1024x3712 : Shape := ⟨3, ![4, 1024, 3712]⟩
abbrev S4096x3712 : Shape := ⟨2, ![4096, 3712]⟩
abbrev S4096x9472 : Shape := ⟨2, ![4096, 9472]⟩

class Facts : Prop where
  bcast_S_S4096x1024 : S_.BroadcastsInDim S4096x1024 (![] : Fin 0 → Fin S4096x1024.rank)
  bcast_S1x1024_S1x1x1024_1_2 : S1x1024.BroadcastsInDim S1x1x1024 (![1, 2] : Fin 2 → Fin S1x1x1024.rank)
  bcast_S1x1x1024_S4096x1x1024_0_1_2 : S1x1x1024.BroadcastsInDim S4096x1x1024 (![0, 1, 2] : Fin 3 → Fin S4096x1x1024.rank)
  shapeCasts_S4096x1x1024_S4096x1024 : S4096x1x1024.ShapeCasts S4096x1024
  bcast_S1024x3712_S1x1024x3712_1_2 : S1024x3712.BroadcastsInDim S1x1024x3712 (![1, 2] : Fin 2 → Fin S1x1024x3712.rank)
  bcast_S1x1024x3712_S4x1024x3712_0_1_2 : S1x1024x3712.BroadcastsInDim S4x1024x3712 (![0, 1, 2] : Fin 3 → Fin S4x1024x3712.rank)
  shapeCasts_S4x1024x3712_S4096x3712 : S4x1024x3712.ShapeCasts S4096x3712
  bitsLt_bf16_f32 : FTy.bits .bf16 < FTy.bits .f32
  bcast_S_S4096x3712 : S_.BroadcastsInDim S4096x3712 (![] : Fin 0 → Fin S4096x3712.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S4096x128 : S_.BroadcastsInDim S4096x128 (![] : Fin 0 → Fin S4096x128.rank)
  concatenates_S4096x1024_S4096x1024_S4096x3712_S4096x1024_S4096x512_S4096x2048_S4096x128_S4096x9472_d1 : Shape.Concatenates [S4096x1024, S4096x1024, S4096x3712, S4096x1024, S4096x512, S4096x2048, S4096x128] S4096x9472 1

variable [Facts]

def fn_part1 {F : FTy → Type} [FloatOps F] (main_arg5 : FVec F S4096x512 .bf16) (main_arg6 : FVec F S4096x2048 .bf16) (main_arg7 : FVec F S4096x128 .bf16) (main_v2 : IVec S4096x1024 1) (main_v8 : IVec S4096x1024 1) (main_v15 : IVec S4096x3712 1) (main_v19 : IVec S4096x1024 1) : IVec S4096x9472 1 :=
  let main_v20 : FVec F S4096x512 .f32 := (extf .f32 · bitsLt_bf16_f32) main_arg5
  let main_v21 : FVec F S4096x512 .f32 := Host.absf main_v20
  let main_cst_3 : FVec F S_ .f32 := constant S_ .f32 0x7F800000#32
  let main_v22 : FVec F S4096x512 .f32 := broadcastInDim S4096x512 ![] bcast_S_S4096x512 main_cst_3
  let main_v23 : IVec S4096x512 1 := cmpf .olt main_v21 main_v22
  let main_v24 : FVec F S4096x2048 .f32 := (extf .f32 · bitsLt_bf16_f32) main_arg6
  let main_v25 : FVec F S4096x2048 .f32 := Host.absf main_v24
  let main_cst_4 : FVec F S_ .f32 := constant S_ .f32 0x7F800000#32
  let main_v26 : FVec F S4096x2048 .f32 := broadcastInDim S4096x2048 ![] bcast_S_S4096x2048 main_cst_4
  let main_v27 : IVec S4096x2048 1 := cmpf .olt main_v25 main_v26
  let main_v28 : FVec F S4096x128 .f32 := (extf .f32 · bitsLt_bf16_f32) main_arg7
  let main_v29 : FVec F S4096x128 .f32 := Host.absf main_v28
  let main_cst_5 : FVec F S_ .f32 := constant S_ .f32 0x7F800000#32
  let main_v30 : FVec F S4096x128 .f32 := broadcastInDim S4096x128 ![] bcast_S_S4096x128 main_cst_5
  let main_v31 : IVec S4096x128 1 := cmpf .olt main_v29 main_v30
  let main_v32 : IVec S4096x9472 1 := concatenate S4096x9472 1 [⟨S4096x1024, main_v2⟩, ⟨S4096x1024, main_v8⟩, ⟨S4096x3712, main_v15⟩, ⟨S4096x1024, main_v19⟩, ⟨S4096x512, main_v23⟩, ⟨S4096x2048, main_v27⟩, ⟨S4096x128, main_v31⟩] concatenates_S4096x1024_S4096x1024_S4096x3712_S4096x1024_S4096x512_S4096x2048_S4096x128_S4096x9472_d1
  main_v32

def fn {F : FTy → Type} [FloatOps F] (main_arg0 : FVec F S4096x1024 .f32) (main_arg1 : FVec F S4096x1024 .f32) (main_arg2 : FVec F S1x1024 .f32) (main_arg3 : FVec F S1024x3712 .bf16) (main_arg4 : FVec F S4096x1024 .bf16) (main_arg5 : FVec F S4096x512 .bf16) (main_arg6 : FVec F S4096x2048 .bf16) (main_arg7 : FVec F S4096x128 .bf16) : IVec S4096x9472 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1x1024 .f32 := broadcastInDim S1x1x1024 ![1, 2] bcast_S1x1024_S1x1x1024_1_2 main_arg2
  let main_v4 : FVec F S4096x1x1024 .f32 := broadcastInDim S4096x1x1024 ![0, 1, 2] bcast_S1x1x1024_S4096x1x1024_0_1_2 main_v3
  let main_v5 : FVec F S4096x1024 .f32 := shapeCast S4096x1024 main_v4 shapeCasts_S4096x1x1024_S4096x1024
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_v9 : FVec F S1x1024x3712 .bf16 := broadcastInDim S1x1024x3712 ![1, 2] bcast_S1024x3712_S1x1024x3712_1_2 main_arg3
  let main_v10 : FVec F S4x1024x3712 .bf16 := broadcastInDim S4x1024x3712 ![0, 1, 2] bcast_S1x1024x3712_S4x1024x3712_0_1_2 main_v9
  let main_v11 : FVec F S4096x3712 .bf16 := shapeCast S4096x3712 main_v10 shapeCasts_S4x1024x3712_S4096x3712
  let main_v12 : FVec F S4096x3712 .f32 := (extf .f32 · bitsLt_bf16_f32) main_v11
  let main_v13 : FVec F S4096x3712 .f32 := Host.absf main_v12
  let main_cst_1 : FVec F S_ .f32 := constant S_ .f32 0x7F800000#32
  let main_v14 : FVec F S4096x3712 .f32 := broadcastInDim S4096x3712 ![] bcast_S_S4096x3712 main_cst_1
  let main_v15 : IVec S4096x3712 1 := cmpf .olt main_v13 main_v14
  let main_v16 : FVec F S4096x1024 .f32 := (extf .f32 · bitsLt_bf16_f32) main_arg4
  let main_v17 : FVec F S4096x1024 .f32 := Host.absf main_v16
  let main_cst_2 : FVec F S_ .f32 := constant S_ .f32 0x7F800000#32
  let main_v18 : FVec F S4096x1024 .f32 := broadcastInDim S4096x1024 ![] bcast_S_S4096x1024 main_cst_2
  let main_v19 : IVec S4096x1024 1 := cmpf .olt main_v17 main_v18
  fn_part1 (F := F) main_arg5 main_arg6 main_arg7 main_v2 main_v8 main_v15 main_v19
-- ==== Pre_finite4.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S1x1024x1024 : Shape := ⟨3, ![1, 1024, 1024]⟩
abbrev S4x1024x1024 : Shape := ⟨3, ![4, 1024, 1024]⟩
abbrev S1x1x1024 : Shape := ⟨3, ![1, 1, 1024]⟩
abbrev S4096x1x1024 : Shape := ⟨3, ![4096, 1, 1024]⟩
abbrev S4096x4096 : Shape := ⟨2, ![4096, 4096]⟩

class Facts : Prop where
  bcast_S_S4096x1024 : S_.BroadcastsInDim S4096x1024 (![] : Fin 0 → Fin S4096x1024.rank)
  bitsLt_bf16_f32 : FTy.bits .bf16 < FTy.bits .f32
  bcast_S_S4096x256 : S_.BroadcastsInDim S4096x256 (![] : Fin 0 → Fin S4096x256.rank)
  bcast_S_S4096x512 : S_.BroadcastsInDim S4096x512 (![] : Fin 0 → Fin S4096x512.rank)
  bcast_S1024x1024_S1x1024x1024_1_2 : S1024x1024.BroadcastsInDim S1x1024x1024 (![1, 2] : Fin 2 → Fin S1x1024x1024.rank)
  bcast_S1x1024x1024_S4x1024x1024_0_1_2 : S1x1024x1024.BroadcastsInDim S4x1024x1024 (![0, 1, 2] : Fin 3 → Fin S4x1024x1024.rank)
  shapeCasts_S4x1024x1024_S4096x1024 : S4x1024x1024.ShapeCasts S4096x1024
  bcast_S1x1024_S1x1x1024_1_2 : S1x1024.BroadcastsInDim S1x1x1024 (![1, 2] : Fin 2 → Fin S1x1x1024.rank)
  bcast_S1x1x1024_S4096x1x1024_0_1_2 : S1x1x1024.BroadcastsInDim S4096x1x1024 (![0, 1, 2] : Fin 3 → Fin S4096x1x1024.rank)
  shapeCasts_S4096x1x1024_S4096x1024 : S4096x1x1024.ShapeCasts S4096x1024
  concatenates_S4096x1024_S4096x256_S4096x256_S4096x512_S4096x1024_S4096x1024_S4096x4096_d1 : Shape.Concatenates [S4096x1024, S4096x256, S4096x256, S4096x512, S4096x1024, S4096x1024] S4096x4096 1

variable [Facts]

def fn_part1 {F : FTy → Type} [FloatOps F] (main_arg5 : FVec F S1x1024 .f32) (main_v2 : IVec S4096x1024 1) (main_v6 : IVec S4096x256 1) (main_v10 : IVec S4096x256 1) (main_v14 : IVec S4096x512 1) (main_v19 : FVec F S4096x1024 .f32) : IVec S4096x4096 1 :=
  let main_cst_3 : FVec F S_ .f32 := constant S_ .f32 0x7F800000#32
  let main_v20 : FVec F S4096x1024 .f32 := broadcastInDim S4096x1024 ![] bcast_S_S4096x1024 main_cst_3
  let main_v21 : IVec S4096x1024 1 := cmpf .olt main_v19 main_v20
  let main_v22 : FVec F S1x1x1024 .f32 := broadcastInDim S1x1x1024 ![1, 2] bcast_S1x1024_S1x1x1024_1_2 main_arg5
  let main_v23 : FVec F S4096x1x1024 .f32 := broadcastInDim S4096x1x1024 ![0, 1, 2] bcast_S1x1x1024_S4096x1x1024_0_1_2 main_v22
  let main_v24 : FVec F S4096x1024 .f32 := shapeCast S4096x1024 main_v23 shapeCasts_S4096x1x1024_S4096x1024
  let main_v25 : FVec F S4096x1024 .f32 := Host.absf main_v24
  let main_cst_4 : FVec F S_ .f32 := constant S_ .f32 0x7F800000#32
  let main_v26 : FVec F S4096x1024 .f32 := broadcastInDim S4096x1024 ![] bcast_S_S4096x1024 main_cst_4
  let main_v27 : IVec S4096x1024 1 := cmpf .olt main_v25 main_v26
  let main_v28 : IVec S4096x4096 1 := concatenate S4096x4096 1 [⟨S4096x1024, main_v2⟩, ⟨S4096x256, main_v6⟩, ⟨S4096x256, main_v10⟩, ⟨S4096x512, main_v14⟩, ⟨S4096x1024, main_v21⟩, ⟨S4096x1024, main_v27⟩] concatenates_S4096x1024_S4096x256_S4096x256_S4096x512_S4096x1024_S4096x1024_S4096x4096_d1
  main_v28

def fn {F : FTy → Type} [FloatOps F] (main_arg0 : FVec F S4096x1024 .f32) (main_arg1 : FVec F S4096x256 .bf16) (main_arg2 : FVec F S4096x256 .bf16) (main_arg3 : FVec F S4096x512 .bf16) (main_arg4 : FVec F S1024x1024 .bf16) (main_arg5 : FVec F S1x1024 .f32) : IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := (extf .f32 · bitsLt_bf16_f32) main_arg1
  let main_v4 : FVec F S4096x256 .f32 := Host.absf main_v3
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_v7 : FVec F S4096x256 .f32 := (extf .f32 · bitsLt_bf16_f32) main_arg2
  let main_v8 : FVec F S4096x256 .f32 := Host.absf main_v7
  let main_cst_1 : FVec F S_ .f32 := constant S_ .f32 0x7F800000#32
  let main_v9 : FVec F S4096x256 .f32 := broadcastInDim S4096x256 ![] bcast_S_S4096x256 main_cst_1
  let main_v10 : IVec S4096x256 1 := cmpf .olt main_v8 main_v9
  let main_v11 : FVec F S4096x512 .f32 := (extf .f32 · bitsLt_bf16_f32) main_arg3
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_v15 : FVec F S1x1024x1024 .bf16 := broadcastInDim S1x1024x1024 ![1, 2] bcast_S1024x1024_S1x1024x1024_1_2 main_arg4
  let main_v16 : FVec F S4x1024x1024 .bf16 := broadcastInDim S4x1024x1024 ![0, 1, 2] bcast_S1x1024x1024_S4x1024x1024_0_1_2 main_v15
  let main_v17 : FVec F S4096x1024 .bf16 := shapeCast S4096x1024 main_v16 shapeCasts_S4x1024x1024_S4096x1024
  let main_v18 : FVec F S4096x1024 .f32 := (extf .f32 · bitsLt_bf16_f32) main_v17
  let main_v19 : FVec F S4096x1024 .f32 := Host.absf main_v18
  fn_part1 (F := F) main_arg5 main_v2 main_v6 main_v10 main_v14 main_v19
-- ==== Kernel.lean ====
abbrev S2x2048x512 : Shape := ⟨3, ![2, 2048, 512]⟩
abbrev S2x8x2048 : Shape := ⟨3, ![2, 8, 2048]⟩
abbrev S2x2048x4x128 : Shape := ⟨4, ![2, 2048, 4, 128]⟩
abbrev S2x2048x4x1x128 : Shape := ⟨5, ![2, 2048, 4, 1, 128]⟩
abbrev S2x2048x4x4x128 : Shape := ⟨5, ![2, 2048, 4, 4, 128]⟩
abbrev S2x2048x2048 : Shape := ⟨3, ![2, 2048, 2048]⟩
abbrev S_ : Shape := ⟨0, ![]⟩
abbrev S2x2048x1536 : Shape := ⟨3, ![2, 2048, 1536]⟩
abbrev S2x2048x128 : Shape := ⟨3, ![2, 2048, 128]⟩
abbrev S2x2048x3712 : Shape := ⟨3, ![2, 2048, 3712]⟩
abbrev S2x2048x1024 : Shape := ⟨3, ![2, 2048, 1024]⟩
abbrev S2x2048x8x64 : Shape := ⟨4, ![2, 2048, 8, 64]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x4x2x2048 : Shape := ⟨4, ![2, 4, 2, 2048]⟩
abbrev S2x4x6x2048 : Shape := ⟨4, ![2, 4, 6, 2048]⟩
abbrev S2x4x8x2048 : Shape := ⟨4, ![2, 4, 8, 2048]⟩
abbrev S2x2048x8 : Shape := ⟨3, ![2, 2048, 8]⟩
abbrev S2x2048x8x1 : Shape := ⟨4, ![2, 2048, 8, 1]⟩
abbrev S1x2048x512 : Shape := ⟨3, ![1, 2048, 512]⟩
abbrev S1x2048x128 : Shape := ⟨3, ![1, 2048, 128]⟩
abbrev S1x1x8x2048 : Shape := ⟨4, ![1, 1, 8, 2048]⟩
abbrev S2048x128 : Shape := ⟨2, ![2048, 128]⟩
abbrev S1x512x128 : Shape := ⟨3, ![1, 512, 128]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S8x2048 : Shape := ⟨2, ![8, 2048]⟩
abbrev S1x128 : Shape := ⟨2, ![1, 128]⟩
abbrev S1x1x1x512 : Shape := ⟨4, ![1, 1, 1, 512]⟩
abbrev S1x512 : Shape := ⟨2, ![1, 512]⟩
abbrev S512x512 : Shape := ⟨2, ![512, 512]⟩
abbrev S1x512x1 : Shape := ⟨3, ![1, 512, 1]⟩

abbrev nBuf : Space → Nat
  | .hbm => 86
  | .vmem => 21
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x8x2048, .f32⟩
  | .hbm, ⟨5, _⟩ => ⟨S2x2048x512, .f32⟩
  | .hbm, ⟨6, _⟩ => ⟨S2x2048x4x128, .f32⟩
  | .hbm, ⟨7, _⟩ => ⟨S2x2048x4x128, .f32⟩
  | .hbm, ⟨8, _⟩ => ⟨S2x2048x4x128, .f32⟩
  | .hbm, ⟨9, _⟩ => ⟨S2x2048x4x128, .f32⟩
  | .hbm, ⟨10, _⟩ => ⟨S2x2048x4x1x128, .f32⟩
  | .hbm, ⟨11, _⟩ => ⟨S2x2048x4x1x128, .f32⟩
  | .hbm, ⟨12, _⟩ => ⟨S2x2048x4x1x128, .f32⟩
  | .hbm, ⟨13, _⟩ => ⟨S2x2048x4x1x128, .f32⟩
  | .hbm, ⟨14, _⟩ => ⟨S2x2048x4x4x128, .f32⟩
  | .hbm, ⟨15, _⟩ => ⟨S2x2048x2048, .f32⟩
  | .hbm, ⟨16, _⟩ => ⟨S_, .f32⟩
  | .hbm, ⟨17, _⟩ => ⟨S2x2048x1536, .f32⟩
  | .hbm, ⟨18, _⟩ => ⟨S_, .f32⟩
  | .hbm, ⟨19, _⟩ => ⟨S2x2048x128, .f32⟩
  | .hbm, ⟨20, _⟩ => ⟨S2x2048x3712, .f32⟩
  | .hbm, ⟨21, _⟩ => ⟨S_, .f32⟩
  | .hbm, ⟨22, _⟩ => ⟨S2x2048x512, .f32⟩
  | .hbm, ⟨23, _⟩ => ⟨S2x2048x1024, .f32⟩
  | .hbm, ⟨24, _⟩ => ⟨S2x2048x8x64, .f32⟩
  | .hbm, ⟨25, _⟩ => ⟨S2x2048x8x64, .f32⟩
  | .hbm, ⟨26, _⟩ => ⟨S2x2048x8x64, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S2x8x2048x2048, .f32⟩
  | .hbm, ⟨31, _⟩ => ⟨S2048, .i32⟩
  | .hbm, ⟨32, _⟩ => ⟨S2048x1, .i32⟩
  | .hbm, ⟨33, _⟩ => ⟨S2048, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S2x8x2048x1, .f32⟩
  | .hbm, ⟨39, _⟩ => ⟨S2x8x1x2048, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S_, .f32⟩
  | .hbm, ⟨45, _⟩ => ⟨S2x8x2048x2048, .i1⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S_, .f32⟩
  | .hbm, ⟨50, _⟩ => ⟨S_, .f32⟩
  | .hbm, ⟨51, _⟩ => ⟨S2x8x2048x2048, .i1⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x2048, .f32⟩
  | .hbm, ⟨64, _⟩ => ⟨S2x8x2048x2048, .f32⟩
  | .hbm, ⟨65, _⟩ => ⟨S2x8x64x2048, .f32⟩
  | .hbm, ⟨66, _⟩ => ⟨S2x2048x8x64, .f32⟩
  | .hbm, ⟨67, _⟩ => ⟨S2x2048x512, .f32⟩
  | .hbm, ⟨68, _⟩ => ⟨S2x8x2048x1, .f32⟩
  | .hbm, ⟨69, _⟩ => ⟨S2x8x2048x1, .f32⟩
  | .hbm, ⟨70, _⟩ => ⟨S2x8x2048, .f32⟩
  | .hbm, ⟨71, _⟩ => ⟨S2x4x2x2048, .f32⟩
  | .hbm, ⟨72, _⟩ => ⟨S_, .f32⟩
  | .hbm, ⟨73, _⟩ => ⟨S2x4x6x2048, .f32⟩
  | .hbm, ⟨74, _⟩ => ⟨S2x4x8x2048, .f32⟩
  | .hbm, ⟨75, _⟩ => ⟨S2x2048x8, .f32⟩
  | .hbm, ⟨76, _⟩ => ⟨S2x2048x8x1, .f32⟩
  | .hbm, ⟨77, _⟩ => ⟨S2x2048x8x64, .f32⟩
  | .hbm, ⟨78, _⟩ => ⟨S2x2048x512, .f32⟩
  | .hbm, ⟨79, _⟩ => ⟨S2x2048x8, .f32⟩
  | .hbm, ⟨80, _⟩ => ⟨S2x2048x8x1, .f32⟩
  | .hbm, ⟨81, _⟩ => ⟨S2x2048x8x64, .f32⟩
  | .hbm, ⟨82, _⟩ => ⟨S2x2048x512, .f32⟩
  | .hbm, ⟨83, _⟩ => ⟨S2x2048x2048, .bf16⟩
  | .hbm, ⟨84, _⟩ => ⟨S2x4x8x2048, .f32⟩
  | .hbm, ⟨85, _⟩ => ⟨S2x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x1x8x2048, .f32⟩
  | .local _ .vmem, ⟨11, _⟩ => ⟨S1x1x8x2048, .f32⟩
  | .local _ .vmem, ⟨12, _⟩ => ⟨S1x2048x512, .bf16⟩
  | .local _ .vmem, ⟨13, _⟩ => ⟨S1x2048x512, .bf16⟩
  | .local _ .vmem, ⟨14, _⟩ => ⟨S1x1x8x2048, .f32⟩
  | .local _ .vmem, ⟨15, _⟩ => ⟨S1x1x8x2048, .f32⟩
  | .local _ .vmem, ⟨16, _⟩ => ⟨S1x2048x128, .f32⟩
  | .local _ .vmem, ⟨17, _⟩ => ⟨S1x2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v62_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32 : BitVec 32 := 512#32
  let v14 : BitVec 32 := Scalar.muli arg14 c512_i32
  v14
def k0_off1 (k0_t1 : Fin k0_t1_loop.trips) : Fin 3 → Nat :=
  let c0_13 : Index := 0#32
  let c0_i32 : BitVec 32 := 0#32
  let c1_i32 : BitVec 32 := 1#32
  let arg14 : BitVec 32 := Scf.iv c0_i32 c1_i32 k0_t1
  let c512_i32 : BitVec 32 := 512#32
  let v14 : BitVec 32 := Scalar.muli arg14 c512_i32
  let v15 : BitVec 32 := v14
  let v16 : Index := Scalar.indexCast v15
  let c384 : Index := 384#32
  ![0, v16.toNat, 384]
def k0_off2 (k0_t1 : Fin k0_t1_loop.trips) : Fin 3 → Nat :=
  let c0_14 : Index := 0#32
  let c0_i32 : BitVec 32 := 0#32
  let c1_i32 : BitVec 32 := 1#32
  let arg14 : BitVec 32 := Scf.iv c0_i32 c1_i32 k0_t1
  let c512_i32 : BitVec 32 := 512#32
  let v14 : BitVec 32 := Scalar.muli arg14 c512_i32
  let v15 : BitVec 32 := v14
  let v19 : Index := Scalar.indexCast v15
  let c0_15 : Index := 0#32
  ![0, v19.toNat, 0]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c512_i32 : BitVec 32 := 512#32
  let v14 : BitVec 32 := Scalar.muli arg14 c512_i32
  let v15 : BitVec 32 := v14
  let v54 : Index := Scalar.indexCast v15
  let c0_28 : Index := 0#32
  ![v54.toNat, 0]
@[reducible] def k0_t2_loop : Scf.Loop 32 :=
  let c0_i32_4 : BitVec 32 := 0#32
  let c4_i32_5 : BitVec 32 := 4#32
  let v8 : BitVec 32 := Scalar.addi c0_i32_4 c4_i32_5
  let c1_i32_6 : BitVec 32 := 1#32
  ⟨c0_i32_4, v8, c1_i32_6⟩
def k0_mult2 (k0_t2 : Fin k0_t2_loop.trips) : BitVec 32 :=
  let c0_i32_4 : BitVec 32 := 0#32
  let c1_i32_6 : BitVec 32 := 1#32
  let arg14 : BitVec 32 := Scf.iv c0_i32_4 c1_i32_6 k0_t2
  let c512_i32 : BitVec 32 := 512#32
  let v14 : BitVec 32 := Scalar.muli arg14 c512_i32
  v14
def k0_off4 (k0_t2 : Fin k0_t2_loop.trips) : Fin 3 → Nat :=
  let c0_13 : Index := 0#32
  let c0_i32_4 : BitVec 32 := 0#32
  let c1_i32_6 : BitVec 32 := 1#32
  let arg14 : BitVec 32 := Scf.iv c0_i32_4 c1_i32_6 k0_t2
  let c512_i32 : BitVec 32 := 512#32
  let v14 : BitVec 32 := Scalar.muli arg14 c512_i32
  let v15 : BitVec 32 := v14
  let v16 : Index := Scalar.indexCast v15
  let c128 : Index := 128#32
  ![0, v16.toNat, 128]
def k0_off5 (k0_t2 : Fin k0_t2_loop.trips) : Fin 3 → Nat :=
  let c0_14 : Index := 0#32
  let c0_i32_4 : BitVec 32 := 0#32
  let c1_i32_6 : BitVec 32 := 1#32
  let arg14 : BitVec 32 := Scf.iv c0_i32_4 c1_i32_6 k0_t2
  let c512_i32 : BitVec 32 := 512#32
  let v14 : BitVec 32 := Scalar.muli arg14 c512_i32
  let v15 : BitVec 32 := v14
  let v20 : Index := Scalar.indexCast v15
  let c256 : Index := 256#32
  ![0, v20.toNat, 256]
def k0_off6 (k0_t2 : Fin k0_t2_loop.trips) : Fin 4 → Nat :=
  let c0_15 : Index := 0#32
  let c0_16 : Index := 0#32
  let c0_17 : Index := 0#32
  let c0_i32_4 : BitVec 32 := 0#32
  let c1_i32_6 : BitVec 32 := 1#32
  let arg14 : BitVec 32 := Scf.iv c0_i32_4 c1_i32_6 k0_t2
  let c512_i32 : BitVec 32 := 512#32
  let v14 : BitVec 32 := Scalar.muli arg14 c512_i32
  let v15 : BitVec 32 := v14
  let v24 : Index := Scalar.indexCast v15
  ![0, 0, 0, v24.toNat]
def k0_off7 (k0_t2 : Fin k0_t2_loop.trips) : Fin 4 → Nat :=
  let c0_18 : Index := 0#32
  let c0_19 : Index := 0#32
  let c1 : Index := 1#32
  let c0_i32_4 : BitVec 32 := 0#32
  let c1_i32_6 : BitVec 32 := 1#32
  let arg14 : BitVec 32 := Scf.iv c0_i32_4 c1_i32_6 k0_t2
  let c512_i32 : BitVec 32 := 512#32
  let v14 : BitVec 32 := Scalar.muli arg14 c512_i32
  let v15 : BitVec 32 := v14
  let v27 : Index := Scalar.indexCast v15
  ![0, 0, 1, v27.toNat]
def k0_mult3 (k0_t2 : Fin k0_t2_loop.trips) : BitVec 32 :=
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  v34
def k0_off8 (k0_t2 : Fin k0_t2_loop.trips) : Fin 3 → Nat :=
  let c0_27 : Index := 0#32
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v45 : Index := Scalar.indexCast v35
  let c0_28 : Index := 0#32
  ![0, v45.toNat, 0]
def k0_off9 (k0_t2 : Fin k0_t2_loop.trips) : Fin 2 → Nat :=
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v50 : Index := Scalar.indexCast v35
  let c0_30 : Index := 0#32
  ![v50.toNat, 0]
def k0_off10 (k0_t2 : Fin k0_t2_loop.trips) : Fin 3 → Nat :=
  let c0_35 : Index := 0#32
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v74 : Index := Scalar.indexCast v35
  let c0_36 : Index := 0#32
  ![0, v74.toNat, 0]
def k0_off11 (k0_t2 : Fin k0_t2_loop.trips) : Fin 2 → Nat :=
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v77 : Index := Scalar.indexCast v35
  let c0_37 : Index := 0#32
  ![v77.toNat, 0]
def k0_off12 (k0_t2 : Fin k0_t2_loop.trips) : Fin 3 → Nat :=
  let c0_48 : Index := 0#32
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v107 : Index := Scalar.indexCast v35
  let c64 : Index := 64#32
  ![0, v107.toNat, 64]
def k0_off13 (k0_t2 : Fin k0_t2_loop.trips) : Fin 2 → Nat :=
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v110 : Index := Scalar.indexCast v35
  let c64_49 : Index := 64#32
  ![v110.toNat, 64]
def k0_off14 (k0_t2 : Fin k0_t2_loop.trips) : Fin 3 → Nat :=
  let c0_63 : Index := 0#32
  let c0_i32_4 : BitVec 32 := 0#32
  let c1_i32_6 : BitVec 32 := 1#32
  let arg14 : BitVec 32 := Scf.iv c0_i32_4 c1_i32_6 k0_t2
  let c512_i32_24 : BitVec 32 := 512#32
  let v34 : BitVec 32 := Scalar.muli arg14 c512_i32_24
  let v35 : BitVec 32 := v34
  let v152 : Index := Scalar.indexCast v35
  let c0_64 : Index := 0#32
  ![0, v152.toNat, 0]
@[reducible] def k0_t3_loop (k0_t2 : Fin k0_t2_loop.trips) : Scf.Loop 32 :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_70 : BitVec 32 := 1#32
  ⟨v173, v178, c1_i32_70⟩
def k0_mult4 (k0_t2 : Fin k0_t2_loop.trips) (k0_t3 : Fin (k0_t3_loop k0_t2).trips) : BitVec 32 :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  v199
def k0_off15 (k0_t2 : Fin k0_t2_loop.trips) (k0_t3 : Fin (k0_t3_loop k0_t2).trips) : Fin 3 → Nat :=
  let c0_85 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v210 : Index := Scalar.indexCast v200
  let c0_86 : Index := 0#32
  ![0, v210.toNat, 0]
def k0_off16 (k0_t2 : Fin k0_t2_loop.trips) (k0_t3 : Fin (k0_t3_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v215 : Index := Scalar.indexCast v200
  let c0_88 : Index := 0#32
  ![v215.toNat, 0]
def k0_off17 (k0_t2 : Fin k0_t2_loop.trips) (k0_t3 : Fin (k0_t3_loop k0_t2).trips) : Fin 3 → Nat :=
  let c0_93 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v239 : Index := Scalar.indexCast v200
  let c0_94 : Index := 0#32
  ![0, v239.toNat, 0]
def k0_off18 (k0_t2 : Fin k0_t2_loop.trips) (k0_t3 : Fin (k0_t3_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v242 : Index := Scalar.indexCast v200
  let c0_95 : Index := 0#32
  ![v242.toNat, 0]
def k0_off19 (k0_t2 : Fin k0_t2_loop.trips) (k0_t3 : Fin (k0_t3_loop k0_t2).trips) : Fin 3 → Nat :=
  let c0_105 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v270 : Index := Scalar.indexCast v200
  let c64_106 : Index := 64#32
  ![0, v270.toNat, 64]
def k0_off20 (k0_t2 : Fin k0_t2_loop.trips) (k0_t3 : Fin (k0_t3_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v273 : Index := Scalar.indexCast v200
  let c64_107 : Index := 64#32
  ![v273.toNat, 64]
def k0_off21 (k0_t2 : Fin k0_t2_loop.trips) (k0_t3 : Fin (k0_t3_loop k0_t2).trips) : Fin 3 → Nat :=
  let c0_120 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c1_i32_70 : BitVec 32 := 1#32
  let arg15 : BitVec 32 := Scf.iv v173 c1_i32_70 k0_t3
  let c512_i32_82 : BitVec 32 := 512#32
  let v199 : BitVec 32 := Scalar.muli arg15 c512_i32_82
  let v200 : BitVec 32 := v199
  let v313 : Index := Scalar.indexCast v200
  let c0_121 : Index := 0#32
  ![0, v313.toNat, 0]
@[reducible] def k0_t4_loop (k0_t2 : Fin k0_t2_loop.trips) : Scf.Loop 32 :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let v175 : BitVec 32 := Scalar.addi v173 v174
  let c1_i32_71 : BitVec 32 := 1#32
  ⟨v178, v175, c1_i32_71⟩
def k0_mult5 (k0_t2 : Fin k0_t2_loop.trips) (k0_t4 : Fin (k0_t4_loop k0_t2).trips) : BitVec 32 :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  v199
def k0_off22 (k0_t2 : Fin k0_t2_loop.trips) (k0_t4 : Fin (k0_t4_loop k0_t2).trips) : Fin 3 → Nat :=
  let c0_85 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v210 : Index := Scalar.indexCast v200
  let c0_86 : Index := 0#32
  ![0, v210.toNat, 0]
def k0_off23 (k0_t2 : Fin k0_t2_loop.trips) (k0_t4 : Fin (k0_t4_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v215 : Index := Scalar.indexCast v200
  let c0_88 : Index := 0#32
  ![v215.toNat, 0]
def k0_off24 (k0_t2 : Fin k0_t2_loop.trips) (k0_t4 : Fin (k0_t4_loop k0_t2).trips) : Fin 3 → Nat :=
  let c0_93 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v239 : Index := Scalar.indexCast v200
  let c0_94 : Index := 0#32
  ![0, v239.toNat, 0]
def k0_off25 (k0_t2 : Fin k0_t2_loop.trips) (k0_t4 : Fin (k0_t4_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v242 : Index := Scalar.indexCast v200
  let c0_95 : Index := 0#32
  ![v242.toNat, 0]
def k0_off26 (k0_t2 : Fin k0_t2_loop.trips) (k0_t4 : Fin (k0_t4_loop k0_t2).trips) : Fin 3 → Nat :=
  let c0_105 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v270 : Index := Scalar.indexCast v200
  let c64_106 : Index := 64#32
  ![0, v270.toNat, 64]
def k0_off27 (k0_t2 : Fin k0_t2_loop.trips) (k0_t4 : Fin (k0_t4_loop k0_t2).trips) : Fin 2 → Nat :=
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v273 : Index := Scalar.indexCast v200
  let c64_107 : Index := 64#32
  ![v273.toNat, 64]
def k0_off28 (k0_t2 : Fin k0_t2_loop.trips) (k0_t4 : Fin (k0_t4_loop k0_t2).trips) : Fin 3 → Nat :=
  let c0_120 : Index := 0#32
  let c0_i32_4 : BitVec 32 := 0#32
  let c1_i32_6 : BitVec 32 := 1#32
  let arg14 : BitVec 32 := Scf.iv c0_i32_4 c1_i32_6 k0_t2
  let c1_i32_67 : BitVec 32 := 1#32
  let v173 : BitVec 32 := Scalar.addi arg14 c1_i32_67
  let c4_i32_68 : BitVec 32 := 4#32
  let v174 : BitVec 32 := Scalar.subi c4_i32_68 v173
  let c1_i32_69 : BitVec 32 := 1#32
  let v176 : BitVec 32 := Scalar.divsi v174 c1_i32_69
  let v177 : BitVec 32 := Scalar.muli v176 c1_i32_69
  let v178 : BitVec 32 := Scalar.addi v173 v177
  let c1_i32_71 : BitVec 32 := 1#32
  let arg15 : BitVec 32 := Scf.iv v178 c1_i32_71 k0_t4
  let c512_i32_82 : BitVec 32 := 512#32
  let v199 : BitVec 32 := Scalar.muli arg15 c512_i32_82
  let v200 : BitVec 32 := v199
  let v313 : Index := Scalar.indexCast v200
  let c0_121 : Index := 0#32
  ![0, v313.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x8x2048x64 : Shape := ⟨4, ![2, 8, 2048, 64]⟩
abbrev S2x2048x4x128 : Shape := ⟨4, ![2, 2048, 4, 128]⟩
abbrev S2x2048x4x1x128 : Shape := ⟨5, ![2, 2048, 4, 1, 128]⟩
abbrev S2x2048x4x4x128 : Shape := ⟨5, ![2, 2048, 4, 4, 128]⟩
abbrev S2x2048x2048 : Shape := ⟨3, ![2, 2048, 2048]⟩
abbrev S2x4x2x2048 : Shape := ⟨4, ![2, 4, 2, 2048]⟩
abbrev S2x4x8x2048 : Shape := ⟨4, ![2, 4, 8, 2048]⟩
abbrev S2x2048x8 : Shape := ⟨3, ![2, 2048, 8]⟩

abbrev nBuf : Space → Nat
  | .hbm => 165
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x8x2048, .f32⟩
  | 5 => ⟨S2x2048x512, .f32⟩
  | 6 => ⟨S2x2048x8x64, .f32⟩
  | 7 => ⟨S2x2048x8x64, .f32⟩
  | 8 => ⟨S2x2048x8x64, .f32⟩
  | 9 => ⟨S2x8x2048x2048, .f32⟩
  | 10 => ⟨S_, .f32⟩
  | 11 => ⟨S2x8x2048x2048, .f32⟩
  | 12 => ⟨S2x8x2048x2048, .f32⟩
  | 13 => ⟨S2048, .i32⟩
  | 14 => ⟨S2048x1, .i32⟩
  | 15 => ⟨S2048, .i32⟩
  | 16 => ⟨S1x2048, .i32⟩
  | 17 => ⟨S2048x2048, .i32⟩
  | 18 => ⟨S2048x2048, .i32⟩
  | 19 => ⟨S2048x2048, .i1⟩
  | 20 => ⟨S2x8x2048x1, .f32⟩
  | 21 => ⟨S2x8x1x2048, .f32⟩
  | 22 => ⟨S2x8x2048x2048, .f32⟩
  | 23 => ⟨S2x8x2048x2048, .f32⟩
  | 24 => ⟨S2x8x2048x2048, .f32⟩
  | 25 => ⟨S_, .f32⟩
  | 26 => ⟨S_, .f32⟩
  | 27 => ⟨S2x8x2048x2048, .i1⟩
  | 28 => ⟨S2x8x2048x2048, .f32⟩
  | 29 => ⟨S2x8x2048x2048, .f32⟩
  | 30 => ⟨S_, .f32⟩
  | 31 => ⟨S2x8x2048x2048, .f32⟩
  | 32 => ⟨S2x8x2048x2048, .f32⟩
  | 33 => ⟨S_, .f32⟩
  | 34 => ⟨S_, .f32⟩
  | 35 => ⟨S2x8x2048x2048, .i1⟩
  | 36 => ⟨S2x8x2048x2048, .f32⟩
  | 37 => ⟨S2x8x2048x2048, .f32⟩
  | 38 => ⟨S_, .f32⟩
  | 39 => ⟨S2x8x2048x2048, .f32⟩
  | 40 => ⟨S_, .f32⟩
  | 41 => ⟨S2x8x2048, .f32⟩
  | 42 => ⟨S2x8x2048x1, .f32⟩
  | 43 => ⟨S2x8x2048x2048, .f32⟩
  | 44 => ⟨S2x8x2048x2048, .i1⟩
  | 45 => ⟨S2x8x2048x2048, .f32⟩
  | 46 => ⟨S_, .f32⟩
  | 47 => ⟨S2x8x2048, .f32⟩
  | 48 => ⟨S_, .f32⟩
  | 49 => ⟨S2x8x2048, .f32⟩
  | 50 => ⟨S2x8x2048, .f32⟩
  | 51 => ⟨S_, .f32⟩
  | 52 => ⟨S2x8x2048, .f32⟩
  | 53 => ⟨S2x8x2048, .i1⟩
  | 54 => ⟨S_, .f32⟩
  | 55 => ⟨S2x8x2048, .f32⟩
  | 56 => ⟨S2x8x2048, .i1⟩
  | 57 => ⟨S_, .f32⟩
  | 58 => ⟨S2x8x2048, .f32⟩
  | 59 => ⟨S_, .f32⟩
  | 60 => ⟨S2x8x2048, .f32⟩
  | 61 => ⟨S_, .f32⟩
  | 62 => ⟨S2x8x2048, .f32⟩
  | 63 => ⟨S2x8x2048, .f32⟩
  | 64 => ⟨S2x8x2048, .f32⟩
  | 65 => ⟨S2x8x2048x1, .f32⟩
  | 66 => ⟨S2x8x2048x2048, .f32⟩
  | 67 => ⟨S2x8x2048x2048, .f32⟩
  | 68 => ⟨S2x8x2048x2048, .f32⟩
  | 69 => ⟨S_, .f32⟩
  | 70 => ⟨S2x8x2048, .f32⟩
  | 71 => ⟨S2x8x2048x1, .f32⟩
  | 72 => ⟨S2x8x2048x2048, .f32⟩
  | 73 => ⟨S2x8x2048x2048, .f32⟩
  | 74 => ⟨S2x8x2048x1, .f32⟩
  | 75 => ⟨S_, .f32⟩
  | 76 => ⟨S2x8x2048x1, .f32⟩
  | 77 => ⟨S2x8x2048x1, .f32⟩
  | 78 => ⟨S2x8x64x2048, .f32⟩
  | 79 => ⟨S2x2048x8x64, .f32⟩
  | 80 => ⟨S2x2048x512, .f32⟩
  | 81 => ⟨S2x2048x512, .f32⟩
  | 82 => ⟨S2x2048x512, .f32⟩
  | 83 => ⟨S_, .f32⟩
  | 84 => ⟨S2x2048x512, .f32⟩
  | 85 => ⟨S2x2048x512, .f32⟩
  | 86 => ⟨S_, .f32⟩
  | 87 => ⟨S2x2048x512, .f32⟩
  | 88 => ⟨S2x2048x512, .f32⟩
  | 89 => ⟨S_, .f32⟩
  | 90 => ⟨S2x2048x512, .f32⟩
  | 91 => ⟨S2x2048x512, .f32⟩
  | 92 => ⟨S2x2048x512, .f32⟩
  | 93 => ⟨S2x2048x512, .f32⟩
  | 94 => ⟨S2x2048x512, .f32⟩
  | 95 => ⟨S2x2048x512, .f32⟩
  | 96 => ⟨S2x2048x512, .f32⟩
  | 97 => ⟨S2x2048x512, .f32⟩
  | 98 => ⟨S2x2048x512, .f32⟩
  | 99 => ⟨S2x2048x512, .f32⟩
  | 100 => ⟨S2x2048x512, .f32⟩
  | 101 => ⟨S2x2048x8x64, .f32⟩
  | 102 => ⟨S2x8x64x2048, .f32⟩
  | 103 => ⟨S2x8x2048x2048, .f32⟩
  | 104 => ⟨S2x8x64x2048, .f32⟩
  | 105 => ⟨S2x2048x8x64, .f32⟩
  | 106 => ⟨S2x8x2048x2048, .f32⟩
  | 107 => ⟨S2x8x2048x2048, .f32⟩
  | 108 => ⟨S2x8x2048x2048, .f32⟩
  | 109 => ⟨S_, .f32⟩
  | 110 => ⟨S2x8x2048, .f32⟩
  | 111 => ⟨S2x8x2048x1, .f32⟩
  | 112 => ⟨S2x8x2048x1, .f32⟩
  | 113 => ⟨S2x8x2048x2048, .f32⟩
  | 114 => ⟨S2x8x2048x2048, .f32⟩
  | 115 => ⟨S_, .f32⟩
  | 116 => ⟨S2x8x2048, .f32⟩
  | 117 => ⟨S2x8x2048x2048, .f32⟩
  | 118 => ⟨S2x8x2048x2048, .f32⟩
  | 119 => ⟨S2x8x2048x2048, .f32⟩
  | 120 => ⟨S_, .f32⟩
  | 121 => ⟨S2x8x2048x2048, .f32⟩
  | 122 => ⟨S2x8x2048x2048, .f32⟩
  | 123 => ⟨S_, .f32⟩
  | 124 => ⟨S2x8x2048x2048, .f32⟩
  | 125 => ⟨S2x8x2048x2048, .f32⟩
  | 126 => ⟨S_, .f32⟩
  | 127 => ⟨S2x8x2048, .f32⟩
  | _ => ⟨S2x2048x512, .f32⟩

abbrev hbmTy0_1 (i : Nat) : BufTy := match i % 128 with
  | 0 => ⟨S2x8x2048x1, .f32⟩
  | 1 => ⟨S2x8x2048x2048, .f32⟩
  | 2 => ⟨S_, .f32⟩
  | 3 => ⟨S2x8x2048, .f32⟩
  | 4 => ⟨S2x8x1x2048, .f32⟩
  | 5 => ⟨S_, .f32⟩
  | 6 => ⟨S2x8x2048, .f32⟩
  | 7 => ⟨S_, .f32⟩
  | 8 => ⟨S2x8x2048, .f32⟩
  | 9 => ⟨S_, .f32⟩
  | 10 => ⟨S2x8x2048x2048, .f32⟩
  | 11 => ⟨S2x8x2048x2048, .f32⟩
  | 12 => ⟨S2x8x2048x64, .f32⟩
  | 13 => ⟨S2x2048x8x64, .f32⟩
  | 14 => ⟨S2x8x2048x64, .f32⟩
  | 15 => ⟨S2x2048x8x64, .f32⟩
  | 16 => ⟨S2x2048x512, .f32⟩
  | 17 => ⟨S2x2048x512, .f32⟩
  | 18 => ⟨S2x2048x512, .f32⟩
  | 19 => ⟨S2x2048x4x128, .f32⟩
  | 20 => ⟨S2x2048x4x128, .f32⟩
  | 21 => ⟨S2x2048x4x128, .f32⟩
  | 22 => ⟨S2x2048x4x128, .f32⟩
  | 23 => ⟨S2x2048x4x1x128, .f32⟩
  | 24 => ⟨S2x2048x4x1x128, .f32⟩
  | 25 => ⟨S2x2048x4x1x128, .f32⟩
  | 26 => ⟨S2x2048x4x1x128, .f32⟩
  | 27 => ⟨S2x2048x4x4x128, .f32⟩
  | 28 => ⟨S2x2048x2048, .f32⟩
  | 29 => ⟨S2x2048x2048, .bf16⟩
  | 30 => ⟨S2x4x2x2048, .f32⟩
  | 31 => ⟨S_, .i32⟩
  | 32 => ⟨S_, .f32⟩
  | 33 => ⟨S2x4x8x2048, .f32⟩
  | 34 => ⟨S2x2048x8, .f32⟩
  | 35 => ⟨S2x2048x8x64, .f32⟩
  | 36 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_v18_1 : Ref sig .tc := ⟨.hbm, 27, rfl⟩
abbrev main_call0_v2 : Ref sig .tc := ⟨.hbm, 28, rfl⟩
abbrev main_v18_0 : Ref sig .tc := ⟨.hbm, 29, rfl⟩
abbrev main_call0_cst : Ref sig .tc := ⟨.hbm, 30, rfl⟩
abbrev main_v18_2 : Ref sig .tc := ⟨.hbm, 31, rfl⟩
abbrev main_v19 : Ref sig .tc := ⟨.hbm, 32, rfl⟩
abbrev main_cst_1 : Ref sig .tc := ⟨.hbm, 33, rfl⟩
abbrev main_call1_v0 : Ref sig .tc := ⟨.hbm, 34, rfl⟩
abbrev main_v20_1 : Ref sig .tc := ⟨.hbm, 35, rfl⟩
abbrev main_call1_v2 : Ref sig .tc := ⟨.hbm, 36, rfl⟩
abbrev main_v20_0 : Ref sig .tc := ⟨.hbm, 37, rfl⟩
abbrev main_call1_cst : Ref sig .tc := ⟨.hbm, 38, rfl⟩
abbrev main_v20_2 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_v52_2 : Ref sig .tc := ⟨.hbm, 88, rfl⟩
abbrev main_call2_cst_1 : Ref sig .tc := ⟨.hbm, 89, rfl⟩
abbrev main_call2_v6 : Ref sig .tc := ⟨.hbm, 90, rfl⟩
abbrev main_call2_v7 : Ref sig .tc := ⟨.hbm, 91, rfl⟩
abbrev main_v52_1 : Ref sig .tc := ⟨.hbm, 92, rfl⟩
abbrev main_v52_0 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_12 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_13 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_call4_cst : Ref sig .tc := ⟨.hbm, 120, rfl⟩
abbrev main_call4_v0 : Ref sig .tc := ⟨.hbm, 121, rfl⟩
abbrev main_v74 : Ref sig .tc := ⟨.hbm, 122, rfl⟩
abbrev main_call5_cst : Ref sig .tc := ⟨.hbm, 123, rfl⟩
abbrev main_call5_v0 : Ref sig .tc := ⟨.hbm, 124, rfl⟩
abbrev main_v75 : Ref sig .tc := ⟨.hbm, 125, rfl⟩
abbrev main_cst_14 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_15 : Ref sig .tc := ⟨.hbm, 130, rfl⟩
abbrev main_v79 : Ref sig .tc := ⟨.hbm, 131, rfl⟩
abbrev main_v80 : Ref sig .tc := ⟨.hbm, 132, rfl⟩
abbrev main_cst_16 : Ref sig .tc := ⟨.hbm, 133, rfl⟩
abbrev main_v81 : Ref sig .tc := ⟨.hbm, 134, rfl⟩
abbrev main_cst_17 : Ref sig .tc := ⟨.hbm, 135, rfl⟩
abbrev main_v82 : Ref sig .tc := ⟨.hbm, 136, rfl⟩
abbrev main_cst_18 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c : Ref sig .tc := ⟨.hbm, 159, rfl⟩
abbrev main_call6_v0 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x512 : Shape := ⟨2, ![4096, 512]⟩
abbrev S4096x2048 : Shape := ⟨2, ![4096, 2048]⟩
abbrev S4096x128 : Shape := ⟨2, ![4096, 128]⟩
abbrev S1024x3712 : Shape := ⟨2, ![1024, 3712]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x2048 : Shape := ⟨2, ![1024, 2048]⟩
abbrev S1024x128 : Shape := ⟨2, ![1024, 128]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x512, .bf16⟩
  | .hbm, ⟨4, _⟩ => ⟨S4096x2048, .bf16⟩
  | .hbm, ⟨5, _⟩ => ⟨S4096x128, .bf16⟩
  | .hbm, ⟨6, _⟩ => ⟨S1024x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | .local _ .vmem, ⟨8, _⟩ => ⟨S512x2048, .bf16⟩
  | .local _ .vmem, ⟨9, _⟩ => ⟨S512x128, .bf16⟩
  | .local _ .vmem, ⟨10, _⟩ => ⟨S512x128, .bf16⟩
  | .local _ .vmem, ⟨11, _⟩ => ⟨S1024x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3712 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1024 : Shape := ⟨2, ![4096, 1024]⟩
abbrev S1x1024 : Shape := ⟨2, ![1, 1024]⟩
abbrev S4096x512 : Shape := ⟨2, ![4096, 512]⟩
abbrev S4096x2048 : Shape := ⟨2, ![4096, 2048]⟩
abbrev S4096x128 : Shape := ⟨2, ![4096, 128]⟩
abbrev S4096x3712 : Shape := ⟨2, ![4096, 3712]⟩
abbrev S_ : Shape := ⟨0, ![]⟩
abbrev S1024x3712 : Shape := ⟨2, ![1024, 3712]⟩
abbrev S4096 : Shape := ⟨1, ![4096]⟩
abbrev S4096x1 : Shape := ⟨2, ![4096, 1]⟩
abbrev S3712x1024 : Shape := ⟨2, ![3712, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x512, .bf16⟩
  | .hbm, ⟨4, _⟩ => ⟨S4096x2048, .bf16⟩
  | .hbm, ⟨5, _⟩ => ⟨S4096x128, .bf16⟩
  | .hbm, ⟨6, _⟩ => ⟨S4096x3712, .bf16⟩
  | .hbm, ⟨7, _⟩ => ⟨S4096x3712, .f32⟩
  | .hbm, ⟨8, _⟩ => ⟨S_, .f32⟩
  | .hbm, ⟨9, _⟩ => ⟨S1024x3712, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x3712, .f32⟩
  | .hbm, ⟨26, _⟩ => ⟨S3712x1024, .f32⟩
  | .hbm, ⟨27, _⟩ => ⟨S1024x3712, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3712 : Shape := ⟨2, ![1024, 3712]⟩
abbrev S4096x512 : Shape := ⟨2, ![4096, 512]⟩
abbrev S4096x2048 : Shape := ⟨2, ![4096, 2048]⟩
abbrev S4096x128 : Shape := ⟨2, ![4096, 128]⟩
abbrev S8x1024 : Shape := ⟨2, ![8, 1024]⟩
abbrev S512x1024 : Shape := ⟨2, ![512, 1024]⟩
abbrev S512x512 : Shape := ⟨2, ![512, 512]⟩
abbrev S512x2048 : Shape := ⟨2, ![512, 2048]⟩
abbrev S512x128 : Shape := ⟨2, ![512, 128]⟩
abbrev S1024x1024 : Shape := ⟨2, ![1024, 1024]⟩
abbrev S1024x512 : Shape := ⟨2, ![1024, 512]⟩
abbrev S1024x2048 : Shape := ⟨2, ![1024, 2048]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .bf16⟩
  | .hbm, ⟨4, _⟩ => ⟨S4096x1024, .bf16⟩
  | .hbm, ⟨5, _⟩ => ⟨S4096x512, .bf16⟩
  | .hbm, ⟨6, _⟩ => ⟨S4096x2048, .bf16⟩
  | .hbm, ⟨7, _⟩ => ⟨S4096x128, .bf16⟩
  | .hbm, ⟨8, _⟩ => ⟨S4096x1024, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3712, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x128, .bf16⟩
  | .local _ .vmem, ⟨13, _⟩ => ⟨S512x128, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S1x1024 : Shape := ⟨2, ![1, 1024]⟩
abbrev S1024x3712 : Shape := ⟨2, ![1024, 3712]⟩
abbrev S4096x512 : Shape := ⟨2, ![4096, 512]⟩
abbrev S4096x2048 : Shape := ⟨2, ![4096, 2048]⟩
abbrev S4096x128 : Shape := ⟨2, ![4096, 128]⟩
abbrev S4096x3712 : Shape := ⟨2, ![4096, 3712]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .bf16⟩
  | .hbm, ⟨4, _⟩ => ⟨S4096x1024, .bf16⟩
  | .hbm, ⟨5, _⟩ => ⟨S4096x512, .bf16⟩
  | .hbm, ⟨6, _⟩ => ⟨S4096x2048, .bf16⟩
  | .hbm, ⟨7, _⟩ => ⟨S4096x128, .bf16⟩
  | .hbm, ⟨8, _⟩ => ⟨S4096x3712, .bf16⟩
  | .hbm, ⟨9, _⟩ => ⟨S4096x3712, .f32⟩
  | .hbm, ⟨10, _⟩ => ⟨S1024x3712, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x3712, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel4.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1024x1024, .f32⟩
  | .hbm, ⟨53, _⟩ => ⟨S1024x1024, .f32⟩
  | .hbm, ⟨54, _⟩ => ⟨S4096x1024, .f32⟩
  | .hbm, ⟨55, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3712 : Shape := ⟨2, ![1024, 3712]⟩
abbrev S4096x3712 : Shape := ⟨2, ![4096, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .bf16⟩
  | .hbm, ⟨3, _⟩ => ⟨S4096x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S1x1024 : Shape := ⟨2, ![1, 1024]⟩
abbrev S1024x3712 : Shape := ⟨2, ![1024, 3712]⟩
abbrev S_ : Shape := ⟨0, ![]⟩
abbrev S4096 : Shape := ⟨1, ![4096]⟩
abbrev S4096x1 : Shape := ⟨2, ![4096, 1]⟩
abbrev S4096x3712 : Shape := ⟨2, ![4096, 3712]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .bf16⟩
  | .hbm, ⟨3, _⟩ => ⟨S1024x3712, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x3712, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .bf16⟩
  | .hbm, ⟨3, _⟩ => ⟨S4096x512, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S_, .f32⟩
  | .hbm, ⟨54, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel8.lean ====
abbrev S2x1024x898 : Shape := ⟨3, ![2, 1024, 898]⟩
abbrev S2x512x898 : Shape := ⟨3, ![2, 512, 898]⟩
abbrev S1x128x898 : Shape := ⟨3, ![1, 128, 898]⟩
abbrev S128x898 : Shape := ⟨2, ![128, 898]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x898, .f32⟩
  | .hbm, ⟨1, _⟩ => ⟨S2x512x898, .f32⟩
  | .hbm, ⟨2, _⟩ => ⟨S2x512x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S2x1024x898, .f32⟩
  | .hbm, ⟨7, _⟩ => ⟨S2x1024x898, .f32⟩
  | .hbm, ⟨8, _⟩ => ⟨S2x1024x898, .f32⟩
  | .local _ .vmem, ⟨0, _⟩ => ⟨S1x128x898, .f32⟩
  | .local _ .vmem, ⟨1, _⟩ => ⟨S1x128x898, .f32⟩
  | .local _ .vmem, ⟨2, _⟩ => ⟨S1x128x898, .f32⟩
  | .local _ .vmem, ⟨3, _⟩ => ⟨S1x128x898, .f32⟩
  | .local _ .vmem, ⟨4, _⟩ => ⟨S1x128x898, .f32⟩
  | .local _ .vmem, ⟨5, _⟩ => ⟨S1x128x898, .f32⟩
  | .local _ .vmem, ⟨6, _⟩ => ⟨S1x128x898, .f32⟩
  | .local _ .vmem, ⟨7, _⟩ => ⟨S1x128x898, .f32⟩
  | .local _ .vmem, ⟨8, _⟩ => ⟨S1x128x898, .f32⟩
  | .local _ .vmem, ⟨9, _⟩ => ⟨S1x128x898, .f32⟩
  | .local _ .vmem, ⟨10, _⟩ => ⟨S1x128x898, .f32⟩
  | .local _ .vmem, ⟨11, _⟩ => ⟨S1x128x898, .f32⟩
  | .local _ .vmem, ⟨12, _⟩ => ⟨S1x128x898, .f32⟩
  | .local _ .vmem, ⟨13, _⟩ => ⟨S1x128x898, .f32⟩
  | .local _ .vmem, ⟨14, _⟩ => ⟨S1x128x898, .f32⟩
  | .local _ .vmem, ⟨15, _⟩ => ⟨S1x128x898, .f32⟩
  | .local _ .vmem, ⟨16, _⟩ => ⟨S1x128x898, .f32⟩
  | .local _ .vmem, ⟨17, _⟩ => ⟨S1x128x898, .f32⟩
  | _, _ => ⟨S2x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference8Ideal.lean ====
abbrev S2x1024x898 : Shape := ⟨3, ![2, 1024, 898]⟩
abbrev S2x512x898 : Shape := ⟨3, ![2, 512, 898]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x898, .f32⟩
  | .hbm, ⟨1, _⟩ => ⟨S2x512x898, .f32⟩
  | .hbm, ⟨2, _⟩ => ⟨S2x512x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S_, .f32⟩
  | .hbm, ⟨7, _⟩ => ⟨S2x1024x898, .f32⟩
  | .hbm, ⟨8, _⟩ => ⟨S2x1024x898, .f32⟩
  | .hbm, ⟨9, _⟩ => ⟨S_, .f32⟩
  | .hbm, ⟨10, _⟩ => ⟨S2x1024x898, .f32⟩
  | .hbm, ⟨11, _⟩ => ⟨S2x1024x898, .f32⟩
  | .hbm, ⟨12, _⟩ => ⟨S2x1024x898, .f32⟩
  | .hbm, ⟨13, _⟩ => ⟨S_, .f32⟩
  | .hbm, ⟨14, _⟩ => ⟨S2x1024x898, .f32⟩
  | .hbm, ⟨15, _⟩ => ⟨S2x1024x898, .f32⟩
  | .hbm, ⟨16, _⟩ => ⟨S2x1024x898, .f32⟩
  | .hbm, ⟨17, _⟩ => ⟨S_, .f32⟩
  | .hbm, ⟨18, _⟩ => ⟨S2x1024x898, .f32⟩
  | .hbm, ⟨19, _⟩ => ⟨S2x1024x898, .f32⟩
  | .hbm, ⟨20, _⟩ => ⟨S2x1024x898, .f32⟩
  | .hbm, ⟨21, _⟩ => ⟨S_, .f32⟩
  | .hbm, ⟨22, _⟩ => ⟨S2x1024x898, .f32⟩
  | .hbm, ⟨23, _⟩ => ⟨S2x1024x898, .f32⟩
  | .hbm, ⟨24, _⟩ => ⟨S_, .f32⟩
  | .hbm, ⟨25, _⟩ => ⟨S2x1024x898, .f32⟩
  | .hbm, ⟨26, _⟩ => ⟨S2x1024x898, .f32⟩
  | .hbm, ⟨27, _⟩ => ⟨S2x1024x898, .f32⟩
  | .hbm, ⟨28, _⟩ => ⟨S_, .f32⟩
  | .hbm, ⟨29, _⟩ => ⟨S2x1024x898, .f32⟩
  | .hbm, ⟨30, _⟩ => ⟨S2x1024x898, .f32⟩
  | .hbm, ⟨31, _⟩ => ⟨S2x1024x898, .f32⟩
  | .hbm, ⟨32, _⟩ => ⟨S_, .f32⟩
  | .hbm, ⟨33, _⟩ => ⟨S2x1024x898, .f32⟩
  | .hbm, ⟨34, _⟩ => ⟨S2x1024x898, .f32⟩
  | .hbm, ⟨35, _⟩ => ⟨S2x1024x898, .f32⟩
  | .hbm, ⟨36, _⟩ => ⟨S_, .f32⟩
  | .hbm, ⟨37, _⟩ => ⟨S2x1024x898, .f32⟩
  | .hbm, ⟨38, _⟩ => ⟨S2x1024x898, .f32⟩
  | _, _ => ⟨S2x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S2x256x1024 : Shape := ⟨3, ![2, 256, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference9Ideal.lean ====
abbrev S2x256x1024 : Shape := ⟨3, ![2, 256, 1024]⟩
abbrev S2x128x1024 : Shape := ⟨3, ![2, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x128x1024, .f32⟩
  | .hbm, ⟨2, _⟩ => ⟨S2x128x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S2x2048x512 : Shape := ⟨3, ![2, 2048, 512]⟩
abbrev S2x8x2048 : Shape := ⟨3, ![2, 8, 2048]⟩
abbrev S2x2048x4x128 : Shape := ⟨4, ![2, 2048, 4, 128]⟩
abbrev S2x2048x4x1x128 : Shape := ⟨5, ![2, 2048, 4, 1, 128]⟩
abbrev S2x2048x4x4x128 : Shape := ⟨5, ![2, 2048, 4, 4, 128]⟩
abbrev S2x2048x2048 : Shape := ⟨3, ![2, 2048, 2048]⟩
abbrev S_ : Shape := ⟨0, ![]⟩
abbrev S2x2048x1536 : Shape := ⟨3, ![2, 2048, 1536]⟩
abbrev S2x2048x128 : Shape := ⟨3, ![2, 2048, 128]⟩
abbrev S2x2048x3712 : Shape := ⟨3, ![2, 2048, 3712]⟩
abbrev S2x2048x8 : Shape := ⟨3, ![2, 2048, 8]⟩
abbrev S2x2048x8x1 : Shape := ⟨4, ![2, 2048, 8, 1]⟩
abbrev S2x2048x8x64 : Shape := ⟨4, ![2, 2048, 8, 64]⟩
abbrev S2x4x2x2048 : Shape := ⟨4, ![2, 4, 2, 2048]⟩
abbrev S2x4x6x2048 : Shape := ⟨4, ![2, 4, 6, 2048]⟩
abbrev S2x4x8x2048 : Shape := ⟨4, ![2, 4, 8, 2048]⟩
abbrev S1x1024x512 : Shape := ⟨3, ![1, 1024, 512]⟩
abbrev S1x2048x512 : Shape := ⟨3, ![1, 2048, 512]⟩
abbrev S1x1024x128 : Shape := ⟨3, ![1, 1024, 128]⟩
abbrev S1x1x8x2048 : Shape := ⟨4, ![1, 1, 8, 2048]⟩
abbrev S1024x512 : Shape := ⟨2, ![1024, 512]⟩
abbrev S1x128 : Shape := ⟨2, ![1, 128]⟩
abbrev S1024x128 : Shape := ⟨2, ![1024, 128]⟩
abbrev S1x1024x1 : Shape := ⟨3, ![1, 1024, 1]⟩
abbrev S1024x1 : Shape := ⟨2, ![1024, 1]⟩
abbrev S1024x1024 : Shape := ⟨2, ![1024, 1024]⟩
abbrev S1x1x1x1024 : Shape := ⟨4, ![1, 1, 1, 1024]⟩
abbrev S1x1024 : Shape := ⟨2, ![1, 1024]⟩
abbrev S1024 : Shape := ⟨1, ![1024]⟩

abbrev nBuf : Space → Nat
  | .hbm => 31
  | .vmem => 14
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x8x2048, .f32⟩
  | .hbm, ⟨5, _⟩ => ⟨S2x2048x4x128, .f32⟩
  | .hbm, ⟨6, _⟩ => ⟨S2x2048x4x128, .f32⟩
  | .hbm, ⟨7, _⟩ => ⟨S2x2048x4x128, .f32⟩
  | .hbm, ⟨8, _⟩ => ⟨S2x2048x4x128, .f32⟩
  | .hbm, ⟨9, _⟩ => ⟨S2x2048x4x1x128, .f32⟩
  | .hbm, ⟨10, _⟩ => ⟨S2x2048x4x1x128, .f32⟩
  | .hbm, ⟨11, _⟩ => ⟨S2x2048x4x1x128, .f32⟩
  | .hbm, ⟨12, _⟩ => ⟨S2x2048x4x1x128, .f32⟩
  | .hbm, ⟨13, _⟩ => ⟨S2x2048x4x4x128, .f32⟩
  | .hbm, ⟨14, _⟩ => ⟨S2x2048x2048, .f32⟩
  | .hbm, ⟨15, _⟩ => ⟨S_, .f32⟩
  | .hbm, ⟨16, _⟩ => ⟨S2x2048x1536, .f32⟩
  | .hbm, ⟨17, _⟩ => ⟨S_, .f32⟩
  | .hbm, ⟨18, _⟩ => ⟨S2x2048x128, .f32⟩
  | .hbm, ⟨19, _⟩ => ⟨S2x2048x3712, .f32⟩
  | .hbm, ⟨20, _⟩ => ⟨S2x2048x8, .f32⟩
  | .hbm, ⟨21, _⟩ => ⟨S2x2048x8x1, .f32⟩
  | .hbm, ⟨22, _⟩ => ⟨S2x2048x8x64, .f32⟩
  | .hbm, ⟨23, _⟩ => ⟨S2x2048x512, .f32⟩
  | .hbm, ⟨24, _⟩ => ⟨S2x4x2x2048, .f32⟩
  | .hbm, ⟨25, _⟩ => ⟨S_, .f32⟩
  | .hbm, ⟨26, _⟩ => ⟨S2x4x6x2048, .f32⟩
  | .hbm, ⟨27, _⟩ => ⟨S2x4x8x2048, .f32⟩
  | .hbm, ⟨28, _⟩ => ⟨S2x2048x512, .bf16⟩
  | .hbm, ⟨29, _⟩ => ⟨S2x2048x512, .f32⟩
  | .hbm, ⟨30, _⟩ => ⟨S2x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1024x128, .f32⟩
  | .local _ .vmem, ⟨5, _⟩ => ⟨S1x1024x128, .f32⟩
  | .local _ .vmem, ⟨6, _⟩ => ⟨S1x1x8x2048, .f32⟩
  | .local _ .vmem, ⟨7, _⟩ => ⟨S1x1x8x2048, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 2], ![false, false, false]⟩

@[reducible] def k0_t1_loop (i : grid0.Coords) : Scf.Loop 32 :=
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_18 : BitVec 32 := 1#32
  ⟨c0_i32_16, v49, c1_i32_18⟩
def k0_mult1 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c1024_i32_55 : BitVec 32 := 1024#32
  let v165 : BitVec 32 := Scalar.muli arg10 c1024_i32_55
  v165
def k0_off1 (i : grid0.Coords) (k0_t1 : Fin (k0_t1_loop i).trips) : Fin 3 → Nat :=
  let c0_56 : Index := 0#32
  let c0_i32_16 : BitVec 32 := 0#32
  let c1_i32_18 : BitVec 32 := 1#32
  let arg10 : BitVec 32 := Scf.iv c0_i32_16 c1_i32_18 k0_t1
  let c1024_i32_55 : BitVec 32 := 1024#32
  let v165 : BitVec 32 := Scalar.muli arg10 c1024_i32_55
  let v166 : BitVec 32 := v165
  let v167 : Index := Scalar.indexCast v166
  let c128_57 : Index := 128#32
  ![0, v167.toNat, 128]
def k0_off2 (i : grid0.Coords) (k0_t1 : Fin (k0_t1_loop i).trips) : Fin 4 → Nat :=
  let c0_59 : Index := 0#32
  let c0_60 : Index := 0#32
  let c0_61 : Index := 0#32
  let c0_i32_16 : BitVec 32 := 0#32
  let c1_i32_18 : BitVec 32 := 1#32
  let arg10 : BitVec 32 := Scf.iv c0_i32_16 c1_i32_18 k0_t1
  let c1024_i32_55 : BitVec 32 := 1024#32
  let v165 : BitVec 32 := Scalar.muli arg10 c1024_i32_55
  let v166 : BitVec 32 := v165
  let v172 : Index := Scalar.indexCast v166
  ![0, 0, 0, v172.toNat]
def k0_off3 (i : grid0.Coords) (k0_t1 : Fin (k0_t1_loop i).trips) : Fin 4 → Nat :=
  let c0_63 : Index := 0#32
  let c0_64 : Index := 0#32
  let c1_65 : Index := 1#32
  let c0_i32_16 : BitVec 32 := 0#32
  let c1_i32_18 : BitVec 32 := 1#32
  let arg10 : BitVec 32 := Scf.iv c0_i32_16 c1_i32_18 k0_t1
  let c1024_i32_55 : BitVec 32 := 1024#32
  let v165 : BitVec 32 := Scalar.muli arg10 c1024_i32_55
  let v166 : BitVec 32 := v165
  let v180 : Index := Scalar.indexCast v166
  ![0, 0, 1, v180.toNat]
def k0_mult2 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c1024_i32_66 : BitVec 32 := 1024#32
  let v187 : BitVec 32 := Scalar.muli arg10 c1024_i32_66
  v187
def k0_off4 (i : grid0.Coords) (k0_t1 : Fin (k0_t1_loop i).trips) : Fin 3 → Nat :=
  let c0_67 : Index := 0#32
  let c0_i32_16 : BitVec 32 := 0#32
  let c1_i32_18 : BitVec 32 := 1#32
  let arg10 : BitVec 32 := Scf.iv c0_i32_16 c1_i32_18 k0_t1
  let c1024_i32_66 : BitVec 32 := 1024#32
  let v187 : BitVec 32 := Scalar.muli arg10 c1024_i32_66
  let v188 : BitVec 32 := v187
  let v189 : Index := Scalar.indexCast v188
  let c256_68 : Index := 256#32
  ![0, v189.toNat, 256]
@[reducible] def k0_t2_loop (i : grid0.Coords) : Scf.Loop 32 :=
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let v46 : BitVec 32 := Scalar.addi c0_i32_16 v45
  let c1_i32_19 : BitVec 32 := 1#32
  ⟨v49, v46, c1_i32_19⟩
def k0_mult3 (i : grid0.Coords) (k0_t2 : Fin (k0_t2_loop i).trips) : BitVec 32 :=
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_55 : BitVec 32 := 1024#32
  let v165 : BitVec 32 := Scalar.muli arg10 c1024_i32_55
  v165
def k0_off5 (i : grid0.Coords) (k0_t2 : Fin (k0_t2_loop i).trips) : Fin 3 → Nat :=
  let c0_56 : Index := 0#32
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_55 : BitVec 32 := 1024#32
  let v165 : BitVec 32 := Scalar.muli arg10 c1024_i32_55
  let v166 : BitVec 32 := v165
  let v167 : Index := Scalar.indexCast v166
  let c128_57 : Index := 128#32
  ![0, v167.toNat, 128]
def k0_off6 (i : grid0.Coords) (k0_t2 : Fin (k0_t2_loop i).trips) : Fin 4 → Nat :=
  let c0_59 : Index := 0#32
  let c0_60 : Index := 0#32
  let c0_61 : Index := 0#32
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_55 : BitVec 32 := 1024#32
  let v165 : BitVec 32 := Scalar.muli arg10 c1024_i32_55
  let v166 : BitVec 32 := v165
  let v172 : Index := Scalar.indexCast v166
  ![0, 0, 0, v172.toNat]
def k0_off7 (i : grid0.Coords) (k0_t2 : Fin (k0_t2_loop i).trips) : Fin 4 → Nat :=
  let c0_63 : Index := 0#32
  let c0_64 : Index := 0#32
  let c1_65 : Index := 1#32
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_55 : BitVec 32 := 1024#32
  let v165 : BitVec 32 := Scalar.muli arg10 c1024_i32_55
  let v166 : BitVec 32 := v165
  let v180 : Index := Scalar.indexCast v166
  ![0, 0, 1, v180.toNat]
def k0_mult4 (i : grid0.Coords) (k0_t2 : Fin (k0_t2_loop i).trips) : BitVec 32 :=
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_66 : BitVec 32 := 1024#32
  let v187 : BitVec 32 := Scalar.muli arg10 c1024_i32_66
  v187
def k0_off8 (i : grid0.Coords) (k0_t2 : Fin (k0_t2_loop i).trips) : Fin 3 → Nat :=
  let c0_67 : Index := 0#32
  let c0_i32_16 : BitVec 32 := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let v45 : BitVec 32 := Scalar.subi v44 c0_i32_16
  let c1_i32_17 : BitVec 32 := 1#32
  let v47 : BitVec 32 := Scalar.divsi v45 c1_i32_17
  let v48 : BitVec 32 := Scalar.muli v47 c1_i32_17
  let v49 : BitVec 32 := Scalar.addi c0_i32_16 v48
  let c1_i32_19 : BitVec 32 := 1#32
  let arg10 : BitVec 32 := Scf.iv v49 c1_i32_19 k0_t2
  let c1024_i32_66 : BitVec 32 := 1024#32
  let v187 : BitVec 32 := Scalar.muli arg10 c1024_i32_66
  let v188 : BitVec 32 := v187
  let v189 : Index := Scalar.indexCast v188
  let c256_68 : Index := 256#32
  ![0, v189.toNat, 256]
def k0_mult5 (i : grid0.Coords) : BitVec 32 :=
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_20 : BitVec 32 := 1024#32
  let v52 : BitVec 32 := Scalar.muli v44 c1024_i32_20
  v52
def k0_off9 (i : grid0.Coords) : Fin 3 → Nat :=
  let c0_21 : Index := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_20 : BitVec 32 := 1024#32
  let v52 : BitVec 32 := Scalar.muli v44 c1024_i32_20
  let v53 : BitVec 32 := v52
  let v54 : Index := Scalar.indexCast v53
  let c128 : Index := 128#32
  ![0, v54.toNat, 128]
def k0_off10 (i : grid0.Coords) : Fin 4 → Nat :=
  let c0_23 : Index := 0#32
  let c0_24 : Index := 0#32
  let c0_25 : Index := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_20 : BitVec 32 := 1024#32
  let v52 : BitVec 32 := Scalar.muli v44 c1024_i32_20
  let v53 : BitVec 32 := v52
  let v59 : Index := Scalar.indexCast v53
  ![0, 0, 0, v59.toNat]
def k0_off11 (i : grid0.Coords) : Fin 4 → Nat :=
  let c0_27 : Index := 0#32
  let c0_28 : Index := 0#32
  let c1 : Index := 1#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_20 : BitVec 32 := 1024#32
  let v52 : BitVec 32 := Scalar.muli v44 c1024_i32_20
  let v53 : BitVec 32 := v52
  let v67 : Index := Scalar.indexCast v53
  ![0, 0, 1, v67.toNat]
def k0_mult6 (i : grid0.Coords) : BitVec 32 :=
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_29 : BitVec 32 := 1024#32
  let v74 : BitVec 32 := Scalar.muli v44 c1024_i32_29
  v74
def k0_off12 (i : grid0.Coords) : Fin 3 → Nat :=
  let c0_30 : Index := 0#32
  let arg2 : BitVec 32 := BitVec.ofNat 32 (i 2).val
  let c1024_i32 : BitVec 32 := 1024#32
  let v22 : BitVec 32 := Scalar.muli arg2 c1024_i32
  let c0_i32 : BitVec 32 := 0#32
  let v29 : BitVec 1 := Scalar.cmpi .sgt v22 c0_i32
  let v30 : BitVec 32 := Scalar.extui v29
  let c0_i32_12 : BitVec 32 := 0#32
  let v31 : BitVec 1 := Scalar.cmpi .slt v22 c0_i32_12
  let v32 : BitVec 32 := Scalar.extui v31
  let v33 : BitVec 32 := Scalar.subi v30 v32
  let c1024_i32_11 : BitVec 32 := 1024#32
  let c0_i32_13 : BitVec 32 := 0#32
  let v34 : BitVec 1 := Scalar.cmpi .sgt c1024_i32_11 c0_i32_13
  let v35 : BitVec 32 := Scalar.extui v34
  let c0_i32_14 : BitVec 32 := 0#32
  let v36 : BitVec 1 := Scalar.cmpi .slt c1024_i32_11 c0_i32_14
  let v37 : BitVec 32 := Scalar.extui v36
  let v38 : BitVec 32 := Scalar.subi v35 v37
  let v39 : BitVec 1 := Scalar.cmpi .ne v33 v38
  let v40 : BitVec 32 := Scalar.remsi v22 c1024_i32_11
  let c0_i32_15 : BitVec 32 := 0#32
  let v41 : BitVec 1 := Scalar.cmpi .ne v40 c0_i32_15
  let v42 : BitVec 1 := Scalar.andi v39 v41
  let v28 : BitVec 32 := Scalar.divsi v22 c1024_i32_11
  let c1_i32 : BitVec 32 := 1#32
  let v43 : BitVec 32 := Scalar.subi v28 c1_i32
  let v44 : BitVec 32 := Scalar.select v42 v43 v28
  let c1024_i32_29 : BitVec 32 := 1024#32
  let v74 : BitVec 32 := Scalar.muli v44 c1024_i32_29
  let v75 : BitVec 32 := v74
  let v76 : Index := Scalar.indexCast v75
  let c256 : Index := 256#32
  ![0, v76.toNat, 256]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel10Ideal.lean ====
variable {F : FTy → Type} [FloatOps F] [Named F]
def κ : String → Option EReal := fun
  | "mask" => some ⊥
  | _ => none
-- ==== Reference10Ideal.lean ====
abbrev S2x2048x512 : Shape := ⟨3, ![2, 2048, 512]⟩
abbrev S2x8x2048 : Shape := ⟨3, ![2, 8, 2048]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x1 : Shape := ⟨4, ![2, 8, 2048, 1]⟩
abbrev S2x8x1x2048 : Shape := ⟨4, ![2, 8, 1, 2048]⟩
abbrev S2x8x64x2048 : Shape := ⟨4, ![2, 8, 64, 2048]⟩
abbrev S2x2048x8 : Shape := ⟨3, ![2, 2048, 8]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x8x2048, .f32⟩
  | .hbm, ⟨5, _⟩ => ⟨S2x2048x8x64, .f32⟩
  | .hbm, ⟨6, _⟩ => ⟨S2x2048x8x64, .f32⟩
  | .hbm, ⟨7, _⟩ => ⟨S2x2048x8x64, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x8x2048x2048, .i1⟩
  | .hbm, ⟨20, _⟩ => ⟨S2x8x2048x1, .f32⟩
  | .hbm, ⟨21, _⟩ => ⟨S2x8x1x2048, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .f32⟩
  | .hbm, ⟨43, _⟩ => ⟨S2x8x64x2048, .f32⟩
  | .hbm, ⟨44, _⟩ => ⟨S2x2048x8x64, .f32⟩
  | .hbm, ⟨45, _⟩ => ⟨S2x2048x512, .f32⟩
  | .hbm, ⟨46, _⟩ => ⟨S2x8x2048x1, .f32⟩
  | .hbm, ⟨47, _⟩ => ⟨S2x8x2048x1, .f32⟩
  | .hbm, ⟨48, _⟩ => ⟨S2x8x2048, .f32⟩
  | .hbm, ⟨49, _⟩ => ⟨S2x2048x512, .f32⟩
  | .hbm, ⟨50, _⟩ => ⟨S2x2048x512, .f32⟩
  | .hbm, ⟨51, _⟩ => ⟨S_, .f32⟩
  | .hbm, ⟨52, _⟩ => ⟨S2x2048x512, .f32⟩
  | .hbm, ⟨53, _⟩ => ⟨S2x2048x512, .f32⟩
  | .hbm, ⟨54, _⟩ => ⟨S_, .f32⟩
  | .hbm, ⟨55, _⟩ => ⟨S2x2048x512, .f32⟩
  | .hbm, ⟨56, _⟩ => ⟨S2x2048x512, .f32⟩
  | .hbm, ⟨57, _⟩ => ⟨S2x2048x512, .f32⟩
  | .hbm, ⟨58, _⟩ => ⟨S2x2048x512, .f32⟩
  | .hbm, ⟨59, _⟩ => ⟨S2x2048x512, .bf16⟩
  | .hbm, ⟨60, _⟩ => ⟨S2x2048x8, .f32⟩
  | .hbm, ⟨61, _⟩ => ⟨S2x2048x8x64, .f32⟩
  | .hbm, ⟨62, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel11.lean ====
abbrev S328x128 : Shape := ⟨2, ![328, 128]⟩
abbrev S2x256 : Shape := ⟨2, ![2, 256]⟩
abbrev S1x256 : Shape := ⟨2, ![1, 256]⟩
abbrev S1x128 : Shape := ⟨2, ![1, 128]⟩
abbrev S324x128 : Shape := ⟨2, ![324, 128]⟩

abbrev nBuf : Space → Nat
  | .hbm => 9
  | .vmem => 9
  | .smem => 0
  | _ => 0

abbrev bufTy : (tb : Table) → Fin (tcTables nBuf tb) → BufTy
  | .hbm, ⟨0, _⟩ => ⟨S328x128, .f32⟩
  | .hbm, ⟨1, _⟩ => ⟨S2x256, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S328x128, .f32⟩
  | .hbm, ⟨6, _⟩ => ⟨S328x128, .f32⟩
  | .hbm, ⟨7, _⟩ => ⟨S328x128, .f32⟩
  | .hbm, ⟨8, _⟩ => ⟨S328x128, .f32⟩
  | .local _ .vmem, ⟨0, _⟩ => ⟨S328x128, .f32⟩
  | .local _ .vmem, ⟨1, _⟩ => ⟨S2x256, .f32⟩
  | .local _ .vmem, ⟨2, _⟩ => ⟨S328x128, .f32⟩
  | .local _ .vmem, ⟨3, _⟩ => ⟨S328x128, .f32⟩
  | .local _ .vmem, ⟨4, _⟩ => ⟨S328x128, .f32⟩
  | .local _ .vmem, ⟨5, _⟩ => ⟨S328x128, .f32⟩
  | .local _ .vmem, ⟨6, _⟩ => ⟨S328x128, .f32⟩
  | .local _ .vmem, ⟨7, _⟩ => ⟨S328x128, .f32⟩
  | .local _ .vmem, ⟨8, _⟩ => ⟨S328x128, .f32⟩
  | _, _ => ⟨S328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S328x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S328x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S328x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S328x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S328x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S328x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S328x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference11Ideal.lean ====
abbrev S328x128 : Shape := ⟨2, ![328, 128]⟩
abbrev S2x256 : Shape := ⟨2, ![2, 256]⟩
abbrev S_ : Shape := ⟨0, ![]⟩
abbrev S256 : Shape := ⟨1, ![256]⟩
abbrev S1x256 : Shape := ⟨2, ![1, 256]⟩
abbrev S4x128 : Shape := ⟨2, ![4, 128]⟩
abbrev S324x128 : Shape := ⟨2, ![324, 128]⟩

abbrev nBuf : Space → Nat
  | .hbm => 116
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S2x256, .f32⟩
  | .hbm, ⟨2, _⟩ => ⟨S328x128, .f32⟩
  | .hbm, ⟨3, _⟩ => ⟨S328x128, .f32⟩
  | .hbm, ⟨4, _⟩ => ⟨S328x128, .f32⟩
  | .hbm, ⟨5, _⟩ => ⟨S_, .f32⟩
  | .hbm, ⟨6, _⟩ => ⟨S256, .f32⟩
  | .hbm, ⟨7, _⟩ => ⟨S1x256, .f32⟩
  | .hbm, ⟨8, _⟩ => ⟨S2x256, .f32⟩
  | .hbm, ⟨9, _⟩ => ⟨S2x256, .i1⟩
  | .hbm, ⟨10, _⟩ => ⟨S2x256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .i1⟩
  | .hbm, ⟨19, _⟩ => ⟨S_, .f32⟩
  | .hbm, ⟨20, _⟩ => ⟨S256, .f32⟩
  | .hbm, ⟨21, _⟩ => ⟨S256, .i1⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S2x256, .f32⟩
  | .hbm, ⟨38, _⟩ => ⟨S2x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S_, .f32⟩
  | .hbm, ⟨45, _⟩ => ⟨S2x256, .f32⟩
  | .hbm, ⟨46, _⟩ => ⟨S1x256, .f32⟩
  | .hbm, ⟨47, _⟩ => ⟨S256, .f32⟩
  | .hbm, ⟨48, _⟩ => ⟨S1x256, .f32⟩
  | .hbm, ⟨49, _⟩ => ⟨S2x256, .f32⟩
  | .hbm, ⟨50, _⟩ => ⟨S2x256, .f32⟩
  | .hbm, ⟨51, _⟩ => ⟨S4x128, .f32⟩
  | .hbm, ⟨52, _⟩ => ⟨S2x256, .f32⟩
  | .hbm, ⟨53, _⟩ => ⟨S2x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S_, .f32⟩
  | .hbm, ⟨61, _⟩ => ⟨S2x256, .f32⟩
  | .hbm, ⟨62, _⟩ => ⟨S_, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S2x256, .f32⟩
  | .hbm, ⟨68, _⟩ => ⟨S2x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S1x256, .f32⟩
  | .hbm, ⟨73, _⟩ => ⟨S2x256, .f32⟩
  | .hbm, ⟨74, _⟩ => ⟨S2x256, .f32⟩
  | .hbm, ⟨75, _⟩ => ⟨S_, .f32⟩
  | .hbm, ⟨76, _⟩ => ⟨S256, .f32⟩
  | .hbm, ⟨77, _⟩ => ⟨S2x256, .f32⟩
  | .hbm, ⟨78, _⟩ => ⟨S2x256, .f32⟩
  | .hbm, ⟨79, _⟩ => ⟨S2x256, .f32⟩
  | .hbm, ⟨80, _⟩ => ⟨S4x128, .f32⟩
  | .hbm, ⟨81, _⟩ => ⟨S324x128, .f32⟩
  | .hbm, ⟨82, _⟩ => ⟨S328x128, .f32⟩
  | .hbm, ⟨83, _⟩ => ⟨S_, .f32⟩
  | .hbm, ⟨84, _⟩ => ⟨S328x128, .f32⟩
  | .hbm, ⟨85, _⟩ => ⟨S328x128, .f32⟩
  | .hbm, ⟨86, _⟩ => ⟨S_, .f32⟩
  | .hbm, ⟨87, _⟩ => ⟨S328x128, .f32⟩
  | .hbm, ⟨88, _⟩ => ⟨S328x128, .f32⟩
  | .hbm, ⟨89, _⟩ => ⟨S328x128, .f32⟩
  | .hbm, ⟨90, _⟩ => ⟨S_, .f32⟩
  | .hbm, ⟨91, _⟩ => ⟨S328x128, .f32⟩
  | .hbm, ⟨92, _⟩ => ⟨S328x128, .f32⟩
  | .hbm, ⟨93, _⟩ => ⟨S328x128, .f32⟩
  | .hbm, ⟨94, _⟩ => ⟨S_, .f32⟩
  | .hbm, ⟨95, _⟩ => ⟨S328x128, .f32⟩
  | .hbm, ⟨96, _⟩ => ⟨S328x128, .f32⟩
  | .hbm, ⟨97, _⟩ => ⟨S328x128, .f32⟩
  | .hbm, ⟨98, _⟩ => ⟨S_, .f32⟩
  | .hbm, ⟨99, _⟩ => ⟨S328x128, .f32⟩
  | .hbm, ⟨100, _⟩ => ⟨S328x128, .f32⟩
  | .hbm, ⟨101, _⟩ => ⟨S_, .f32⟩
  | .hbm, ⟨102, _⟩ => ⟨S328x128, .f32⟩
  | .hbm, ⟨103, _⟩ => ⟨S328x128, .f32⟩
  | .hbm, ⟨104, _⟩ => ⟨S328x128, .f32⟩
  | .hbm, ⟨105, _⟩ => ⟨S_, .f32⟩
  | .hbm, ⟨106, _⟩ => ⟨S328x128, .f32⟩
  | .hbm, ⟨107, _⟩ => ⟨S328x128, .f32⟩
  | .hbm, ⟨108, _⟩ => ⟨S328x128, .f32⟩
  | .hbm, ⟨109, _⟩ => ⟨S_, .f32⟩
  | .hbm, ⟨110, _⟩ => ⟨S328x128, .f32⟩
  | .hbm, ⟨111, _⟩ => ⟨S328x128, .f32⟩
  | .hbm, ⟨112, _⟩ => ⟨S328x128, .f32⟩
  | .hbm, ⟨113, _⟩ => ⟨S_, .f32⟩
  | .hbm, ⟨114, _⟩ => ⟨S328x128, .f32⟩
  | .hbm, ⟨115, _⟩ => ⟨S328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_call0_call0_cst : Ref sig .tc := ⟨.hbm, 43, rfl⟩
abbrev main_call0_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_call1_call0_cst : Ref sig .tc := ⟨.hbm, 62, rfl⟩
abbrev main_call1_call0_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_21 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_22 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]
-- ==== Proof.Tiles.lean ====
/- The loop over the key and value tiles: one trip of it, at a symbolic tile, and the state that the trips before it
   leave in the four buffers the loop writes. -/
module

public import proofs.«01_k».proof.Proof.Gen.KernelIdeal.Loops

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one key tile's trip owns: the buffers it only reads, at their contents, and the four it writes. -/
abbrev TileOwn (c : Dev nD) (arg2 : Memref sig .tc .vmem S1x2048x512 .f32) (arg5 : Memref sig .tc .vmem S1x2048x128 .f32) (arg6 : Memref sig .tc .vmem S1x2048x128 .f32) (arg7 : Memref sig .tc .vmem S1x1x8x2048 .f32) (arg12 : Memref sig .tc .vmem S2048x128 .f32) (arg13 : Memref sig .tc .vmem S2048x128 .f32) (arg8 : Memref sig .tc .vmem S1x2048x512 .bf16) (arg9 : Memref sig .tc .vmem S1x1x8x2048 .f32) (arg10 : Memref sig .tc .vmem S1x2048x128 .f32) (arg11 : Memref sig .tc .vmem S2048x128 .f32) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (f8 : BufTy.Contents (Elt F) arg8.view.ty) (f9 : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} X13) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

/-- One key tile: the run of the body from any contents of the written buffers, with the pieces it writes. -/
@[irreducible] def tile (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (k : Fin k0_t2_loop.trips) :
    Σ' (L8 : BufTy.Contents (Elt F) arg10.view.ty → BufTy.Contents (Elt F) arg11.view.ty → List (View.Piece (Elt F) S1x2048x512 .bf16)) (L9 : BufTy.Contents (Elt F) arg10.view.ty → BufTy.Contents (Elt F) arg11.view.ty → List (View.Piece (Elt F) S1x1x8x2048 .f32)) (L10 : BufTy.Contents (Elt F) arg10.view.ty → BufTy.Contents (Elt F) arg11.view.ty → List (View.Piece (Elt F) S1x2048x128 .f32)), { L11 : BufTy.Contents (Elt F) arg10.view.ty → BufTy.Contents (Elt F) arg11.view.ty → List (View.Piece (Elt F) S2048x128 .f32) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty),
      TileOwn (F := F) c arg2 arg5 arg6 arg7 arg12 arg13 arg8 arg9 arg10 arg11 X2 X5 X6 X7 X12 X13 f8 f9 f10 f11
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 k PUnit.unit)
          (fun _ => TileOwn (F := F) c arg2 arg5 arg6 arg7 arg12 arg13 arg8 arg9 arg10 arg11 X2 X5 X6 X7 X12 X13 (arg8.view.writes (Elt F) f8 (L8 f10 f11)) (arg9.view.writes (Elt F) f9 (L9 f10 f11)) (arg10.view.writes (Elt F) f10 (L10 f10 f11)) (arg11.view.writes (Elt F) f11 (L11 f10 f11))) } := by
  have hk : k.val < 4 := Nat.lt_of_lt_of_le k.isLt k0_t2_abs.2.1
  refine ⟨?_, ?_, ?_, ?_, fun E f8 f9 f10 f11 => ?run⟩
  case run =>
    unfold k0_t2_body
    iintro ⟨H2, H5, H6, H7, H12, H13, H8, H9, H10, H11⟩
    sl_exec
    sl_step
    sl_close

/-- The pieces one key tile adds in front of those written before it. -/
@[irreducible] def stepT (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (G10 : BufTy.Contents (Elt F) arg10.view.ty) (G11 : BufTy.Contents (Elt F) arg11.view.ty) (k : ℕ) (prev : List (View.Piece (Elt F) S1x2048x512 .bf16) × List (View.Piece (Elt F) S1x1x8x2048 .f32) × List (View.Piece (Elt F) S1x2048x128 .f32) × List (View.Piece (Elt F) S2048x128 .f32)) : List (View.Piece (Elt F) S1x2048x512 .bf16) × List (View.Piece (Elt F) S1x1x8x2048 .f32) × List (View.Piece (Elt F) S1x2048x128 .f32) × List (View.Piece (Elt F) S2048x128 .f32) :=
  if h : k < k0_t2_loop.trips then
    let g10 := arg10.view.writes (Elt F) G10 (prev.2.2.1)
    let g11 := arg11.view.writes (Elt F) G11 (prev.2.2.2)
    let t := tile (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 ⟨k, h⟩
    (t.1 g10 g11 ++ prev.1, t.2.1 g10 g11 ++ prev.2.1, t.2.2.1 g10 g11 ++ prev.2.2.1, t.2.2.2.1 g10 g11 ++ prev.2.2.2)
  else prev

/-- The pieces of the key tiles before `k`. -/
def stT (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (G10 : BufTy.Contents (Elt F) arg10.view.ty) (G11 : BufTy.Contents (Elt F) arg11.view.ty) : ℕ → List (View.Piece (Elt F) S1x2048x512 .bf16) × List (View.Piece (Elt F) S1x1x8x2048 .f32) × List (View.Piece (Elt F) S1x2048x128 .f32) × List (View.Piece (Elt F) S2048x128 .f32)
  | 0 => ([], [], [], [])
  | k + 1 => stepT 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k (stT 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k)

theorem stT_succ (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (G10 : BufTy.Contents (Elt F) arg10.view.ty) (G11 : BufTy.Contents (Elt F) arg11.view.ty) (k : Fin k0_t2_loop.trips) :
    stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 (k.val + 1)
      = (let prev := stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k.val
         let g10 := arg10.view.writes (Elt F) G10 (prev.2.2.1)
         let g11 := arg11.view.writes (Elt F) G11 (prev.2.2.2)
         let t := tile (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 k
         (t.1 g10 g11 ++ prev.1, t.2.1 g10 g11 ++ prev.2.1, t.2.2.1 g10 g11 ++ prev.2.2.1, t.2.2.2.1 g10 g11 ++ prev.2.2.2)) := by
  rw [stT.eq_2]; unfold stepT; exact dif_pos k.isLt

/-- Before key tile `k` each written buffer holds the pieces of the tiles before it, over its contents at loop entry. -/
abbrev invT (𝒱 : Variants) (c : Dev nD) (bd : Option 𝒱.V) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (G8 : BufTy.Contents (Elt F) arg8.view.ty) (G9 : BufTy.Contents (Elt F) arg9.view.ty) (G10 : BufTy.Contents (Elt F) arg10.view.ty) (G11 : BufTy.Contents (Elt F) arg11.view.ty) (k : ℕ) (_u : PUnit) : sProp 𝕄 :=
  iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} X13) ∗ (∃ f, (arg8.view.loc (c : Thread nD τ) ↦[arg8.view.set]{fullShare} f) ∗ ⌜f = arg8.view.writes (Elt F) G8 (stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k).1⌝) ∗ (∃ f, (arg9.view.loc (c : Thread nD τ) ↦[arg9.view.set]{fullShare} f) ∗ ⌜f = arg9.view.writes (Elt F) G9 (stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k).2.1⌝) ∗ (∃ f, (arg10.view.loc (c : Thread nD τ) ↦[arg10.view.set]{fullShare} f) ∗ ⌜f = arg10.view.writes (Elt F) G10 (stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k).2.2.1⌝) ∗ (∃ f, (arg11.view.loc (c : Thread nD τ) ↦[arg11.view.set]{fullShare} f) ∗ ⌜f = arg11.view.writes (Elt F) G11 (stT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G10 G11 k).2.2.2⌝))

set_option warn.classDefReducibility false in
@[sl_loop] def loopInv_k0_t2 (𝒱 : Variants) (c : Dev nD) (bd : Option 𝒱.V) (E : Set ℕ) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X5 : BufTy.Contents (Elt F) arg5.view.ty) (X6 : BufTy.Contents (Elt F) arg6.view.ty) (X7 : BufTy.Contents (Elt F) arg7.view.ty) (X12 : BufTy.Contents (Elt F) arg12.view.ty) (X13 : BufTy.Contents (Elt F) arg13.view.ty) (G8 : BufTy.Contents (Elt F) arg8.view.ty) (G9 : BufTy.Contents (Elt F) arg9.view.ty) (G10 : BufTy.Contents (Elt F) arg10.view.ty) (G11 : BufTy.Contents (Elt F) arg11.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 where
  inv := invT (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 G8 G9 G10 G11
  step k acc := by
    iintro ⟨H2, H5, H6, H7, H12, H13, ⟨%f8, H8, %h8⟩, ⟨%f9, H9, %h9⟩, ⟨%f10, H10, %h10⟩, ⟨%f11, H11, %h11⟩⟩
    iapply (wp_wand_r Idealize.ShloMosaic.frame (wpE (defs₀ (F := F)) 𝒱 (c : Thread nD τ) bd) E)
    isplitl [H2 H5 H6 H7 H12 H13 H8 H9 H10 H11]
    · iapply ((tile (F := F) 𝒱 c bd i arg2 harg2 arg3 harg3 arg4 harg4 arg5 harg5 arg6 harg6 arg7 harg7 arg8 harg8 arg9 harg9 arg10 harg10 arg11 harg11 arg12 harg12 arg13 harg13 X2 X5 X6 X7 X12 X13 k).2.2.2.2 E f8 f9 f10 f11)
      isplitl [H2]; · iexact H2
      isplitl [H5]; · iexact H5
      isplitl [H6]; · iexact H6
      isplitl [H7]; · iexact H7
      isplitl [H12]; · iexact H12
      isplitl [H13]; · iexact H13
      isplitl [H8]; · iexact H8
      isplitl [H9]; · iexact H9
      isplitl [H10]; · iexact H10
      iexact H11
    · iintro %_ ⟨H2, H5, H6, H7, H12, H13, H8, H9, H10, H11⟩
      isplitl [H2]; · iexact H2
      isplitl [H5]; · iexact H5
      isplitl [H6]; · iexact H6
      isplitl [H7]; · iexact H7
      isplitl [H12]; · iexact H12
      isplitl [H13]; · iexact H13
      rw [stT_succ]
      isplitl [H8]
      · iexists _; isplitl [H8]; · iexact H8
        ipureintro; rw [h10, h11]; rw [h8]; rw [← View.writes_append]
      isplitl [H9]
      · iexists _; isplitl [H9]; · iexact H9
        ipureintro; rw [h10, h11]; rw [h9]; rw [← View.writes_append]
      isplitl [H10]
      · iexists _; isplitl [H10]; · iexact H10
        ipureintro; rw [h10, h11]; rw [← View.writes_append]
      iexists _; isplitl [H11]; · iexact H11
      ipureintro; rw [h10, h11]; rw [← View.writes_append]

end Cert.Proof.KernelIdeal

end
-- ==== Proof.Body.lean ====
/- One grid point of the backward call: the run of its body, what it leaves in the three results, the proof data of
   the pipeline and the run of the whole program. -/
module

public import proofs.«01_k».proof.Proof.Tiles
public import proofs.«01_k».proof.Proof.Gen.KernelIdeal.Frame
public import Idealize.ShloMosaic.Lib.Pipeline.TableIdle

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the preparing loop leaves in the results and the scratch buffers, as pieces. -/
abbrev prep (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :=
  pb_k0_t1 (F := F) Variants.none c none i arg2 harg2 arg3 harg3 arg4 harg4 arg5 harg5 arg6 harg6 arg7 harg7 arg8 harg8 arg9 harg9 arg10 harg10 arg11 harg11 arg12 harg12 arg13 harg13 X2 X3 X4 4

/-- The pieces of the key tiles, from what the preparing loop left over `f10 … f13`. -/
abbrev tiles (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :=
  stT (F := F) Variants.none c none i arg2 harg2 arg3 harg3 arg4 harg4 arg5 harg5 arg6 harg6 arg7 harg7 arg8 harg8 arg9 harg9 arg10 harg10 arg11 harg11 arg12 harg12 arg13 harg13 X2 X5 X6 X7
    (arg12.view.writes (Elt F) f12 (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.1) (arg13.view.writes (Elt F) f13 (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.2)
    (arg10.view.writes (Elt F) f10 (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.1) (arg11.view.writes (Elt F) f11 (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1) 4

/-- The body at one grid point, from any contents of the results and the scratch buffers. -/
def kernelRun (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (L8 : BufTy.Contents (Elt F) arg10.view.ty → BufTy.Contents (Elt F) arg11.view.ty → BufTy.Contents (Elt F) arg12.view.ty → BufTy.Contents (Elt F) arg13.view.ty → List (View.Piece (Elt F) S1x2048x512 .bf16)) (L9 : BufTy.Contents (Elt F) arg10.view.ty → BufTy.Contents (Elt F) arg11.view.ty → BufTy.Contents (Elt F) arg12.view.ty → BufTy.Contents (Elt F) arg13.view.ty → List (View.Piece (Elt F) S1x1x8x2048 .f32)), { L10 : BufTy.Contents (Elt F) arg10.view.ty → BufTy.Contents (Elt F) arg11.view.ty → BufTy.Contents (Elt F) arg12.view.ty → BufTy.Contents (Elt F) arg13.view.ty → List (View.Piece (Elt F) S1x2048x128 .f32) //
      ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (W : Waits sig Unit) (K : PUnit → sProp 𝕄),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ owes (c : Thread nD τ) 0 W
          ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ g, (arg8.view.loc (c : Thread nD τ) ↦[arg8.view.set]{fullShare} (arg8.view.writes (Elt F) g (L8 f10 f11 f12 f13)))) ∗ (∃ g, (arg9.view.loc (c : Thread nD τ) ↦[arg9.view.set]{fullShare} (arg9.view.writes (Elt F) g (L9 f10 f11 f12 f13)))) ∗ (∃ g, (arg10.view.loc (c : Thread nD τ) ↦[arg10.view.set]{fullShare} (arg10.view.writes (Elt F) g (L10 f10 f11 f12 f13))))
              ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ W', owes (c : Thread nD τ) 0 W')) -∗ K ⟨⟩))
          ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13) K } := by
  refine ⟨?_, ?_, ?_, fun f8 f9 f10 f11 f12 f13 W K => ?run⟩
  case run =>
    simp only [cc0_fox_bwd_eq_skeleton]; unfold cc0_fox_bwd_skel
    iintro ⟨H2, H3, H4, H5, H6, H7, H8, H9, H10, H11, H12, H13, HW, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HW

/-- The preparing loop writes every row of this buffer, so what it held before is nowhere read. -/
theorem prep_cov10 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg10.view.ty) :
    arg10.view.writes (Elt F) f (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 = arg10.view.writes (Elt F) arg10.view.junk (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 :=
  Memref.writes_eq_junk_of_covChk (m := arg10) harg10 f _ (.split 1 512 (.leaf 3) (.split 1 512 (.leaf 2) (.split 1 512 (.leaf 1) (.leaf 0)))) (by sl_kernel_rfl)

/-- The preparing loop writes every row of this buffer, so what it held before is nowhere read. -/
theorem prep_cov11 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg11.view.ty) :
    arg11.view.writes (Elt F) f (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 = arg11.view.writes (Elt F) arg11.view.junk (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 :=
  Memref.writes_eq_junk_of_covChk (m := arg11) harg11 f _ (.split 0 512 (.leaf 3) (.split 0 512 (.leaf 2) (.split 0 512 (.leaf 1) (.leaf 0)))) (by sl_kernel_rfl)

/-- The preparing loop writes every row of this buffer, so what it held before is nowhere read. -/
theorem prep_cov12 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg12.view.ty) :
    arg12.view.writes (Elt F) f (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.1 = arg12.view.writes (Elt F) arg12.view.junk (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.1 :=
  Memref.writes_eq_junk_of_covChk (m := arg12) harg12 f _ (.split 0 512 (.leaf 3) (.split 0 512 (.leaf 2) (.split 0 512 (.leaf 1) (.leaf 0)))) (by sl_kernel_rfl)

/-- The preparing loop writes every row of this buffer, so what it held before is nowhere read. -/
theorem prep_cov13 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f : BufTy.Contents (Elt F) arg13.view.ty) :
    arg13.view.writes (Elt F) f (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.2 = arg13.view.writes (Elt F) arg13.view.junk (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.2.2 :=
  Memref.writes_eq_junk_of_covChk (m := arg13) harg13 f _ (.split 0 512 (.leaf 3) (.split 0 512 (.leaf 2) (.split 0 512 (.leaf 1) (.leaf 0)))) (by sl_kernel_rfl)

theorem pieces8_eq (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).1 f10 f11 f12 f13
      = ⟨Rect.unit (s := S1x2048x512) ![0, 0, 0] S1x2048x128.size inb_S1x2048x512_S1x2048x128_0_0_0,
          k0_pay11 (arg11.view.readAt (Elt F) (Rect.unit (s := S2048x128) ![0, 0] S2048x128.size inb_S2048x128_S2048x128_0_0).toLoadRect
            (arg11.view.writes (Elt F) f11 ((tiles (F := F) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13).2.2.2 ++ (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1)))⟩ ::
        ((tiles (F := F) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13).1 ++ (prep (F := F) c i arg2 harg2 arg3 harg3 arg4 harg4 arg5 harg5 arg6 harg6 arg7 harg7 arg8 harg8 arg9 harg9 arg10 harg10 arg11 harg11 arg12 harg12 arg13 harg13 X2 X3 X4 X5 X6 X7).1) := by
  sl_kernel_rfl

theorem pieces9_eq (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 f10 f11 f12 f13
      = (tiles (F := F) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13).2.1
        ++ [⟨Rect.unit (s := S1x1x8x2048) ![0, 0, 0, 0] S1x1x8x2048.size inb_S1x1x8x2048_S1x1x8x2048_0_0_0_0, k0_pay5 (F := F)⟩] := by
  sl_kernel_rfl

theorem pieces10_eq (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 f10 f11 f12 f13 = (tiles (F := F) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13).2.2.1 ++ (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 := by
  sl_kernel_rfl

theorem tiles_junk (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    tiles (F := F) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13 = tiles (F := F) c i arg2 harg2 arg3 harg3 arg4 harg4 arg5 harg5 arg6 harg6 arg7 harg7 arg8 harg8 arg9 harg9 arg10 harg10 arg11 harg11 arg12 harg12 arg13 harg13 X2 X3 X4 X5 X6 X7 arg10.view.junk arg11.view.junk arg12.view.junk arg13.view.junk := by
  unfold tiles
  rw [prep_cov10 c i arg2 harg2 arg3 harg3 arg4 harg4 arg5 harg5 arg6 harg6 arg7 harg7 arg8 harg8 arg9 harg9 arg10 harg10 arg11 harg11 arg12 harg12 arg13 harg13 X2 X3 X4 X5 X6 X7 f10, prep_cov11 c i arg2 harg2 arg3 harg3 arg4 harg4 arg5 harg5 arg6 harg6 arg7 harg7 arg8 harg8 arg9 harg9 arg10 harg10 arg11 harg11 arg12 harg12 arg13 harg13 X2 X3 X4 X5 X6 X7 f11, prep_cov12 c i arg2 harg2 arg3 harg3 arg4 harg4 arg5 harg5 arg6 harg6 arg7 harg7 arg8 harg8 arg9 harg9 arg10 harg10 arg11 harg11 arg12 harg12 arg13 harg13 X2 X3 X4 X5 X6 X7 f12, prep_cov13 c i arg2 harg2 arg3 harg3 arg4 harg4 arg5 harg5 arg6 harg6 arg7 harg7 arg8 harg8 arg9 harg9 arg10 harg10 arg11 harg11 arg12 harg12 arg13 harg13 X2 X3 X4 X5 X6 X7 f13]

theorem pieces8_junk (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).1 f10 f11 f12 f13 = (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).1 arg10.view.junk arg11.view.junk arg12.view.junk arg13.view.junk := by
  rw [pieces8_eq, pieces8_eq, View.writes_append, prep_cov11 c i arg2 harg2 arg3 harg3 arg4 harg4 arg5 harg5 arg6 harg6 arg7 harg7 arg8 harg8 arg9 harg9 arg10 harg10 arg11 harg11 arg12 harg12 arg13 harg13 X2 X3 X4 X5 X6 X7 f11, ← View.writes_append, tiles_junk c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13]

theorem pieces9_junk (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 f10 f11 f12 f13 = (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 arg10.view.junk arg11.view.junk arg12.view.junk arg13.view.junk := by
  rw [pieces9_eq, pieces9_eq, tiles_junk c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13]

theorem pieces10_junk (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 f10 f11 f12 f13 = (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 arg10.view.junk arg11.view.junk arg12.view.junk arg13.view.junk := by
  rw [pieces10_eq, pieces10_eq, tiles_junk c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13]

theorem cover8 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) (y : S1x2048x512.Idx) :
    ∃ p ∈ (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).1 f10 f11 f12 f13, y ∈ p.1.set := by
  have h := LoadRect.cover_of_covChk ((kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).1 f10 f11 f12 f13) (LoadRect.whole _) (.split 2 128 (.leaf 0) (.split 2 128 (.split 1 512 (.leaf 8) (.split 1 512 (.leaf 6) (.split 1 512 (.leaf 4) (.leaf 2)))) (.split 2 128 (.split 1 512 (.leaf 7) (.split 1 512 (.leaf 5) (.split 1 512 (.leaf 3) (.leaf 1)))) (.split 1 512 (.leaf 12) (.split 1 512 (.leaf 11) (.split 1 512 (.leaf 10) (.leaf 9))))))) (by sl_kernel_rfl) y
  rwa [LoadRect.idx_whole] at h

theorem cover9 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) (y : S1x1x8x2048.Idx) :
    ∃ p ∈ (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 f10 f11 f12 f13, y ∈ p.1.set := by
  have h := LoadRect.cover_of_covChk ((kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 f10 f11 f12 f13) (LoadRect.whole _) (.leaf 8) (by sl_kernel_rfl) y
  rwa [LoadRect.idx_whole] at h

theorem cover10 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f10 : BufTy.Contents (Elt F) arg10.view.ty) (f11 : BufTy.Contents (Elt F) arg11.view.ty) (f12 : BufTy.Contents (Elt F) arg12.view.ty) (f13 : BufTy.Contents (Elt F) arg13.view.ty) (y : S1x2048x128.Idx) :
    ∃ p ∈ (kernelRun (F := F) c i arg2 harg2 arg3 harg3 arg4 harg4 arg5 harg5 arg6 harg6 arg7 harg7 arg8 harg8 arg9 harg9 arg10 harg10 arg11 harg11 arg12 harg12 arg13 harg13 X2 X3 X4 X5 X6 X7).2.2.1 f10 f11 f12 f13, y ∈ p.1.set := by
  rw [pieces10_eq]
  have h := LoadRect.cover_of_covChk (prep (F := F) c i arg2 harg2 arg3 harg3 arg4 harg4 arg5 harg5 arg6 harg6 arg7 harg7 arg8 harg8 arg9 harg9 arg10 harg10 arg11 harg11 arg12 harg12 arg13 harg13 X2 X3 X4 X5 X6 X7).2.1 (LoadRect.whole _) (.split 1 512 (.leaf 3) (.split 1 512 (.leaf 2) (.split 1 512 (.leaf 1) (.leaf 0)))) (by sl_kernel_rfl) y
  rw [LoadRect.idx_whole] at h
  obtain ⟨p, hp, hy⟩ := h
  exact ⟨p, List.mem_append_right _ hp, hy⟩

/-- What one grid point leaves in result 0, from the blocks it reads. -/
def out8 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) : Vec F S1x2048x512 .bf16 :=
  arg8.view.read (Elt F) (arg8.view.writes (Elt F) arg8.view.junk ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).1 arg10.view.junk arg11.view.junk arg12.view.junk arg13.view.junk))

theorem out8_of (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) (f10 : BufTy.Contents (Elt F) arg10.view.ty) (f11 : BufTy.Contents (Elt F) arg11.view.ty) (f12 : BufTy.Contents (Elt F) arg12.view.ty) (f13 : BufTy.Contents (Elt F) arg13.view.ty) (g : BufTy.Contents (Elt F) arg8.view.ty) :
    arg8.view.read (Elt F) (arg8.view.writes (Elt F) g ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).1 f10 f11 f12 f13)) = out8 (F := F) c i arg2 harg2 arg3 harg3 arg4 harg4 arg5 harg5 arg6 harg6 arg7 harg7 arg8 harg8 arg9 harg9 arg10 harg10 arg11 harg11 arg12 harg12 arg13 harg13 D2 D3 D4 D5 D6 D7 := by
  rw [pieces8_junk]
  exact View.read_writes_of_cover _ _ _ _ _ (cover8 c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7) arg10.view.junk arg11.view.junk arg12.view.junk arg13.view.junk)

/-- What one grid point leaves in result 1, from the blocks it reads. -/
def out9 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) : Vec F S1x1x8x2048 .f32 :=
  arg9.view.read (Elt F) (arg9.view.writes (Elt F) arg9.view.junk ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).2.1 arg10.view.junk arg11.view.junk arg12.view.junk arg13.view.junk))

theorem out9_of (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) (f10 : BufTy.Contents (Elt F) arg10.view.ty) (f11 : BufTy.Contents (Elt F) arg11.view.ty) (f12 : BufTy.Contents (Elt F) arg12.view.ty) (f13 : BufTy.Contents (Elt F) arg13.view.ty) (g : BufTy.Contents (Elt F) arg9.view.ty) :
    arg9.view.read (Elt F) (arg9.view.writes (Elt F) g ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).2.1 f10 f11 f12 f13)) = out9 (F := F) c i arg2 harg2 arg3 harg3 arg4 harg4 arg5 harg5 arg6 harg6 arg7 harg7 arg8 harg8 arg9 harg9 arg10 harg10 arg11 harg11 arg12 harg12 arg13 harg13 D2 D3 D4 D5 D6 D7 := by
  rw [pieces9_junk]
  exact View.read_writes_of_cover _ _ _ _ _ (cover9 c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7) arg10.view.junk arg11.view.junk arg12.view.junk arg13.view.junk)

/-- What one grid point leaves in result 2, from the blocks it reads. -/
def out10 (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) : Vec F S1x2048x128 .f32 :=
  arg10.view.read (Elt F) (arg10.view.writes (Elt F) arg10.view.junk ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).2.2.1 arg10.view.junk arg11.view.junk arg12.view.junk arg13.view.junk))

theorem out10_of (c : Dev nD) (i : grid0.Coords) (arg2 : Memref sig .tc .vmem S1x2048x512 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x8x2048 .f32) (harg7 : arg7.IsWhole) (arg8 : Memref sig .tc .vmem S1x2048x512 .bf16) (harg8 : arg8.IsWhole) (arg9 : Memref sig .tc .vmem S1x1x8x2048 .f32) (harg9 : arg9.IsWhole) (arg10 : Memref sig .tc .vmem S1x2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (D2 : Vec F S1x2048x512 .f32) (D3 : Vec F S1x2048x128 .f32) (D4 : Vec F S1x2048x128 .f32) (D5 : Vec F S1x2048x128 .f32) (D6 : Vec F S1x2048x128 .f32) (D7 : Vec F S1x1x8x2048 .f32) (f10 : BufTy.Contents (Elt F) arg10.view.ty) (f11 : BufTy.Contents (Elt F) arg11.view.ty) (f12 : BufTy.Contents (Elt F) arg12.view.ty) (f13 : BufTy.Contents (Elt F) arg13.view.ty) (g : BufTy.Contents (Elt F) arg10.view.ty) :
    arg10.view.read (Elt F) (arg10.view.writes (Elt F) g ((kernelRun (F := F) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).2.2.1 f10 f11 f12 f13)) = out10 (F := F) c i arg2 harg2 arg3 harg3 arg4 harg4 arg5 harg5 arg6 harg6 arg7 harg7 arg8 harg8 arg9 harg9 arg10 harg10 arg11 harg11 arg12 harg12 arg13 harg13 D2 D3 D4 D5 D6 D7 := by
  rw [pieces10_junk]
  exact View.read_writes_of_cover _ _ _ _ _ (cover10 c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7) arg10.view.junk arg11.view.junk arg12.view.junk arg13.view.junk)

variable (m : (ℓ : Loc nD τ sig) → Buf (Elt F) ℓ) (ρ : Dev nD → PrngReg)

def outAt8 (c : Dev nD) (t : Fin cfg0.N) : Vec F S1x2048x512 .bf16 :=
  out8 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t)

def outAt9 (c : Dev nD) (t : Fin cfg0.N) : Vec F S1x1x8x2048 .f32 :=
  out9 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t)

def outAt10 (c : Dev nD) (t : Fin cfg0.N) : Vec F S1x2048x128 .f32 :=
  out10 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t)

/-- The proof data of the pipeline: the arrays as the region finds them, each operand's block left in place, each
    result's block as the body leaves it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt8 m c t
    | ⟨7, _⟩ => outAt9 m c t
    | ⟨8, _⟩ => outAt10 m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt8 m c t := by dsimp only [dats]
theorem after_7 (c : Dev nD) (t : Fin cfg0.N) : (dats m 0 c).after 7 t = outAt9 m c t := by dsimp only [dats]
theorem after_8 (c : Dev nD) (t : Fin cfg0.N) : (dats m 0 c).after 8 t = outAt10 m c t := by dsimp only [dats]
theorem before_0 (c : Dev nD) (t : Fin cfg0.N) (d) : (dats m 0 c).before 0 t d = (dats m 0 c).after 0 t := by
  rw [after_0]; exact before0_0_of m (dats m 0 c) (A_eq m c _) (after_0 m c) t d
theorem before_1 (c : Dev nD) (t : Fin cfg0.N) (d) : (dats m 0 c).before 1 t d = (dats m 0 c).after 1 t := by
  rw [after_1]; exact before0_1_of m (dats m 0 c) (A_eq m c _) (after_1 m c) t d
theorem before_2 (c : Dev nD) (t : Fin cfg0.N) (d) : (dats m 0 c).before 2 t d = (dats m 0 c).after 2 t := by
  rw [after_2]; exact before0_2_of m (dats m 0 c) (A_eq m c _) (after_2 m c) t d
theorem before_3 (c : Dev nD) (t : Fin cfg0.N) (d) : (dats m 0 c).before 3 t d = (dats m 0 c).after 3 t := by
  rw [after_3]; exact before0_3_of m (dats m 0 c) (A_eq m c _) (after_3 m c) t d
theorem before_4 (c : Dev nD) (t : Fin cfg0.N) (d) : (dats m 0 c).before 4 t d = (dats m 0 c).after 4 t := by
  rw [after_4]; exact before0_4_of m (dats m 0 c) (A_eq m c _) (after_4 m c) t d
theorem before_5 (c : Dev nD) (t : Fin cfg0.N) (d) : (dats m 0 c).before 5 t d = (dats m 0 c).after 5 t := by
  rw [after_5]; exact before0_5_of m (dats m 0 c) (A_eq m c _) (after_5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5]
  rw [after_0, after_1, after_2, after_3, after_4, after_5, after_6, after_7, after_8]
  rw [show (dats m 0 c).Φ t.succ = Pipeline.ΦA spec0 c from rfl, show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [owns_eq_rep (c : Thread nD τ) (st0_0 t) fullShare, owns_eq_rep (c : Thread nD τ) (st0_1 t) fullShare, owns_eq_rep (c : Thread nD τ) (st0_2 t) fullShare, owns_eq_rep (c : Thread nD τ) (st0_3 t) fullShare, owns_eq_rep (c : Thread nD τ) (st0_4 t) fullShare, owns_eq_rep (c : Thread nD τ) (st0_5 t) fullShare]
  iintro ⟨⟨⟨⟨%fs0, HS0⟩, ⟨%fs1, HS1⟩, ⟨%fs2, HS2⟩⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns
  icases H6 with ⟨%f6, -, H6⟩
  icases H7 with ⟨%f7, -, H7⟩
  icases H8 with ⟨%f8, -, H8⟩
  iapply ((kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) ((st0_0 t).view.rep (X0_0 m c t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t))).2.2.2 f6 f7 f8 fs0 fs1 fs2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · rw [show (Memref.whole cc0_scratch0).view.set = Finset.univ from View.set_whole _]; iexact HS0
  isplitl [HS1]; · rw [show (Memref.whole cc0_scratch1).view.set = Finset.univ from View.set_whole _]; iexact HS1
  isplitl [HS2]; · rw [show (Memref.whole cc0_scratch2).view.set = Finset.univ from View.set_whole _]; iexact HS2
  isplitl [HW]; · iexact HW
  iintro ⟨H0, H1, H2, H3, H4, H5, ⟨%g6, H6⟩, ⟨%g7, H7⟩, ⟨%g8, H8⟩, ⟨%e0, HS0⟩, ⟨%e1, HS1⟩, ⟨%e2, HS2⟩, ⟨%W', HW'⟩⟩
  isplitl [HS0 HS1 HS2 Hg]
  · isplitl [HS0 HS1 HS2]
    · isplitl [HS0]
      · iexists e0; rw [← View.set_whole cc0_scratch0]; iexact HS0
      isplitl [HS1]
      · iexists e1; rw [← View.set_whole cc0_scratch1]; iexact HS1
      · iexists e2; rw [← View.set_whole cc0_scratch2]; iexact HS2
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact out8_of c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t) f8 fs0 fs1 fs2 g6
  isplitl [H7]
  · iexists _; isplitr; swap; · iexact H7
    ipureintro; exact out9_of c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t) f8 fs0 fs1 fs2 g7
  · iexists _; isplitr; swap; · iexact H8
    ipureintro; exact out10_of c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (X0_0 m c t) (iblk m c 1 t) (iblk m c 2 t) (iblk m c 3 t) (iblk m c 4 t) (iblk m c 5 t) f8 fs0 fs1 fs2 g8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Proof.KernelIdeal

end
-- ==== Proof.Frames.lean ====
/- The frame claims: the kernel at the bit-exact instance and at the ideal one, both read off the run written once
   in Proof/Body.lean, and the reference, a straight line of host operations. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Body
public import Idealize.ShloMosaic.Adequacy
public import Idealize.ShloMosaic.Init

@[expose] public section

noncomputable section

namespace Cert.Proof

open Idealize.ShloMosaic Idealize.ShloMosaic.Pipeline Idealize.SL Idealize.SL.Sem

theorem frame_kernelIdeal : Cert.quiescent_KernelIdeal := fun m ρ _ =>
  θ_run_with_sems (Cert.KernelIdeal.Gen.frame_of m ρ (Cert.Proof.KernelIdeal.dats m) (Cert.Proof.KernelIdeal.A_eq m))
    (Cert.Proof.KernelIdeal.run_main (F := Ideal) m ρ)

/-- The run at the bit-exact instance, in the spelling of the idealized program: the two programs have one text. -/
theorem frame_bits :
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := fun m ρ _ =>
  θ_run_with_sems (Cert.KernelIdeal.Gen.frame_of m ρ (Cert.Proof.KernelIdeal.dats m) (Cert.Proof.KernelIdeal.A_eq m))
    (Cert.Proof.KernelIdeal.run_main (F := Bits) m ρ)

theorem frame_kernel : Cert.quiescent_Kernel :=
  Eq.mp (by sl_kernel_rfl) frame_bits

theorem frame_kernelIdeal_pre : Cert.quiescent_KernelIdeal_pre_finite := fun m ρ _ =>
  θ_run_with_sems (Cert.KernelIdeal.Gen.frame_of m ρ (Cert.Proof.KernelIdeal.dats m) (Cert.Proof.KernelIdeal.A_eq m))
    (Cert.Proof.KernelIdeal.run_main (F := Ideal) m ρ)

theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem frame_referenceIdeal_pre : Cert.quiescent_ReferenceIdeal_pre_finite := fun m ρ _ =>
  frame_referenceIdeal m ρ trivial

end Cert.Proof

end
-- ==== Proof.CallFrames.lean ====
/- The frame claims of the projection and optimiser calls' programs. The kernel at the bit-exact instance has the text of the
   idealized one, so both are read off the one run; each reference is a straight line of host operations. -/
module

public import proofs.«01_k».proof.Defs
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite3
public import proofs.«01_k».proof.Proof.Gen.Pre_finite4
public import Idealize.ShloMosaic.Adequacy
public import Idealize.ShloMosaic.Init

@[expose] public section

noncomputable section

namespace Cert.Proof.Calls

open Idealize.ShloMosaic Idealize.ShloMosaic.Pipeline Idealize.SL Idealize.SL.Sem

/-- The run at the bit-exact instance, in the spelling of the idealized program. -/
theorem bits2 :
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) := fun m ρ _ => Cert.Kernel2Ideal.Gen.frame (F := Bits) m ρ

theorem kernel2 : Cert.quiescent_Kernel2 :=
  Eq.mp (by sl_kernel_rfl) bits2

theorem kernelIdeal2 : Cert.quiescent_Kernel2Ideal := fun m ρ _ => Cert.Kernel2Ideal.Gen.frame (F := Ideal) m ρ

theorem referenceIdeal2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The run at the bit-exact instance, in the spelling of the idealized program. -/
theorem bits3 :
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0) := fun m ρ _ => Cert.Kernel3Ideal.Gen.frame (F := Bits) m ρ

theorem kernel3 : Cert.quiescent_Kernel3 :=
  Eq.mp (by sl_kernel_rfl) bits3

theorem kernelIdeal3 : Cert.quiescent_Kernel3Ideal := fun m ρ _ => Cert.Kernel3Ideal.Gen.frame (F := Ideal) m ρ

theorem referenceIdeal3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem kernelIdeal3_pre : Cert.quiescent_Kernel3Ideal_pre_finite3 := fun m ρ _ => Cert.Kernel3Ideal.Gen.frame (F := Ideal) m ρ

theorem referenceIdeal3_pre : Cert.quiescent_Reference3Ideal_pre_finite3 := fun m ρ _ => referenceIdeal3 m ρ trivial

/-- The run at the bit-exact instance, in the spelling of the idealized program. -/
theorem bits4 :
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0) := fun m ρ _ => Cert.Kernel4Ideal.Gen.frame (F := Bits) m ρ

theorem kernel4 : Cert.quiescent_Kernel4 :=
  Eq.mp (by sl_kernel_rfl) bits4

theorem kernelIdeal4 : Cert.quiescent_Kernel4Ideal := fun m ρ _ => Cert.Kernel4Ideal.Gen.frame (F := Ideal) m ρ

theorem referenceIdeal4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

theorem kernelIdeal4_pre : Cert.quiescent_Kernel4Ideal_pre_finite4 := fun m ρ _ => Cert.Kernel4Ideal.Gen.frame (F := Ideal) m ρ

theorem referenceIdeal4_pre : Cert.quiescent_Reference4Ideal_pre_finite4 := fun m ρ _ => referenceIdeal4 m ρ trivial

/-- The run at the bit-exact instance, in the spelling of the idealized program. -/
theorem bits5 :
  ∀ (m : (ℓ : Loc Cert.Kernel5Ideal.nD Cert.Kernel5Ideal.τ Cert.Kernel5Ideal.sig) → Buf (Elt Bits) ℓ) (g : Dev Cert.Kernel5Ideal.nD → PrngReg), True →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0) := fun m ρ _ => Cert.Kernel5Ideal.Gen.frame (F := Bits) m ρ

theorem kernel5 : Cert.quiescent_Kernel5 :=
  Eq.mp (by sl_kernel_rfl) bits5

theorem kernelIdeal5 : Cert.quiescent_Kernel5Ideal := fun m ρ _ => Cert.Kernel5Ideal.Gen.frame (F := Ideal) m ρ

theorem referenceIdeal5 : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The run at the bit-exact instance, in the spelling of the idealized program. -/
theorem bits6 :
  ∀ (m : (ℓ : Loc Cert.Kernel6Ideal.nD Cert.Kernel6Ideal.τ Cert.Kernel6Ideal.sig) → Buf (Elt Bits) ℓ) (g : Dev Cert.Kernel6Ideal.nD → PrngReg), True →
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0) := fun m ρ _ => Cert.Kernel6Ideal.Gen.frame (F := Bits) m ρ

theorem kernel6 : Cert.quiescent_Kernel6 :=
  Eq.mp (by sl_kernel_rfl) bits6

theorem kernelIdeal6 : Cert.quiescent_Kernel6Ideal := fun m ρ _ => Cert.Kernel6Ideal.Gen.frame (F := Ideal) m ρ

theorem referenceIdeal6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The run at the bit-exact instance, in the spelling of the idealized program. -/
theorem bits7 :
  ∀ (m : (ℓ : Loc Cert.Kernel7Ideal.nD Cert.Kernel7Ideal.τ Cert.Kernel7Ideal.sig) → Buf (Elt Bits) ℓ) (g : Dev Cert.Kernel7Ideal.nD → PrngReg), True →
    θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0) := fun m ρ _ => Cert.Kernel7Ideal.Gen.frame (F := Bits) m ρ

theorem kernel7 : Cert.quiescent_Kernel7 :=
  Eq.mp (by sl_kernel_rfl) bits7

theorem kernelIdeal7 : Cert.quiescent_Kernel7Ideal := fun m ρ _ => Cert.Kernel7Ideal.Gen.frame (F := Ideal) m ρ

theorem referenceIdeal7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

/-- The run at the bit-exact instance, in the spelling of the idealized program. -/
theorem bits8 :
  ∀ (m : (ℓ : Loc Cert.Kernel8Ideal.nD Cert.Kernel8Ideal.τ Cert.Kernel8Ideal.sig) → Buf (Elt Bits) ℓ) (g : Dev Cert.Kernel8Ideal.nD → PrngReg), True →
    θ_run (Cert.Kernel8Ideal.defs (F := Bits)) (onTc (τ := Cert.Kernel8Ideal.τ) (Cert.Kernel8Ideal.main (F := Bits))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0) := fun m ρ _ => Cert.Kernel8Ideal.Gen.frame (F := Bits) m ρ

theorem kernel8 : Cert.quiescent_Kernel8 :=
  Eq.mp (by sl_kernel_rfl) bits8

theorem kernelIdeal8 : Cert.quiescent_Kernel8Ideal := fun m ρ _ => Cert.Kernel8Ideal.Gen.frame (F := Ideal) m ρ

theorem referenceIdeal8 : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

/-- The run at the bit-exact instance, in the spelling of the idealized program. -/
theorem bits9 :
  ∀ (m : (ℓ : Loc Cert.Kernel9Ideal.nD Cert.Kernel9Ideal.τ Cert.Kernel9Ideal.sig) → Buf (Elt Bits) ℓ) (g : Dev Cert.Kernel9Ideal.nD → PrngReg), True →
    θ_run (Cert.Kernel9Ideal.defs (F := Bits)) (onTc (τ := Cert.Kernel9Ideal.τ) (Cert.Kernel9Ideal.main (F := Bits))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0) := fun m ρ _ => Cert.Kernel9Ideal.Gen.frame (F := Bits) m ρ

theorem kernel9 : Cert.quiescent_Kernel9 :=
  Eq.mp (by sl_kernel_rfl) bits9

theorem kernelIdeal9 : Cert.quiescent_Kernel9Ideal := fun m ρ _ => Cert.Kernel9Ideal.Gen.frame (F := Ideal) m ρ

theorem referenceIdeal9 : Cert.quiescent_Reference9Ideal := fun m ρ _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)

end Cert.Proof.Calls

end
-- ==== Proof.Blocks.lean ====
/- The blocks each grid point reads, as entries of the arrays the kernel is launched on. -/
module

public import proofs.«01_k».proof.Proof.Body
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

/-- The batch entry and the pair of heads a grid point works on. -/
abbrev gb (t : Fin cfg0.N) : Fin 2 := ⟨t.val / 4, by have : t.val < 8 := t.isLt; omega⟩
abbrev gp (t : Fin cfg0.N) : Fin 4 := ⟨t.val % 4, by omega⟩

theorem gidx : ∀ t : Fin cfg0.N, win0_0.index t = ![t.val / 4, 0, 3 + t.val % 4] ∧ win0_1.index t = ![t.val / 4, 0, t.val % 4] ∧ win0_2.index t = ![t.val / 4, 0, 4 + t.val % 4]
    ∧ win0_3.index t = ![t.val / 4, 0, t.val % 4] ∧ win0_4.index t = ![t.val / 4, 0, t.val % 4] ∧ win0_5.index t = ![t.val / 4, t.val % 4, 0, 0]
    ∧ win0_6.index t = ![t.val / 4, 0, t.val % 4] ∧ win0_7.index t = ![t.val / 4, t.val % 4, 0, 0] ∧ win0_8.index t = ![t.val / 4, 0, t.val % 4] :=
  (by decide +kernel : ∀ t : Fin grid0.N, _)

variable (m : (ℓ : Loc nD τ sig) → Buf (Elt Ideal) ℓ) (c : Dev nD) (t : Fin cfg0.N)

theorem grd1 (A : FVec Ideal S2x2048x512 .f32) (i : Fin 2048) (d : Fin 128) :
    ((cfg0.win 1).blk t).view.read (Elt Ideal) A (ix3 0 i d) = A (ix3 (gb t) i ⟨128 * (gp t).val + d.val, by have := (gp t).isLt; omega⟩) := by
  blk_ext [gidx t]

theorem gblk1 (i : Fin 2048) (d : Fin 128) : iblk m c 1 t (ix3 0 i d) = V m c main_v47 (ix3 (gb t) i ⟨128 * (gp t).val + d.val, by have := (gp t).isLt; omega⟩) :=
  grd1 t (V m c main_v47) i d

theorem grd2 (A : FVec Ideal S2x2048x1024 .f32) (i : Fin 2048) (d : Fin 128) :
    ((cfg0.win 2).blk t).view.read (Elt Ideal) A (ix3 0 i d) = A (ix3 (gb t) i ⟨512 + (128 * (gp t).val + d.val), by have := (gp t).isLt; omega⟩) := by
  blk_ext [gidx t]

theorem gblk2 (i : Fin 2048) (d : Fin 128) : iblk m c 2 t (ix3 0 i d) = V m c main_v14 (ix3 (gb t) i ⟨512 + (128 * (gp t).val + d.val), by have := (gp t).isLt; omega⟩) :=
  grd2 t (V m c main_v14) i d

theorem grd3 (A : FVec Ideal S2x2048x512 .f32) (i : Fin 2048) (d : Fin 128) :
    ((cfg0.win 3).blk t).view.read (Elt Ideal) A (ix3 0 i d) = A (ix3 (gb t) i ⟨128 * (gp t).val + d.val, by have := (gp t).isLt; omega⟩) := by
  blk_ext [gidx t]

theorem gblk3 (i : Fin 2048) (d : Fin 128) : iblk m c 3 t (ix3 0 i d) = V m c main_v57 (ix3 (gb t) i ⟨128 * (gp t).val + d.val, by have := (gp t).isLt; omega⟩) :=
  grd3 t (V m c main_v57) i d

theorem grd4 (A : FVec Ideal S2x2048x512 .f32) (i : Fin 2048) (d : Fin 128) :
    ((cfg0.win 4).blk t).view.read (Elt Ideal) A (ix3 0 i d) = A (ix3 (gb t) i ⟨128 * (gp t).val + d.val, by have := (gp t).isLt; omega⟩) := by
  blk_ext [gidx t]

theorem gblk4 (i : Fin 2048) (d : Fin 128) : iblk m c 4 t (ix3 0 i d) = V m c main_v61 (ix3 (gb t) i ⟨128 * (gp t).val + d.val, by have := (gp t).isLt; omega⟩) :=
  grd4 t (V m c main_v61) i d

theorem grd5 (A : FVec Ideal S2x4x8x2048 .f32) (s : Fin 8) (i : Fin 2048) :
    ((cfg0.win 5).blk t).view.read (Elt Ideal) A (ix4 0 0 s i) = A (ix4 (gb t) (gp t) s i) := by
  blk_ext [gidx t]

theorem gblk5 (s : Fin 8) (i : Fin 2048) : iblk m c 5 t (ix4 0 0 s i) = V m c main_v53 (ix4 (gb t) (gp t) s i) :=
  grd5 t (V m c main_v53) s i

theorem grd0 (A : FVec Ideal S2x2048x3712 .f32) (i : Fin 2048) (n : Fin 512) :
    (cfg0.win 0).fill (cfg0.grid.coords t) dflt0_0 (((cfg0.win 0).blk t).view.read (Elt Ideal) A) (ix3 0 i n) = A (ix3 (gb t) i ⟨1536 + (512 * (gp t).val + n.val), by have := (gp t).isLt; omega⟩) := by
  unfold Pipeline.Window.fill
  rw [dif_pos (moved0_0 t _)]
  blk_ext [gidx t]

theorem gblk0 (i : Fin 2048) (n : Fin 512) : X0_0 m c t (ix3 0 i n) = V m c main_v12 (ix3 (gb t) i ⟨1536 + (512 * (gp t).val + n.val), by have := (gp t).isLt; omega⟩) :=
  grd0 t (V m c main_v12) i n

end Cert.Proof.KernelIdeal
-- ==== Proof.Real.lean ====
/- The gradients of one batch row and one pair of heads of the forgetting attention, over the real numbers: the weights
   rebuilt from the saved logarithms, and the sums over key and query positions that the kernel accumulates tile by
   tile. -/
module

public import Idealize.ShloMosaic.Lib.Pointwise

@[expose] public section

noncomputable section

namespace Cert.Proof

open Idealize.ShloMosaic

/-- The real data of one batch row and one pair of heads: the projected operands and the prepared cotangent, by
    position and lane, and the saved logarithms, the row products and the cumulated log gates, by head and position. -/
structure Pt where
  q : ℕ → Fin 128 → ℝ
  k : ℕ → Fin 128 → ℝ
  v : ℕ → Fin 128 → ℝ
  dO : ℕ → Fin 128 → ℝ
  L : ℕ → ℕ → ℝ
  D : ℕ → ℕ → ℝ
  C : ℕ → ℕ → ℝ

/-- The head a lane belongs to. -/
def hd (d : Fin 128) : ℕ := d.val / 64

/-- A row kept on the lanes of one head. -/
def lane (h : ℕ) (d : Fin 128) (x : ℝ) : ℝ := if hd d = h then x else 0

namespace Pt

variable (G : Pt)

/-- The logit of query `i` against key `j`, less the saved logarithm of its row. -/
def S (h i j : ℕ) : ℝ := (∑ d, lane h d (G.q i d * (1 / 8) * G.k j d)) + (G.C h i - G.C h j) - G.L h i
/-- The causal attention weight. -/
def P (h i j : ℕ) : ℝ := if j ≤ i then Real.exp (G.S h i j) else 0
/-- The gradient of the logit. -/
def DS (h i j : ℕ) : ℝ := G.P h i j * ((∑ d, lane h d (G.dO i d * G.v j d)) - G.D h i)

/-- What the query block `I` adds to the gradient of the value at `j`. -/
def dvT (I j : ℕ) (d : Fin 128) : ℝ := ∑ r : Fin 512, G.P (hd d) (512 * I + r) j * G.dO (512 * I + r) d
/-- What the query block `I` adds to the gradient of the key at `j`. -/
def dkT (I j : ℕ) (d : Fin 128) : ℝ := ∑ r : Fin 512, G.DS (hd d) (512 * I + r) j * (G.q (512 * I + r) d * (1 / 8))
/-- What the query block `I` adds to the column sum at `j`. -/
def dcT (h I j : ℕ) : ℝ := ∑ r : Fin 512, G.DS h (512 * I + r) j
/-- What the key block `J` adds to the gradient of the query at `i`. -/
def dqT (i J : ℕ) (d : Fin 128) : ℝ := (∑ s : Fin 512, G.DS (hd d) i (512 * J + s) * G.k (512 * J + s) d) * (1 / 8)
/-- What the key block `J` adds to the row sum at `i`. -/
def drT (i J : ℕ) (d : Fin 128) : ℝ := ∑ s : Fin 512, G.DS (hd d) i (512 * J + s)

end Pt

/-- A sum of reals is a real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The printed constant one eighth. -/
theorem eighth : Ideal.ofBits .f32 1040187392#32 = ((1 / 8 : ℝ) : EReal) := by
  simp [Ideal.ofBits, Ideal.ieee, -EReal.coe_mul]; norm_num

/-- A row kept on one head's lanes, as the selection the kernel makes. -/
theorem hd_lt (d : Fin 128) (h : d.val < 64) : hd d = 0 := by unfold hd; omega
theorem hd_ge (d : Fin 128) (h : ¬ d.val < 64) : hd d = 1 := by unfold hd; omega

end Cert.Proof
-- ==== Proof.Pure.lean ====
/- What the vector expressions of the kernel's tiles are over the reals: from operands that hold real numbers, each
   expression holds the real number the plain formula gives. -/
module

public import proofs.«01_k».proof.Proof.Gen.KernelIdeal.Skeleton
public import proofs.«01_k».proof.Proof.Real

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic

/-- The lane mask is set on the first head's lanes. -/
theorem pay6_lt (l : Fin 128) (h : l.val < 64) : k0_pay6 (ix2 0 l) = 1#1 := by
  pointwise [k0_pay6]
  revert l; decide

theorem pay6_ge (l : Fin 128) (h : ¬ l.val < 64) : k0_pay6 (ix2 0 l) = 0#1 := by
  pointwise [k0_pay6]
  revert l; decide

/-- A selection by the lane mask. -/
theorem sel6 (l : Fin 128) (a b : EReal) :
    Scalar.select (k0_pay6 (ix2 0 l)) a b = if hd l = 0 then a else b := by
  by_cases h : l.val < 64
  · rw [pay6_lt l h, hd_lt l h]; rfl
  · rw [pay6_ge l h, hd_ge l h]; rfl

theorem hd_cases (l : Fin 128) : hd l = 0 ∨ hd l = 1 := by unfold hd; omega

/-- The causal mask of a diagonal tile. -/
theorem pay79_of (k : Fin k0_t2_loop.trips) (r s : Fin 512) :
    k0_pay79 0#32 1#32 k (ix2 r s) = if s.val ≤ r.val then 1#1 else 0#1 := by
  have hk : k.val < 4 := Nat.lt_of_lt_of_le k.isLt k0_t2_abs.2.1
  pointwise [k0_pay79]
  have hr := r.isLt
  have hs := s.isLt
  have e : ∀ x : ℕ, x < 512 → (BitVec.ofNat 32 x + (0#32 + BitVec.ofNat 32 k.val * 1#32) * 512#32).toInt = x + 512 * k.val := by
    intro x hx
    rw [BitVec.toInt_eq_toNat_cond]
    simp only [BitVec.toNat_add, BitVec.toNat_mul, BitVec.toNat_ofNat, BitVec.toNat_zero]
    split <;> omega
  unfold IntOp.cmpi IntOp.addi Scalar.muli IntOp.muli Scf.iv
  simp only [BitVec.sle, e _ hr, e _ hs]
  by_cases h : s.val ≤ r.val
  · rw [if_pos h, decide_eq_true (by omega)]; rfl
  · rw [if_neg h, decide_eq_false (by omega)]; rfl

/-- The operands of one tile hold the real data of query block `I` and key block `J`. -/
structure Blk (G : Pt) (I J : ℕ) (vk vv : FVec Ideal S512x128 .bf16) (c0 c1 : FVec Ideal S1x512 .f32)
    (vq : Vec Ideal S1x512x128 .f32) (vd : Vec Ideal S512x128 .f32) (l0 : Vec Ideal S1x512x1 .f32) (d0 : Vec Ideal S512x1 .f32)
    (u0 : Vec Ideal S1x512x1 .f32) (l1 : Vec Ideal S1x512x1 .f32) (d1 : Vec Ideal S512x1 .f32) (u1 : Vec Ideal S1x512x1 .f32) : Prop where
  hk : ∀ (s : Fin 512) (d : Fin 128), vk (ix2 s d) = ((G.k (512 * J + s) d : ℝ) : EReal)
  hv : ∀ (s : Fin 512) (d : Fin 128), vv (ix2 s d) = ((G.v (512 * J + s) d : ℝ) : EReal)
  hc0 : ∀ (s : Fin 512), c0 (ix2 0 s) = ((G.C 0 (512 * J + s) : ℝ) : EReal)
  hc1 : ∀ (s : Fin 512), c1 (ix2 0 s) = ((G.C 1 (512 * J + s) : ℝ) : EReal)
  hq : ∀ (r : Fin 512) (d : Fin 128), vq (ix3 0 r d) = ((G.q (512 * I + r) d : ℝ) : EReal)
  hd : ∀ (r : Fin 512) (d : Fin 128), vd (ix2 r d) = ((G.dO (512 * I + r) d : ℝ) : EReal)
  hl0 : ∀ (r : Fin 512), l0 (ix3 0 r 0) = ((G.L 0 (512 * I + r) : ℝ) : EReal)
  hd0 : ∀ (r : Fin 512), d0 (ix2 r 0) = ((G.D 0 (512 * I + r) : ℝ) : EReal)
  hu0 : ∀ (r : Fin 512), u0 (ix3 0 r 0) = ((G.C 0 (512 * I + r) : ℝ) : EReal)
  hl1 : ∀ (r : Fin 512), l1 (ix3 0 r 0) = ((G.L 1 (512 * I + r) : ℝ) : EReal)
  hd1 : ∀ (r : Fin 512), d1 (ix2 r 0) = ((G.D 1 (512 * I + r) : ℝ) : EReal)
  hu1 : ∀ (r : Fin 512), u1 (ix3 0 r 0) = ((G.C 1 (512 * I + r) : ℝ) : EReal)

variable {G : Pt} {I J : ℕ} {vk vv : FVec Ideal S512x128 .bf16} {c0 c1 : FVec Ideal S1x512 .f32}
    {vq : Vec Ideal S1x512x128 .f32} {vd : Vec Ideal S512x128 .f32} {l0 : Vec Ideal S1x512x1 .f32} {d0 : Vec Ideal S512x1 .f32}
    {u0 : Vec Ideal S1x512x1 .f32} {l1 : Vec Ideal S1x512x1 .f32} {d1 : Vec Ideal S512x1 .f32} {u1 : Vec Ideal S1x512x1 .f32}

/-- The lane selections, as the real one. -/
theorem lane0 (d : Fin 128) (x : ℝ) : (if hd d = 0 then (x : EReal) else 0) = ((lane 0 d x : ℝ) : EReal) := by
  unfold lane; rcases hd_cases d with h | h <;> rw [h] <;> simp

theorem lane1 (d : Fin 128) (x : ℝ) : (if hd d = 0 then (0 : EReal) else (x : EReal)) = ((lane 1 d x : ℝ) : EReal) := by
  unfold lane; rcases hd_cases d with h | h <;> rw [h] <;> simp

theorem p0_of (H : Blk G I J vk vv c0 c1 vq vd l0 d0 u0 l1 d1 u1) (hIJ : J < I) (r s : Fin 512) :
    (k0_pay25 vk c0 (k0_pay20 k0_pay6 vq) (k0_pay24 l0) u0) (ix2 r s) = ((G.P 0 (512 * I + r) (512 * J + s) : ℝ) : EReal) := by
  pointwise [k0_pay25, k0_pay20, k0_pay17, k0_pay24]
  simp only [sel6, H.hq, H.hk, H.hc0, H.hl0, H.hu0, eighth, ← EReal.coe_mul, ← EReal.coe_add, ← EReal.coe_sub, coe_sum, Ideal.exp_coe, lane0]
  unfold Pt.P; rw [if_pos (by omega)]; rfl
theorem p1_of (H : Blk G I J vk vv c0 c1 vq vd l0 d0 u0 l1 d1 u1) (hIJ : J < I) (r s : Fin 512) :
    (k0_pay33 vk c1 (k0_pay21 k0_pay6 vq) l1 u1) (ix2 r s) = ((G.P 1 (512 * I + r) (512 * J + s) : ℝ) : EReal) := by
  pointwise [k0_pay33, k0_pay21, k0_pay17]
  simp only [sel6, H.hq, H.hk, H.hc1, H.hl1, H.hu1, eighth, ← EReal.coe_mul, ← EReal.coe_add, ← EReal.coe_sub, coe_sum, Ideal.exp_coe, lane1]
  unfold Pt.P; rw [if_pos (by omega)]; rfl
theorem ds0_of (H : Blk G I J vk vv c0 c1 vq vd l0 d0 u0 l1 d1 u1) (hIJ : J < I) (r s : Fin 512) :
    k0_pay26 vk vv c0 (k0_pay20 k0_pay6 vq) (k0_pay22 k0_pay6 vd) (k0_pay24 l0) d0 u0 (ix2 r s) = ((G.DS 0 (512 * I + r) (512 * J + s) : ℝ) : EReal) := by
  pointwise [k0_pay26, k0_pay22]
  simp only [sel6, p0_of H hIJ, H.hd, H.hv, H.hd0, lane0, ← EReal.coe_mul, ← EReal.coe_add, ← EReal.coe_sub, coe_sum, Ideal.exp_coe]
  rfl
theorem ds1_of (H : Blk G I J vk vv c0 c1 vq vd l0 d0 u0 l1 d1 u1) (hIJ : J < I) (r s : Fin 512) :
    k0_pay36 (k0_pay33 vk c1 (k0_pay21 k0_pay6 vq) l1 u1) (k0_pay34 vv (k0_pay23 k0_pay6 vd)) (k0_pay35 d1) (ix2 r s) = ((G.DS 1 (512 * I + r) (512 * J + s) : ℝ) : EReal) := by
  pointwise [k0_pay36, k0_pay34, k0_pay35, k0_pay23]
  simp only [sel6, p1_of H hIJ, H.hd, H.hv, H.hd1, lane1, ← EReal.coe_mul, ← EReal.coe_add, ← EReal.coe_sub, coe_sum, Ideal.exp_coe]
  rfl
/-- The gradient of the keys after an off-diagonal tile. -/
theorem dk_of (H : Blk G I J vk vv c0 c1 vq vd l0 d0 u0 l1 d1 u1) (hIJ : J < I) (acc : FVec Ideal S512x128 .f32) (a : Fin 512 → Fin 128 → ℝ) (ha : ∀ s d, acc (ix2 s d) = ((a s d : ℝ) : EReal)) (s : Fin 512) (d : Fin 128) :
    k0_pay40 k0_pay6 acc (k0_pay18 vq) (k0_pay29 vk vv c0 (k0_pay18 vq) (k0_pay20 k0_pay6 vq) (k0_pay22 k0_pay6 vd) (k0_pay24 l0) d0 u0) (k0_pay33 vk c1 (k0_pay21 k0_pay6 vq) l1 u1) (k0_pay34 vv (k0_pay23 k0_pay6 vd)) (k0_pay35 d1) (ix2 s d) = ((a s d + G.dkT I (512 * J + s) d : ℝ) : EReal) := by
  pointwise [k0_pay40, k0_pay29, k0_pay27, k0_pay18, k0_pay17, k0_pay37]
  simp only [sel6, ha, ds0_of H hIJ, ds1_of H hIJ, H.hq, eighth, ← EReal.coe_mul, ← EReal.coe_add, ← EReal.coe_sub, coe_sum, Ideal.exp_coe]
  unfold Pt.dkT; rcases hd_cases d with h | h <;> rw [h] <;> simp [EReal.coe_add]
theorem dv_of (H : Blk G I J vk vv c0 c1 vq vd l0 d0 u0 l1 d1 u1) (hIJ : J < I) (acc : FVec Ideal S512x128 .f32) (a : Fin 512 → Fin 128 → ℝ) (ha : ∀ s d, acc (ix2 s d) = ((a s d : ℝ) : EReal)) (s : Fin 512) (d : Fin 128) :
    k0_pay41 k0_pay6 acc (k0_pay19 vd) (k0_pay28 vk c0 (k0_pay19 vd) (k0_pay20 k0_pay6 vq) (k0_pay24 l0) u0) (k0_pay33 vk c1 (k0_pay21 k0_pay6 vq) l1 u1) (ix2 s d) = ((a s d + G.dvT I (512 * J + s) d : ℝ) : EReal) := by
  pointwise [k0_pay41, k0_pay28, k0_pay19]
  simp only [sel6, ha, p0_of H hIJ, p1_of H hIJ, H.hd, ← EReal.coe_mul, ← EReal.coe_add, ← EReal.coe_sub, coe_sum, Ideal.exp_coe]
  unfold Pt.dvT; rcases hd_cases d with h | h <;> rw [h] <;> simp [EReal.coe_add]
theorem dc0_of (H : Blk G I J vk vv c0 c1 vq vd l0 d0 u0 l1 d1 u1) (hIJ : J < I) (acc : FVec Ideal S1x512 .f32) (a : Fin 512 → ℝ) (ha : ∀ s, acc (ix2 0 s) = ((a s : ℝ) : EReal)) (s : Fin 512) :
    k0_pay42 acc (k0_pay31 vk vv c0 (k0_pay20 k0_pay6 vq) (k0_pay22 k0_pay6 vd) (k0_pay24 l0) d0 u0) (ix2 0 s) = ((a s - G.dcT 0 I (512 * J + s) : ℝ) : EReal) := by
  pointwise [k0_pay42, k0_pay31]
  simp only [ha, ds0_of H hIJ, ← EReal.coe_mul, ← EReal.coe_add, ← EReal.coe_sub, coe_sum, Ideal.exp_coe]
  rfl
theorem dc1_of (H : Blk G I J vk vv c0 c1 vq vd l0 d0 u0 l1 d1 u1) (hIJ : J < I) (acc : FVec Ideal S1x512 .f32) (a : Fin 512 → ℝ) (ha : ∀ s, acc (ix2 0 s) = ((a s : ℝ) : EReal)) (s : Fin 512) :
    k0_pay43 acc (k0_pay33 vk c1 (k0_pay21 k0_pay6 vq) l1 u1) (k0_pay34 vv (k0_pay23 k0_pay6 vd)) (k0_pay35 d1) (ix2 0 s) = ((a s - G.dcT 1 I (512 * J + s) : ℝ) : EReal) := by
  pointwise [k0_pay43]
  simp only [ha, ds1_of H hIJ, ← EReal.coe_mul, ← EReal.coe_add, ← EReal.coe_sub, coe_sum, Ideal.exp_coe]
  rfl
theorem dq_of (H : Blk G I J vk vv c0 c1 vq vd l0 d0 u0 l1 d1 u1) (hIJ : J < I) (acc : Vec Ideal S512x128 .f32) (a : Fin 512 → Fin 128 → ℝ) (ha : ∀ s d, acc (ix2 s d) = ((a s d : ℝ) : EReal)) (r : Fin 512) (d : Fin 128) :
    k0_pay38 k0_pay6 vk (k0_pay30 vk vv c0 (k0_pay20 k0_pay6 vq) (k0_pay22 k0_pay6 vd) (k0_pay24 l0) d0 u0) (k0_pay33 vk c1 (k0_pay21 k0_pay6 vq) l1 u1) (k0_pay34 vv (k0_pay23 k0_pay6 vd)) (k0_pay35 d1) acc (ix2 r d) = ((a r d + G.dqT (512 * I + r) J d : ℝ) : EReal) := by
  pointwise [k0_pay38, k0_pay30, k0_pay27, k0_pay37]
  simp only [sel6, ha, ds0_of H hIJ, ds1_of H hIJ, H.hk, eighth, ← EReal.coe_mul, ← EReal.coe_add, ← EReal.coe_sub, coe_sum, Ideal.exp_coe]
  unfold Pt.dqT; rcases hd_cases d with h | h <;> rw [h] <;> simp [EReal.coe_add, EReal.coe_mul]
theorem dr_of (H : Blk G I J vk vv c0 c1 vq vd l0 d0 u0 l1 d1 u1) (hIJ : J < I) (acc : Vec Ideal S1x512x128 .f32) (a : Fin 512 → Fin 128 → ℝ) (ha : ∀ s d, acc (ix3 0 s d) = ((a s d : ℝ) : EReal)) (r : Fin 512) (d : Fin 128) :
    k0_pay39 k0_pay6 (k0_pay32 vk vv c0 (k0_pay20 k0_pay6 vq) (k0_pay22 k0_pay6 vd) (k0_pay24 l0) d0 u0) (k0_pay33 vk c1 (k0_pay21 k0_pay6 vq) l1 u1) (k0_pay34 vv (k0_pay23 k0_pay6 vd)) (k0_pay35 d1) acc (ix3 0 r d) = ((a r d + G.drT (512 * I + r) J d : ℝ) : EReal) := by
  pointwise [k0_pay39, k0_pay32]
  simp only [sel6, ha, ds0_of H hIJ, ds1_of H hIJ, ← EReal.coe_mul, ← EReal.coe_add, ← EReal.coe_sub, coe_sum, Ideal.exp_coe]
  unfold Pt.drT; rcases hd_cases d with h | h <;> rw [h] <;> simp [EReal.coe_add]
theorem pay80_of (hq : ∀ (r : Fin 512) (d : Fin 128), vq (ix3 0 r d) = ((G.q (512 * I + r) d : ℝ) : EReal)) (r : Fin 512) (d : Fin 128) :
    k0_pay80 vq (ix2 r d) = ((G.q (512 * I + r) d * (1 / 8) : ℝ) : EReal) := by
  pointwise [k0_pay80]
  simp only [hq, eighth, ← EReal.coe_mul]

theorem q0_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (r s : Fin 512) :
    (k0_pay85 k0_pay6 vk c0 mk qs l0 u0) (ix2 r s) = ((G.P 0 (512 * I + r) (512 * J + s) : ℝ) : EReal) := by
  pointwise [k0_pay85]
  simp only [hmk, sel6, hqs, H.hk, H.hc0, H.hl0, H.hu0, eighth, ← EReal.coe_mul, ← EReal.coe_add, ← EReal.coe_sub, coe_sum, Ideal.exp_coe, lane0]
  subst hIJ
  unfold Pt.P
  by_cases h : s.val ≤ r.val
  · rw [if_pos h, if_pos (by omega)]; rfl
  · rw [if_neg h, if_neg (by omega)]; rfl
theorem q1_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (r s : Fin 512) :
    (k0_pay94 vk c1 mk (k0_pay83 k0_pay6 qs) l1 u1) (ix2 r s) = ((G.P 1 (512 * I + r) (512 * J + s) : ℝ) : EReal) := by
  pointwise [k0_pay94, k0_pay83]
  simp only [hmk, sel6, hqs, H.hk, H.hc1, H.hl1, H.hu1, eighth, ← EReal.coe_mul, ← EReal.coe_add, ← EReal.coe_sub, coe_sum, Ideal.exp_coe, lane1]
  subst hIJ
  unfold Pt.P
  by_cases h : s.val ≤ r.val
  · rw [if_pos h, if_pos (by omega)]; rfl
  · rw [if_neg h, if_neg (by omega)]; rfl
theorem es0_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (r s : Fin 512) :
    k0_pay86 k0_pay6 vk vv c0 mk qs vd l0 d0 u0 (ix2 r s) = ((G.DS 0 (512 * I + r) (512 * J + s) : ℝ) : EReal) := by
  pointwise [k0_pay86]
  simp only [sel6, q0_of H hIJ hmk hqs, H.hd, H.hv, H.hd0, lane0, ← EReal.coe_mul, ← EReal.coe_add, ← EReal.coe_sub, coe_sum, Ideal.exp_coe]
  rfl
theorem es1_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (r s : Fin 512) :
    k0_pay95 vk vv c1 mk (k0_pay83 k0_pay6 qs) (k0_pay84 k0_pay6 vd) l1 d1 u1 (ix2 r s) = ((G.DS 1 (512 * I + r) (512 * J + s) : ℝ) : EReal) := by
  pointwise [k0_pay95, k0_pay84]
  simp only [sel6, q1_of H hIJ hmk hqs, H.hd, H.hv, H.hd1, lane1, ← EReal.coe_mul, ← EReal.coe_add, ← EReal.coe_sub, coe_sum, Ideal.exp_coe]
  rfl
theorem gk_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (s : Fin 512) (d : Fin 128) :
    k0_pay104 k0_pay6 k0_pay75 (k0_pay90 (k0_pay81 qs) (k0_pay87 k0_pay6 vk vv c0 mk qs vd l0 d0 u0)) (k0_pay98 vk vv c1 mk (k0_pay81 qs) (k0_pay83 k0_pay6 qs) (k0_pay84 k0_pay6 vd) l1 d1 u1) (ix2 s d) = ((G.dkT I (512 * J + s) d : ℝ) : EReal) := by
  pointwise [k0_pay104, k0_pay75, k0_pay90, k0_pay87, k0_pay98, k0_pay96, k0_pay81]
  simp only [sel6, es0_of H hIJ hmk hqs, es1_of H hIJ hmk hqs, hqs, eighth, ← EReal.coe_mul, ← EReal.coe_add, ← EReal.coe_sub, coe_sum, Ideal.exp_coe]
  unfold Pt.dkT; rcases hd_cases d with h | h <;> rw [h] <;> simp
theorem gv_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (s : Fin 512) (d : Fin 128) :
    k0_pay105 k0_pay6 k0_pay76 (k0_pay89 (k0_pay82 vd) (k0_pay88 k0_pay6 vk c0 mk qs l0 u0) (constant S512x128 .f32 0x00000000#32)) (k0_pay97 vk c1 mk (k0_pay82 vd) (k0_pay83 k0_pay6 qs) l1 u1) (ix2 s d) = ((G.dvT I (512 * J + s) d : ℝ) : EReal) := by
  pointwise [k0_pay105, k0_pay76, k0_pay89, k0_pay88, k0_pay97, k0_pay82]
  simp only [sel6, q0_of H hIJ hmk hqs, q1_of H hIJ hmk hqs, H.hd, ← EReal.coe_mul, ← EReal.coe_add, ← EReal.coe_sub, coe_sum, Ideal.exp_coe]
  unfold Pt.dvT; rcases hd_cases d with h | h <;> rw [h] <;> simp
theorem gc0_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (s : Fin 512) :
    k0_pay106 k0_pay77 (k0_pay92 (k0_pay86 k0_pay6 vk vv c0 mk qs vd l0 d0 u0)) (ix2 0 s) = ((0 - G.dcT 0 I (512 * J + s) : ℝ) : EReal) := by
  pointwise [k0_pay106, k0_pay77, k0_pay92]
  simp only [es0_of H hIJ hmk hqs, ← EReal.coe_mul, ← EReal.coe_add, ← EReal.coe_sub, coe_sum, Ideal.exp_coe, EReal.coe_zero]
  unfold Pt.dcT; rw [← EReal.coe_zero, ← EReal.coe_sub]
theorem gc1_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (s : Fin 512) :
    k0_pay107 k0_pay78 (k0_pay100 vk vv c1 mk (k0_pay83 k0_pay6 qs) (k0_pay84 k0_pay6 vd) l1 d1 u1) (ix2 0 s) = ((0 - G.dcT 1 I (512 * J + s) : ℝ) : EReal) := by
  pointwise [k0_pay107, k0_pay78, k0_pay100]
  simp only [es1_of H hIJ hmk hqs, ← EReal.coe_mul, ← EReal.coe_add, ← EReal.coe_sub, coe_sum, Ideal.exp_coe]
  unfold Pt.dcT; rw [← EReal.coe_zero, ← EReal.coe_sub]
theorem gq_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (acc : Vec Ideal S512x128 .f32) (a : Fin 512 → Fin 128 → ℝ) (ha : ∀ s d, acc (ix2 s d) = ((a s d : ℝ) : EReal)) (r : Fin 512) (d : Fin 128) :
    k0_pay102 k0_pay6 (k0_pay91 vk (k0_pay87 k0_pay6 vk vv c0 mk qs vd l0 d0 u0)) (k0_pay99 vk vv c1 mk (k0_pay83 k0_pay6 qs) (k0_pay84 k0_pay6 vd) l1 d1 u1) acc (ix2 r d) = ((a r d + G.dqT (512 * I + r) J d : ℝ) : EReal) := by
  pointwise [k0_pay102, k0_pay91, k0_pay87, k0_pay99, k0_pay96]
  simp only [sel6, ha, es0_of H hIJ hmk hqs, es1_of H hIJ hmk hqs, H.hk, eighth, ← EReal.coe_mul, ← EReal.coe_add, ← EReal.coe_sub, coe_sum, Ideal.exp_coe]
  unfold Pt.dqT; rcases hd_cases d with h | h <;> rw [h] <;> simp [EReal.coe_add, EReal.coe_mul]
theorem gr_of (H : Blk G I J vk vv c0 c1 vq vd l0 d0 u0 l1 d1 u1) (hIJ : I = J) {mk : IVec S512x512 1} (hmk : ∀ r s : Fin 512, mk (ix2 r s) = if s.val ≤ r.val then 1#1 else 0#1) {qs : FVec Ideal S512x128 .f32} (hqs : ∀ (r : Fin 512) (d : Fin 128), qs (ix2 r d) = ((G.q (512 * I + r) d * (1 / 8) : ℝ) : EReal)) (acc : Vec Ideal S1x512x128 .f32) (a : Fin 512 → Fin 128 → ℝ) (ha : ∀ s d, acc (ix3 0 s d) = ((a s d : ℝ) : EReal)) (r : Fin 512) (d : Fin 128) :
    k0_pay103 k0_pay6 (k0_pay93 (k0_pay86 k0_pay6 vk vv c0 mk qs vd l0 d0 u0)) (k0_pay101 vk vv c1 mk (k0_pay83 k0_pay6 qs) (k0_pay84 k0_pay6 vd) l1 d1 u1) acc (ix3 0 r d) = ((a r d + G.drT (512 * I + r) J d : ℝ) : EReal) := by
  pointwise [k0_pay103, k0_pay93, k0_pay101]
  simp only [sel6, ha, es0_of H hIJ hmk hqs, es1_of H hIJ hmk hqs, ← EReal.coe_mul, ← EReal.coe_add, ← EReal.coe_sub, coe_sum, Ideal.exp_coe]
  unfold Pt.drT; rcases hd_cases d with h | h <;> rw [h] <;> simp [EReal.coe_add]
end Cert.Proof.KernelIdeal
-- ==== Proof.Inner.lean ====
/- The loop over the query tiles below the diagonal: what it carries and what it leaves in the two accumulators, over the
   reals. -/
module

public import proofs.«01_k».proof.Proof.Tiles
public import proofs.«01_k».proof.Proof.Pure
public import Idealize.ShloMosaic.Lib.WritesUnit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

/-- A load of a rectangle at closed offsets reads the buffer at the shifted index. -/
theorem readAt_at {s : Shape} {e : EltTy} {κ : Kind} {sp : Space} (v : View sig κ sp s e) (f : v.ty.Contents (Elt Ideal))
    {off off' size : Fin s.rank → ℕ} (inb : ∀ a, off a + size a ≤ s.size a) (heq : off = off')
    (y : (Rect.unit off size inb).shape.Idx) (z : s.Idx) (hz : ∀ a, (z a).val = off' a + (y a).val) :
    v.readAt (Elt Ideal) (Rect.unit off size inb).toLoadRect f y = v.read (Elt Ideal) f z := by
  subst heq
  rw [View.readAt_apply]
  congr 1
  funext a
  apply Fin.ext
  rw [hz a, LoadRect.idx_apply]
  show off a + 1 * (y a).val = _
  omega

variable {c : Dev nD} {i : grid0.Coords}
    {arg2 : Memref sig .tc .vmem S1x2048x512 .f32} {harg2 : arg2.IsWhole}
    {arg3 : Memref sig .tc .vmem S1x2048x128 .f32} {harg3 : arg3.IsWhole}
    {arg4 : Memref sig .tc .vmem S1x2048x128 .f32} {harg4 : arg4.IsWhole}
    {arg5 : Memref sig .tc .vmem S1x2048x128 .f32} {harg5 : arg5.IsWhole}
    {arg6 : Memref sig .tc .vmem S1x2048x128 .f32} {harg6 : arg6.IsWhole}
    {arg7 : Memref sig .tc .vmem S1x1x8x2048 .f32} {harg7 : arg7.IsWhole}
    {arg8 : Memref sig .tc .vmem S1x2048x512 .bf16} {harg8 : arg8.IsWhole}
    {arg9 : Memref sig .tc .vmem S1x1x8x2048 .f32} {harg9 : arg9.IsWhole}
    {arg10 : Memref sig .tc .vmem S1x2048x128 .f32} {harg10 : arg10.IsWhole}
    {arg11 : Memref sig .tc .vmem S2048x128 .f32} {harg11 : arg11.IsWhole}
    {arg12 : Memref sig .tc .vmem S2048x128 .f32} {harg12 : arg12.IsWhole}
    {arg13 : Memref sig .tc .vmem S2048x128 .f32} {harg13 : arg13.IsWhole}
    {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X12 : BufTy.Contents (Elt Ideal) arg12.view.ty} {X13 : BufTy.Contents (Elt Ideal) arg13.view.ty}

/-- The buffers that the tiles read hold the real data. -/
structure Rd (G : Pt) (arg2 : Memref sig .tc .vmem S1x2048x512 .f32) (arg5 : Memref sig .tc .vmem S1x2048x128 .f32) (arg6 : Memref sig .tc .vmem S1x2048x128 .f32) (arg7 : Memref sig .tc .vmem S1x1x8x2048 .f32) (arg12 : Memref sig .tc .vmem S2048x128 .f32) (arg13 : Memref sig .tc .vmem S2048x128 .f32)
    (X2 : BufTy.Contents (Elt Ideal) arg2.view.ty) (X5 : BufTy.Contents (Elt Ideal) arg5.view.ty) (X6 : BufTy.Contents (Elt Ideal) arg6.view.ty) (X7 : BufTy.Contents (Elt Ideal) arg7.view.ty) (X12 : BufTy.Contents (Elt Ideal) arg12.view.ty) (X13 : BufTy.Contents (Elt Ideal) arg13.view.ty) : Prop where
  q : ∀ (i : Fin 2048) (d : Fin 128), arg2.view.read (Elt Ideal) X2 (ix3 0 i ⟨d.val, by omega⟩) = ((G.q i d : ℝ) : EReal)
  k : ∀ (i : Fin 2048) (d : Fin 128), arg2.view.read (Elt Ideal) X2 (ix3 0 i ⟨128 + d.val, by omega⟩) = ((G.k i d : ℝ) : EReal)
  v : ∀ (i : Fin 2048) (d : Fin 128), arg2.view.read (Elt Ideal) X2 (ix3 0 i ⟨256 + d.val, by omega⟩) = ((G.v i d : ℝ) : EReal)
  l0 : ∀ (i : Fin 2048), arg5.view.read (Elt Ideal) X5 (ix3 0 i 0) = ((G.L 0 i : ℝ) : EReal)
  l1 : ∀ (i : Fin 2048), arg5.view.read (Elt Ideal) X5 (ix3 0 i 64) = ((G.L 1 i : ℝ) : EReal)
  u0 : ∀ (i : Fin 2048), arg6.view.read (Elt Ideal) X6 (ix3 0 i 0) = ((G.C 0 i : ℝ) : EReal)
  u1 : ∀ (i : Fin 2048), arg6.view.read (Elt Ideal) X6 (ix3 0 i 64) = ((G.C 1 i : ℝ) : EReal)
  c0 : ∀ (i : Fin 2048), arg7.view.read (Elt Ideal) X7 (ix4 0 0 0 i) = ((G.C 0 i : ℝ) : EReal)
  c1 : ∀ (i : Fin 2048), arg7.view.read (Elt Ideal) X7 (ix4 0 0 1 i) = ((G.C 1 i : ℝ) : EReal)
  dO : ∀ (i : Fin 2048) (d : Fin 128), arg12.view.read (Elt Ideal) X12 (ix2 i d) = ((G.dO i d : ℝ) : EReal)
  d0 : ∀ (i : Fin 2048), arg13.view.read (Elt Ideal) X13 (ix2 i 0) = ((G.D 0 i : ℝ) : EReal)
  d1 : ∀ (i : Fin 2048), arg13.view.read (Elt Ideal) X13 (ix2 i 64) = ((G.D 1 i : ℝ) : EReal)

/-- The vectors of one key tile hold the real keys, values and column gates. -/
structure KV (G : Pt) (J : ℕ) (vk vv : FVec Ideal S512x128 .bf16) (c0 c1 : FVec Ideal S1x512 .f32) : Prop where
  hk : ∀ (s : Fin 512) (d : Fin 128), vk (ix2 s d) = ((G.k (512 * J + s) d : ℝ) : EReal)
  hv : ∀ (s : Fin 512) (d : Fin 128), vv (ix2 s d) = ((G.v (512 * J + s) d : ℝ) : EReal)
  hc0 : ∀ (s : Fin 512), c0 (ix2 0 s) = ((G.C 0 (512 * J + s) : ℝ) : EReal)
  hc1 : ∀ (s : Fin 512), c1 (ix2 0 s) = ((G.C 1 (512 * J + s) : ℝ) : EReal)

/-- The loads of one query tile below the diagonal, and the key tile's vectors, as the operands of a tile. -/
theorem blk3 {G : Pt} (R : Rd G arg2 arg5 arg6 arg7 arg12 arg13 X2 X5 X6 X7 X12 X13) {k0_t2 : Fin k0_t2_loop.trips} (k : Fin (k0_t3_loop k0_t2).trips)
    (hk : k0_t2.val + 1 + k.val < 4) {v19 v23 : FVec Ideal S512x128 .bf16} {v26 v29 : FVec Ideal S1x512 .f32} (H : KV G k0_t2.val v19 v23 v26 v29)
    (b0 : ∀ a, (k0_off15 k0_t2 k) a + S1x512x128.size a ≤ S1x2048x512.size a) (b1 : ∀ a, (k0_off16 k0_t2 k) a + S512x128.size a ≤ S2048x128.size a) (b2 : ∀ a, (k0_off17 k0_t2 k) a + S1x512x1.size a ≤ S1x2048x128.size a) (b3 : ∀ a, (k0_off18 k0_t2 k) a + S512x1.size a ≤ S2048x128.size a) (b4 : ∀ a, (k0_off17 k0_t2 k) a + S1x512x1.size a ≤ S1x2048x128.size a) (b5 : ∀ a, (k0_off19 k0_t2 k) a + S1x512x1.size a ≤ S1x2048x128.size a) (b6 : ∀ a, (k0_off20 k0_t2 k) a + S512x1.size a ≤ S2048x128.size a) (b7 : ∀ a, (k0_off19 k0_t2 k) a + S1x512x1.size a ≤ S1x2048x128.size a) :
    Blk G (k0_t2.val + 1 + k.val) k0_t2.val v19 v23 v26 v29
      (arg2.view.readAt (Elt Ideal) (Rect.unit (s := S1x2048x512) (k0_off15 k0_t2 k) S1x512x128.size b0).toLoadRect X2)
      (arg12.view.readAt (Elt Ideal) (Rect.unit (s := S2048x128) (k0_off16 k0_t2 k) S512x128.size b1).toLoadRect X12)
      (arg5.view.readAt (Elt Ideal) (Rect.unit (s := S1x2048x128) (k0_off17 k0_t2 k) S1x512x1.size b2).toLoadRect X5)
      (arg13.view.readAt (Elt Ideal) (Rect.unit (s := S2048x128) (k0_off18 k0_t2 k) S512x1.size b3).toLoadRect X13)
      (arg6.view.readAt (Elt Ideal) (Rect.unit (s := S1x2048x128) (k0_off17 k0_t2 k) S1x512x1.size b4).toLoadRect X6)
      (arg5.view.readAt (Elt Ideal) (Rect.unit (s := S1x2048x128) (k0_off19 k0_t2 k) S1x512x1.size b5).toLoadRect X5)
      (arg13.view.readAt (Elt Ideal) (Rect.unit (s := S2048x128) (k0_off20 k0_t2 k) S512x1.size b6).toLoadRect X13)
      (arg6.view.readAt (Elt Ideal) (Rect.unit (s := S1x2048x128) (k0_off19 k0_t2 k) S1x512x1.size b7).toLoadRect X6) :=
  { hk := H.hk
    hv := H.hv
    hc0 := H.hc0
    hc1 := H.hc1
    hq := fun r d => (readAt_at _ _ _ (k0_off15_eq k0_t2 k) _ (ix3 0 ⟨512 * (k0_t2.val + 1 + k.val) + r.val, by omega⟩ ⟨d.val, by omega⟩) (by intro a; fin_cases a <;> simp <;> omega)).trans (R.q _ d)
    hd := fun r d => (readAt_at _ _ _ (k0_off16_eq k0_t2 k) _ (ix2 ⟨512 * (k0_t2.val + 1 + k.val) + r.val, by omega⟩ d) (by intro a; fin_cases a <;> simp <;> omega)).trans (R.dO _ d)
    hl0 := fun r => (readAt_at _ _ _ (k0_off17_eq k0_t2 k) _ (ix3 0 ⟨512 * (k0_t2.val + 1 + k.val) + r.val, by omega⟩ 0) (by intro a; fin_cases a <;> simp <;> omega)).trans (R.l0 _)
    hd0 := fun r => (readAt_at _ _ _ (k0_off18_eq k0_t2 k) _ (ix2 ⟨512 * (k0_t2.val + 1 + k.val) + r.val, by omega⟩ 0) (by intro a; fin_cases a <;> simp <;> omega)).trans (R.d0 _)
    hu0 := fun r => (readAt_at _ _ _ (k0_off17_eq k0_t2 k) _ (ix3 0 ⟨512 * (k0_t2.val + 1 + k.val) + r.val, by omega⟩ 0) (by intro a; fin_cases a <;> simp <;> omega)).trans (R.u0 _)
    hl1 := fun r => (readAt_at _ _ _ (k0_off19_eq k0_t2 k) _ (ix3 0 ⟨512 * (k0_t2.val + 1 + k.val) + r.val, by omega⟩ 64) (by intro a; fin_cases a <;> simp <;> omega)).trans (R.l1 _)
    hd1 := fun r => (readAt_at _ _ _ (k0_off20_eq k0_t2 k) _ (ix2 ⟨512 * (k0_t2.val + 1 + k.val) + r.val, by omega⟩ 64) (by intro a; fin_cases a <;> simp <;> omega)).trans (R.d1 _)
    hu1 := fun r => (readAt_at _ _ _ (k0_off19_eq k0_t2 k) _ (ix3 0 ⟨512 * (k0_t2.val + 1 + k.val) + r.val, by omega⟩ 64) (by intro a; fin_cases a <;> simp <;> omega)).trans (R.u1 _) }

theorem trip_dk {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (a : Fin 512 → Fin 128 → ℝ) (ha : ∀ s d, acc.1 (ix2 s d) = ((a s d : ℝ) : EReal)) (s : Fin 512) (d : Fin 128) :
    ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).1 acc f10 f11).1 (ix2 s d) = ((a s d + G.dkT (k0_t2.val + 1 + k.val) (512 * k0_t2.val + s) d : ℝ) : EReal) := by
  unfold trip_k0_t3
  exact dk_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) acc.1 a ha s d

theorem trip_dv {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (a : Fin 512 → Fin 128 → ℝ) (ha : ∀ s d, acc.2.1 (ix2 s d) = ((a s d : ℝ) : EReal)) (s : Fin 512) (d : Fin 128) :
    ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).1 acc f10 f11).2.1 (ix2 s d) = ((a s d + G.dvT (k0_t2.val + 1 + k.val) (512 * k0_t2.val + s) d : ℝ) : EReal) := by
  unfold trip_k0_t3
  exact dv_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) acc.2.1 a ha s d

theorem trip_dc0 {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (a : Fin 512 → ℝ) (ha : ∀ s, acc.2.2.1 (ix2 0 s) = ((a s : ℝ) : EReal)) (s : Fin 512) :
    ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).1 acc f10 f11).2.2.1 (ix2 0 s) = ((a s - G.dcT 0 (k0_t2.val + 1 + k.val) (512 * k0_t2.val + s) : ℝ) : EReal) := by
  unfold trip_k0_t3
  exact dc0_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) acc.2.2.1 a ha s

theorem trip_dc1 {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (a : Fin 512 → ℝ) (ha : ∀ s, acc.2.2.2 (ix2 0 s) = ((a s : ℝ) : EReal)) (s : Fin 512) :
    ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).1 acc f10 f11).2.2.2 (ix2 0 s) = ((a s - G.dcT 1 (k0_t2.val + 1 + k.val) (512 * k0_t2.val + s) : ℝ) : EReal) := by
  unfold trip_k0_t3
  exact dc1_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) acc.2.2.2 a ha s

theorem trip_dq {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (A : ℕ → Fin 128 → ℝ)
    (ha : ∀ (i : Fin 2048) (d : Fin 128), arg11.view.read (Elt Ideal) f11 (ix2 i d) = ((A i d : ℝ) : EReal)) (i' : Fin 2048) (d : Fin 128) :
    arg11.view.read (Elt Ideal) (arg11.view.writes (Elt Ideal) f11 ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).2.2.1 acc f10 f11)) (ix2 i' d)
      = ((A i' d + (if i'.val / 512 = k0_t2.val + 1 + k.val then G.dqT i' k0_t2.val d else 0) : ℝ) : EReal) := by
  unfold trip_k0_t3
  by_cases h : i'.val / 512 = k0_t2.val + 1 + k.val
  · rw [if_pos h]
    refine (View.read_writes_cons_unit_of_mem _ _ _ _ _ _ (ix2 ⟨i'.val - 512 * (k0_t2.val + 1 + k.val), by omega⟩ d) (k0_off16_eq k0_t2 k) (by intro a; fin_cases a <;> simp <;> omega)).trans ?_
    refine Eq.trans (dq_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) (arg11.view.readAt (Elt Ideal) (Rect.unit (s := S2048x128) (k0_off16 k0_t2 k) S512x128.size (k0_off16_inb k0_t2 k)).toLoadRect f11)
      (fun r d => A (512 * (k0_t2.val + 1 + k.val) + r) d) (fun r d => (readAt_at _ _ _ (k0_off16_eq k0_t2 k) _ (ix2 ⟨512 * (k0_t2.val + 1 + k.val) + r.val, by omega⟩ d) (by intro a; fin_cases a <;> simp <;> omega)).trans (ha _ d)) _ d) ?_
    have e : 512 * (k0_t2.val + 1 + k.val) + (i'.val - 512 * (k0_t2.val + 1 + k.val)) = i'.val := by omega
    simp only [e]
  · rw [if_neg h, add_zero]
    refine (View.read_writes_cons_unit_of_not_mem _ _ _ _ _ _ (k0_off16_eq k0_t2 k) 0 ?_).trans (ha i' d)
    simp
    omega

theorem trip_dr {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32} (k : Fin (k0_t3_loop k0_t2).trips)
    (hk : k0_t2.val + 1 + k.val < 4) (H : KV G k0_t2.val v19 v23 v26 v29) (acc : FVec Ideal S512x128 .f32 × FVec Ideal S512x128 .f32 × FVec Ideal S1x512 .f32 × FVec Ideal S1x512 .f32) (f10 : BufTy.Contents (Elt Ideal) arg10.view.ty) (f11 : BufTy.Contents (Elt Ideal) arg11.view.ty) (A : ℕ → Fin 128 → ℝ)
    (ha : ∀ (i : Fin 2048) (d : Fin 128), arg10.view.read (Elt Ideal) f10 (ix3 0 i d) = ((A i d : ℝ) : EReal)) (i' : Fin 2048) (d : Fin 128) :
    arg10.view.read (Elt Ideal) (arg10.view.writes (Elt Ideal) f10 ((trip_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 k).2.1 acc f10 f11)) (ix3 0 i' d)
      = ((A i' d + (if i'.val / 512 = k0_t2.val + 1 + k.val then G.drT i' k0_t2.val d else 0) : ℝ) : EReal) := by
  unfold trip_k0_t3
  by_cases h : i'.val / 512 = k0_t2.val + 1 + k.val
  · rw [if_pos h]
    refine (View.read_writes_cons_unit_of_mem _ _ _ _ _ _ (ix3 0 ⟨i'.val - 512 * (k0_t2.val + 1 + k.val), by omega⟩ d) (k0_off21_eq k0_t2 k) (by intro a; fin_cases a <;> simp <;> omega)).trans ?_
    refine Eq.trans (dr_of (blk3 R k hk H (k0_off15_inb k0_t2 k) (k0_off16_inb k0_t2 k) (k0_off17_inb k0_t2 k) (k0_off18_inb k0_t2 k) (k0_off17_inb k0_t2 k) (k0_off19_inb k0_t2 k) (k0_off20_inb k0_t2 k) (k0_off19_inb k0_t2 k)) (by omega) (arg10.view.readAt (Elt Ideal) (Rect.unit (s := S1x2048x128) (k0_off21 k0_t2 k) S1x512x128.size (k0_off21_inb k0_t2 k)).toLoadRect f10)
      (fun r d => A (512 * (k0_t2.val + 1 + k.val) + r) d) (fun r d => (readAt_at _ _ _ (k0_off21_eq k0_t2 k) _ (ix3 0 ⟨512 * (k0_t2.val + 1 + k.val) + r.val, by omega⟩ d) (by intro a; fin_cases a <;> simp <;> omega)).trans (ha _ d)) _ d) ?_
    have e : 512 * (k0_t2.val + 1 + k.val) + (i'.val - 512 * (k0_t2.val + 1 + k.val)) = i'.val := by omega
    simp only [e]
  · rw [if_neg h, add_zero]
    refine (View.read_writes_cons_unit_of_not_mem _ _ _ _ _ _ (k0_off21_eq k0_t2 k) 1 ?_).trans (ha i' d)
    simp
    omega

theorem trips2 : k0_t2_loop.trips = 4 := by decide

theorem trips3 : ∀ J : Fin k0_t2_loop.trips, (k0_t3_loop J).trips = 3 - J.val := by decide

/-- What the loop below the diagonal holds before its trip `n`: what it carries, and the two accumulators. -/
structure St3 (G : Pt) (J n : ℕ) (a b : Fin 512 → Fin 128 → ℝ) (e0 e1 : Fin 512 → ℝ) (A10 A11 : ℕ → Fin 128 → ℝ)
    (arg10 : Memref sig .tc .vmem S1x2048x128 .f32) (arg11 : Memref sig .tc .vmem S2048x128 .f32)
    (G10 : BufTy.Contents (Elt Ideal) arg10.view.ty) (G11 : BufTy.Contents (Elt Ideal) arg11.view.ty) (st : (FVec Ideal S512x128 .f32 × FVec Ideal S512x128 .f32 × FVec Ideal S1x512 .f32 × FVec Ideal S1x512 .f32) × List (View.Piece (Elt Ideal) S1x2048x128 .f32) × List (View.Piece (Elt Ideal) S2048x128 .f32)) : Prop where
  dk : ∀ s d, st.1.1 (ix2 s d) = ((a s d + ∑ m ∈ Finset.range n, G.dkT (J + 1 + m) (512 * J + s) d : ℝ) : EReal)
  dv : ∀ s d, st.1.2.1 (ix2 s d) = ((b s d + ∑ m ∈ Finset.range n, G.dvT (J + 1 + m) (512 * J + s) d : ℝ) : EReal)
  c0 : ∀ s, st.1.2.2.1 (ix2 0 s) = ((e0 s - ∑ m ∈ Finset.range n, G.dcT 0 (J + 1 + m) (512 * J + s) : ℝ) : EReal)
  c1 : ∀ s, st.1.2.2.2 (ix2 0 s) = ((e1 s - ∑ m ∈ Finset.range n, G.dcT 1 (J + 1 + m) (512 * J + s) : ℝ) : EReal)
  dr : ∀ (i : Fin 2048) (d : Fin 128), arg10.view.read (Elt Ideal) (arg10.view.writes (Elt Ideal) G10 st.2.1) (ix3 0 i d)
    = ((A10 i d + (if J + 1 ≤ i.val / 512 ∧ i.val / 512 < J + 1 + n then G.drT i J d else 0) : ℝ) : EReal)
  dq : ∀ (i : Fin 2048) (d : Fin 128), arg11.view.read (Elt Ideal) (arg11.view.writes (Elt Ideal) G11 st.2.2) (ix2 i d)
    = ((A11 i d + (if J + 1 ≤ i.val / 512 ∧ i.val / 512 < J + 1 + n then G.dqT i J d else 0) : ℝ) : EReal)

theorem if_step {x z : ℝ} {p q r : Prop} [Decidable p] [Decidable q] [Decidable r] (h : r ↔ p ∨ q) (hn : ¬ (p ∧ q)) :
    x + (if p then z else 0) + (if q then z else 0) = x + (if r then z else 0) := by
  by_cases hp : p <;> by_cases hq : q <;> simp_all

theorem st3 {G : Pt} (R : Rd G arg2 arg5 arg6 arg7 arg12 arg13 X2 X5 X6 X7 X12 X13) {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v173 : BitVec 32}
    (H : KV G k0_t2.val v19 v23 v26 v29) {G10 : BufTy.Contents (Elt Ideal) arg10.view.ty} {G11 : BufTy.Contents (Elt Ideal) arg11.view.ty} {init : FVec Ideal S512x128 .f32 × FVec Ideal S512x128 .f32 × FVec Ideal S1x512 .f32 × FVec Ideal S1x512 .f32}
    {a b : Fin 512 → Fin 128 → ℝ} {e0 e1 : Fin 512 → ℝ} {A10 A11 : ℕ → Fin 128 → ℝ}
    (ha : ∀ s d, init.1 (ix2 s d) = ((a s d : ℝ) : EReal)) (hb : ∀ s d, init.2.1 (ix2 s d) = ((b s d : ℝ) : EReal))
    (he0 : ∀ s, init.2.2.1 (ix2 0 s) = ((e0 s : ℝ) : EReal)) (he1 : ∀ s, init.2.2.2 (ix2 0 s) = ((e1 s : ℝ) : EReal))
    (h10 : ∀ (i : Fin 2048) (d : Fin 128), arg10.view.read (Elt Ideal) G10 (ix3 0 i d) = ((A10 i d : ℝ) : EReal))
    (h11 : ∀ (i : Fin 2048) (d : Fin 128), arg11.view.read (Elt Ideal) G11 (ix2 i d) = ((A11 i d : ℝ) : EReal)) :
    ∀ n, n ≤ 3 - k0_t2.val → St3 G k0_t2.val n a b e0 e1 A10 A11 arg10 arg11 G10 G11 (st_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 G10 G11 init n) := by
  have hJ : k0_t2.val < 4 := lt_of_lt_of_eq k0_t2.isLt trips2
  intro n
  induction n with
  | zero =>
    intro _
    refine ⟨fun s d => ?_, fun s d => ?_, fun s => ?_, fun s => ?_, fun i d => ?_, fun i d => ?_⟩
    · refine (ha s d).trans ?_; simp
    · refine (hb s d).trans ?_; simp
    · refine (he0 s).trans ?_; simp
    · refine (he1 s).trans ?_; simp
    · refine (h10 i d).trans ?_
      rw [if_neg (by omega), add_zero]
    · refine (h11 i d).trans ?_
      rw [if_neg (by omega), add_zero]
  | succ n ih =>
    intro hn
    have S := ih (by omega)
    have hk : n < (k0_t3_loop k0_t2).trips := by rw [trips3]; omega
    have e := st_k0_t3_succ (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 G10 G11 init ⟨n, hk⟩
    have hk' : k0_t2.val + 1 + (⟨n, hk⟩ : Fin (k0_t3_loop k0_t2).trips).val < 4 := by show k0_t2.val + 1 + n < 4; omega
    rw [show n + 1 = (⟨n, hk⟩ : Fin (k0_t3_loop k0_t2).trips).val + 1 from rfl, e]
    refine ⟨fun s d => ?_, fun s d => ?_, fun s => ?_, fun s => ?_, fun i' d => ?_, fun i' d => ?_⟩
    · refine (trip_dk R _ hk' H _ _ _ _ S.dk s d).trans ?_
      rw [Finset.sum_range_succ, add_assoc]
    · refine (trip_dv R _ hk' H _ _ _ _ S.dv s d).trans ?_
      rw [Finset.sum_range_succ, add_assoc]
    · refine (trip_dc0 R _ hk' H _ _ _ _ S.c0 s).trans ?_
      rw [Finset.sum_range_succ, sub_sub]
    · refine (trip_dc1 R _ hk' H _ _ _ _ S.c1 s).trans ?_
      rw [Finset.sum_range_succ, sub_sub]
    · show arg10.view.read (Elt Ideal) (arg10.view.writes (Elt Ideal) G10 ((tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 ⟨n, hk⟩ _ _ _).1 ++ _)) _ = _
      rw [View.writes_append]
      refine (trip_dr R _ hk' H _ _ _ (fun i d => A10 i d + (if k0_t2.val + 1 ≤ i / 512 ∧ i / 512 < k0_t2.val + 1 + n then G.drT i k0_t2.val d else 0)) S.dr i' d).trans ?_
      exact congrArg _ (if_step (by show _ ↔ _ ∨ _ = k0_t2.val + 1 + n; dsimp only; omega) (by show ¬ (_ ∧ _ = k0_t2.val + 1 + n); omega))
    · show arg11.view.read (Elt Ideal) (arg11.view.writes (Elt Ideal) G11 ((tripL_k0_t3 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v173 X2 X5 X6 X12 X13 ⟨n, hk⟩ _ _ _).2 ++ _)) _ = _
      rw [View.writes_append]
      refine (trip_dq R _ hk' H _ _ _ (fun i d => A11 i d + (if k0_t2.val + 1 ≤ i / 512 ∧ i / 512 < k0_t2.val + 1 + n then G.dqT i k0_t2.val d else 0)) S.dq i' d).trans ?_
      exact congrArg _ (if_step (by show _ ↔ _ ∨ _ = k0_t2.val + 1 + n; dsimp only; omega) (by show ¬ (_ ∧ _ = k0_t2.val + 1 + n); omega))

end Cert.Proof.KernelIdeal
-- ==== Proof.TileVal.lean ====
/- One key tile, and all the key tiles, over the reals. -/
module

public import proofs.«01_k».proof.Proof.Inner

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {c : Dev nD} {i : grid0.Coords}
    {arg2 : Memref sig .tc .vmem S1x2048x512 .f32} {harg2 : arg2.IsWhole}
    {arg3 : Memref sig .tc .vmem S1x2048x128 .f32} {harg3 : arg3.IsWhole}
    {arg4 : Memref sig .tc .vmem S1x2048x128 .f32} {harg4 : arg4.IsWhole}
    {arg5 : Memref sig .tc .vmem S1x2048x128 .f32} {harg5 : arg5.IsWhole}
    {arg6 : Memref sig .tc .vmem S1x2048x128 .f32} {harg6 : arg6.IsWhole}
    {arg7 : Memref sig .tc .vmem S1x1x8x2048 .f32} {harg7 : arg7.IsWhole}
    {arg8 : Memref sig .tc .vmem S1x2048x512 .bf16} {harg8 : arg8.IsWhole}
    {arg9 : Memref sig .tc .vmem S1x1x8x2048 .f32} {harg9 : arg9.IsWhole}
    {arg10 : Memref sig .tc .vmem S1x2048x128 .f32} {harg10 : arg10.IsWhole}
    {arg11 : Memref sig .tc .vmem S2048x128 .f32} {harg11 : arg11.IsWhole}
    {arg12 : Memref sig .tc .vmem S2048x128 .f32} {harg12 : arg12.IsWhole}
    {arg13 : Memref sig .tc .vmem S2048x128 .f32} {harg13 : arg13.IsWhole}
    {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X12 : BufTy.Contents (Elt Ideal) arg12.view.ty} {X13 : BufTy.Contents (Elt Ideal) arg13.view.ty}

theorem trips4 : ∀ k : Fin k0_t2_loop.trips, Scf.trips (k0_t4_loop k).lb (k0_t4_loop k).ub (k0_t4_loop k).st = 0 := by decide

theorem trips3' : ∀ k : Fin k0_t2_loop.trips, Scf.trips (k0_t3_loop k).lb (k0_t3_loop k).ub (k0_t3_loop k).st = 3 - k.val := by decide

/-- The key tile's vectors, as loaded and reshaped. -/
theorem kv_of {G : Pt} (R : Rd G arg2 arg5 arg6 arg7 arg12 arg13 X2 X5 X6 X7 X12 X13) (k : Fin k0_t2_loop.trips) (hk : k.val < 4) :
    KV G k.val (k0_pay71 (arg2.view.readAt (Elt Ideal) (Rect.unit (s := S1x2048x512) (k0_off4 k) S1x512x128.size (k0_off4_inb k)).toLoadRect X2)) (k0_pay72 (arg2.view.readAt (Elt Ideal) (Rect.unit (s := S1x2048x512) (k0_off5 k) S1x512x128.size (k0_off5_inb k)).toLoadRect X2)) (k0_pay73 (arg7.view.readAt (Elt Ideal) (Rect.unit (s := S1x1x8x2048) (k0_off6 k) S1x1x1x512.size (k0_off6_inb k)).toLoadRect X7)) (k0_pay74 (arg7.view.readAt (Elt Ideal) (Rect.unit (s := S1x1x8x2048) (k0_off7 k) S1x1x1x512.size (k0_off7_inb k)).toLoadRect X7)) where
  hk := fun r d => by
    pointwise [k0_pay71]
    exact (readAt_at _ _ _ (k0_off4_eq k) _ (ix3 0 ⟨512 * k.val + r.val, by omega⟩ ⟨128 + d.val, by omega⟩) (by intro a; fin_cases a <;> simp <;> omega)).trans (R.k _ d)
  hv := fun r d => by
    pointwise [k0_pay72]
    exact (readAt_at _ _ _ (k0_off5_eq k) _ (ix3 0 ⟨512 * k.val + r.val, by omega⟩ ⟨256 + d.val, by omega⟩) (by intro a; fin_cases a <;> simp <;> omega)).trans (R.v _ d)
  hc0 := fun r => by
    pointwise [k0_pay73]
    exact (readAt_at _ _ _ (k0_off6_eq k) _ (ix4 0 0 0 ⟨512 * k.val + r.val, by omega⟩) (by intro a; fin_cases a <;> simp <;> omega)).trans (R.c0 _)
  hc1 := fun r => by
    pointwise [k0_pay74]
    exact (readAt_at _ _ _ (k0_off7_eq k) _ (ix4 0 0 1 ⟨512 * k.val + r.val, by omega⟩) (by intro a; fin_cases a <;> simp <;> omega)).trans (R.c1 _)

/-- The loads of the diagonal query tile. -/
theorem blk2 {G : Pt} (R : Rd G arg2 arg5 arg6 arg7 arg12 arg13 X2 X5 X6 X7 X12 X13) (k : Fin k0_t2_loop.trips) (hk : k.val < 4)
    {v19 v23 : FVec Ideal S512x128 .bf16} {v26 v29 : FVec Ideal S1x512 .f32} (H : KV G k.val v19 v23 v26 v29) :
    Blk G k.val k.val v19 v23 v26 v29 (arg2.view.readAt (Elt Ideal) (Rect.unit (s := S1x2048x512) (k0_off8 k) S1x512x128.size (k0_off8_inb k)).toLoadRect X2) (arg12.view.readAt (Elt Ideal) (Rect.unit (s := S2048x128) (k0_off9 k) S512x128.size (k0_off9_inb k)).toLoadRect X12) (arg5.view.readAt (Elt Ideal) (Rect.unit (s := S1x2048x128) (k0_off10 k) S1x512x1.size (k0_off10_inb k)).toLoadRect X5) (arg13.view.readAt (Elt Ideal) (Rect.unit (s := S2048x128) (k0_off11 k) S512x1.size (k0_off11_inb k)).toLoadRect X13) (arg6.view.readAt (Elt Ideal) (Rect.unit (s := S1x2048x128) (k0_off10 k) S1x512x1.size (k0_off10_inb k)).toLoadRect X6)
      (arg5.view.readAt (Elt Ideal) (Rect.unit (s := S1x2048x128) (k0_off12 k) S1x512x1.size (k0_off12_inb k)).toLoadRect X5) (arg13.view.readAt (Elt Ideal) (Rect.unit (s := S2048x128) (k0_off13 k) S512x1.size (k0_off13_inb k)).toLoadRect X13) (arg6.view.readAt (Elt Ideal) (Rect.unit (s := S1x2048x128) (k0_off12 k) S1x512x1.size (k0_off12_inb k)).toLoadRect X6) where
  hk := H.hk
  hv := H.hv
  hc0 := H.hc0
  hc1 := H.hc1
  hq := fun r d => (readAt_at _ _ _ (k0_off8_eq k) _ (ix3 0 ⟨512 * k.val + r.val, by omega⟩ ⟨d.val, by omega⟩) (by intro a; fin_cases a <;> simp <;> omega)).trans (R.q _ d)
  hd := fun r d => (readAt_at _ _ _ (k0_off9_eq k) _ (ix2 ⟨512 * k.val + r.val, by omega⟩ d) (by intro a; fin_cases a <;> simp <;> omega)).trans (R.dO _ d)
  hl0 := fun r => (readAt_at _ _ _ (k0_off10_eq k) _ (ix3 0 ⟨512 * k.val + r.val, by omega⟩ 0) (by intro a; fin_cases a <;> simp <;> omega)).trans (R.l0 _)
  hd0 := fun r => (readAt_at _ _ _ (k0_off11_eq k) _ (ix2 ⟨512 * k.val + r.val, by omega⟩ 0) (by intro a; fin_cases a <;> simp <;> omega)).trans (R.d0 _)
  hu0 := fun r => (readAt_at _ _ _ (k0_off10_eq k) _ (ix3 0 ⟨512 * k.val + r.val, by omega⟩ 0) (by intro a; fin_cases a <;> simp <;> omega)).trans (R.u0 _)
  hl1 := fun r => (readAt_at _ _ _ (k0_off12_eq k) _ (ix3 0 ⟨512 * k.val + r.val, by omega⟩ 64) (by intro a; fin_cases a <;> simp <;> omega)).trans (R.l1 _)
  hd1 := fun r => (readAt_at _ _ _ (k0_off13_eq k) _ (ix2 ⟨512 * k.val + r.val, by omega⟩ 64) (by intro a; fin_cases a <;> simp <;> omega)).trans (R.d1 _)
  hu1 := fun r => (readAt_at _ _ _ (k0_off12_eq k) _ (ix3 0 ⟨512 * k.val + r.val, by omega⟩ 64) (by intro a; fin_cases a <;> simp <;> omega)).trans (R.u1 _)

/-- The diagonal tile's piece of buffer 11, read back. -/
theorem diag_dqT {G : Pt} (R : Rd G arg2 arg5 arg6 arg7 arg12 arg13 X2 X5 X6 X7 X12 X13) (k : Fin k0_t2_loop.trips) (hk : k.val < 4)
    (f : BufTy.Contents (Elt Ideal) arg11.view.ty) (A : ℕ → Fin 128 → ℝ)
    (ha : ∀ (i : Fin 2048) (d : Fin 128), arg11.view.read (Elt Ideal) f (ix2 i d) = ((A i d : ℝ) : EReal)) (i' : Fin 2048) (d : Fin 128) :
    arg11.view.read (Elt Ideal) (arg11.view.writes (Elt Ideal) f [⟨Rect.unit (s := S2048x128) (k0_off9 k) S512x128.size (k0_off9_inb k), k0_pay102 k0_pay6 (tile.sl.r_15 arg2 arg5 arg6 arg7 arg12 arg13 X2 X5 X6 X7 X12 X13 k) (tile.sl.r_20 arg2 arg5 arg6 arg7 arg12 arg13 X2 X5 X6 X7 X12 X13 k) (arg11.view.readAt (Elt Ideal) (Rect.unit (s := S2048x128) (k0_off9 k) S512x128.size (k0_off9_inb k)).toLoadRect f)⟩]) (ix2 i' d)
      = ((A i' d + (if i'.val / 512 = k.val then G.dqT i' k.val d else 0) : ℝ) : EReal) := by
  by_cases h : i'.val / 512 = k.val
  · rw [if_pos h]
    refine (View.read_writes_cons_unit_of_mem _ _ _ _ _ _ (ix2 ⟨i'.val - 512 * k.val, by omega⟩ d) (k0_off9_eq k) (by intro a; fin_cases a <;> simp <;> omega)).trans ?_
    refine Eq.trans (gq_of (blk2 R k hk (kv_of R k hk)) rfl (pay79_of k) (pay80_of (blk2 R k hk (kv_of R k hk)).hq) (arg11.view.readAt (Elt Ideal) (Rect.unit (s := S2048x128) (k0_off9 k) S512x128.size (k0_off9_inb k)).toLoadRect f)
      (fun r d => A (512 * k.val + r) d) (fun r d => (readAt_at _ _ _ (k0_off9_eq k) _ (ix2 ⟨512 * k.val + r.val, by omega⟩ d) (by intro a; fin_cases a <;> simp <;> omega)).trans (ha _ d)) _ d) ?_
    have e : 512 * k.val + (i'.val - 512 * k.val) = i'.val := by omega
    simp only [e]
  · rw [if_neg h, add_zero]
    refine (View.read_writes_cons_unit_of_not_mem _ _ _ _ _ _ (k0_off9_eq k) 0 ?_).trans (ha i' d)
    simp
    omega

/-- The diagonal tile's piece of buffer 10, read back. -/
theorem diag_drT {G : Pt} (R : Rd G arg2 arg5 arg6 arg7 arg12 arg13 X2 X5 X6 X7 X12 X13) (k : Fin k0_t2_loop.trips) (hk : k.val < 4)
    (f : BufTy.Contents (Elt Ideal) arg10.view.ty) (A : ℕ → Fin 128 → ℝ)
    (ha : ∀ (i : Fin 2048) (d : Fin 128), arg10.view.read (Elt Ideal) f (ix3 0 i d) = ((A i d : ℝ) : EReal)) (i' : Fin 2048) (d : Fin 128) :
    arg10.view.read (Elt Ideal) (arg10.view.writes (Elt Ideal) f [⟨Rect.unit (s := S1x2048x128) (k0_off14 k) S1x512x128.size (k0_off14_inb k), k0_pay103 k0_pay6 (tile.sl.r_17 arg2 arg5 arg6 arg7 arg12 arg13 X2 X5 X6 X7 X12 X13 k) (tile.sl.r_22 arg2 arg5 arg6 arg7 arg12 arg13 X2 X5 X6 X7 X12 X13 k) (arg10.view.readAt (Elt Ideal) (Rect.unit (s := S1x2048x128) (k0_off14 k) S1x512x128.size (k0_off14_inb k)).toLoadRect f)⟩]) (ix3 0 i' d)
      = ((A i' d + (if i'.val / 512 = k.val then G.drT i' k.val d else 0) : ℝ) : EReal) := by
  by_cases h : i'.val / 512 = k.val
  · rw [if_pos h]
    refine (View.read_writes_cons_unit_of_mem _ _ _ _ _ _ (ix3 0 ⟨i'.val - 512 * k.val, by omega⟩ d) (k0_off14_eq k) (by intro a; fin_cases a <;> simp <;> omega)).trans ?_
    refine Eq.trans (gr_of (blk2 R k hk (kv_of R k hk)) rfl (pay79_of k) (pay80_of (blk2 R k hk (kv_of R k hk)).hq) (arg10.view.readAt (Elt Ideal) (Rect.unit (s := S1x2048x128) (k0_off14 k) S1x512x128.size (k0_off14_inb k)).toLoadRect f)
      (fun r d => A (512 * k.val + r) d) (fun r d => (readAt_at _ _ _ (k0_off14_eq k) _ (ix3 0 ⟨512 * k.val + r.val, by omega⟩ d) (by intro a; fin_cases a <;> simp <;> omega)).trans (ha _ d)) _ d) ?_
    have e : 512 * k.val + (i'.val - 512 * k.val) = i'.val := by omega
    simp only [e]
  · rw [if_neg h, add_zero]
    refine (View.read_writes_cons_unit_of_not_mem _ _ _ _ _ _ (k0_off14_eq k) 1 ?_).trans (ha i' d)
    simp
    omega

/-- The bound-carrying copy of the loop below the diagonal makes no trip. -/
theorem st4_zero {k0_t2 : Fin k0_t2_loop.trips} {arg14 : BitVec 32} {v15 : BitVec 32} {v19 : FVec Ideal S512x128 .bf16} {v23 : FVec Ideal S512x128 .bf16} {v26 : FVec Ideal S1x512 .f32} {v29 : FVec Ideal S1x512 .f32} {v30 : FVec Ideal S512x128 .f32} {v31 : FVec Ideal S512x128 .f32} {v32 : FVec Ideal S1x512 .f32} {v33 : FVec Ideal S1x512 .f32} {v35 : BitVec 32} {v98 : FVec Ideal S512x128 .f32} {v99 : FVec Ideal S512x128 .f32} {v100 : FVec Ideal S512x128 .f32} {v102 : FVec Ideal S1x512 .f32} {v106 : FVec Ideal S512x128 .f32} {v131 : FVec Ideal S512x128 .f32} {v132 : FVec Ideal S512x128 .f32} {v133 : FVec Ideal S512x128 .f32} {v135 : FVec Ideal S1x512 .f32} {v139 : FVec Ideal S512x128 .f32} {v174 : BitVec 32} {G10 : BufTy.Contents (Elt Ideal) arg10.view.ty} {G11 : BufTy.Contents (Elt Ideal) arg11.view.ty} {init : FVec Ideal S512x128 .f32 × FVec Ideal S512x128 .f32 × FVec Ideal S1x512 .f32 × FVec Ideal S1x512 .f32} :
    (st_k0_t4 (F := Ideal) Variants.none c none i arg2 harg2 arg3 harg3 arg4 harg4 arg5 harg5 arg6 harg6 arg7 harg7 arg8 harg8 arg9 harg9 arg10 harg10 arg11 harg11 arg12 harg12 arg13 harg13 k0_pay6 k0_t2 arg14 v15 v19 v23 v26 v29 v30 v31 v32 v33 v35 v98 v99 v100 v102 v106 v131 v132 v133 v135 v139 v174 X2 X5 X6 X12 X13 G10 G11 init 0) = (init, [], []) := rfl

/-- What one key tile writes. -/
theorem tile_spec {G : Pt} (R : Rd G arg2 arg5 arg6 arg7 arg12 arg13 X2 X5 X6 X7 X12 X13) (k : Fin k0_t2_loop.trips) (hk : k.val < 4)
    (f10 : BufTy.Contents (Elt Ideal) arg10.view.ty) (f11 : BufTy.Contents (Elt Ideal) arg11.view.ty) (A10 A11 : ℕ → Fin 128 → ℝ)
    (h10 : ∀ (i : Fin 2048) (d : Fin 128), arg10.view.read (Elt Ideal) f10 (ix3 0 i d) = ((A10 i d : ℝ) : EReal))
    (h11 : ∀ (i : Fin 2048) (d : Fin 128), arg11.view.read (Elt Ideal) f11 (ix2 i d) = ((A11 i d : ℝ) : EReal)) :
    ∃ G10 G11 st, St3 G k.val (3 - k.val) (fun s d => G.dkT k.val (512 * k.val + s) d) (fun s d => G.dvT k.val (512 * k.val + s) d)
        (fun s => 0 - G.dcT 0 k.val (512 * k.val + s)) (fun s => 0 - G.dcT 1 k.val (512 * k.val + s))
        (fun i d => A10 i d + (if i / 512 = k.val then G.drT i k.val d else 0)) (fun i d => A11 i d + (if i / 512 = k.val then G.dqT i k.val d else 0))
        arg10 arg11 G10 G11 st
      ∧ (tile (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 k).1 f10 f11 = [⟨Rect.unit (s := S1x2048x512) (k0_off5 k) S1x512x128.size (k0_off5_inb k), k0_pay10 st.1.2.1⟩, ⟨Rect.unit (s := S1x2048x512) (k0_off4 k) S1x512x128.size (k0_off4_inb k), k0_pay9 st.1.1⟩]
      ∧ (tile (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 k).2.1 f10 f11 = [⟨Rect.unit (s := S1x1x8x2048) (k0_off7 k) S1x1x1x512.size (k0_off7_inb k), k0_pay8 st.1.2.2.2⟩, ⟨Rect.unit (s := S1x1x8x2048) (k0_off6 k) S1x1x1x512.size (k0_off6_inb k), k0_pay7 st.1.2.2.1⟩]
      ∧ arg10.view.writes (Elt Ideal) f10 ((tile (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 k).2.2.1 f10 f11) = arg10.view.writes (Elt Ideal) G10 st.2.1
      ∧ arg11.view.writes (Elt Ideal) f11 ((tile (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 k).2.2.2.1 f10 f11) = arg11.view.writes (Elt Ideal) G11 st.2.2 := by
  have S := st3 (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R (k0_t2 := k) (arg14 := tile.sl.arg14 k) (v15 := tile.sl.v14 k) (v19 := tile.sl.r arg2 X2 k) (v23 := tile.sl.r_1 arg2 X2 k) (v26 := tile.sl.r_2 arg7 X7 k) (v29 := tile.sl.r_3 arg7 X7 k) (v30 := k0_pay75) (v31 := k0_pay76) (v32 := k0_pay77) (v33 := k0_pay78) (v35 := tile.sl.v14 k) (v98 := tile.sl.r_13 arg2 arg5 arg6 arg7 arg12 X2 X5 X6 X7 X12 k) (v99 := tile.sl.r_14 arg2 arg5 arg6 arg7 arg12 arg13 X2 X5 X6 X7 X12 X13 k) (v100 := tile.sl.r_15 arg2 arg5 arg6 arg7 arg12 arg13 X2 X5 X6 X7 X12 X13 k) (v102 := tile.sl.r_16 arg2 arg5 arg6 arg7 arg12 arg13 X2 X5 X6 X7 X12 X13 k) (v106 := tile.sl.r_17 arg2 arg5 arg6 arg7 arg12 arg13 X2 X5 X6 X7 X12 X13 k) (v131 := tile.sl.r_18 arg2 arg5 arg6 arg7 arg12 X2 X5 X6 X7 X12 k) (v132 := tile.sl.r_19 arg2 arg5 arg6 arg7 arg12 arg13 X2 X5 X6 X7 X12 X13 k) (v133 := tile.sl.r_20 arg2 arg5 arg6 arg7 arg12 arg13 X2 X5 X6 X7 X12 X13 k) (v135 := tile.sl.r_21 arg2 arg5 arg6 arg7 arg12 arg13 X2 X5 X6 X7 X12 X13 k) (v139 := tile.sl.r_22 arg2 arg5 arg6 arg7 arg12 arg13 X2 X5 X6 X7 X12 X13 k) (v173 := tile.sl.v173 k) (kv_of R k hk)
    (G10 := (arg10.view.writes (Elt Ideal) f10 [⟨Rect.unit (s := S1x2048x128) (k0_off14 k) S1x512x128.size (k0_off14_inb k), k0_pay103 k0_pay6 (tile.sl.r_17 arg2 arg5 arg6 arg7 arg12 arg13 X2 X5 X6 X7 X12 X13 k) (tile.sl.r_22 arg2 arg5 arg6 arg7 arg12 arg13 X2 X5 X6 X7 X12 X13 k) (arg10.view.readAt (Elt Ideal) (Rect.unit (s := S1x2048x128) (k0_off14 k) S1x512x128.size (k0_off14_inb k)).toLoadRect f10)⟩])) (G11 := (arg11.view.writes (Elt Ideal) f11 [⟨Rect.unit (s := S2048x128) (k0_off9 k) S512x128.size (k0_off9_inb k), k0_pay102 k0_pay6 (tile.sl.r_15 arg2 arg5 arg6 arg7 arg12 arg13 X2 X5 X6 X7 X12 X13 k) (tile.sl.r_20 arg2 arg5 arg6 arg7 arg12 arg13 X2 X5 X6 X7 X12 X13 k) (arg11.view.readAt (Elt Ideal) (Rect.unit (s := S2048x128) (k0_off9 k) S512x128.size (k0_off9_inb k)).toLoadRect f11)⟩])) (init := (k0_pay104 k0_pay6 k0_pay75 (tile.sl.r_14 arg2 arg5 arg6 arg7 arg12 arg13 X2 X5 X6 X7 X12 X13 k) (tile.sl.r_19 arg2 arg5 arg6 arg7 arg12 arg13 X2 X5 X6 X7 X12 X13 k), k0_pay105 k0_pay6 k0_pay76 (tile.sl.r_13 arg2 arg5 arg6 arg7 arg12 X2 X5 X6 X7 X12 k) (tile.sl.r_18 arg2 arg5 arg6 arg7 arg12 X2 X5 X6 X7 X12 k), k0_pay106 k0_pay77 (tile.sl.r_16 arg2 arg5 arg6 arg7 arg12 arg13 X2 X5 X6 X7 X12 X13 k), k0_pay107 k0_pay78 (tile.sl.r_21 arg2 arg5 arg6 arg7 arg12 arg13 X2 X5 X6 X7 X12 X13 k)))
    (a := fun s d => G.dkT k.val (512 * k.val + s) d) (b := fun s d => G.dvT k.val (512 * k.val + s) d) (e0 := fun s => 0 - G.dcT 0 k.val (512 * k.val + s)) (e1 := fun s => 0 - G.dcT 1 k.val (512 * k.val + s))
    (A10 := fun i d => A10 i d + (if i / 512 = k.val then G.drT i k.val d else 0)) (A11 := fun i d => A11 i d + (if i / 512 = k.val then G.dqT i k.val d else 0))
    (gk_of (blk2 R k hk (kv_of R k hk)) rfl (pay79_of k) (pay80_of (blk2 R k hk (kv_of R k hk)).hq)) (gv_of (blk2 R k hk (kv_of R k hk)) rfl (pay79_of k) (pay80_of (blk2 R k hk (kv_of R k hk)).hq)) (gc0_of (blk2 R k hk (kv_of R k hk)) rfl (pay79_of k) (pay80_of (blk2 R k hk (kv_of R k hk)).hq)) (gc1_of (blk2 R k hk (kv_of R k hk)) rfl (pay79_of k) (pay80_of (blk2 R k hk (kv_of R k hk)).hq)) (diag_drT R k hk f10 A10 h10) (diag_dqT R k hk f11 A11 h11) (3 - k.val) le_rfl
  refine ⟨_, _, _, S, ?_, ?_, ?_, ?_⟩
  all_goals
    unfold tile
    first
    | (rw [← View.writes_append]; refine congrArg _ ?_)
    | skip
    dsimp only
    try unfold tile.sl.r_23
    try unfold tile.sl.r_24
    try unfold tile.sl.r_25
    try unfold tile.sl.r_26
    rw [trips4, trips3']
    rfl

theorem p8_dv (k : Fin k0_t2_loop.trips) (hk : k.val < 4) (f : BufTy.Contents (Elt Ideal) arg8.view.ty) (w5 w4 : Vec Ideal S1x512x128 .bf16) (j : Fin 2048) (d : Fin 128) :
    arg8.view.read (Elt Ideal) (arg8.view.writes (Elt Ideal) f [⟨Rect.unit (s := S1x2048x512) (k0_off5 k) S1x512x128.size (k0_off5_inb k), w5⟩, ⟨Rect.unit (s := S1x2048x512) (k0_off4 k) S1x512x128.size (k0_off4_inb k), w4⟩]) (ix3 0 j ⟨256 + d.val, by omega⟩) = if j.val / 512 = k.val then w5 (ix3 0 ⟨(j.val - 512 * k.val) % 512, Nat.mod_lt _ (by norm_num)⟩ d) else arg8.view.read (Elt Ideal) f (ix3 0 j ⟨256 + d.val, by omega⟩) := by
  by_cases h : j.val / 512 = k.val
  · rw [if_pos h]
    refine (View.read_writes_cons_unit_of_mem _ _ _ _ _ _ (ix3 0 ⟨(j.val - 512 * k.val) % 512, Nat.mod_lt _ (by norm_num)⟩ d) (k0_off5_eq k) (by intro a; fin_cases a <;> simp <;> omega)).trans ?_
    rfl
  · rw [if_neg h]
    refine (View.read_writes_cons_unit_of_not_mem _ _ _ _ _ _ (k0_off5_eq k) 1 (by simp <;> omega)).trans ?_
    refine (View.read_writes_cons_unit_of_not_mem _ _ _ _ _ _ (k0_off4_eq k) 1 (by simp <;> omega)).trans ?_
    rfl

theorem p8_dk (k : Fin k0_t2_loop.trips) (hk : k.val < 4) (f : BufTy.Contents (Elt Ideal) arg8.view.ty) (w5 w4 : Vec Ideal S1x512x128 .bf16) (j : Fin 2048) (d : Fin 128) :
    arg8.view.read (Elt Ideal) (arg8.view.writes (Elt Ideal) f [⟨Rect.unit (s := S1x2048x512) (k0_off5 k) S1x512x128.size (k0_off5_inb k), w5⟩, ⟨Rect.unit (s := S1x2048x512) (k0_off4 k) S1x512x128.size (k0_off4_inb k), w4⟩]) (ix3 0 j ⟨128 + d.val, by omega⟩) = if j.val / 512 = k.val then w4 (ix3 0 ⟨(j.val - 512 * k.val) % 512, Nat.mod_lt _ (by norm_num)⟩ d) else arg8.view.read (Elt Ideal) f (ix3 0 j ⟨128 + d.val, by omega⟩) := by
  refine (View.read_writes_cons_unit_of_not_mem _ _ _ _ _ _ (k0_off5_eq k) 2 (by simp <;> omega)).trans ?_
  by_cases h : j.val / 512 = k.val
  · rw [if_pos h]
    refine (View.read_writes_cons_unit_of_mem _ _ _ _ _ _ (ix3 0 ⟨(j.val - 512 * k.val) % 512, Nat.mod_lt _ (by norm_num)⟩ d) (k0_off4_eq k) (by intro a; fin_cases a <;> simp <;> omega)).trans ?_
    rfl
  · rw [if_neg h]
    refine (View.read_writes_cons_unit_of_not_mem _ _ _ _ _ _ (k0_off4_eq k) 1 (by simp <;> omega)).trans ?_
    rfl

theorem p8_out (k : Fin k0_t2_loop.trips) (hk : k.val < 4) (f : BufTy.Contents (Elt Ideal) arg8.view.ty) (w5 w4 : Vec Ideal S1x512x128 .bf16) (j : Fin 2048) (x : Fin 512) (hx : x.val < 128 ∨ 384 ≤ x.val) :
    arg8.view.read (Elt Ideal) (arg8.view.writes (Elt Ideal) f [⟨Rect.unit (s := S1x2048x512) (k0_off5 k) S1x512x128.size (k0_off5_inb k), w5⟩, ⟨Rect.unit (s := S1x2048x512) (k0_off4 k) S1x512x128.size (k0_off4_inb k), w4⟩]) (ix3 0 j x) = arg8.view.read (Elt Ideal) f (ix3 0 j x) := by
  refine (View.read_writes_cons_unit_of_not_mem _ _ _ _ _ _ (k0_off5_eq k) 2 (by simp <;> omega)).trans ?_
  refine (View.read_writes_cons_unit_of_not_mem _ _ _ _ _ _ (k0_off4_eq k) 2 (by simp <;> omega)).trans ?_
  rfl

theorem p9_1 (k : Fin k0_t2_loop.trips) (hk : k.val < 4) (f : BufTy.Contents (Elt Ideal) arg9.view.ty) (w5 w4 : Vec Ideal S1x1x1x512 .f32) (j : Fin 2048) :
    arg9.view.read (Elt Ideal) (arg9.view.writes (Elt Ideal) f [⟨Rect.unit (s := S1x1x8x2048) (k0_off7 k) S1x1x1x512.size (k0_off7_inb k), w5⟩, ⟨Rect.unit (s := S1x1x8x2048) (k0_off6 k) S1x1x1x512.size (k0_off6_inb k), w4⟩]) (ix4 0 0 1 j) = if j.val / 512 = k.val then w5 (ix4 0 0 0 ⟨(j.val - 512 * k.val) % 512, Nat.mod_lt _ (by norm_num)⟩) else arg9.view.read (Elt Ideal) f (ix4 0 0 1 j) := by
  by_cases h : j.val / 512 = k.val
  · rw [if_pos h]
    refine (View.read_writes_cons_unit_of_mem _ _ _ _ _ _ (ix4 0 0 0 ⟨(j.val - 512 * k.val) % 512, Nat.mod_lt _ (by norm_num)⟩) (k0_off7_eq k) (by intro a; fin_cases a <;> simp <;> omega)).trans ?_
    rfl
  · rw [if_neg h]
    refine (View.read_writes_cons_unit_of_not_mem _ _ _ _ _ _ (k0_off7_eq k) 3 (by simp <;> omega)).trans ?_
    refine (View.read_writes_cons_unit_of_not_mem _ _ _ _ _ _ (k0_off6_eq k) 3 (by simp <;> omega)).trans ?_
    rfl

theorem p9_0 (k : Fin k0_t2_loop.trips) (hk : k.val < 4) (f : BufTy.Contents (Elt Ideal) arg9.view.ty) (w5 w4 : Vec Ideal S1x1x1x512 .f32) (j : Fin 2048) :
    arg9.view.read (Elt Ideal) (arg9.view.writes (Elt Ideal) f [⟨Rect.unit (s := S1x1x8x2048) (k0_off7 k) S1x1x1x512.size (k0_off7_inb k), w5⟩, ⟨Rect.unit (s := S1x1x8x2048) (k0_off6 k) S1x1x1x512.size (k0_off6_inb k), w4⟩]) (ix4 0 0 0 j) = if j.val / 512 = k.val then w4 (ix4 0 0 0 ⟨(j.val - 512 * k.val) % 512, Nat.mod_lt _ (by norm_num)⟩) else arg9.view.read (Elt Ideal) f (ix4 0 0 0 j) := by
  refine (View.read_writes_cons_unit_of_not_mem _ _ _ _ _ _ (k0_off7_eq k) 2 (by simp <;> omega)).trans ?_
  by_cases h : j.val / 512 = k.val
  · rw [if_pos h]
    refine (View.read_writes_cons_unit_of_mem _ _ _ _ _ _ (ix4 0 0 0 ⟨(j.val - 512 * k.val) % 512, Nat.mod_lt _ (by norm_num)⟩) (k0_off6_eq k) (by intro a; fin_cases a <;> simp <;> omega)).trans ?_
    rfl
  · rw [if_neg h]
    refine (View.read_writes_cons_unit_of_not_mem _ _ _ _ _ _ (k0_off6_eq k) 3 (by simp <;> omega)).trans ?_
    rfl

theorem p9_out (k : Fin k0_t2_loop.trips) (hk : k.val < 4) (f : BufTy.Contents (Elt Ideal) arg9.view.ty) (w5 w4 : Vec Ideal S1x1x1x512 .f32) (j : Fin 2048) (x : Fin 8) (hx : 2 ≤ x.val) :
    arg9.view.read (Elt Ideal) (arg9.view.writes (Elt Ideal) f [⟨Rect.unit (s := S1x1x8x2048) (k0_off7 k) S1x1x1x512.size (k0_off7_inb k), w5⟩, ⟨Rect.unit (s := S1x1x8x2048) (k0_off6 k) S1x1x1x512.size (k0_off6_inb k), w4⟩]) (ix4 0 0 x j) = arg9.view.read (Elt Ideal) f (ix4 0 0 x j) := by
  refine (View.read_writes_cons_unit_of_not_mem _ _ _ _ _ _ (k0_off7_eq k) 2 (by simp <;> omega)).trans ?_
  refine (View.read_writes_cons_unit_of_not_mem _ _ _ _ _ _ (k0_off6_eq k) 2 (by simp <;> omega)).trans ?_
  rfl

/-- The gradients of one head pair as sums over the tiles. -/
def _root_.Cert.Proof.Pt.dk (G : Pt) (j : ℕ) (d : Fin 128) : ℝ := ∑ I ∈ Finset.range 4, G.dkT I j d
def _root_.Cert.Proof.Pt.dv (G : Pt) (j : ℕ) (d : Fin 128) : ℝ := ∑ I ∈ Finset.range 4, G.dvT I j d
def _root_.Cert.Proof.Pt.dc (G : Pt) (h j : ℕ) : ℝ := ∑ I ∈ Finset.range 4, G.dcT h I j

theorem P_zero (G : Pt) {h i j : ℕ} (hij : i < j) : G.P h i j = 0 := if_neg (by omega)
theorem DS_zero (G : Pt) {h i j : ℕ} (hij : i < j) : G.DS h i j = 0 := by unfold Pt.DS; rw [P_zero G hij, zero_mul]
theorem dkT_zero (G : Pt) {I j : ℕ} (d : Fin 128) (hij : I < j / 512) : G.dkT I j d = 0 :=
  Finset.sum_eq_zero fun r _ => by rw [DS_zero G (by omega), zero_mul]
theorem dvT_zero (G : Pt) {I j : ℕ} (d : Fin 128) (hij : I < j / 512) : G.dvT I j d = 0 :=
  Finset.sum_eq_zero fun r _ => by rw [P_zero G (by omega), zero_mul]
theorem dcT_zero (G : Pt) {h I j : ℕ} (hij : I < j / 512) : G.dcT h I j = 0 :=
  Finset.sum_eq_zero fun r _ => by rw [DS_zero G (by omega)]
theorem dqT_zero (G : Pt) {i J : ℕ} (d : Fin 128) (hij : i / 512 < J) : G.dqT i J d = 0 := by
  unfold Pt.dqT
  rw [Finset.sum_eq_zero fun r _ => by rw [DS_zero G (by omega), zero_mul], zero_mul]
theorem drT_zero (G : Pt) {i J : ℕ} (d : Fin 128) (hij : i / 512 < J) : G.drT i J d = 0 :=
  Finset.sum_eq_zero fun r _ => by rw [DS_zero G (by omega)]

theorem sum_from {f : ℕ → ℝ} {J : ℕ} (hJ : J < 4) (h : ∀ I, I < J → f I = 0) :
    f J + ∑ m ∈ Finset.range (3 - J), f (J + 1 + m) = ∑ I ∈ Finset.range 4, f I := by
  interval_cases J <;> simp [Finset.sum_range_succ, h] <;> ring

theorem acc_all {t x : ℝ} {a J : ℕ} (ha : a < 4) (h : a < J → t = 0) :
    x + (if a = J then t else 0) + (if J + 1 ≤ a ∧ a < J + 1 + (3 - J) then t else 0) = x + t := by
  rcases lt_trichotomy a J with h' | h' | h'
  · rw [h h']; simp
  · rw [if_pos h', if_neg (by omega), add_zero]
  · rw [if_neg (by omega), if_pos (by omega), add_zero]

/-- What the tiles before `n` leave in the buffers they write. -/
structure StV (G : Pt) (n : ℕ) (A10 A11 : ℕ → Fin 128 → ℝ)
    (arg8 : Memref sig .tc .vmem S1x2048x512 .bf16) (arg9 : Memref sig .tc .vmem S1x1x8x2048 .f32)
    (arg10 : Memref sig .tc .vmem S1x2048x128 .f32) (arg11 : Memref sig .tc .vmem S2048x128 .f32)
    (f8 : BufTy.Contents (Elt Ideal) arg8.view.ty) (f9 : BufTy.Contents (Elt Ideal) arg9.view.ty) (G10 : BufTy.Contents (Elt Ideal) arg10.view.ty) (G11 : BufTy.Contents (Elt Ideal) arg11.view.ty) (st : List (View.Piece (Elt Ideal) S1x2048x512 .bf16) × List (View.Piece (Elt Ideal) S1x1x8x2048 .f32) × List (View.Piece (Elt Ideal) S1x2048x128 .f32) × List (View.Piece (Elt Ideal) S2048x128 .f32)) : Prop where
  dk : ∀ (j : Fin 2048) (d : Fin 128), j.val / 512 < n → arg8.view.read (Elt Ideal) (arg8.view.writes (Elt Ideal) f8 st.1) (ix3 0 j ⟨128 + d.val, by omega⟩) = ((G.dk j d : ℝ) : EReal)
  dv : ∀ (j : Fin 2048) (d : Fin 128), j.val / 512 < n → arg8.view.read (Elt Ideal) (arg8.view.writes (Elt Ideal) f8 st.1) (ix3 0 j ⟨256 + d.val, by omega⟩) = ((G.dv j d : ℝ) : EReal)
  out8 : ∀ (j : Fin 2048) (x : Fin 512), (x.val < 128 ∨ 384 ≤ x.val) → arg8.view.read (Elt Ideal) (arg8.view.writes (Elt Ideal) f8 st.1) (ix3 0 j x) = arg8.view.read (Elt Ideal) f8 (ix3 0 j x)
  c0 : ∀ (j : Fin 2048), j.val / 512 < n → arg9.view.read (Elt Ideal) (arg9.view.writes (Elt Ideal) f9 st.2.1) (ix4 0 0 0 j) = ((- G.dc 0 j : ℝ) : EReal)
  c1 : ∀ (j : Fin 2048), j.val / 512 < n → arg9.view.read (Elt Ideal) (arg9.view.writes (Elt Ideal) f9 st.2.1) (ix4 0 0 1 j) = ((- G.dc 1 j : ℝ) : EReal)
  out9 : ∀ (j : Fin 2048) (x : Fin 8), 2 ≤ x.val → arg9.view.read (Elt Ideal) (arg9.view.writes (Elt Ideal) f9 st.2.1) (ix4 0 0 x j) = arg9.view.read (Elt Ideal) f9 (ix4 0 0 x j)
  dr : ∀ (i : Fin 2048) (d : Fin 128), arg10.view.read (Elt Ideal) (arg10.view.writes (Elt Ideal) G10 st.2.2.1) (ix3 0 i d) = ((A10 i d + ∑ J ∈ Finset.range n, G.drT i J d : ℝ) : EReal)
  dq : ∀ (i : Fin 2048) (d : Fin 128), arg11.view.read (Elt Ideal) (arg11.view.writes (Elt Ideal) G11 st.2.2.2) (ix2 i d) = ((A11 i d + ∑ J ∈ Finset.range n, G.dqT i J d : ℝ) : EReal)

theorem tiles_spec {G : Pt} (R : Rd G arg2 arg5 arg6 arg7 arg12 arg13 X2 X5 X6 X7 X12 X13)
    (f8 : BufTy.Contents (Elt Ideal) arg8.view.ty) (f9 : BufTy.Contents (Elt Ideal) arg9.view.ty) (G10 : BufTy.Contents (Elt Ideal) arg10.view.ty) (G11 : BufTy.Contents (Elt Ideal) arg11.view.ty) (A10 A11 : ℕ → Fin 128 → ℝ)
    (h10 : ∀ (i : Fin 2048) (d : Fin 128), arg10.view.read (Elt Ideal) G10 (ix3 0 i d) = ((A10 i d : ℝ) : EReal))
    (h11 : ∀ (i : Fin 2048) (d : Fin 128), arg11.view.read (Elt Ideal) G11 (ix2 i d) = ((A11 i d : ℝ) : EReal)) :
    ∀ n, n ≤ 4 → StV G n A10 A11 arg8 arg9 arg10 arg11 f8 f9 G10 G11 (stT (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 G10 G11 n) := by
  intro n
  induction n with
  | zero =>
    intro _
    refine ⟨fun j d h => ?_, fun j d h => ?_, fun j x h => rfl, fun j h => ?_, fun j h => ?_, fun j x h => rfl, fun i d => ?_, fun i d => ?_⟩
    · omega
    · omega
    · omega
    · omega
    · refine (h10 i d).trans ?_; simp
    · refine (h11 i d).trans ?_; simp
  | succ n ih =>
    intro hn
    have S := ih (by omega)
    have hk : n < k0_t2_loop.trips := by rw [trips2]; omega
    have e := stT_succ (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 G10 G11 ⟨n, hk⟩
    rw [show n + 1 = (⟨n, hk⟩ : Fin k0_t2_loop.trips).val + 1 from rfl, e]
    obtain ⟨H10, H11, st, Q, q8, q9, q10, q11⟩ := tile_spec (c := c) (i := i) (harg2 := harg2) (arg3 := arg3) (harg3 := harg3) (arg4 := arg4) (harg4 := harg4) (harg5 := harg5) (harg6 := harg6) (harg7 := harg7) (arg8 := arg8) (harg8 := harg8) (arg9 := arg9) (harg9 := harg9) (harg10 := harg10) (harg11 := harg11) (harg12 := harg12) (harg13 := harg13) R ⟨n, hk⟩ (by show n < 4; omega)
      (arg10.view.writes (Elt Ideal) G10 (stT (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 G10 G11 n).2.2.1) (arg11.view.writes (Elt Ideal) G11 (stT (F := Ideal) Variants.none c none i arg2 harg2 arg3 harg3 arg4 harg4 arg5 harg5 arg6 harg6 arg7 harg7 arg8 harg8 arg9 harg9 arg10 harg10 arg11 harg11 arg12 harg12 arg13 harg13 X2 X5 X6 X7 X12 X13 G10 G11 n).2.2.2) (fun i d => A10 i d + ∑ J ∈ Finset.range n, G.drT i J d) (fun i d => A11 i d + ∑ J ∈ Finset.range n, G.dqT i J d) S.dr S.dq
    have hk4 : (⟨n, hk⟩ : Fin k0_t2_loop.trips).val < 4 := by show n < 4; omega
    dsimp only at Q q8 q9 q10 q11 ⊢
    refine ⟨fun j d h => ?_, fun j d h => ?_, fun j x h => ?_, fun j h => ?_, fun j h => ?_, fun j x h => ?_, fun i' d => ?_, fun i' d => ?_⟩
    · rw [View.writes_append, q8]
      refine (p8_dk ⟨n, hk⟩ hk4 _ _ _ j d).trans ?_
      dsimp only
      by_cases h' : j.val / 512 = n
      · rw [if_pos h']
        pointwise [k0_pay9]
        refine (Q.dk _ d).trans ?_
        have e : 512 * n + (j.val - 512 * n) % 512 = j.val := by omega
        simp only [e]
        exact congrArg _ (sum_from (f := fun I => G.dkT I j d) (by omega) fun I hI => dkT_zero G d (by omega))
      · rw [if_neg h']
        exact S.dk j d (by omega)
    · rw [View.writes_append, q8]
      refine (p8_dv ⟨n, hk⟩ hk4 _ _ _ j d).trans ?_
      dsimp only
      by_cases h' : j.val / 512 = n
      · rw [if_pos h']
        pointwise [k0_pay10]
        refine (Q.dv _ d).trans ?_
        have e : 512 * n + (j.val - 512 * n) % 512 = j.val := by omega
        simp only [e]
        exact congrArg _ (sum_from (f := fun I => G.dvT I j d) (by omega) fun I hI => dvT_zero G d (by omega))
      · rw [if_neg h']
        exact S.dv j d (by omega)
    · rw [View.writes_append, q8]
      exact (p8_out ⟨n, hk⟩ hk4 _ _ _ j x h).trans (S.out8 j x h)
    · rw [View.writes_append, q9]
      refine (p9_0 ⟨n, hk⟩ hk4 _ _ _ j).trans ?_
      dsimp only
      by_cases h' : j.val / 512 = n
      · rw [if_pos h']
        pointwise [k0_pay7]
        refine (Q.c0 _).trans ?_
        have e : 512 * n + (j.val - 512 * n) % 512 = j.val := by omega
        simp only [e]
        refine congrArg _ ?_
        rw [zero_sub, ← neg_add']
        exact congrArg _ (sum_from (f := fun I => G.dcT 0 I j) (by omega) fun I hI => dcT_zero G (by omega))
      · rw [if_neg h']
        exact S.c0 j (by omega)
    · rw [View.writes_append, q9]
      refine (p9_1 ⟨n, hk⟩ hk4 _ _ _ j).trans ?_
      dsimp only
      by_cases h' : j.val / 512 = n
      · rw [if_pos h']
        pointwise [k0_pay8]
        refine (Q.c1 _).trans ?_
        have e : 512 * n + (j.val - 512 * n) % 512 = j.val := by omega
        simp only [e]
        refine congrArg _ ?_
        rw [zero_sub, ← neg_add']
        exact congrArg _ (sum_from (f := fun I => G.dcT 1 I j) (by omega) fun I hI => dcT_zero G (by omega))
      · rw [if_neg h']
        exact S.c1 j (by omega)
    · rw [View.writes_append, q9]
      exact (p9_out ⟨n, hk⟩ hk4 _ _ _ j x h).trans (S.out9 j x h)
    · rw [View.writes_append, q10]
      refine (Q.dr i' d).trans (congrArg _ ?_)
      rw [Finset.sum_range_succ, ← add_assoc]
      exact acc_all (by omega) fun h => drT_zero G d h
    · rw [View.writes_append, q11]
      refine (Q.dq i' d).trans (congrArg _ ?_)
      rw [Finset.sum_range_succ, ← add_assoc]
      exact acc_all (by omega) fun h => dqT_zero G d h

end Cert.Proof.KernelIdeal
-- ==== Proof.Prep.lean ====
/- The preparing loop over the reals: the gradient through the gate, its product with the output summed over each head,
   and the gate's own gradient. -/
module

public import proofs.«01_k».proof.Proof.TileVal

@[expose] public section

set_option maxRecDepth 16384
set_option maxHeartbeats 4000000

noncomputable section

namespace Cert.Proof

open Idealize.ShloMosaic

/-- One head pair's data: the projections, the attention's output, the gradient of the gated output, the log-sums and the
    cumulative gates. -/
structure Raw where
  q : ℕ → Fin 128 → ℝ
  k : ℕ → Fin 128 → ℝ
  v : ℕ → Fin 128 → ℝ
  g : ℕ → Fin 128 → ℝ
  o : ℕ → Fin 128 → ℝ
  dt : ℕ → Fin 128 → ℝ
  L : ℕ → ℕ → ℝ
  C : ℕ → ℕ → ℝ

/-- Lane `x` of head `h`. -/
def ln (h : ℕ) (x : Fin 64) : Fin 128 := ⟨(64 * h + x.val) % 128, Nat.mod_lt _ (by norm_num)⟩
def sg (x : ℝ) : ℝ := 1 / (1 + Real.exp (0 - x))
def Raw.dO (A : Raw) (i : ℕ) (d : Fin 128) : ℝ := A.dt i d * (A.g i d * sg (A.g i d))
def Raw.dg (A : Raw) (i : ℕ) (d : Fin 128) : ℝ := A.dt i d * A.o i d * (sg (A.g i d) * (1 + A.g i d * (1 - sg (A.g i d))))
def Raw.D (A : Raw) (h i : ℕ) : ℝ := ∑ x : Fin 64, A.dO i (ln h x) * A.o i (ln h x)
def Raw.pt (A : Raw) : Pt where
  q := A.q
  k := A.k
  v := A.v
  dO := A.dO
  L := A.L
  D := A.D
  C := A.C

theorem div_real {a b : ℝ} (hb : b ≠ 0) : Ideal.div (a : EReal) (b : EReal) = ((a / b : ℝ) : EReal) := by
  rw [Ideal.div_coe hb, ← EReal.coe_mul, mul_one_div]

theorem exp_pos' (x : ℝ) : (1 : ℝ) + Real.exp x ≠ 0 := by positivity

end Cert.Proof

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

section

variable {A : Raw} {I : ℕ} {vg vo vt : Vec Ideal S1x512x128 .f32}

theorem pay16_of (hg : ∀ (r : Fin 512) (d : Fin 128), vg (ix3 0 r d) = ((A.g (512 * I + r) d : ℝ) : EReal))
    (ht : ∀ (r : Fin 512) (d : Fin 128), vt (ix3 0 r d) = ((A.dt (512 * I + r) d : ℝ) : EReal)) (r : Fin 512) (d : Fin 128) :
    k0_pay16 vg vt (ix2 r d) = ((A.dO (512 * I + r) d : ℝ) : EReal) := by
  pointwise [k0_pay16, k0_pay12, k0_pay13]
  simp only [hg, ht, ← EReal.coe_one, ← EReal.coe_zero, ← EReal.coe_mul, ← EReal.coe_add, ← EReal.coe_sub, Ideal.exp_coe, div_real (exp_pos' _)]
  rfl

theorem pay15_of (hg : ∀ (r : Fin 512) (d : Fin 128), vg (ix3 0 r d) = ((A.g (512 * I + r) d : ℝ) : EReal))
    (ht : ∀ (r : Fin 512) (d : Fin 128), vt (ix3 0 r d) = ((A.dt (512 * I + r) d : ℝ) : EReal))
    (ho : ∀ (r : Fin 512) (d : Fin 128), vo (ix3 0 r d) = ((A.o (512 * I + r) d : ℝ) : EReal)) (r : Fin 512) (d : Fin 128) :
    k0_pay15 vg vt vo (ix3 0 r d) = ((A.dg (512 * I + r) d : ℝ) : EReal) := by
  pointwise [k0_pay15, k0_pay12, k0_pay13, k0_pay14]
  simp only [hg, ht, ho, ← EReal.coe_one, ← EReal.coe_zero, ← EReal.coe_mul, ← EReal.coe_add, ← EReal.coe_sub, Ideal.exp_coe, div_real (exp_pos' _)]
  rfl

theorem pay2_of (v24 v53 : FVec Ideal S512x128 .f32) (h53 : ∀ (r : Fin 512) (d : Fin 128), v53 (ix2 r d) = ((A.dO (512 * I + r) d : ℝ) : EReal))
    (h24 : ∀ (r : Fin 512) (d : Fin 128), v24 (ix2 r d) = ((A.o (512 * I + r) d : ℝ) : EReal)) (r : Fin 512) :
    k0_pay2 v24 v53 (ix2 r 0) = ((A.D 0 (512 * I + r) : ℝ) : EReal) ∧ k0_pay2 v24 v53 (ix2 r 64) = ((A.D 1 (512 * I + r) : ℝ) : EReal) := by
  constructor
  · pointwise [k0_pay2]
    simp only [h24, h53, ← EReal.coe_mul, coe_sum]
    rfl
  · pointwise [k0_pay2]
    simp only [h24, h53, ← EReal.coe_mul, coe_sum]
    rfl
end

variable {c : Dev nD} {i : grid0.Coords}
    {arg2 : Memref sig .tc .vmem S1x2048x512 .f32} {harg2 : arg2.IsWhole}
    {arg3 : Memref sig .tc .vmem S1x2048x128 .f32} {harg3 : arg3.IsWhole}
    {arg4 : Memref sig .tc .vmem S1x2048x128 .f32} {harg4 : arg4.IsWhole}
    {arg5 : Memref sig .tc .vmem S1x2048x128 .f32} {harg5 : arg5.IsWhole}
    {arg6 : Memref sig .tc .vmem S1x2048x128 .f32} {harg6 : arg6.IsWhole}
    {arg7 : Memref sig .tc .vmem S1x1x8x2048 .f32} {harg7 : arg7.IsWhole}
    {arg8 : Memref sig .tc .vmem S1x2048x512 .bf16} {harg8 : arg8.IsWhole}
    {arg9 : Memref sig .tc .vmem S1x1x8x2048 .f32} {harg9 : arg9.IsWhole}
    {arg10 : Memref sig .tc .vmem S1x2048x128 .f32} {harg10 : arg10.IsWhole}
    {arg11 : Memref sig .tc .vmem S2048x128 .f32} {harg11 : arg11.IsWhole}
    {arg12 : Memref sig .tc .vmem S2048x128 .f32} {harg12 : arg12.IsWhole}
    {arg13 : Memref sig .tc .vmem S2048x128 .f32} {harg13 : arg13.IsWhole}
    {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty}

/-- The blocks one grid point reads hold the real data. -/
structure Inp (A : Raw) (arg2 : Memref sig .tc .vmem S1x2048x512 .f32) (arg3 : Memref sig .tc .vmem S1x2048x128 .f32) (arg4 : Memref sig .tc .vmem S1x2048x128 .f32) (arg5 : Memref sig .tc .vmem S1x2048x128 .f32) (arg6 : Memref sig .tc .vmem S1x2048x128 .f32) (arg7 : Memref sig .tc .vmem S1x1x8x2048 .f32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) : Prop where
  q : ∀ (i : Fin 2048) (d : Fin 128), arg2.view.read (Elt Ideal) X2 (ix3 0 i ⟨d.val, by omega⟩) = ((A.q i d : ℝ) : EReal)
  k : ∀ (i : Fin 2048) (d : Fin 128), arg2.view.read (Elt Ideal) X2 (ix3 0 i ⟨128 + d.val, by omega⟩) = ((A.k i d : ℝ) : EReal)
  v : ∀ (i : Fin 2048) (d : Fin 128), arg2.view.read (Elt Ideal) X2 (ix3 0 i ⟨256 + d.val, by omega⟩) = ((A.v i d : ℝ) : EReal)
  g : ∀ (i : Fin 2048) (d : Fin 128), arg2.view.read (Elt Ideal) X2 (ix3 0 i ⟨384 + d.val, by omega⟩) = ((A.g i d : ℝ) : EReal)
  o : ∀ (i : Fin 2048) (d : Fin 128), arg3.view.read (Elt Ideal) X3 (ix3 0 i d) = ((A.o i d : ℝ) : EReal)
  dt : ∀ (i : Fin 2048) (d : Fin 128), arg4.view.read (Elt Ideal) X4 (ix3 0 i d) = ((A.dt i d : ℝ) : EReal)
  l0 : ∀ (i : Fin 2048), arg5.view.read (Elt Ideal) X5 (ix3 0 i 0) = ((A.L 0 i : ℝ) : EReal)
  l1 : ∀ (i : Fin 2048), arg5.view.read (Elt Ideal) X5 (ix3 0 i 64) = ((A.L 1 i : ℝ) : EReal)
  u0 : ∀ (i : Fin 2048), arg6.view.read (Elt Ideal) X6 (ix3 0 i 0) = ((A.C 0 i : ℝ) : EReal)
  u1 : ∀ (i : Fin 2048), arg6.view.read (Elt Ideal) X6 (ix3 0 i 64) = ((A.C 1 i : ℝ) : EReal)
  c0 : ∀ (i : Fin 2048), arg7.view.read (Elt Ideal) X7 (ix4 0 0 0 i) = ((A.C 0 i : ℝ) : EReal)
  c1 : ∀ (i : Fin 2048), arg7.view.read (Elt Ideal) X7 (ix4 0 0 1 i) = ((A.C 1 i : ℝ) : EReal)

/-- What the trips before `n` of the preparing loop leave. -/
structure PrV (A : Raw) (n : ℕ) (arg8 : Memref sig .tc .vmem S1x2048x512 .bf16) (arg10 : Memref sig .tc .vmem S1x2048x128 .f32) (arg11 : Memref sig .tc .vmem S2048x128 .f32) (arg12 : Memref sig .tc .vmem S2048x128 .f32) (arg13 : Memref sig .tc .vmem S2048x128 .f32)
    (f8 : BufTy.Contents (Elt Ideal) arg8.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (st : List (View.Piece (Elt Ideal) S1x2048x512 .bf16) × List (View.Piece (Elt Ideal) S1x2048x128 .f32) × List (View.Piece (Elt Ideal) S2048x128 .f32) × List (View.Piece (Elt Ideal) S2048x128 .f32) × List (View.Piece (Elt Ideal) S2048x128 .f32)) : Prop where
  dg : ∀ (j : Fin 2048) (d : Fin 128), j.val / 512 < n → arg8.view.read (Elt Ideal) (arg8.view.writes (Elt Ideal) f8 st.1) (ix3 0 j ⟨384 + d.val, by omega⟩) = ((A.dg j d : ℝ) : EReal)
  z10 : ∀ (j : Fin 2048) (d : Fin 128), j.val / 512 < n → arg10.view.read (Elt Ideal) (arg10.view.writes (Elt Ideal) f10 st.2.1) (ix3 0 j d) = ((0 : ℝ) : EReal)
  z11 : ∀ (j : Fin 2048) (d : Fin 128), j.val / 512 < n → arg11.view.read (Elt Ideal) (arg11.view.writes (Elt Ideal) f11 st.2.2.1) (ix2 j d) = ((0 : ℝ) : EReal)
  dO : ∀ (j : Fin 2048) (d : Fin 128), j.val / 512 < n → arg12.view.read (Elt Ideal) (arg12.view.writes (Elt Ideal) f12 st.2.2.2.1) (ix2 j d) = ((A.dO j d : ℝ) : EReal)
  d0 : ∀ (j : Fin 2048), j.val / 512 < n → arg13.view.read (Elt Ideal) (arg13.view.writes (Elt Ideal) f13 st.2.2.2.2) (ix2 j 0) = ((A.D 0 j : ℝ) : EReal)
  d1 : ∀ (j : Fin 2048), j.val / 512 < n → arg13.view.read (Elt Ideal) (arg13.view.writes (Elt Ideal) f13 st.2.2.2.2) (ix2 j 64) = ((A.D 1 j : ℝ) : EReal)

theorem trips1 : k0_t1_loop.trips = 4 := by decide

theorem prep_spec {A : Raw} (R : Inp A arg2 arg3 arg4 arg5 arg6 arg7 X2 X3 X4 X5 X6 X7)
    (f8 : BufTy.Contents (Elt Ideal) arg8.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    ∀ n, n ≤ 4 → PrV A n arg8 arg10 arg11 arg12 arg13 f8 f10 f11 f12 f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 X2 X3 X4 n) := by
  intro n
  induction n with
  | zero => exact fun _ => ⟨fun j d h => absurd h (by omega), fun j d h => absurd h (by omega), fun j d h => absurd h (by omega), fun j d h => absurd h (by omega), fun j h => absurd h (by omega), fun j h => absurd h (by omega)⟩
  | succ n ih =>
    intro hn
    have S := ih (by omega)
    have hk : n < k0_t1_loop.trips := by rw [trips1]; omega
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 X2 X3 X4 ⟨n, hk⟩
    rw [show n + 1 = (⟨n, hk⟩ : Fin k0_t1_loop.trips).val + 1 from rfl, e]
    generalize hK : (⟨n, hk⟩ : Fin k0_t1_loop.trips) = k
    have hkv : k.val = n := by rw [← hK]
    have hg : ∀ (r : Fin 512) (d : Fin 128), (arg2.view.readAt (Elt Ideal) (Rect.unit (s := S1x2048x512) (k0_off1 k) S1x512x128.size (k0_off1_inb k)).toLoadRect X2) (ix3 0 r d) = ((A.g (512 * k.val + r) d : ℝ) : EReal) := fun r d => (readAt_at _ _ _ (k0_off1_eq k) _ (ix3 0 ⟨512 * k.val + r.val, by omega⟩ ⟨384 + d.val, by omega⟩) (by intro a; fin_cases a <;> simp <;> omega)).trans (R.g _ d)
    have ho : ∀ (r : Fin 512) (d : Fin 128), (arg3.view.readAt (Elt Ideal) (Rect.unit (s := S1x2048x128) (k0_off2 k) S1x512x128.size (k0_off2_inb k)).toLoadRect X3) (ix3 0 r d) = ((A.o (512 * k.val + r) d : ℝ) : EReal) := fun r d => (readAt_at _ _ _ (k0_off2_eq k) _ (ix3 0 ⟨512 * k.val + r.val, by omega⟩ d) (by intro a; fin_cases a <;> simp <;> omega)).trans (R.o _ d)
    have ht : ∀ (r : Fin 512) (d : Fin 128), (arg4.view.readAt (Elt Ideal) (Rect.unit (s := S1x2048x128) (k0_off2 k) S1x512x128.size (k0_off2_inb k)).toLoadRect X4) (ix3 0 r d) = ((A.dt (512 * k.val + r) d : ℝ) : EReal) := fun r d => (readAt_at _ _ _ (k0_off2_eq k) _ (ix3 0 ⟨512 * k.val + r.val, by omega⟩ d) (by intro a; fin_cases a <;> simp <;> omega)).trans (R.dt _ d)
    have ho' : ∀ (r : Fin 512) (d : Fin 128), (k0_pay14 (arg3.view.readAt (Elt Ideal) (Rect.unit (s := S1x2048x128) (k0_off2 k) S1x512x128.size (k0_off2_inb k)).toLoadRect X3)) (ix2 r d) = ((A.o (512 * k.val + r) d : ℝ) : EReal) := fun r d => by
      pointwise [k0_pay14]
      exact ho r d
    have ej : ∀ j : Fin 2048, j.val / 512 = n → 512 * k.val + (j.val - 512 * k.val) % 512 = j.val := fun j h => by omega
    refine ⟨fun j d h => ?_, fun j d h => ?_, fun j d h => ?_, fun j d h => ?_, fun j h => ?_, fun j h => ?_⟩
    · rw [View.writes_append]
      unfold tripL_k0_t1 trip_k0_t1
      by_cases h' : j.val / 512 = n
      · refine (View.read_writes_cons_unit_of_mem _ _ _ _ _ _ (ix3 0 ⟨(j.val - 512 * k.val) % 512, Nat.mod_lt _ (by norm_num)⟩ d) (k0_off1_eq k) (by intro a; fin_cases a <;> simp <;> omega)).trans ?_
        refine Eq.trans (pay15_of (A := A) hg ht ho ⟨(j.val - 512 * k.val) % 512, Nat.mod_lt _ (by norm_num)⟩ d) ?_
        simp only [ej j h']
      · refine (View.read_writes_cons_unit_of_not_mem _ _ _ _ _ _ (k0_off1_eq k) 1 (by simp <;> omega)).trans ?_
        exact hK ▸ S.dg j d (by omega)
    · rw [View.writes_append]
      unfold tripL_k0_t1 trip_k0_t1
      by_cases h' : j.val / 512 = n
      · refine (View.read_writes_cons_unit_of_mem _ _ _ _ _ _ (ix3 0 ⟨(j.val - 512 * k.val) % 512, Nat.mod_lt _ (by norm_num)⟩ d) (k0_off2_eq k) (by intro a; fin_cases a <;> simp <;> omega)).trans ?_
        refine Eq.trans ((show _ = ((0 : ℝ) : EReal) by pointwise [k0_pay4]; rfl)) ?_
        rfl
      · refine (View.read_writes_cons_unit_of_not_mem _ _ _ _ _ _ (k0_off2_eq k) 1 (by simp <;> omega)).trans ?_
        exact hK ▸ S.z10 j d (by omega)
    · rw [View.writes_append]
      unfold tripL_k0_t1 trip_k0_t1
      by_cases h' : j.val / 512 = n
      · refine (View.read_writes_cons_unit_of_mem _ _ _ _ _ _ (ix2 ⟨(j.val - 512 * k.val) % 512, Nat.mod_lt _ (by norm_num)⟩ d) (k0_off3_eq k) (by intro a; fin_cases a <;> simp <;> omega)).trans ?_
        refine Eq.trans ((show _ = ((0 : ℝ) : EReal) by pointwise [k0_pay3]; rfl)) ?_
        rfl
      · refine (View.read_writes_cons_unit_of_not_mem _ _ _ _ _ _ (k0_off3_eq k) 0 (by simp <;> omega)).trans ?_
        exact hK ▸ S.z11 j d (by omega)
    · rw [View.writes_append]
      unfold tripL_k0_t1 trip_k0_t1
      by_cases h' : j.val / 512 = n
      · refine (View.read_writes_cons_unit_of_mem _ _ _ _ _ _ (ix2 ⟨(j.val - 512 * k.val) % 512, Nat.mod_lt _ (by norm_num)⟩ d) (k0_off3_eq k) (by intro a; fin_cases a <;> simp <;> omega)).trans ?_
        refine Eq.trans ((show k0_pay1 (k0_pay16 (arg2.view.readAt (Elt Ideal) (Rect.unit (s := S1x2048x512) (k0_off1 k) S1x512x128.size (k0_off1_inb k)).toLoadRect X2) (arg4.view.readAt (Elt Ideal) (Rect.unit (s := S1x2048x128) (k0_off2 k) S1x512x128.size (k0_off2_inb k)).toLoadRect X4)) (ix2 ⟨(j.val - 512 * k.val) % 512, Nat.mod_lt _ (by norm_num)⟩ d) = _ by pointwise [k0_pay1]; exact pay16_of (A := A) hg ht ⟨(j.val - 512 * k.val) % 512, Nat.mod_lt _ (by norm_num)⟩ d)) ?_
        simp only [ej j h']
      · refine (View.read_writes_cons_unit_of_not_mem _ _ _ _ _ _ (k0_off3_eq k) 0 (by simp <;> omega)).trans ?_
        exact hK ▸ S.dO j d (by omega)
    · rw [View.writes_append]
      unfold tripL_k0_t1 trip_k0_t1
      by_cases h' : j.val / 512 = n
      · refine (View.read_writes_cons_unit_of_mem _ _ _ _ _ _ (ix2 ⟨(j.val - 512 * k.val) % 512, Nat.mod_lt _ (by norm_num)⟩ 0) (k0_off3_eq k) (by intro a; fin_cases a <;> simp <;> omega)).trans ?_
        refine Eq.trans ((pay2_of (A := A) _ _ (pay16_of hg ht) ho' ⟨(j.val - 512 * k.val) % 512, Nat.mod_lt _ (by norm_num)⟩).1) ?_
        simp only [ej j h']
      · refine (View.read_writes_cons_unit_of_not_mem _ _ _ _ _ _ (k0_off3_eq k) 0 (by simp <;> omega)).trans ?_
        exact hK ▸ S.d0 j (by omega)
    · rw [View.writes_append]
      unfold tripL_k0_t1 trip_k0_t1
      by_cases h' : j.val / 512 = n
      · refine (View.read_writes_cons_unit_of_mem _ _ _ _ _ _ (ix2 ⟨(j.val - 512 * k.val) % 512, Nat.mod_lt _ (by norm_num)⟩ 64) (k0_off3_eq k) (by intro a; fin_cases a <;> simp <;> omega)).trans ?_
        refine Eq.trans ((pay2_of (A := A) _ _ (pay16_of hg ht) ho' ⟨(j.val - 512 * k.val) % 512, Nat.mod_lt _ (by norm_num)⟩).2) ?_
        simp only [ej j h']
      · refine (View.read_writes_cons_unit_of_not_mem _ _ _ _ _ _ (k0_off3_eq k) 0 (by simp <;> omega)).trans ?_
        exact hK ▸ S.d1 j (by omega)

end Cert.Proof.KernelIdeal
-- ==== Proof.OutVal.lean ====
/- What one grid point leaves in the three results, over the reals. -/
module

public import proofs.«01_k».proof.Proof.Prep
public import proofs.«01_k».proof.Proof.Body

@[expose] public section

set_option maxRecDepth 16384
set_option maxHeartbeats 4000000

noncomputable section

namespace Cert.Proof

/-- The query gradient and its row sums as sums over the key tiles. -/
def Pt.dq (G : Pt) (i : ℕ) (d : Fin 128) : ℝ := ∑ J ∈ Finset.range 4, G.dqT i J d
def Pt.dr (G : Pt) (i : ℕ) (d : Fin 128) : ℝ := ∑ J ∈ Finset.range 4, G.drT i J d

end Cert.Proof

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {c : Dev nD} {i : grid0.Coords}
    {arg2 : Memref sig .tc .vmem S1x2048x512 .f32} {harg2 : arg2.IsWhole}
    {arg3 : Memref sig .tc .vmem S1x2048x128 .f32} {harg3 : arg3.IsWhole}
    {arg4 : Memref sig .tc .vmem S1x2048x128 .f32} {harg4 : arg4.IsWhole}
    {arg5 : Memref sig .tc .vmem S1x2048x128 .f32} {harg5 : arg5.IsWhole}
    {arg6 : Memref sig .tc .vmem S1x2048x128 .f32} {harg6 : arg6.IsWhole}
    {arg7 : Memref sig .tc .vmem S1x1x8x2048 .f32} {harg7 : arg7.IsWhole}
    {arg8 : Memref sig .tc .vmem S1x2048x512 .bf16} {harg8 : arg8.IsWhole}
    {arg9 : Memref sig .tc .vmem S1x1x8x2048 .f32} {harg9 : arg9.IsWhole}
    {arg10 : Memref sig .tc .vmem S1x2048x128 .f32} {harg10 : arg10.IsWhole}
    {arg11 : Memref sig .tc .vmem S2048x128 .f32} {harg11 : arg11.IsWhole}
    {arg12 : Memref sig .tc .vmem S2048x128 .f32} {harg12 : arg12.IsWhole}
    {arg13 : Memref sig .tc .vmem S2048x128 .f32} {harg13 : arg13.IsWhole}
    {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty}

theorem rd_of {A : Raw} (R : Inp A arg2 arg3 arg4 arg5 arg6 arg7 X2 X3 X4 X5 X6 X7) (f12 : BufTy.Contents (Elt Ideal) arg12.view.ty) (f13 : BufTy.Contents (Elt Ideal) arg13.view.ty) :
    Rd A.pt arg2 arg5 arg6 arg7 arg12 arg13 X2 X5 X6 X7 (arg12.view.writes (Elt Ideal) f12 (prep (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.2.2.1) (arg13.view.writes (Elt Ideal) f13 (prep (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.2.2.2) := by
  have P := prep_spec (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R arg8.view.junk arg10.view.junk arg11.view.junk f12 f13 4 le_rfl
  exact ⟨R.q, R.k, R.v, R.l0, R.l1, R.u0, R.u1, R.c0, R.c1, fun j d => P.dO j d (by omega), fun j => P.d0 j (by omega), fun j => P.d1 j (by omega)⟩

/-- The tiles' pieces, over what the preparing loop left. -/
theorem tv_of {A : Raw} (R : Inp A arg2 arg3 arg4 arg5 arg6 arg7 X2 X3 X4 X5 X6 X7) (g8 : BufTy.Contents (Elt Ideal) arg8.view.ty) (g9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    StV A.pt 4 (fun _ _ => 0) (fun _ _ => 0) arg8 arg9 arg10 arg11 g8 g9 (arg10.view.writes (Elt Ideal) f10 (prep (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.1) (arg11.view.writes (Elt Ideal) f11 (prep (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.2.1) (tiles (F := Ideal) c i arg2 harg2 arg3 harg3 arg4 harg4 arg5 harg5 arg6 harg6 arg7 harg7 arg8 harg8 arg9 harg9 arg10 harg10 arg11 harg11 arg12 harg12 arg13 harg13 X2 X3 X4 X5 X6 X7 f10 f11 f12 f13) := by
  have P := prep_spec (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R arg8.view.junk f10 f11 f12 f13 4 le_rfl
  exact tiles_spec (rd_of (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R f12 f13) g8 g9 _ _ _ _ (fun j d => P.z10 j d (by omega)) (fun j d => P.z11 j d (by omega)) 4 le_rfl

theorem out8_val {A : Raw} (D2 : Vec Ideal S1x2048x512 .f32) (D3 : Vec Ideal S1x2048x128 .f32) (D4 : Vec Ideal S1x2048x128 .f32) (D5 : Vec Ideal S1x2048x128 .f32) (D6 : Vec Ideal S1x2048x128 .f32) (D7 : Vec Ideal S1x1x8x2048 .f32) (R : Inp A arg2 arg3 arg4 arg5 arg6 arg7 (arg2.view.rep D2) (arg3.view.rep D3) (arg4.view.rep D4) (arg5.view.rep D5) (arg6.view.rep D6) (arg7.view.rep D7)) (j : Fin 2048) (d : Fin 128) :
    out8 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix3 0 j ⟨d.val, by omega⟩) = ((A.pt.dq j d : ℝ) : EReal)
    ∧ out8 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix3 0 j ⟨128 + d.val, by omega⟩) = ((A.pt.dk j d : ℝ) : EReal)
    ∧ out8 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix3 0 j ⟨256 + d.val, by omega⟩) = ((A.pt.dv j d : ℝ) : EReal)
    ∧ out8 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix3 0 j ⟨384 + d.val, by omega⟩) = ((A.dg j d : ℝ) : EReal) := by
  have P := prep_spec (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R arg8.view.junk arg10.view.junk arg11.view.junk arg12.view.junk arg13.view.junk 4 le_rfl
  have S := tv_of (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R (arg8.view.writes (Elt Ideal) arg8.view.junk (prep (F := Ideal) c i arg2 harg2 arg3 harg3 arg4 harg4 arg5 harg5 arg6 harg6 arg7 harg7 arg8 harg8 arg9 harg9 arg10 harg10 arg11 harg11 arg12 harg12 arg13 harg13 (arg2.view.rep D2) (arg3.view.rep D3) (arg4.view.rep D4) (arg5.view.rep D5) (arg6.view.rep D6) (arg7.view.rep D7)).1) arg9.view.junk arg10.view.junk arg11.view.junk arg12.view.junk arg13.view.junk
  unfold out8
  rw [pieces8_eq]
  refine ⟨?_, ?_, ?_, ?_⟩
  · refine (View.read_writes_cons_unit_of_mem _ _ _ _ _ _ (ix3 0 j d) rfl (by intro a; fin_cases a <;> simp)).trans ?_
    pointwise [k0_pay11]
    rw [View.writes_append]
    refine (readAt_at _ _ _ rfl _ (ix2 j d) (by intro a; fin_cases a <;> simp)).trans ?_
    refine (S.dq j d).trans ?_
    rw [zero_add]; rfl
  · refine (View.read_writes_cons_unit_of_not_mem _ _ _ _ _ _ rfl 2 (by simp <;> omega)).trans ?_
    rw [View.writes_append]
    exact S.dk j d (by omega)
  · refine (View.read_writes_cons_unit_of_not_mem _ _ _ _ _ _ rfl 2 (by simp <;> omega)).trans ?_
    rw [View.writes_append]
    exact S.dv j d (by omega)
  · refine (View.read_writes_cons_unit_of_not_mem _ _ _ _ _ _ rfl 2 (by simp <;> omega)).trans ?_
    rw [View.writes_append]
    exact (S.out8 j _ (Or.inr (by simp))).trans (P.dg j d (by omega))

theorem out9_val {A : Raw} (D2 : Vec Ideal S1x2048x512 .f32) (D3 : Vec Ideal S1x2048x128 .f32) (D4 : Vec Ideal S1x2048x128 .f32) (D5 : Vec Ideal S1x2048x128 .f32) (D6 : Vec Ideal S1x2048x128 .f32) (D7 : Vec Ideal S1x1x8x2048 .f32) (R : Inp A arg2 arg3 arg4 arg5 arg6 arg7 (arg2.view.rep D2) (arg3.view.rep D3) (arg4.view.rep D4) (arg5.view.rep D5) (arg6.view.rep D6) (arg7.view.rep D7)) (j : Fin 2048) :
    out9 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix4 0 0 0 j) = ((- A.pt.dc 0 j : ℝ) : EReal)
    ∧ out9 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix4 0 0 1 j) = ((- A.pt.dc 1 j : ℝ) : EReal)
    ∧ ∀ x : Fin 8, 2 ≤ x.val → out9 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix4 0 0 x j) = ((0 : ℝ) : EReal) := by
  have S := tv_of (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R arg8.view.junk (arg9.view.writes (Elt Ideal) arg9.view.junk [⟨Rect.unit (s := S1x1x8x2048) ![0, 0, 0, 0] S1x1x8x2048.size inb_S1x1x8x2048_S1x1x8x2048_0_0_0_0, k0_pay5 (F := Ideal)⟩]) arg10.view.junk arg11.view.junk arg12.view.junk arg13.view.junk
  unfold out9
  rw [pieces9_eq, View.writes_append]
  refine ⟨S.c0 j (by omega), S.c1 j (by omega), fun x hx => (S.out9 j x hx).trans ?_⟩
  refine (View.read_writes_cons_unit_of_mem _ _ _ _ _ _ (ix4 0 0 x j) rfl (by intro a; fin_cases a <;> simp)).trans ?_
  pointwise [k0_pay5]
  rfl

theorem out10_val {A : Raw} (D2 : Vec Ideal S1x2048x512 .f32) (D3 : Vec Ideal S1x2048x128 .f32) (D4 : Vec Ideal S1x2048x128 .f32) (D5 : Vec Ideal S1x2048x128 .f32) (D6 : Vec Ideal S1x2048x128 .f32) (D7 : Vec Ideal S1x1x8x2048 .f32) (R : Inp A arg2 arg3 arg4 arg5 arg6 arg7 (arg2.view.rep D2) (arg3.view.rep D3) (arg4.view.rep D4) (arg5.view.rep D5) (arg6.view.rep D6) (arg7.view.rep D7)) (j : Fin 2048) (d : Fin 128) :
    out10 (F := Ideal) c i arg2 harg2 arg3 harg3 arg4 harg4 arg5 harg5 arg6 harg6 arg7 harg7 arg8 harg8 arg9 harg9 arg10 harg10 arg11 harg11 arg12 harg12 arg13 harg13 D2 D3 D4 D5 D6 D7 (ix3 0 j d) = ((A.pt.dr j d : ℝ) : EReal) := by
  have S := tv_of (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) R arg8.view.junk arg9.view.junk arg10.view.junk arg11.view.junk arg12.view.junk arg13.view.junk
  unfold out10
  rw [pieces10_eq, View.writes_append]
  refine (S.dr j d).trans ?_
  rw [zero_add]; rfl

end Cert.Proof.KernelIdeal
-- ==== Proof.Math.lean ====
/- The forgetting attention and its gradients over the real numbers, for the whole batch: the weights, the sums of their
   gradients, and that what the kernel computes for one pair of heads are those. -/
module

public import proofs.«01_k».proof.Proof.OutVal

@[expose] public section

noncomputable section

namespace Cert.Proof

open Idealize.ShloMosaic

/-- The real arguments: queries, keys, values, gates and the gradient of the gated output by batch row, position and
    column; the cumulative log gates by batch row, head and position. -/
structure Prob where
  q : ℕ → ℕ → ℕ → ℝ
  k : ℕ → ℕ → ℕ → ℝ
  v : ℕ → ℕ → ℕ → ℝ
  g : ℕ → ℕ → ℕ → ℝ
  t : ℕ → ℕ → ℕ → ℝ
  c : ℕ → ℕ → ℕ → ℝ

namespace Prob

variable (Z : Prob) (M : ℕ → ℕ → ℕ → ℝ)

/-- The logit of query `i` against key `j`. -/
def S (b h i j : ℕ) : ℝ := (∑ x : Fin 64, Z.q b i (64 * h + x) * Z.k b j (64 * h + x)) * (1 / 8) + (Z.c b h i - Z.c b h j)
/-- The causal exponential, shifted by `M`. -/
def E (b h i j : ℕ) : ℝ := if j ≤ i then Real.exp (Z.S b h i j - M b h i) else 0
/-- The row sum of the exponentials. -/
def N (b h i : ℕ) : ℝ := ∑ j : Fin 2048, Z.E M b h i j
/-- The attention weight. -/
def W (b h i j : ℕ) : ℝ := Z.E (fun _ _ _ => 0) b h i j / Z.N (fun _ _ _ => 0) b h i
/-- The attention's output. -/
def o (b h i x : ℕ) : ℝ := ∑ j : Fin 2048, Z.v b j (64 * h + x) * Z.W b h i j
/-- The output's gradient. -/
def dO (b i n : ℕ) : ℝ := Z.t b i n * (Z.g b i n * sg (Z.g b i n))
/-- The weight's gradient. -/
def DP (b h i j : ℕ) : ℝ := ∑ x : Fin 64, Z.dO b i (64 * h + x) * Z.v b j (64 * h + x)
/-- The weight's gradient averaged over the row. -/
def A (b h i : ℕ) : ℝ := ∑ j : Fin 2048, Z.DP b h i j * Z.W b h i j
/-- The logit's gradient. -/
def G (b h i j : ℕ) : ℝ := Z.W b h i j * (Z.DP b h i j - Z.A b h i)
def dv (b h j x : ℕ) : ℝ := ∑ i : Fin 2048, Z.dO b i (64 * h + x) * Z.W b h i j
def dk (b h j x : ℕ) : ℝ := ∑ i : Fin 2048, Z.G b h i j * (1 / 8) * Z.q b i (64 * h + x)
def dq (b h i x : ℕ) : ℝ := ∑ j : Fin 2048, Z.G b h i j * (1 / 8) * Z.k b j (64 * h + x)
def dc (b h j : ℕ) : ℝ := ∑ i : Fin 2048, - Z.G b h i j
def dr (b h i : ℕ) : ℝ := ∑ j : Fin 2048, Z.G b h i j
def dg (b h i x : ℕ) : ℝ := Z.t b i (64 * h + x) * Z.o b h i x * (sg (Z.g b i (64 * h + x)) * (1 + Z.g b i (64 * h + x) * (1 - sg (Z.g b i (64 * h + x)))))

theorem E_nonneg (b h i j : ℕ) : 0 ≤ Z.E M b h i j := by
  unfold E; split
  · exact (Real.exp_pos _).le
  · exact le_rfl

theorem N_pos (b h i : ℕ) (hi : i < 2048) : 0 < Z.N M b h i := by
  refine lt_of_lt_of_le ?_ (Finset.single_le_sum (f := fun j : Fin 2048 => Z.E M b h i j) (fun j _ => Z.E_nonneg M b h i j) (Finset.mem_univ ⟨i, hi⟩))
  simp only [E, le_refl, if_true]
  exact Real.exp_pos _

theorem E_shift (b h i j : ℕ) : Z.E M b h i j = Z.E (fun _ _ _ => 0) b h i j * Real.exp (- M b h i) := by
  unfold E; split
  · rw [← Real.exp_add]; congr 1; ring
  · ring

theorem N_shift (b h i : ℕ) : Z.N M b h i = Z.N (fun _ _ _ => 0) b h i * Real.exp (- M b h i) := by
  unfold N; rw [Finset.sum_mul]; exact Finset.sum_congr rfl fun j _ => Z.E_shift M b h i j

/-- The weights do not depend on the shift. -/
theorem E_div (b h i j : ℕ) : Z.E M b h i j / Z.N M b h i = Z.W b h i j := by
  rw [E_shift, N_shift, W, mul_div_mul_right _ _ (Real.exp_pos _).ne']

/-- The weight from the saved logarithm of the row sum. -/
theorem W_log (b h i j : ℕ) (hi : i < 2048) :
    (if j ≤ i then Real.exp (Z.S b h i j - (M b h i + Real.log (Z.N M b h i))) else 0) = Z.W b h i j := by
  rw [← Z.E_div M]; unfold E; split
  · rw [← sub_sub, Real.exp_sub, Real.exp_log (Z.N_pos M b h i hi)]
  · rw [zero_div]

/-- The logit's gradient as the softmax's derivative is printed. -/
theorem G_soft (b h i j : ℕ) (hi : i < 2048) :
    (Z.DP b h i j / Z.N M b h i + -(∑ l : Fin 2048, Z.DP b h i l * (1 / (Z.N M b h i * Z.N M b h i)) * Z.E M b h i l)) * Z.E M b h i j = Z.G b h i j := by
  have hN := (Z.N_pos M b h i hi).ne'
  have hs : (∑ l : Fin 2048, Z.DP b h i l * (1 / (Z.N M b h i * Z.N M b h i)) * Z.E M b h i l) = Z.A b h i / Z.N M b h i := by
    unfold A; rw [Finset.sum_div]
    refine Finset.sum_congr rfl fun l _ => ?_
    rw [← Z.E_div M]; field_simp
  rw [hs]; unfold G; rw [← Z.E_div M]; field_simp; ring

theorem G_zero (b h i j : ℕ) (hj : ¬ j ≤ i) : Z.G b h i j = 0 := by
  unfold G W E; rw [if_neg hj]; ring

/-- The row product the kernel forms in advance. -/
theorem A_eq (b h i : ℕ) : (∑ x : Fin 64, Z.dO b i (64 * h + x) * Z.o b h i x) = Z.A b h i := by
  unfold o A DP
  simp only [Finset.mul_sum, Finset.sum_mul]
  rw [Finset.sum_comm]
  refine Finset.sum_congr rfl fun j _ => Finset.sum_congr rfl fun x _ => by ring

/-- The data of batch row `b` and head pair `p`. -/
def raw (b p : ℕ) : Raw where
  q := fun i d => Z.q b i (128 * p + d.val)
  k := fun i d => Z.k b i (128 * p + d.val)
  v := fun i d => Z.v b i (128 * p + d.val)
  g := fun i d => Z.g b i (128 * p + d.val)
  o := fun i d => Z.o b (2 * p + hd d) i (d.val % 64)
  dt := fun i d => Z.t b i (128 * p + d.val)
  L := fun h i => M b (2 * p + h) i + Real.log (Z.N M b (2 * p + h) i)
  C := fun h i => Z.c b (2 * p + h) i

end Prob

/-- A sum over the lanes of one head. -/
theorem sum_lane (h : ℕ) (hh : h < 2) (f : Fin 128 → ℝ) : (∑ d, lane h d (f d)) = ∑ x : Fin 64, f (ln h x) := by
  rw [Fin.sum_univ_two_halves 64 64 (by norm_num) (fun d : Fin 128 => lane h d (f d))]
  unfold lane hd ln
  obtain rfl | rfl : h = 0 ∨ h = 1 := by omega
  · rw [add_eq_left.2 (Finset.sum_eq_zero fun x _ => if_neg (by simp))]
    refine Finset.sum_congr rfl fun x _ => ?_
    rw [if_pos (by simp)]
    congr 1; apply Fin.ext; simp; omega
  · rw [add_eq_right.2 (Finset.sum_eq_zero fun x _ => if_neg (by simp; omega))]
    refine Finset.sum_congr rfl fun x _ => ?_
    rw [if_pos (by simp)]
    congr 1; apply Fin.ext; simp; omega

/-- A sum over the positions, by blocks of 512. -/
theorem sum_blocks (f : ℕ → ℝ) : (∑ I ∈ Finset.range 4, ∑ r : Fin 512, f (512 * I + r)) = ∑ i : Fin 2048, f i := by
  rw [Fin.sum_univ_tiles 4 512 (by norm_num) (fun i : Fin 2048 => f i), Finset.sum_range]
  refine Finset.sum_congr rfl fun I _ => Finset.sum_congr rfl fun r _ => ?_
  simp only [Nat.mul_comm]

namespace Prob

variable (Z : Prob) (M : ℕ → ℕ → ℕ → ℝ) (b p : ℕ)

theorem ln_val (h : ℕ) (hh : h < 2) (x : Fin 64) : (ln h x).val = 64 * h + x.val := by unfold ln; simp; omega
theorem hd_ln (h : ℕ) (hh : h < 2) (x : Fin 64) : hd (ln h x) = h := by unfold hd; rw [ln_val h hh]; omega
theorem ln_col (h : ℕ) (hh : h < 2) (x : Fin 64) : 128 * p + (ln h x).val = 64 * (2 * p + h) + x.val := by rw [ln_val h hh]; ring
theorem lane_col (d : Fin 128) : 128 * p + d.val = 64 * (2 * p + hd d) + d.val % 64 := by unfold hd; omega
theorem hd_lt_two (d : Fin 128) : hd d < 2 := by unfold hd; omega

theorem raw_P (h i j : ℕ) (hh : h < 2) (hi : i < 2048) : (Z.raw M b p).pt.P h i j = Z.W b (2 * p + h) i j := by
  rw [← Z.W_log M b _ i j hi]
  unfold Pt.P Pt.S
  rw [sum_lane h hh]
  simp only [Raw.pt, raw, ln_col p h hh, S, Finset.sum_mul]
  refine if_congr Iff.rfl (congrArg _ ?_) rfl
  congr 2
  exact Finset.sum_congr rfl fun x _ => by ring

theorem raw_D (h i : ℕ) (hh : h < 2) : (Z.raw M b p).pt.D h i = Z.A b (2 * p + h) i := by
  rw [← Z.A_eq]
  simp only [Raw.pt, Raw.D, Raw.dO, raw, hd_ln h hh, ln_col p h hh, dO]
  refine Finset.sum_congr rfl fun x _ => ?_
  rw [ln_val h hh, show (64 * h + x.val) % 64 = x.val by omega]

theorem raw_DS (h i j : ℕ) (hh : h < 2) (hi : i < 2048) : (Z.raw M b p).pt.DS h i j = Z.G b (2 * p + h) i j := by
  unfold Pt.DS G
  rw [raw_P Z M b p h i j hh hi, raw_D Z M b p h i hh, sum_lane h hh]
  simp only [Raw.pt, Raw.dO, raw, ln_col p h hh, DP, dO]

theorem raw_dv (j : ℕ) (d : Fin 128) : (Z.raw M b p).pt.dv j d = Z.dv b (2 * p + hd d) j (d.val % 64) := by
  unfold Pt.dv Pt.dvT dv
  rw [← sum_blocks (fun i => Z.dO b i (64 * (2 * p + hd d) + d.val % 64) * Z.W b (2 * p + hd d) i j)]
  refine Finset.sum_congr rfl fun I hI => Finset.sum_congr rfl fun r _ => ?_
  rw [raw_P Z M b p _ _ _ (hd_lt_two d) (by have := Finset.mem_range.1 hI; omega), mul_comm, ← lane_col]
  rfl

theorem raw_dk (j : ℕ) (d : Fin 128) : (Z.raw M b p).pt.dk j d = Z.dk b (2 * p + hd d) j (d.val % 64) := by
  unfold Pt.dk Pt.dkT dk
  rw [← sum_blocks (fun i => Z.G b (2 * p + hd d) i j * (1 / 8) * Z.q b i (64 * (2 * p + hd d) + d.val % 64))]
  refine Finset.sum_congr rfl fun I hI => Finset.sum_congr rfl fun r _ => ?_
  rw [raw_DS Z M b p _ _ _ (hd_lt_two d) (by have := Finset.mem_range.1 hI; omega), ← lane_col, mul_assoc, mul_comm (1 / 8 : ℝ)]
  rfl

theorem raw_dq (i : ℕ) (hi : i < 2048) (d : Fin 128) : (Z.raw M b p).pt.dq i d = Z.dq b (2 * p + hd d) i (d.val % 64) := by
  unfold Pt.dq Pt.dqT dq
  rw [← sum_blocks (fun j => Z.G b (2 * p + hd d) i j * (1 / 8) * Z.k b j (64 * (2 * p + hd d) + d.val % 64))]
  refine Finset.sum_congr rfl fun I hI => ?_
  rw [Finset.sum_mul]
  refine Finset.sum_congr rfl fun r _ => ?_
  rw [raw_DS Z M b p _ _ _ (hd_lt_two d) hi, ← lane_col, mul_right_comm]
  rfl

theorem raw_dr (i : ℕ) (hi : i < 2048) (d : Fin 128) : (Z.raw M b p).pt.dr i d = Z.dr b (2 * p + hd d) i := by
  unfold Pt.dr Pt.drT dr
  rw [← sum_blocks (fun j => Z.G b (2 * p + hd d) i j)]
  exact Finset.sum_congr rfl fun I hI => Finset.sum_congr rfl fun r _ => raw_DS Z M b p _ _ _ (hd_lt_two d) hi

theorem raw_dc (h j : ℕ) (hh : h < 2) : - (Z.raw M b p).pt.dc h j = Z.dc b (2 * p + h) j := by
  unfold Pt.dc Pt.dcT dc
  rw [Finset.sum_neg_distrib, ← sum_blocks (fun i => Z.G b (2 * p + h) i j)]
  congr 1
  exact Finset.sum_congr rfl fun I hI => Finset.sum_congr rfl fun r _ =>
    raw_DS Z M b p _ _ _ hh (by have := Finset.mem_range.1 hI; omega)

theorem raw_dg (i : ℕ) (d : Fin 128) : (Z.raw M b p).dg i d = Z.dg b (2 * p + hd d) i (d.val % 64) := by
  unfold Raw.dg dg
  rw [← lane_col]
  rfl

end Prob

end Cert.Proof
-- ==== Proof.RefA.lean ====
/- The reference's forward lines over the reals: the causal logits, a real maximum of each row, the weights, the
   attention's output and the gate. -/
module

public import proofs.«01_k».proof.Proof.Math
public import proofs.«01_k».proof.Proof.Gen.ReferenceIdeal.Read
public import Idealize.ShloMosaic.Lib.Pipeline.ValueKit

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe

/-- The arguments are the real arrays of `Z`. -/
structure Reads (Z : Prob) (x0 x1 x2 x3 : FVec Ideal S2x2048x512 .f32) (x4 : FVec Ideal S2x8x2048 .f32) (x5 : FVec Ideal S2x2048x512 .f32) : Prop where
  q : ∀ (b : Fin 2) (i : Fin 2048) (n : Fin 512), x0 (ix3 b i n) = ((Z.q b i n : ℝ) : EReal)
  k : ∀ (b : Fin 2) (i : Fin 2048) (n : Fin 512), x1 (ix3 b i n) = ((Z.k b i n : ℝ) : EReal)
  v : ∀ (b : Fin 2) (i : Fin 2048) (n : Fin 512), x2 (ix3 b i n) = ((Z.v b i n : ℝ) : EReal)
  g : ∀ (b : Fin 2) (i : Fin 2048) (n : Fin 512), x3 (ix3 b i n) = ((Z.g b i n : ℝ) : EReal)
  c : ∀ (b : Fin 2) (h : Fin 8) (i : Fin 2048), x4 (ix3 b h i) = ((Z.c b h i : ℝ) : EReal)
  t : ∀ (b : Fin 2) (i : Fin 2048) (n : Fin 512), x5 (ix3 b i n) = ((Z.t b i n : ℝ) : EReal)

/-- The printed constant minus infinity. -/
theorem bot_bits : Ideal.ofBits .f32 4286578688#32 = ⊥ := by
  simp [Ideal.ofBits, Ideal.ieee]

/-- Row `i` sees column `j` when `j ≤ i`. -/
theorem sge_iff (i j : Fin 2048) : IntOp.cmpi CmpIPredicate.sge (BitVec.ofNat 32 i.val) (BitVec.ofNat 32 j.val) = 1#1 ↔ j.val ≤ i.val := by
  rw [IntOp.cmpi_sge]
  have hi := i.isLt
  have hj := j.isLt
  rw [BitVec.toInt_ofNat', BitVec.toInt_ofNat', Int.bmod_eq_of_le, Int.bmod_eq_of_le] <;> omega

theorem sel_sge {α : Type} (i j : Fin 2048) (x y : α) :
    Scalar.select (IntOp.cmpi CmpIPredicate.sge (BitVec.ofNat 32 i.val) (BitVec.ofNat 32 j.val)) x y = if j.val ≤ i.val then x else y := by
  unfold Scalar.select
  by_cases e : j.val ≤ i.val
  · exact (if_pos ((sge_iff i j).2 e)).trans (if_pos e).symm
  · exact (if_neg fun h => e ((sge_iff i j).1 h)).trans (if_neg e).symm

/-- A running maximum of reals and minus infinities, some of them real, is a real. -/
theorem fold_real {ι : Type} [Fintype ι] (f : ι → EReal) (hf : ∀ i, f i ≠ ⊤) (i₀ : ι) (h₀ : f i₀ ≠ ⊥) :
    ∃ r : ℝ, Finset.univ.fold max ⊥ f = ((r : ℝ) : EReal) := by
  have h1 : Finset.univ.fold max ⊥ f ≠ ⊤ := by
    refine ne_of_lt ?_
    rw [Finset.fold_max_lt]
    exact ⟨bot_lt_top, fun i _ => lt_top_iff_ne_top.2 (hf i)⟩
  have h2 : Finset.univ.fold max ⊥ f ≠ ⊥ := by
    refine ne_of_gt (lt_of_lt_of_le (bot_lt_iff_ne_bot.2 h₀) ?_)
    rw [Finset.le_fold_max]
    exact Or.inr ⟨i₀, Finset.mem_univ _, le_rfl⟩
  exact ⟨_, (EReal.coe_toReal h1 h2).symm⟩

section

variable {Z : Prob} {x0 x1 x2 x3 : FVec Ideal S2x2048x512 .f32} {x4 : FVec Ideal S2x8x2048 .f32} {x5 : FVec Ideal S2x2048x512 .f32}

/-- The masked logits. -/
theorem r20 (R : Reads Z x0 x1 x2 x3 x4 x5) (b : Fin 2) (h : Fin 8) (i j : Fin 2048) :
    val_main_v20_0 (F := Ideal) x0 x1 x4 (ix4 b h i j) = if j.val ≤ i.val then ((Z.S b h i j : ℝ) : EReal) else ⊥ := by
  pointwise [val_main_v20_0, val_main_v20_1, val_main_v19, val_main_v18_0, val_main_v18_1, val_main_call0_v2, val_main_call1_v2, val_main_call0_v0, val_main_call1_v0, val_main_cst_0, val_main_cst_1, val_main_v12, val_main_v11, val_main_v10, val_main_v9, val_main_v8, val_main_v7, val_main_v6, val_main_v13, val_main_v14, val_main_v15, val_main_v16, val_main_v17, val_main_v5, val_main_v4, val_main_v3, val_main_cst, val_main_v0, val_main_v1]
  refine (sel_sge i j _ _).trans ?_
  rw [sel_sge]
  split
  · simp only [R.q, R.k, R.c, eighth, ← EReal.coe_mul, coe_sum, ← EReal.coe_add, ← EReal.coe_sub, Prob.S]
    simp only [mul_comm]
  · exact bot_bits

/-- Each row's maximum is a real. -/
theorem r21 (R : Reads Z x0 x1 x2 x3 x4 x5) :
    ∃ M : ℕ → ℕ → ℕ → ℝ, ∀ (b : Fin 2) (h : Fin 8) (i : Fin 2048), val_main_v21 (F := Ideal) x0 x1 x4 (ix3 b h i) = ((M b h i : ℝ) : EReal) := by
  have H : ∀ (b : Fin 2) (h : Fin 8) (i : Fin 2048), ∃ r : ℝ, val_main_v21 (F := Ideal) x0 x1 x4 (ix3 b h i) = ((r : ℝ) : EReal) := by
    intro b h i
    pointwise [val_main_v21, val_main_cst_2]
    rw [show (Ideal.ofBits .f32 4286578688#32) = ⊥ from bot_bits]
    refine fold_real _ (fun j => ?_) i ?_
    · rw [r20 R]; split
      · exact EReal.coe_ne_top _
      · exact bot_ne_top
    · rw [r20 R, if_pos le_rfl]; exact EReal.coe_ne_bot _
  choose M hM using H
  refine ⟨fun b h i => if hb : b < 2 ∧ h < 8 ∧ i < 2048 then M ⟨b, hb.1⟩ ⟨h, hb.2.1⟩ ⟨i, hb.2.2⟩ else 0, fun b h i => ?_⟩
  rw [hM]
  beta_reduce
  rw [dif_pos (⟨b.isLt, h.isLt, i.isLt⟩ : b.val < 2 ∧ h.val < 8 ∧ i.val < 2048)]

variable {M : ℕ → ℕ → ℕ → ℝ}

theorem sub_exp (a : Prop) [Decidable a] (x y : ℝ) :
    Ideal.exp ((if a then ((x : ℝ) : EReal) else ⊥) - ((y : ℝ) : EReal)) = (((if a then Real.exp (x - y) else 0) : ℝ) : EReal) := by
  split
  · rw [← EReal.coe_sub, Ideal.exp_coe]
  · rw [EReal.bot_sub]; rfl

/-- The exponentials. -/
theorem r41 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i j : Fin 2048) : val_main_v41 (F := Ideal) x0 x1 x4 (ix4 b h i j) = ((Z.E M b h i j : ℝ) : EReal) := by
  have e : idx_main_v38 (idx_main_v39 (ix4 b h i j)) = ix3 b h i := by idx_ext
  rw [val_main_v41_apply, val_main_v40_apply, val_main_v39_apply, val_main_v38_apply, val_main_v28_apply, val_main_v27_apply, val_main_cst_4_apply, e, r20 R, hM]
  refine (congrArg (fun y => Ideal.exp ((if j.val ≤ i.val then ((Z.S b h i j : ℝ) : EReal) else ⊥) - y)) ?_).trans (sub_exp _ _ _)
  exact (congrArg (fun z => max z _) bot_bits).trans (max_eq_right bot_le)

/-- The row sums. -/
theorem r42 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i : Fin 2048) : val_main_v42 (F := Ideal) x0 x1 x4 (ix3 b h i) = ((Z.N M b h i : ℝ) : EReal) := by
  rw [val_main_v42_apply]
  unfold Prob.N
  rw [← coe_sum]
  refine Eq.trans ?_ (zero_add _)
  refine congrArg₂ _ ?_ (Finset.sum_congr rfl fun j _ => ?_)
  · rw [val_main_cst_10_apply]; exact Ideal.ofBits_zero_f32
  · rw [← r41 R hM]
    exact congrArg _ (by idx_ext)

/-- The weights. -/
theorem r45 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i j : Fin 2048) : val_main_v45 (F := Ideal) x0 x1 x4 (ix4 b h i j) = ((Z.W b h i j : ℝ) : EReal) := by
  pointwise [val_main_v45, val_main_v44, val_main_v43]
  rw [r41 R hM, r42 R hM, div_real (Z.N_pos M b h i i.isLt).ne', Z.E_div]

/-- The attention's output. -/
theorem r51 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) : val_main_v51 (F := Ideal) x0 x1 x2 x4 (ix3 b i ⟨64 * h.val + x.val, by omega⟩) = ((Z.o b h i x : ℝ) : EReal) := by
  pointwise [val_main_v51, val_main_v50, val_main_v49, val_main_v2]
  simp only [R.v, r45 R hM, ← EReal.coe_mul, coe_sum, Prob.o, mul_comm]

end

end Cert.Proof.ReferenceIdeal
-- ==== Proof.Host.lean ====
/- The arrays the kernel is launched on, over the reals: the stacked projections, the attention's output, the gradient of
    the gated output, the saved logarithms and the cumulative gates. -/
module

public import proofs.«01_k».proof.Proof.RefA
public import proofs.«01_k».proof.Proof.Gen.KernelIdeal.Frame
public import Idealize.ShloMosaic.Lib.StableHlo.RunRead

@[expose] public section

set_option maxRecDepth 16384

noncomputable section

namespace Cert.Proof.KernelIdeal

open Cert.KernelIdeal Cert.KernelIdeal.Gen
open Cert.ReferenceIdeal.Read (val_main_v20_0 val_main_v21 val_main_v41 val_main_v51 val_main_v42 val_main_v2)
open Cert.Proof.ReferenceIdeal (Reads r20 r41 r42 r51 bot_bits sub_exp)
open Idealize.ShloMosaic Idealize.ShloMosaic.TcCoe

/-! ## The arrays as functions of the arguments -/

def C8 (x0 x1 x2 x3 : FVec Ideal S2x2048x4x1x128 .f32) : FVec Ideal S2x2048x4x4x128 .f32 :=
  concatenate S2x2048x4x4x128 3 [⟨S2x2048x4x1x128, x0⟩, ⟨S2x2048x4x1x128, x1⟩, ⟨S2x2048x4x1x128, x2⟩, ⟨S2x2048x4x1x128, x3⟩]
    concatenates_S2x2048x4x1x128_S2x2048x4x1x128_S2x2048x4x1x128_S2x2048x4x1x128_S2x2048x4x4x128_d3

def C12 (a : FVec Ideal S2x2048x1536 .f32) (b : FVec Ideal S2x2048x2048 .f32) (d : FVec Ideal S2x2048x128 .f32) : FVec Ideal S2x2048x3712 .f32 :=
  concatenate S2x2048x3712 2 [⟨S2x2048x1536, a⟩, ⟨S2x2048x2048, b⟩, ⟨S2x2048x128, d⟩] concatenates_S2x2048x1536_S2x2048x2048_S2x2048x128_S2x2048x3712_d2

def H12 (x0 x1 x2 x3 : FVec Ideal S2x2048x512 .f32) : FVec Ideal S2x2048x3712 .f32 :=
  concatenate S2x2048x3712 2
    [⟨S2x2048x1536, broadcastInDim S2x2048x1536 ![] bcast_S_S2x2048x1536 (constant (F := Ideal) S_ .f32 0x00000000#32)⟩,
     ⟨S2x2048x2048, shapeCast S2x2048x2048 (concatenate S2x2048x4x4x128 3
        [⟨S2x2048x4x1x128, broadcastInDim S2x2048x4x1x128 ![0, 1, 2, 4] bcast_S2x2048x4x128_S2x2048x4x1x128_0_1_2_4 (shapeCast S2x2048x4x128 x0 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x1 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x2 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x3 shapeCasts_S2x2048x512_S2x2048x4x128)⟩]
        concatenates_S2x2048x4x1x128_S2x2048x4x1x128_S2x2048x4x1x128_S2x2048x4x1x128_S2x2048x4x4x128_d3) shapeCasts_S2x2048x4x4x128_S2x2048x2048⟩,
     ⟨S2x2048x128, broadcastInDim S2x2048x128 ![] bcast_S_S2x2048x128 (constant (F := Ideal) S_ .f32 0x00000000#32)⟩]
    concatenates_S2x2048x1536_S2x2048x2048_S2x2048x128_S2x2048x3712_d2

def H9 (x0 x1 x2 x3 : FVec Ideal S2x2048x512 .f32) : FVec Ideal S2x2048x4x4x128 .f32 :=
  concatenate S2x2048x4x4x128 3
        [⟨S2x2048x4x1x128, broadcastInDim S2x2048x4x1x128 ![0, 1, 2, 4] bcast_S2x2048x4x128_S2x2048x4x1x128_0_1_2_4 (shapeCast S2x2048x4x128 x0 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x1 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x2 shapeCasts_S2x2048x512_S2x2048x4x128)⟩,
         ⟨S2x2048x4x1x128, broadcastInDim S2x2048x4x1x128 ![0, 1, 2, 4] bcast_S2x2048x4x128_S2x2048x4x1x128_0_1_2_4 (shapeCast S2x2048x4x128 x3 shapeCasts_S2x2048x512_S2x2048x4x128)⟩]
        concatenates_S2x2048x4x1x128_S2x2048x4x1x128_S2x2048x4x1x128_S2x2048x4x1x128_S2x2048x4x4x128_d3

def H14 (x5 : FVec Ideal S2x2048x512 .f32) : FVec Ideal S2x2048x1024 .f32 :=
  concatenate S2x2048x1024 2 [⟨S2x2048x512, broadcastInDim S2x2048x512 ![] bcast_S_S2x2048x512 (constant (F := Ideal) S_ .f32 0x00000000#32)⟩, ⟨S2x2048x512, x5⟩] concatenates_S2x2048x512_S2x2048x512_S2x2048x1024_d2

def H40 (s : FVec Ideal S2x8x2048x2048 .f32) (y : FVec Ideal S2x8x2048 .f32) : FVec Ideal S2x8x2048x2048 .f32 :=
  Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2 y)))

def H41 (e : FVec Ideal S2x8x2048x2048 .f32) : FVec Ideal S2x8x2048 .f32 :=
  Host.reduceAdd e (constant (F := Ideal) S_ .f32 0x00000000#32) reducesTo_S2x8x2048x2048_S2x8x2048_d3 h_S_

def H47 (e : FVec Ideal S2x8x2048x2048 .f32) (x2 : FVec Ideal S2x2048x512 .f32) : FVec Ideal S2x2048x512 .f32 :=
  shapeCast S2x2048x512 (transpose S2x2048x8x64 [0, 3, 1, 2] (Host.dotGeneral dot_S2x2048x8x64_S2x8x2048x2048_S2x8x64x2048_1_3_3_2_02_01 none (shapeCast S2x2048x8x64 x2 shapeCasts_S2x2048x512_S2x2048x8x64)
    (Host.divf e (broadcastInDim S2x8x2048x2048 ![0, 1, 2, 3] bcast_S2x8x2048x1_S2x8x2048x2048_0_1_2_3 (broadcastInDim S2x8x2048x1 ![0, 1, 2] bcast_S2x8x2048_S2x8x2048x1_0_1_2 (H41 e)))))
    transposes_S2x8x64x2048_S2x2048x8x64_0_3_1_2) shapeCasts_S2x2048x8x64_S2x2048x512

def H61 (x4 : FVec Ideal S2x8x2048 .f32) : FVec Ideal S2x2048x512 .f32 :=
  shapeCast S2x2048x512 (broadcastInDim S2x2048x8x64 ![0, 1, 2, 3] bcast_S2x2048x8x1_S2x2048x8x64_0_1_2_3 (broadcastInDim S2x2048x8x1 ![0, 1, 2] bcast_S2x2048x8_S2x2048x8x1_0_1_2
    (transpose S2x2048x8 [0, 2, 1] x4 transposes_S2x8x2048_S2x2048x8_0_2_1))) shapeCasts_S2x2048x8x64_S2x2048x512

def H50 (y : FVec Ideal S2x8x2048 .f32) (n : FVec Ideal S2x8x2048 .f32) : FVec Ideal S2x8x2048 .f32 :=
  shapeCast S2x8x2048 (addf (broadcastInDim S2x8x2048x1 ![0, 1, 2] bcast_S2x8x2048_S2x8x2048x1_0_1_2 y)
      (Host.log (broadcastInDim S2x8x2048x1 ![0, 1, 2] bcast_S2x8x2048_S2x8x2048x1_0_1_2 n))) shapeCasts_S2x8x2048x1_S2x8x2048

def H53 (x4 : FVec Ideal S2x8x2048 .f32) : FVec Ideal S2x4x8x2048 .f32 :=
  concatenate S2x4x8x2048 2 [⟨S2x4x2x2048, shapeCast S2x4x2x2048 x4 shapeCasts_S2x8x2048_S2x4x2x2048⟩, ⟨S2x4x6x2048, broadcastInDim S2x4x6x2048 ![] bcast_S_S2x4x6x2048 (constant (F := Ideal) S_ .f32 0x00000000#32)⟩] concatenates_S2x4x2x2048_S2x4x6x2048_S2x4x8x2048_d2

section

variable (m : (ℓ : Loc nD τ sig) → Buf (Elt Ideal) ℓ) (c : Dev nD)

abbrev a0 : FVec Ideal S2x2048x512 .f32 := m ((c : Thread nD τ).loc main_arg0)
abbrev a1 : FVec Ideal S2x2048x512 .f32 := m ((c : Thread nD τ).loc main_arg1)
abbrev a2 : FVec Ideal S2x2048x512 .f32 := m ((c : Thread nD τ).loc main_arg2)
abbrev a3 : FVec Ideal S2x2048x512 .f32 := m ((c : Thread nD τ).loc main_arg3)
abbrev a4 : FVec Ideal S2x8x2048 .f32 := m ((c : Thread nD τ).loc main_arg4)
abbrev a5 : FVec Ideal S2x2048x512 .f32 := m ((c : Thread nD τ).loc main_arg5)

/-- What an operation over three references leaves, each operand's contents read at its own reference. -/
theorem three_result {x a b y : Ref sig .tc} (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem V12 : V m c main_v12 = H12 (a0 m c) (a1 m c) (a2 m c) (a3 m c) := by
  unfold_abbrev_sides
  simp only [hostOps0, hostOps0_1, hostOps0_2, hostOps0_3, hostOps0_4, List.flatten_cons, List.flatten_nil, List.append_nil, List.cons_append, List.nil_append]
  simp (disch := decide) only [StableHlo.readAfter, StableHlo.readUpto, StableHlo.nullary_result', StableHlo.unary_result', StableHlo.reshape_result', StableHlo.nary4_result', three_result]
  show C12 (StableHlo.upto (τ := τ) (sig := sig) (Val := Elt Ideal) _ _ 14 (Proc.tc.devRef main_v10)) (StableHlo.upto (τ := τ) (sig := sig) (Val := Elt Ideal) _ _ 14 (Proc.tc.devRef main_v9)) (StableHlo.upto (τ := τ) (sig := sig) (Val := Elt Ideal) _ _ 14 (Proc.tc.devRef main_v11)) = _
  simp (disch := decide) only [StableHlo.readAfter, StableHlo.readUpto, StableHlo.nullary_result', StableHlo.unary_result', StableHlo.reshape_result', StableHlo.nary4_result', three_result]
  show C12 _ (fun i => shapeCast S2x2048x2048 (C8 (StableHlo.upto (τ := τ) (sig := sig) (Val := Elt Ideal) _ _ 8 (Proc.tc.devRef main_v4)) (StableHlo.upto (τ := τ) (sig := sig) (Val := Elt Ideal) _ _ 8 (Proc.tc.devRef main_v5)) (StableHlo.upto (τ := τ) (sig := sig) (Val := Elt Ideal) _ _ 8 (Proc.tc.devRef main_v6)) (StableHlo.upto (τ := τ) (sig := sig) (Val := Elt Ideal) _ _ 8 (Proc.tc.devRef main_v7))) shapeCasts_S2x2048x4x4x128_S2x2048x2048 i) _ = _
  simp (disch := decide) only [StableHlo.readAfter, StableHlo.readUpto, StableHlo.nullary_result', StableHlo.unary_result', StableHlo.reshape_result', StableHlo.nary4_result', three_result]
  rfl
theorem V14 : V m c main_v14 = H14 (a5 m c) := by
  unfold_abbrev_sides
  simp only [hostOps0, hostOps0_1, hostOps0_2, hostOps0_3, hostOps0_4, List.flatten_cons, List.flatten_nil, List.append_nil, List.cons_append, List.nil_append]
  after_reads_simp
  rfl
theorem V53 : V m c main_v53 = H53 (a4 m c) := by
  unfold_abbrev_sides
  simp only [hostOps0, hostOps0_1, hostOps0_2, hostOps0_3, hostOps0_4, List.flatten_cons, List.flatten_nil, List.append_nil, List.cons_append, List.nil_append]
  after_reads_simp
  rfl
theorem V61 : V m c main_v61 = H61 (a4 m c) := by
  unfold_abbrev_sides
  simp only [hostOps0, hostOps0_1, hostOps0_2, hostOps0_3, hostOps0_4, List.flatten_cons, List.flatten_nil, List.append_nil, List.cons_append, List.nil_append]
  after_reads_simp
  rfl
theorem V47 : V m c main_v47 = H47 (H40 (val_main_v20_0 (F := Ideal) (a0 m c) (a1 m c) (a4 m c)) (val_main_v21 (F := Ideal) (a0 m c) (a1 m c) (a4 m c))) (a2 m c) := by
  unfold_abbrev_sides
  simp only [hostOps0, hostOps0_1, hostOps0_2, hostOps0_3, hostOps0_4, List.flatten_cons, List.flatten_nil, List.append_nil, List.cons_append, List.nil_append]
  after_reads_simp
  rfl
theorem V57 : V m c main_v57 = H61 (H50 (val_main_v21 (F := Ideal) (a0 m c) (a1 m c) (a4 m c)) (H41 (H40 (val_main_v20_0 (F := Ideal) (a0 m c) (a1 m c) (a4 m c)) (val_main_v21 (F := Ideal) (a0 m c) (a1 m c) (a4 m c))))) := by
  unfold_abbrev_sides
  simp only [hostOps0, hostOps0_1, hostOps0_2, hostOps0_3, hostOps0_4, List.flatten_cons, List.flatten_nil, List.append_nil, List.cons_append, List.nil_append]
  after_reads_simp
  rfl

end

/-! ## Their values -/

section

variable {Z : Prob} {x0 x1 x2 x3 : FVec Ideal S2x2048x512 .f32} {x4 : FVec Ideal S2x8x2048 .f32} {x5 : FVec Ideal S2x2048x512 .f32}
variable {M : ℕ → ℕ → ℕ → ℝ}

theorem h40 (R : Reads Z x0 x1 x2 x3 x4 x5) (hM : ∀ (b : Fin 2) (h : Fin 8) (i : Fin 2048), val_main_v21 (F := Ideal) x0 x1 x4 (ix3 b h i) = ((M b h i : ℝ) : EReal)) :
    H40 (val_main_v20_0 (F := Ideal) x0 x1 x4) (val_main_v21 (F := Ideal) x0 x1 x4) = val_main_v41 (F := Ideal) x0 x1 x4 := by
  funext y
  have ey := eq_ix4 y
  generalize y 0 = b at ey
  generalize y 1 = h at ey
  generalize y 2 = i at ey
  generalize y 3 = j at ey
  subst ey
  refine Eq.trans ?_ (r41 R hM b h i j).symm
  have e1 := r20 R b h i j
  have e2 := hM b h i
  generalize val_main_v20_0 (F := Ideal) x0 x1 x4 = s at e1 ⊢
  generalize val_main_v21 (F := Ideal) x0 x1 x4 = y at e2 ⊢
  pointwise [H40]
  rw [e1, e2]
  exact sub_exp _ _ _

theorem h47 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    H47 (val_main_v41 (F := Ideal) x0 x1 x4) x2 (ix3 b i ⟨64 * h.val + x.val, by omega⟩) = ((Z.o b h i x : ℝ) : EReal) :=
  r51 R hM b i h x

theorem h61' (y : FVec Ideal S2x8x2048 .f32) (b : Fin 2) (i : Fin 2048) (h : Fin 8) (x : Fin 64) :
    H61 y (ix3 b i ⟨64 * h.val + x.val, by omega⟩) = y (ix3 b h i) := by
  pointwise [H61]

theorem h61 (R : Reads Z x0 x1 x2 x3 x4 x5) (b : Fin 2) (i : Fin 2048) (h : Fin 8) (x : Fin 64) :
    H61 x4 (ix3 b i ⟨64 * h.val + x.val, by omega⟩) = ((Z.c b h i : ℝ) : EReal) :=
  (h61' x4 b i h x).trans (R.c b h i)

theorem h50 (y n : FVec Ideal S2x8x2048 .f32) (b : Fin 2) (h : Fin 8) (i : Fin 2048) :
    H50 y n (ix3 b h i) = y (ix3 b h i) + Ideal.log (n (ix3 b h i)) := by
  pointwise [H50]

theorem h57 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    H61 (H50 (val_main_v21 (F := Ideal) x0 x1 x4) (H41 (val_main_v41 (F := Ideal) x0 x1 x4))) (ix3 b i ⟨64 * h.val + x.val, by omega⟩) = ((M b h i + Real.log (Z.N M b h i) : ℝ) : EReal) := by
  have e1 := hM b h i
  have e2 : H41 (val_main_v41 (F := Ideal) x0 x1 x4) (ix3 b h i) = ((Z.N M b h i : ℝ) : EReal) := r42 R hM b h i
  refine (h61' _ b i h x).trans ((h50 _ _ b h i).trans ?_)
  rw [e1, e2, Ideal.log_coe, if_neg (not_le.2 (Z.N_pos M b h i i.isLt)), EReal.coe_add]

theorem h53 (R : Reads Z x0 x1 x2 x3 x4 x5) (b : Fin 2) (p : Fin 4) (s : Fin 8) (i : Fin 2048) (hs : s.val < 2) :
    H53 x4 (ix4 b p s i) = ((Z.c b (2 * p + s) i : ℝ) : EReal) := by
  pointwise [H53]
  rw [dif_pos hs]
  exact (congrArg _ (by idx_ext)).trans (R.c b ⟨2 * p.val + s.val, by omega⟩ i)

theorem h14 (R : Reads Z x0 x1 x2 x3 x4 x5) (b : Fin 2) (i : Fin 2048) (n : Fin 512) :
    H14 x5 (ix3 b i ⟨512 + n.val, by omega⟩) = ((Z.t b i n : ℝ) : EReal) := by
  pointwise [H14]
  exact R.t b i n

theorem h9 (R : Reads Z x0 x1 x2 x3 x4 x5) (b : Fin 2) (i : Fin 2048) (p s : Fin 4) (d : Fin 128) :
    H9 x0 x1 x2 x3 (ix5 b i p s d) = (((if s.val = 0 then Z.q b i (128 * p + d) else if s.val = 1 then Z.k b i (128 * p + d) else if s.val = 2 then Z.v b i (128 * p + d) else Z.g b i (128 * p + d)) : ℝ) : EReal) := by
  have eq := R.q b i ⟨128 * p.val + d.val, by omega⟩
  have ek := R.k b i ⟨128 * p.val + d.val, by omega⟩
  have ev := R.v b i ⟨128 * p.val + d.val, by omega⟩
  have eg := R.g b i ⟨128 * p.val + d.val, by omega⟩
  pointwise [H9]
  fin_cases s
  · simp; exact (congrArg _ (by idx_ext)).trans eq
  · simp; exact (congrArg _ (by idx_ext)).trans ek
  · simp; exact (congrArg _ (by idx_ext)).trans ev
  · simp; exact (congrArg _ (by idx_ext)).trans eg

theorem h12 (b : Fin 2) (i : Fin 2048) (p s : Fin 4) (d : Fin 128) :
    H12 x0 x1 x2 x3 (ix3 b i ⟨1536 + (512 * p.val + 128 * s.val + d.val), by omega⟩) = H9 x0 x1 x2 x3 (ix5 b i p s d) := by
  show concatenate S2x2048x3712 2 [⟨_, _⟩, ⟨_, shapeCast S2x2048x2048 (H9 x0 x1 x2 x3) shapeCasts_S2x2048x4x4x128_S2x2048x2048⟩, ⟨_, _⟩] concatenates_S2x2048x1536_S2x2048x2048_S2x2048x128_S2x2048x3712_d2 _ = _
  generalize H9 x0 x1 x2 x3 = y
  have hp := p.isLt
  have hs := s.isLt
  have hd := d.isLt
  pointwise
  exact dif_pos (by omega)

end

end Cert.Proof.KernelIdeal
-- ==== Proof.RefB.lean ====
/- The reference's gradients over the reals: the gate, the weights' and the logits' gradients, and the five sums. -/
module

public import proofs.«01_k».proof.Proof.RefA

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe

section

variable {Z : Prob} {x0 x1 x2 x3 : FVec Ideal S2x2048x512 .f32} {x4 : FVec Ideal S2x8x2048 .f32} {x5 : FVec Ideal S2x2048x512 .f32}
variable {M : ℕ → ℕ → ℕ → ℝ}

/-- The gate's sigmoid. -/
theorem r_sg (R : Reads Z x0 x1 x2 x3 x4 x5) (b : Fin 2) (i : Fin 2048) (n : Fin 512) :
    val_main_v52_2 (F := Ideal) x3 (ix3 b i n) = ((sg (Z.g b i n) : ℝ) : EReal) := by
  pointwise [val_main_v52_2, val_main_call2_v4, val_main_call2_cst_0, val_main_call2_v3, val_main_call2_v2, val_main_call2_cst, val_main_call2_v1, val_main_call2_v0]
  simp only [R.g, ← EReal.coe_neg, Ideal.exp_coe, ← EReal.coe_one, ← EReal.coe_add, div_real (exp_pos' _), sg, zero_sub]

/-- The output's gradient. -/
theorem r55 (R : Reads Z x0 x1 x2 x3 x4 x5) (b : Fin 2) (i : Fin 2048) (n : Fin 512) :
    val_main_v55 (F := Ideal) x3 x5 (ix3 b i n) = ((Z.dO b i n : ℝ) : EReal) := by
  pointwise [val_main_v55, val_main_v52_0]
  simp only [r_sg R, R.g, R.t, ← EReal.coe_mul, Prob.dO]

/-- The gate's gradient. -/
theorem r56 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    val_main_v56 (F := Ideal) x0 x1 x2 x3 x4 x5 (ix3 b i ⟨64 * h.val + x.val, by omega⟩) = ((Z.dg b h i x : ℝ) : EReal) := by
  pointwise [val_main_v56, val_main_call3_v2, val_main_call3_v1, val_main_call3_v0, val_main_v54, val_main_v52_1, val_main_call2_v7, val_main_call2_v6, val_main_call2_cst_1]
  simp only [r51 R hM, r_sg R, R.g, R.t, ← EReal.coe_mul, ← EReal.coe_one, ← EReal.coe_sub, ← EReal.coe_add, Prob.dg]
  congr 1; ring

/-- The weights' gradient. -/
theorem r59 (R : Reads Z x0 x1 x2 x3 x4 x5) (b : Fin 2) (h : Fin 8) (i j : Fin 2048) :
    val_main_v59 (F := Ideal) x2 x3 x5 (ix4 b h i j) = ((Z.DP b h i j : ℝ) : EReal) := by
  pointwise [val_main_v59, val_main_v58, val_main_v57, val_main_v2]
  simp only [r55 R, R.v, ← EReal.coe_mul, coe_sum, Prob.DP, mul_comm]

/-- The values' gradient. -/
theorem r89 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    val_main_v89 (F := Ideal) x0 x1 x3 x4 x5 (ix3 b i ⟨64 * h.val + x.val, by omega⟩) = ((Z.dv b h i x : ℝ) : EReal) := by
  pointwise [val_main_v89, val_main_v61, val_main_v60, val_main_v58, val_main_v57]
  simp only [r55 R, r45 R hM, ← EReal.coe_mul, coe_sum, Prob.dv, mul_comm]

/-- The logits' gradient. -/
theorem r73 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i j : Fin 2048) :
    val_main_v73 (F := Ideal) x0 x1 x2 x3 x4 x5 (ix4 b h i j) = ((Z.G b h i j : ℝ) : EReal) := by
  have hN := (Z.N_pos M b h i i.isLt).ne'
  have h64 : ∀ l : Fin 2048, val_main_v64 (F := Ideal) x0 x1 x2 x3 x4 x5 (ix4 b h i l) = ((Z.DP b h i l * (1 / (Z.N M b h i * Z.N M b h i)) * Z.E M b h i l : ℝ) : EReal) := by
    intro l
    pointwise [val_main_v64, val_main_v63, val_main_v62, val_main_v48, val_main_v47, val_main_cst_11, val_main_v46, val_main_v43]
    simp only [r59 R, r41 R hM, r42 R hM, ← EReal.coe_mul, ← EReal.coe_one, div_real (mul_ne_zero hN hN)]
  have h65 : val_main_v65 (F := Ideal) x0 x1 x2 x3 x4 x5 (ix3 b h i) = ((∑ l : Fin 2048, Z.DP b h i l * (1 / (Z.N M b h i * Z.N M b h i)) * Z.E M b h i l : ℝ) : EReal) := by
    rw [val_main_v65_apply, ← coe_sum]
    refine Eq.trans ?_ (zero_add _)
    refine congrArg₂ _ ?_ (Finset.sum_congr rfl fun l _ => ?_)
    · rw [val_main_cst_12_apply]; exact Ideal.ofBits_zero_f32
    · rw [← h64 l]
      exact congrArg _ (by idx_ext)
  have h70 : val_main_v70 (F := Ideal) x0 x1 x2 x3 x4 x5 (ix3 b h i) = ((-(∑ l : Fin 2048, Z.DP b h i l * (1 / (Z.N M b h i * Z.N M b h i)) * Z.E M b h i l) : ℝ) : EReal) := by
    rw [val_main_v70_apply]
    refine Eq.trans ?_ (zero_add _)
    refine congrArg₂ _ ?_ ?_
    · rw [val_main_cst_13_apply]; exact Ideal.ofBits_zero_f32
    · rw [Fin.sum_univ_one, val_main_v67_apply, val_main_v66_apply, EReal.coe_neg, ← h65]
      exact congrArg Neg.neg (congrArg _ (by idx_ext))
  pointwise [val_main_v73, val_main_v72, val_main_v71, val_main_v69, val_main_v68, val_main_v43]
  rw [r59 R, r41 R hM, r42 R hM, h70, div_real hN, ← EReal.coe_add, ← EReal.coe_mul, Z.G_soft M b h i j i.isLt]

/-- The logits' gradient under the two masks. -/
theorem r74 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i j : Fin 2048) :
    val_main_v74 (F := Ideal) x0 x1 x2 x3 x4 x5 (ix4 b h i j) = ((Z.G b h i j : ℝ) : EReal) := by
  pointwise [val_main_v74, val_main_call4_v0, val_main_call4_cst, val_main_v20_1, val_main_v12, val_main_v11, val_main_v10, val_main_v9, val_main_v8, val_main_v7, val_main_v6]
  refine (sel_sge i j _ _).trans ?_
  split
  · exact r73 R hM b h i j
  · rw [Z.G_zero b h i j (by assumption)]; rfl

theorem r75 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i j : Fin 2048) :
    val_main_v75 (F := Ideal) x0 x1 x2 x3 x4 x5 (ix4 b h i j) = ((Z.G b h i j : ℝ) : EReal) := by
  pointwise [val_main_v75, val_main_call5_v0, val_main_call5_cst, val_main_v18_1, val_main_v12, val_main_v11, val_main_v10, val_main_v9, val_main_v8, val_main_v7, val_main_v6]
  refine (sel_sge i j _ _).trans ?_
  split
  · exact r74 R hM b h i j
  · rw [Z.G_zero b h i j (by assumption)]; rfl

/-- The queries' gradient. -/
theorem r91 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    val_main_v91 (F := Ideal) x0 x1 x2 x3 x4 x5 (ix3 b i ⟨64 * h.val + x.val, by omega⟩) = ((Z.dq b h i x : ℝ) : EReal) := by
  pointwise [val_main_v91, val_main_v88, val_main_v87, val_main_v84, val_main_v83, val_main_cst_18, val_main_v1]
  simp only [r74 R hM, R.k, eighth, ← EReal.coe_mul, coe_sum, Prob.dq, mul_comm]

/-- The keys' gradient. -/
theorem r90 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    val_main_v90 (F := Ideal) x0 x1 x2 x3 x4 x5 (ix3 b i ⟨64 * h.val + x.val, by omega⟩) = ((Z.dk b h i x : ℝ) : EReal) := by
  pointwise [val_main_v90, val_main_v86, val_main_v85, val_main_v84, val_main_v83, val_main_cst_18, val_main_v0]
  simp only [r74 R hM, R.q, eighth, ← EReal.coe_mul, coe_sum, Prob.dk, mul_comm]

/-- The column sums. -/
theorem r81 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (j : Fin 2048) :
    val_main_v81 (F := Ideal) x0 x1 x2 x3 x4 x5 (ix3 b h j) = ((Z.dc b h j : ℝ) : EReal) := by
  have h79 : val_main_v79 (F := Ideal) x0 x1 x2 x3 x4 x5 (ix3 b h j) = ((Z.dc b h j : ℝ) : EReal) := by
    rw [val_main_v79_apply, Prob.dc, ← coe_sum]
    refine Eq.trans ?_ (zero_add _)
    refine congrArg₂ _ ?_ (Finset.sum_congr rfl fun i _ => ?_)
    · rw [val_main_cst_15_apply]; exact Ideal.ofBits_zero_f32
    · rw [val_main_v78_apply, EReal.coe_neg, ← r75 R hM b h i j]
      exact congrArg Neg.neg (congrArg _ (by idx_ext))
  rw [val_main_v81_apply]
  refine Eq.trans ?_ (zero_add _)
  refine congrArg₂ _ ?_ ?_
  · rw [val_main_cst_16_apply]; exact Ideal.ofBits_zero_f32
  · rw [Fin.sum_univ_one, val_main_v80_apply, ← h79]
    exact congrArg _ (by idx_ext)

/-- The row sums. -/
theorem r82 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (h : Fin 8) (i : Fin 2048) :
    val_main_v82 (F := Ideal) x0 x1 x2 x3 x4 x5 (ix3 b h i) = ((Z.dr b h i : ℝ) : EReal) := by
  have h76 : val_main_v76 (F := Ideal) x0 x1 x2 x3 x4 x5 (ix3 b h i) = ((Z.dr b h i : ℝ) : EReal) := by
    rw [val_main_v76_apply, Prob.dr, ← coe_sum]
    refine Eq.trans ?_ (zero_add _)
    refine congrArg₂ _ ?_ (Finset.sum_congr rfl fun j _ => ?_)
    · rw [val_main_cst_14_apply]; exact Ideal.ofBits_zero_f32
    · rw [← r75 R hM b h i j]
      exact congrArg _ (by idx_ext)
  rw [val_main_v82_apply]
  refine Eq.trans ?_ (zero_add _)
  refine congrArg₂ _ ?_ ?_
  · rw [val_main_cst_17_apply]; exact Ideal.ofBits_zero_f32
  · rw [Fin.sum_univ_one, val_main_v77_apply, ← h76]
    exact congrArg _ (by idx_ext)

end

end Cert.Proof.ReferenceIdeal
-- ==== Proof.RefC.lean ====
/- The reference's three results over the reals: the interleaved gradients, the column sums and the row sums. -/
module

public import proofs.«01_k».proof.Proof.RefB

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe

section

variable {Z : Prob} {x0 x1 x2 x3 : FVec Ideal S2x2048x512 .f32} {x4 : FVec Ideal S2x8x2048 .f32} {x5 : FVec Ideal S2x2048x512 .f32}
variable {M : ℕ → ℕ → ℕ → ℝ}

theorem r96 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (p : Fin 4) (h : Fin 2) (x : Fin 64) (z : Fin 1) :
    val_main_v96 (F := Ideal) x0 x1 x2 x3 x4 x5 (ix5 b i p z ⟨64 * h.val + x.val, by omega⟩) = ((Z.dq b (2 * p + h) i x : ℝ) : EReal) := by
  pointwise [val_main_v96, val_main_v92]
  exact (congrArg _ (by idx_ext)).trans (r91 R hM b i ⟨2 * p.val + h.val, by omega⟩ x)

theorem r97 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (p : Fin 4) (h : Fin 2) (x : Fin 64) (z : Fin 1) :
    val_main_v97 (F := Ideal) x0 x1 x2 x3 x4 x5 (ix5 b i p z ⟨64 * h.val + x.val, by omega⟩) = ((Z.dk b (2 * p + h) i x : ℝ) : EReal) := by
  pointwise [val_main_v97, val_main_v93]
  exact (congrArg _ (by idx_ext)).trans (r90 R hM b i ⟨2 * p.val + h.val, by omega⟩ x)

theorem r98 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (p : Fin 4) (h : Fin 2) (x : Fin 64) (z : Fin 1) :
    val_main_v98 (F := Ideal) x0 x1 x3 x4 x5 (ix5 b i p z ⟨64 * h.val + x.val, by omega⟩) = ((Z.dv b (2 * p + h) i x : ℝ) : EReal) := by
  pointwise [val_main_v98, val_main_v94]
  exact (congrArg _ (by idx_ext)).trans (r89 R hM b i ⟨2 * p.val + h.val, by omega⟩ x)

theorem r99 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (p : Fin 4) (h : Fin 2) (x : Fin 64) (z : Fin 1) :
    val_main_v99 (F := Ideal) x0 x1 x2 x3 x4 x5 (ix5 b i p z ⟨64 * h.val + x.val, by omega⟩) = ((Z.dg b (2 * p + h) i x : ℝ) : EReal) := by
  pointwise [val_main_v99, val_main_v95]
  exact (congrArg _ (by idx_ext)).trans (r56 R hM b i ⟨2 * p.val + h.val, by omega⟩ x)

/-- The stacked gradients at an index. -/
theorem r100_0 (R : Reads Z x0 x1 x2 x3 x4 x5) (b : Fin 2) (i : Fin 2048) (p s : Fin 4) (d : Fin 128) :
    val_main_v100 (F := Ideal) x0 x1 x2 x3 x4 x5 (ix5 b i p s d) = if s.val = 0 then val_main_v96 (F := Ideal) x0 x1 x2 x3 x4 x5 (ix5 b i p 0 d)
      else if s.val = 1 then val_main_v97 (F := Ideal) x0 x1 x2 x3 x4 x5 (ix5 b i p 0 d)
      else if s.val = 2 then val_main_v98 (F := Ideal) x0 x1 x3 x4 x5 (ix5 b i p 0 d)
      else val_main_v99 (F := Ideal) x0 x1 x2 x3 x4 x5 (ix5 b i p 0 d) := by
  pointwise [val_main_v100]
  fin_cases s
  · simp
  · simp
  · simp
  · simp

/-- The interleaved gradients. -/
theorem r102 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (p : Fin 4) (s : Fin 4) (h : Fin 2) (x : Fin 64) :
    val_main_v102 (F := Ideal) x0 x1 x2 x3 x4 x5 (ix3 b i ⟨512 * p.val + 128 * s.val + 64 * h.val + x.val, by omega⟩)
      = (((if s.val = 0 then Z.dq b (2 * p + h) i x else if s.val = 1 then Z.dk b (2 * p + h) i x else if s.val = 2 then Z.dv b (2 * p + h) i x else Z.dg b (2 * p + h) i x) : ℝ) : EReal) := by
  have e : idx_main_v101 (ix3 b i ⟨512 * p.val + 128 * s.val + 64 * h.val + x.val, by omega⟩) = ix5 b i p s ⟨64 * h.val + x.val, by omega⟩ := by idx_ext
  rw [val_main_v102_apply, val_main_v101_apply, e]
  refine (r100_0 R b i p s _).trans ?_
  rw [r96 R hM, r97 R hM, r98 R hM, r99 R hM]
  split
  · rfl
  · split
    · rfl
    · split <;> rfl

/-- The column sums, two rows of them for each head pair. -/
theorem r104 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (p : Fin 4) (s : Fin 8) (i : Fin 2048) :
    val_main_v104 (F := Ideal) x0 x1 x2 x3 x4 x5 (ix4 b p s i) = (((if s.val < 2 then Z.dc b (2 * p + s) i else 0) : ℝ) : EReal) := by
  pointwise [val_main_v104, val_main_v103]
  split
  · exact (congrArg _ (by idx_ext)).trans (r81 R hM b ⟨2 * p.val + s.val, by omega⟩ i)
  · pointwise [val_main_call6_v0, val_main_c]
    show (((0#32 : BitVec 32).toInt : ℝ) : EReal) = _
    simp

/-- The row sums, spread over each head's columns. -/
theorem r107 (R : Reads Z x0 x1 x2 x3 x4 x5) (hM : ∀ (b : Fin 2) (h : Fin 8) (i : Fin 2048), val_main_v21 (F := Ideal) x0 x1 x4 (ix3 b h i) = ((M b h i : ℝ) : EReal))
    (b : Fin 2) (i : Fin 2048) (h : Fin 8) (x : Fin 64) :
    val_main_v107 (F := Ideal) x0 x1 x2 x3 x4 x5 (ix3 b i ⟨64 * h.val + x.val, by omega⟩) = ((Z.dr b h i : ℝ) : EReal) := by
  pointwise [val_main_v107, val_main_v106, val_main_v105]
  exact r82 R hM b h i

end

end Cert.Proof.ReferenceIdeal
-- ==== Proof.Out.lean ====
/- What the whole grid leaves in the three results: the reference's arrays. -/
module

public import proofs.«01_k».proof.Proof.Blocks
public import proofs.«01_k».proof.Proof.Host
public import proofs.«01_k».proof.Proof.RefC

@[expose] public section

set_option maxRecDepth 16384

noncomputable section

namespace Cert.Proof.KernelIdeal

open Cert.KernelIdeal Cert.KernelIdeal.Gen
open Cert.ReferenceIdeal.Read (val_main_v20_0 val_main_v21 val_main_v41 val_main_v51 val_main_v102 val_main_v104 val_main_v107)
open Cert.Proof.ReferenceIdeal (Reads r102 r104 r107)
open Cert.Proof.Prob
open Idealize.ShloMosaic Idealize.ShloMosaic.TcCoe Idealize.SL Idealize.SL.Sem

variable {m : (ℓ : Loc nD τ sig) → Buf (Elt Ideal) ℓ} {c : Dev nD} (t : Fin cfg0.N) {Z : Prob} {M : ℕ → ℕ → ℕ → ℝ}

/-- An entry at a column of one pair of heads, from the entries by head and lane. -/
theorem at_col {S : FVec Ideal S2x2048x512 .f32} {f : ℕ → ℕ → ℝ} {b : Fin 2} {i : Fin 2048}
    (h : ∀ (h : Fin 8) (x : Fin 64), S (ix3 b i ⟨64 * h.val + x.val, by omega⟩) = ((f h x : ℝ) : EReal)) (p : Fin 4) (d : Fin 128) (hd' : 128 * p.val + d.val < 512) :
    S (ix3 b i ⟨128 * p.val + d.val, hd'⟩) = ((f (2 * p + hd d) (d.val % 64) : ℝ) : EReal) := by
  have e := h ⟨2 * p.val + hd d, by have := hd_lt_two d; omega⟩ ⟨d.val % 64, by omega⟩
  refine Eq.trans (congrArg S ?_) e
  have := lane_col p.val d
  have e2 : (⟨128 * p.val + d.val, hd'⟩ : Fin 512) = ⟨64 * (2 * p.val + hd d) + d.val % 64, by omega⟩ := Fin.ext this
  rw [e2]

theorem inp (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal))
    (arg2 : Memref sig .tc .vmem S1x2048x512 .f32) (arg3 : Memref sig .tc .vmem S1x2048x128 .f32) (arg4 : Memref sig .tc .vmem S1x2048x128 .f32) (arg5 : Memref sig .tc .vmem S1x2048x128 .f32) (arg6 : Memref sig .tc .vmem S1x2048x128 .f32) (arg7 : Memref sig .tc .vmem S1x1x8x2048 .f32) :
    Inp (Z.raw M (gb t) (gp t)) arg2 arg3 arg4 arg5 arg6 arg7 (arg2.view.rep (X0_0 m c t)) (arg3.view.rep (iblk m c 1 t)) (arg4.view.rep (iblk m c 2 t)) (arg5.view.rep (iblk m c 3 t)) (arg6.view.rep (iblk m c 4 t)) (arg7.view.rep (iblk m c 5 t)) := by
  have hx (i : Fin 2048) (s : Fin 4) (d : Fin 128) (n : Fin 512) (hn : n.val = 128 * s.val + d.val) :
      X0_0 m c t (ix3 0 i n) = (((if s.val = 0 then Z.q (gb t) i (128 * (gp t).val + d) else if s.val = 1 then Z.k (gb t) i (128 * (gp t).val + d) else if s.val = 2 then Z.v (gb t) i (128 * (gp t).val + d) else Z.g (gb t) i (128 * (gp t).val + d)) : ℝ) : EReal) := by
    refine (gblk0 m c t i n).trans ?_
    rw [V12]
    refine Eq.trans (congrArg _ ?_) ((h12 (gb t) i (gp t) s d).trans (h9 R (gb t) i (gp t) s d))
    have e2 : (⟨1536 + (512 * (gp t).val + n.val), by have := (gp t).isLt; omega⟩ : Fin 3712) = ⟨1536 + (512 * (gp t).val + 128 * s.val + d.val), by have := (gp t).isLt; omega⟩ := Fin.ext (by simp only []; omega)
    rw [e2]
  have hl (i : Fin 2048) (d : Fin 128) : iblk m c 3 t (ix3 0 i d) = (((Z.raw M (gb t) (gp t)).L (hd d) i : ℝ) : EReal) := by
    refine (gblk3 m c t i d).trans ?_
    rw [V57, h40 R hM]
    exact at_col (f := fun h x => M (gb t) h i + Real.log (Z.N M (gb t) h i)) (fun h x => h57 R hM (gb t) i h x) (gp t) d _
  have hc (i : Fin 2048) (d : Fin 128) : iblk m c 4 t (ix3 0 i d) = (((Z.raw M (gb t) (gp t)).C (hd d) i : ℝ) : EReal) := by
    refine (gblk4 m c t i d).trans ?_
    rw [V61]
    exact at_col (f := fun h x => Z.c (gb t) h i) (fun h x => h61 R (gb t) i h x) (gp t) d _
  refine ⟨?_, ?_, ?_, ?_, ?_, ?_, ?_, ?_, ?_, ?_, ?_, ?_⟩
  · intro i d
    rw [View.read_rep]
    exact hx i 0 d _ (by simp)
  · intro i d
    rw [View.read_rep]
    exact hx i 1 d _ (by simp)
  · intro i d
    rw [View.read_rep]
    exact hx i 2 d _ (by simp)
  · intro i d
    rw [View.read_rep]
    exact hx i 3 d _ (by simp)
  · intro i d
    rw [View.read_rep]
    refine (gblk1 m c t i d).trans ?_
    rw [V47, h40 R hM]
    exact at_col (f := fun h x => Z.o (gb t) h i x) (fun h x => h47 R hM (gb t) i h x) (gp t) d _
  · intro i d
    rw [View.read_rep]
    refine (gblk2 m c t i d).trans ?_
    rw [V14]
    exact h14 R (gb t) i ⟨128 * (gp t).val + d.val, by have := (gp t).isLt; omega⟩
  · intro i
    rw [View.read_rep]
    exact hl i 0
  · intro i
    rw [View.read_rep]
    exact hl i 64
  · intro i
    rw [View.read_rep]
    exact hc i 0
  · intro i
    rw [View.read_rep]
    exact hc i 64
  · intro i
    rw [View.read_rep]
    refine (gblk5 m c t 0 i).trans ?_
    rw [V53]
    exact h53 R (gb t) (gp t) 0 i (by decide)
  · intro i
    rw [View.read_rep]
    refine (gblk5 m c t 1 i).trans ?_
    rw [V53]
    exact h53 R (gb t) (gp t) 1 i (by decide)

theorem o8 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal)) (j : Fin 2048) (d : Fin 128) :
    outAt8 m c t (ix3 0 j ⟨d.val, by omega⟩) = (((Z.raw M (gb t) (gp t)).pt.dq j d : ℝ) : EReal)
    ∧ outAt8 m c t (ix3 0 j ⟨128 + d.val, by omega⟩) = (((Z.raw M (gb t) (gp t)).pt.dk j d : ℝ) : EReal)
    ∧ outAt8 m c t (ix3 0 j ⟨256 + d.val, by omega⟩) = (((Z.raw M (gb t) (gp t)).pt.dv j d : ℝ) : EReal)
    ∧ outAt8 m c t (ix3 0 j ⟨384 + d.val, by omega⟩) = (((Z.raw M (gb t) (gp t)).dg j d : ℝ) : EReal) :=
  out8_val _ _ _ _ _ _ (inp t R hM _ _ _ _ _ _) j d

theorem o9 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal)) (j : Fin 2048) :
    outAt9 m c t (ix4 0 0 0 j) = ((- (Z.raw M (gb t) (gp t)).pt.dc 0 j : ℝ) : EReal)
    ∧ outAt9 m c t (ix4 0 0 1 j) = ((- (Z.raw M (gb t) (gp t)).pt.dc 1 j : ℝ) : EReal)
    ∧ ∀ x : Fin 8, 2 ≤ x.val → outAt9 m c t (ix4 0 0 x j) = ((0 : ℝ) : EReal) :=
  out9_val _ _ _ _ _ _ (inp t R hM _ _ _ _ _ _) j

theorem at6 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal))
    (i : Fin 2048) (n : Fin 512) (hn : 512 * (gp t).val + n.val < 2048) :
    outAt8 m c t (ix3 0 i n) = val_main_v102 (F := Ideal) (a0 m c) (a1 m c) (a2 m c) (a3 m c) (a4 m c) (a5 m c) (ix3 (gb t) i ⟨512 * (gp t).val + n.val, hn⟩) := by
  have key (s : Fin 4) (d : Fin 128) (hnd : n.val = 128 * s.val + d.val) :
      val_main_v102 (F := Ideal) (a0 m c) (a1 m c) (a2 m c) (a3 m c) (a4 m c) (a5 m c) (ix3 (gb t) i ⟨512 * (gp t).val + n.val, hn⟩)
        = (((if s.val = 0 then Z.dq (gb t) (2 * (gp t).val + hd d) i (d.val % 64) else if s.val = 1 then Z.dk (gb t) (2 * (gp t).val + hd d) i (d.val % 64) else if s.val = 2 then Z.dv (gb t) (2 * (gp t).val + hd d) i (d.val % 64) else Z.dg (gb t) (2 * (gp t).val + hd d) i (d.val % 64)) : ℝ) : EReal) := by
    have e := r102 R hM (gb t) i (gp t) s ⟨hd d, hd_lt_two d⟩ ⟨d.val % 64, by omega⟩
    refine Eq.trans (congrArg _ ?_) e
    have e2 : (⟨512 * (gp t).val + n.val, hn⟩ : Fin 2048) = ⟨512 * (gp t).val + 128 * s.val + 64 * hd d + d.val % 64, by unfold hd; omega⟩ := Fin.ext (by simp only []; unfold hd; omega)
    rw [e2]
  by_cases h0 : n.val < 128
  · have o := (o8 t R hM i ⟨n.val, h0⟩).1
    refine (o.trans ?_).trans (key 0 ⟨n.val, h0⟩ (by simp)).symm
    rw [raw_dq Z M _ _ _ i.isLt]; rfl
  by_cases h1 : n.val < 256
  · have o := (o8 t R hM i ⟨n.val - 128, by omega⟩).2.1
    refine Eq.trans (congrArg (fun z : Fin 512 => outAt8 m c t (ix3 0 i z)) (show n = ⟨128 + (n.val - 128), by omega⟩ from Fin.ext (by simp only []; omega))) ?_
    refine (o.trans ?_).trans (key 1 ⟨n.val - 128, by omega⟩ (by simp; omega)).symm
    rw [raw_dk]; rfl
  by_cases h2 : n.val < 384
  · have o := (o8 t R hM i ⟨n.val - 256, by omega⟩).2.2.1
    refine Eq.trans (congrArg (fun z : Fin 512 => outAt8 m c t (ix3 0 i z)) (show n = ⟨256 + (n.val - 256), by omega⟩ from Fin.ext (by simp only []; omega))) ?_
    refine (o.trans ?_).trans (key 2 ⟨n.val - 256, by omega⟩ (by simp; omega)).symm
    rw [raw_dv]; rfl
  · have o := (o8 t R hM i ⟨n.val - 384, by omega⟩).2.2.2
    refine Eq.trans (congrArg (fun z : Fin 512 => outAt8 m c t (ix3 0 i z)) (show n = ⟨384 + (n.val - 384), by omega⟩ from Fin.ext (by simp only []; omega))) ?_
    refine (o.trans ?_).trans (key 3 ⟨n.val - 384, by omega⟩ (by simp; omega)).symm
    rw [raw_dg]; rfl

theorem at7 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal))
    (s : Fin 8) (i : Fin 2048) :
    outAt9 m c t (ix4 0 0 s i) = val_main_v104 (F := Ideal) (a0 m c) (a1 m c) (a2 m c) (a3 m c) (a4 m c) (a5 m c) (ix4 (gb t) (gp t) s i) := by
  refine Eq.trans ?_ (r104 R hM (gb t) (gp t) s i).symm
  have o := o9 t R hM i
  by_cases h0 : s.val < 2
  · rw [if_pos h0]
    have hs : s = 0 ∨ s = 1 := by
      rcases s with ⟨_ | _ | _, hs⟩
      · exact Or.inl rfl
      · exact Or.inr rfl
      · exact absurd h0 (by simp)
    rcases hs with rfl | rfl
    · refine o.1.trans ?_
      rw [raw_dc Z M _ _ 0 _ (by norm_num)]; rfl
    · refine o.2.1.trans ?_
      rw [raw_dc Z M _ _ 1 _ (by norm_num)]; rfl
  · rw [if_neg h0]
    exact o.2.2 s (by omega)

theorem at8 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal))
    (i : Fin 2048) (d : Fin 128) (hd' : 128 * (gp t).val + d.val < 512) :
    outAt10 m c t (ix3 0 i d) = val_main_v107 (F := Ideal) (a0 m c) (a1 m c) (a2 m c) (a3 m c) (a4 m c) (a5 m c) (ix3 (gb t) i ⟨128 * (gp t).val + d.val, hd'⟩) := by
  refine Eq.trans ?_ (at_col (S := val_main_v107 (F := Ideal) (a0 m c) (a1 m c) (a2 m c) (a3 m c) (a4 m c) (a5 m c)) (f := fun h x => Z.dr (gb t) h i) (fun h x => r107 R hM (gb t) i h x) (gp t) d hd').symm
  refine (out10_val _ _ _ _ _ _ (inp t R hM _ _ _ _ _ _) i d).trans ?_
  rw [raw_dr Z M _ _ _ i.isLt]

section

variable (m c)

theorem final6 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal)) :
    (dats m 0 c).arrAt 6 cfg0.N = val_main_v102 (F := Ideal) (a0 m c) (a1 m c) (a2 m c) (a3 m c) (a4 m c) (a5 m c) := by
  refine (dats m 0 c).arrAt_eq_of_covers 6 _ (by decide +kernel) fun t hf y => ?_
  blk_simp
  rw [after_6]
  have e := at6 t R hM
  generalize val_main_v102 (F := Ideal) (a0 m c) (a1 m c) (a2 m c) (a3 m c) (a4 m c) (a5 m c) = G at e ⊢
  have ey := eq_ix3 y
  generalize y 0 = y0 at ey
  generalize y 1 = y1 at ey
  generalize y 2 = y2 at ey
  subst ey
  have h0 : y0 = (0 : Fin 1) := Fin.ext (by have := y0.isLt; change y0.val < 1 at this; change y0.val = 0; omega)
  subst h0
  refine (e y1 y2 (by have := (gp t).isLt; have := y2.isLt; change y2.val < 512 at this; omega)).trans ?_
  blk_ext [gidx t]

theorem final7 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal)) :
    (dats m 0 c).arrAt 7 cfg0.N = val_main_v104 (F := Ideal) (a0 m c) (a1 m c) (a2 m c) (a3 m c) (a4 m c) (a5 m c) := by
  refine (dats m 0 c).arrAt_eq_of_covers 7 _ (by decide +kernel) fun t hf y => ?_
  blk_simp
  rw [after_7]
  have e := at7 t R hM
  generalize val_main_v104 (F := Ideal) (a0 m c) (a1 m c) (a2 m c) (a3 m c) (a4 m c) (a5 m c) = G at e ⊢
  have ey := eq_ix4 y
  generalize y 0 = y0 at ey
  generalize y 1 = y1 at ey
  generalize y 2 = y2 at ey
  generalize y 3 = y3 at ey
  subst ey
  have h0 : y0 = (0 : Fin 1) := Fin.ext (by have := y0.isLt; change y0.val < 1 at this; change y0.val = 0; omega)
  have h1 : y1 = (0 : Fin 1) := Fin.ext (by have := y1.isLt; change y1.val < 1 at this; change y1.val = 0; omega)
  subst h0
  subst h1
  refine (e y2 y3).trans ?_
  blk_ext [gidx t]

theorem final8 (R : Reads Z (a0 m c) (a1 m c) (a2 m c) (a3 m c) (a4 m c) (a5 m c))
    (hM : ∀ (b : Fin 2) (h : Fin 8) (i : Fin 2048), val_main_v21 (F := Ideal) (a0 m c) (a1 m c) (a4 m c) (ix3 b h i) = ((M b h i : ℝ) : EReal)) :
    (dats m 0 c).arrAt 8 cfg0.N = val_main_v107 (F := Ideal) (a0 m c) (a1 m c) (a2 m c) (a3 m c) (a4 m c) (a5 m c) := by
  refine (dats m 0 c).arrAt_eq_of_covers 8 _ (by decide +kernel) fun t hf y => ?_
  blk_simp
  rw [after_8]
  have e := at8 t R hM
  generalize val_main_v107 (F := Ideal) (a0 m c) (a1 m c) (a2 m c) (a3 m c) (a4 m c) (a5 m c) = G at e ⊢
  have ey := eq_ix3 y
  generalize y 0 = y0 at ey
  generalize y 1 = y1 at ey
  generalize y 2 = y2 at ey
  subst ey
  have h0 : y0 = (0 : Fin 1) := Fin.ext (by have := y0.isLt; change y0.val < 1 at this; change y0.val = 0; omega)
  subst h0
  refine (e y1 y2 (by have := (gp t).isLt; have := y2.isLt; change y2.val < 128 at this; omega)).trans ?_
  blk_ext [gidx t]

end

end Cert.Proof.KernelIdeal
-- ==== Proof.Value.lean ====
/- The value claim: on finite arguments kernel and reference leave the same three arrays. -/
module

public import proofs.«01_k».proof.Proof.Out
public import proofs.«01_k».proof.Proof.Frames
public import proofs.«01_k».proof.Proof.Gen.ReferenceIdeal.Run
public import proofs.«01_k».proof.Proof.Gen.Pre_finite

@[expose] public section

set_option maxRecDepth 16384

noncomputable section

namespace Cert.Proof

open Cert.KernelIdeal Cert.KernelIdeal.Gen
open Cert.ReferenceIdeal.Read (val_main_v20_0 val_main_v21 val_main_v41 val_main_v51 val_main_v102 val_main_v104 val_main_v107)
open Cert.Proof.ReferenceIdeal (Reads r21)
open Cert.Proof.KernelIdeal
open Idealize.ShloMosaic Idealize.ShloMosaic.TcCoe Idealize.SL Idealize.SL.Sem

/-- What the precondition says at one element. -/
theorem real_of_lt (x : EReal) (h : BitVec.ofBool (decide (max x (-x) < Ideal.ofBits FTy.f32 2139095040#32)) = 1#1) : ∃ r : ℝ, x = (r : EReal) := by
  have e : Ideal.ofBits FTy.f32 2139095040#32 = ⊤ := by simp [Ideal.ofBits, Ideal.ieee]
  rw [e] at h
  have hlt : max x (-x) < ⊤ := by
    by_contra hn
    rw [decide_eq_false hn] at h
    exact absurd h (by decide)
  have h1 : x ≠ ⊤ := fun hx => by rw [hx] at hlt; simp at hlt
  have h2 : x ≠ ⊥ := fun hx => by rw [hx] at hlt; simp at hlt
  exact ⟨x.toReal, (EReal.coe_toReal h1 h2).symm⟩

theorem and_one : ∀ {a b : BitVec 1}, IntOp.andi a b = 1#1 → a = 1#1 ∧ b = 1#1 := by decide

/-- A finite array read at natural indices. -/
theorem pick {A B C : ℕ} (X : Fin A → Fin B → Fin C → EReal) (H : ∀ a b c, ∃ r : ℝ, X a b c = (r : EReal)) :
    ∃ f : ℕ → ℕ → ℕ → ℝ, ∀ (a : Fin A) (b : Fin B) (c : Fin C), X a b c = ((f a b c : ℝ) : EReal) := by
  refine ⟨fun a b c => if h : a < A ∧ b < B ∧ c < C then (X ⟨a, h.1⟩ ⟨b, h.2.1⟩ ⟨c, h.2.2⟩).toReal else 0, fun a b c => ?_⟩
  beta_reduce
  rw [dif_pos ⟨a.isLt, b.isLt, c.isLt⟩]
  obtain ⟨r, hr⟩ := H a b c
  show X a b c = ((X a b c).toReal : EReal)
  rw [hr, EReal.toReal_coe]

theorem reads_of (x0 x1 x2 x3 : FVec Ideal S2x2048x512 .f32) (x4 : FVec Ideal S2x8x2048 .f32) (x5 : FVec Ideal S2x2048x512 .f32)
    (h : ∀ y, Cert.Pre_finite.fn (F := Ideal) x0 x1 x2 x3 x4 x5 y = 1#1) : ∃ Z : Prob, Reads Z x0 x1 x2 x3 x4 x5 := by
  have H (b : Fin 2) (i : Fin 2048) (n : Fin 512) : (∃ r : ℝ, x0 (ix3 b i n) = (r : EReal)) ∧ (∃ r : ℝ, x1 (ix3 b i n) = (r : EReal)) ∧ (∃ r : ℝ, x2 (ix3 b i n) = (r : EReal))
      ∧ (∃ r : ℝ, x3 (ix3 b i n) = (r : EReal)) ∧ (∃ r : ℝ, x5 (ix3 b i n) = (r : EReal)) := by
    have e := h (ix3 b i n)
    pointwise [Cert.Pre_finite.fn, Cert.Pre_finite.fn_part1] at e
    have a5 := and_one e
    have a4 := and_one a5.1
    have a3 := and_one a4.1
    have a2 := and_one a3.1
    have a1 := and_one a2.1
    exact ⟨real_of_lt _ a1.1, real_of_lt _ a1.2, real_of_lt _ a2.2, real_of_lt _ a3.2, real_of_lt _ a5.2⟩
  have H4 (b : Fin 2) (k : Fin 8) (i : Fin 2048) : ∃ r : ℝ, x4 (ix3 b k i) = (r : EReal) := by
    have e := h (ix3 b i ⟨64 * k.val, by omega⟩)
    pointwise [Cert.Pre_finite.fn, Cert.Pre_finite.fn_part1] at e
    exact real_of_lt _ (and_one (and_one e).1).2
  obtain ⟨q, hq⟩ := pick (fun b i n => x0 (ix3 b i n)) fun b i n => (H b i n).1
  obtain ⟨k, hk⟩ := pick (fun b i n => x1 (ix3 b i n)) fun b i n => (H b i n).2.1
  obtain ⟨v, hv⟩ := pick (fun b i n => x2 (ix3 b i n)) fun b i n => (H b i n).2.2.1
  obtain ⟨g, hg⟩ := pick (fun b i n => x3 (ix3 b i n)) fun b i n => (H b i n).2.2.2.1
  obtain ⟨t, ht⟩ := pick (fun b i n => x5 (ix3 b i n)) fun b i n => (H b i n).2.2.2.2
  obtain ⟨c, hc⟩ := pick (fun b k i => x4 (ix3 b k i)) H4
  exact ⟨{ q := q, k := k, v := v, g := g, t := t, c := c }, { q := hq, k := hk, v := hv, g := hg, c := hc, t := ht }⟩

theorem algebraic : Cert.algebraic_KernelIdeal_ReferenceIdeal_pre_finite := by
  intro m g m' g' hpre hargs
  have hp (c : Dev nD) : ∃ Z : Prob, Reads Z (a0 m c) (a1 m c) (a2 m c) (a3 m c) (a4 m c) (a5 m c) :=
    reads_of _ _ _ _ _ _ fun y => congrFun (hpre c) y
  refine ⟨fun c => val_main_v102 (F := Ideal) (a0 m c) (a1 m c) (a2 m c) (a3 m c) (a4 m c) (a5 m c), fun c => val_main_v104 (F := Ideal) (a0 m c) (a1 m c) (a2 m c) (a3 m c) (a4 m c) (a5 m c),
    fun c => val_main_v107 (F := Ideal) (a0 m c) (a1 m c) (a2 m c) (a3 m c) (a4 m c) (a5 m c), ?_, ?_⟩
  · refine (θ_run Cert.KernelIdeal.defs _ _).mono (fun r h c => ?_) (Cert.Proof.KernelIdeal.run_main (F := Ideal) m g)
    obtain ⟨Z, R⟩ := hp c
    obtain ⟨M, hM⟩ := r21 R
    have hf := h.1 c
    exact ⟨(hf.1 6).trans (final6 m c R hM), (hf.1 7).trans (final7 m c R hM), (hf.1 8).trans (final8 m c R hM),
      (hf.2 main_arg0 (Pipeline.mem_restRefs_of main_arg0 (by decide) (by decide))).trans (V_main_arg0 m c),
      (hf.2 main_arg1 (Pipeline.mem_restRefs_of main_arg1 (by decide) (by decide))).trans (V_main_arg1 m c),
      (hf.2 main_arg2 (Pipeline.mem_restRefs_of main_arg2 (by decide) (by decide))).trans (V_main_arg2 m c),
      (hf.2 main_arg3 (Pipeline.mem_restRefs_of main_arg3 (by decide) (by decide))).trans (V_main_arg3 m c),
      (hf.2 main_arg4 (Pipeline.mem_restRefs_of main_arg4 (by decide) (by decide))).trans (V_main_arg4 m c),
      (hf.2 main_arg5 (Pipeline.mem_restRefs_of main_arg5 (by decide) (by decide))).trans (V_main_arg5 m c)⟩
  · refine (θ_run Cert.ReferenceIdeal.defs _ _).mono (fun r h c => ?_) (Cert.ReferenceIdeal.Value.run (F := Ideal) m' g')
    obtain ⟨e0, e1, e2, e3, e4, e5⟩ := hargs c
    obtain ⟨h0, h1, h2, hr⟩ := h c
    refine ⟨h0.trans ((Cert.ReferenceIdeal.Read.val_main_v102_eq m' c).trans ?_), h1.trans ((Cert.ReferenceIdeal.Read.val_main_v104_eq m' c).trans ?_), h2.trans ((Cert.ReferenceIdeal.Read.val_main_v107_eq m' c).trans ?_), hr⟩
    · rw [e0, e1, e2, e3, e4, e5]
    · rw [e0, e1, e2, e3, e4, e5]
    · rw [e0, e1, e2, e3, e4, e5]

end Cert.Proof

end
-- ==== Proof.Cut.lean ====
/- Sums over the columns of arrays set side by side, cut into the sums over each. -/
module

public import Idealize.ShloMosaic.Lib.Pipeline.ValueKit

@[expose] public section

noncomputable section

namespace Cert.Proof

/-- A sum cut in two. -/
theorem sum_cut {n : ℕ} (a b : ℕ) (h : a + b = n) (f : Fin n → EReal) :
    ∑ k : Fin n, f k = ∑ k : Fin a, f ⟨k.val, by omega⟩ + ∑ k : Fin b, f ⟨a + k.val, by omega⟩ := by
  subst h
  rw [Fin.sum_univ_add]
  rfl

/-- The merged heads: widths 256, 256, 512. -/
theorem sum_heads (f : Fin 1024 → EReal) :
    ∑ k : Fin 1024, f k = ∑ k : Fin 256, f ⟨k.val, by omega⟩ + ∑ k : Fin 256, f ⟨256 + k.val, by omega⟩ + ∑ k : Fin 512, f ⟨512 + k.val, by omega⟩ := by
  rw [sum_cut 512 512 rfl, sum_cut 256 256 rfl (fun k : Fin 512 => f ⟨k.val, _⟩)]

/-- The projection's pieces: widths 1024, 512, 2048, 128. -/
theorem sum_pieces (f : Fin 3712 → EReal) :
    ∑ k : Fin 3712, f k = ∑ k : Fin 1024, f ⟨k.val, by omega⟩ + ∑ k : Fin 512, f ⟨1024 + k.val, by omega⟩ + ∑ k : Fin 2048, f ⟨1536 + k.val, by omega⟩
      + ∑ k : Fin 128, f ⟨3584 + k.val, by omega⟩ := by
  rw [sum_cut 3584 128 rfl, sum_cut 1536 2048 rfl (fun k : Fin 3584 => f ⟨k.val, _⟩), sum_cut 1024 512 rfl (fun k : Fin 1536 => f ⟨k.val, _⟩)]

end Cert.Proof

end
-- ==== Proof.InBwdW.lean ====
/- The gradient of the in-projection's weights. -/
module

public import proofs.«01_k».proof.Proof.Gen.Kernel2Ideal.Value
public import proofs.«01_k».proof.Proof.Gen.Reference2Ideal.Read
public import proofs.«01_k».proof.Proof.Cut
public import Idealize.ShloMosaic.Lib.Pipeline.ReadBack

@[expose] public section

set_option maxRecDepth 16384

noncomputable section

namespace Cert.Proof.InBwdW

open Cert.Kernel2Ideal Cert.Kernel2Ideal.Gen
open Cert.Reference2Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- A row of the four column blocks laid side by side. -/
def piece (x2 : FVec Ideal S512x1024 .bf16) (x3 : FVec Ideal S512x512 .bf16) (x4 : FVec Ideal S512x2048 .bf16) (x5 : FVec Ideal S512x128 .bf16)
    (r : Fin 512) (n : Fin 3712) : EReal :=
  if h0 : n.val < 1024 then x2 (ix2 r ⟨n.val, h0⟩) else
  if h1 : n.val < 1536 then x3 (ix2 r ⟨n.val - 1024, by omega⟩) else
  if h2 : n.val < 3584 then x4 (ix2 r ⟨n.val - 1536, by omega⟩) else x5 (ix2 r ⟨n.val - 3584, by omega⟩)

theorem piece_a (x2 : FVec Ideal S512x1024 .bf16) (x3 : FVec Ideal S512x512 .bf16) (x4 : FVec Ideal S512x2048 .bf16) (x5 : FVec Ideal S512x128 .bf16)
    (r : Fin 512) (n : Fin 3712) (j : Fin 1024) (h : n.val = j.val) : piece x2 x3 x4 x5 r n = x2 (ix2 r j) := by
  obtain ⟨n, hn⟩ := n
  obtain rfl : n = j.val := h
  exact dif_pos j.isLt

theorem piece_b (x2 : FVec Ideal S512x1024 .bf16) (x3 : FVec Ideal S512x512 .bf16) (x4 : FVec Ideal S512x2048 .bf16) (x5 : FVec Ideal S512x128 .bf16)
    (r : Fin 512) (n : Fin 3712) (j : Fin 512) (h : n.val = 1024 + j.val) : piece x2 x3 x4 x5 r n = x3 (ix2 r j) := by
  unfold piece
  rw [dif_neg (by omega), dif_pos (by omega)]
  exact congrArg x3 (congrArg (ix2 r) (Fin.ext (by show n.val - 1024 = j.val; omega)))

theorem piece_c (x2 : FVec Ideal S512x1024 .bf16) (x3 : FVec Ideal S512x512 .bf16) (x4 : FVec Ideal S512x2048 .bf16) (x5 : FVec Ideal S512x128 .bf16)
    (r : Fin 512) (n : Fin 3712) (j : Fin 2048) (h : n.val = 1536 + j.val) : piece x2 x3 x4 x5 r n = x4 (ix2 r j) := by
  unfold piece
  rw [dif_neg (by omega), dif_neg (by omega), dif_pos (by omega)]
  exact congrArg x4 (congrArg (ix2 r) (Fin.ext (by show n.val - 1536 = j.val; omega)))

theorem piece_f (x2 : FVec Ideal S512x1024 .bf16) (x3 : FVec Ideal S512x512 .bf16) (x4 : FVec Ideal S512x2048 .bf16) (x5 : FVec Ideal S512x128 .bf16)
    (r : Fin 512) (n : Fin 3712) (j : Fin 128) (h : n.val = 3584 + j.val) : piece x2 x3 x4 x5 r n = x5 (ix2 r j) := by
  unfold piece
  rw [dif_neg (by omega), dif_neg (by omega), dif_neg (by omega)]
  exact congrArg x5 (congrArg (ix2 r) (Fin.ext (by show n.val - 3584 = j.val; omega)))

/-- What one block of 512 rows adds to the weights' gradient. -/
def part (x0 : FVec Ideal S512x1024 .f32) (x1 : FVec Ideal S1x1024 .f32) (x2 : FVec Ideal S512x1024 .bf16) (x3 : FVec Ideal S512x512 .bf16) (x4 : FVec Ideal S512x2048 .bf16) (x5 : FVec Ideal S512x128 .bf16)
    (y : S1024x3712.Idx) : EReal :=
  ∑ r : Fin 512, k0_pay4 (F := Ideal) x0 x1 (ix2 r (y 0)) * piece x2 x3 x4 x5 r (y 1)

theorem stepB (t : Fin cfg0.N) (hn : ¬ t.val % 8 = 0) (y : S1024x3712.Idx) : outsAt0 m c t.val t.isLt y
    = outsAt0 m c (t.val - 1) (by omega) y + part (iblk m c 0 t) (iblk m c 1 t) (iblk m c 2 t) (iblk m c 3 t) (iblk m c 4 t) (iblk m c 5 t) y := by
  rw [outsAt0_B m c t hn]
  frame_out
  generalize iblk m c 0 t = x0
  generalize iblk m c 1 t = x1
  generalize iblk m c 2 t = x2
  generalize iblk m c 3 t = x3
  generalize iblk m c 4 t = x4
  generalize iblk m c 5 t = x5
  refine View.canon_append_of_piecesOf (fun y => outsAt0 m c (t.val - 1) (by omega) y + part x0 x1 x2 x3 x4 x5 y) [] [_, _, _, _] ⟨?_, ?_, ?_, ?_, trivial⟩ y (View.cover_of_tiledBy _ ![1024, 128] (by sl_kernel_rfl) y)
  · intro x
    pointwise [k0_pay2]
    refine congrArg₂ (· + ·) (congrArg _ (by blk_ext)) (Finset.sum_congr rfl fun k _ => congrArg₂ (· * ·) (congrArg _ (by blk_ext)) (piece_f x2 x3 x4 x5 k _ (x 1) (by blk_simp)).symm)
  · intro x
    pointwise [k0_pay1]
    refine congrArg₂ (· + ·) (congrArg _ (by blk_ext)) (Finset.sum_congr rfl fun k _ => congrArg₂ (· * ·) (congrArg _ (by blk_ext)) (piece_c x2 x3 x4 x5 k _ (x 1) (by blk_simp)).symm)
  · intro x
    pointwise [k0_pay6]
    refine congrArg₂ (· + ·) (congrArg _ (by blk_ext)) (Finset.sum_congr rfl fun k _ => congrArg₂ (· * ·) (congrArg _ (by blk_ext)) (piece_b x2 x3 x4 x5 k _ (x 1) (by blk_simp)).symm)
  · intro x
    pointwise [k0_pay5]
    refine congrArg₂ (· + ·) (congrArg _ (by blk_ext)) (Finset.sum_congr rfl fun k _ => congrArg₂ (· * ·) (congrArg _ (by blk_ext)) (piece_a x2 x3 x4 x5 k _ (x 1) (by blk_simp)).symm)

theorem stepA (t : Fin cfg0.N) (hn : t.val % 8 = 0) (y : S1024x3712.Idx) : outsAt0 m c t.val t.isLt y
    = (fun _ => (0 : EReal)) y + part (iblk m c 0 t) (iblk m c 1 t) (iblk m c 2 t) (iblk m c 3 t) (iblk m c 4 t) (iblk m c 5 t) y := by
  rw [outsAt0_A m c t hn]
  frame_out
  generalize iblk m c 0 t = x0
  generalize iblk m c 1 t = x1
  generalize iblk m c 2 t = x2
  generalize iblk m c 3 t = x3
  generalize iblk m c 4 t = x4
  generalize iblk m c 5 t = x5
  refine View.canon_append_of_piecesOf (s := S1024x3712) (e := .f32) (Val := Elt Ideal) (fun y => (0 : EReal) + part x0 x1 x2 x3 x4 x5 y) [_] [_, _, _, _] ⟨?_, ?_, ?_, ?_, trivial⟩ y (View.cover_of_tiledBy _ ![1024, 128] (by sl_kernel_rfl) y)
  · intro x
    dsimp only
    rw [View.readCov_skip _ _ _ _ _ (by decide +kernel)]
    rw [View.readCov_skip _ _ _ _ _ (by decide +kernel)]
    rw [View.readCov_skip _ _ _ _ _ (by decide +kernel)]
    rw [View.readCov_fill _ _ _ _ _ (by decide)]
    pointwise [k0_pay2, k0_pay3]
    refine (Finset.sum_congr rfl fun k _ => congrArg₂ (· * ·) (congrArg _ (by blk_ext)) (piece_f x2 x3 x4 x5 k _ (x 1) (by blk_simp)).symm)
  · intro x
    dsimp only
    rw [View.readCov_skip _ _ _ _ _ (by decide +kernel)]
    rw [View.readCov_skip _ _ _ _ _ (by decide +kernel)]
    rw [View.readCov_fill _ _ _ _ _ (by decide)]
    pointwise [k0_pay1, k0_pay3]
    refine (Finset.sum_congr rfl fun k _ => congrArg₂ (· * ·) (congrArg _ (by blk_ext)) (piece_c x2 x3 x4 x5 k _ (x 1) (by blk_simp)).symm)
  · intro x
    dsimp only
    rw [View.readCov_skip _ _ _ _ _ (by decide +kernel)]
    rw [View.readCov_fill _ _ _ _ _ (by decide)]
    pointwise [k0_pay6, k0_pay3]
    refine (Finset.sum_congr rfl fun k _ => congrArg₂ (· * ·) (congrArg _ (by blk_ext)) (piece_b x2 x3 x4 x5 k _ (x 1) (by blk_simp)).symm)
  · intro x
    dsimp only
    rw [View.readCov_fill _ _ _ _ _ (by decide)]
    pointwise [k0_pay5, k0_pay3]
    refine (Finset.sum_congr rfl fun k _ => congrArg₂ (· * ·) (congrArg _ (by blk_ext)) (piece_a x2 x3 x4 x5 k _ (x 1) (by blk_simp)).symm)

/-- The normalised row `r` at column `a`. -/
def hval (x0 : FVec Ideal S4096x1024 .f32) (x1 : FVec Ideal S1x1024 .f32) (r : Fin 4096) (a : Fin 1024) : EReal :=
  x0 (ix2 r a) * Ideal.rsqrt (Ideal.div (∑ k : Fin 1024, x0 (ix2 r k) * x0 (ix2 r k)) (Ideal.ofBits FTy.f32 1149239296#32) + Ideal.ofBits FTy.f32 897988541#32) * x1 (ix2 0 a)

/-- A row of the four gradients laid side by side. -/
def whole (x2 : FVec Ideal S4096x1024 .bf16) (x3 : FVec Ideal S4096x512 .bf16) (x4 : FVec Ideal S4096x2048 .bf16) (x5 : FVec Ideal S4096x128 .bf16)
    (r : Fin 4096) (n : Fin 3712) : EReal :=
  if h0 : n.val < 1024 then x2 (ix2 r ⟨n.val, h0⟩) else
  if h1 : n.val < 1536 then x3 (ix2 r ⟨n.val - 1024, by omega⟩) else
  if h2 : n.val < 3584 then x4 (ix2 r ⟨n.val - 1536, by omega⟩) else x5 (ix2 r ⟨n.val - 3584, by omega⟩)

theorem ref_dw (x0 : FVec Ideal S4096x1024 .f32) (x1 : FVec Ideal S1x1024 .f32) (x2 : FVec Ideal S4096x1024 .bf16) (x3 : FVec Ideal S4096x512 .bf16) (x4 : FVec Ideal S4096x2048 .bf16) (x5 : FVec Ideal S4096x128 .bf16)
    (a : Fin 1024) (n : Fin 3712) : val_main_v17 (F := Ideal) x0 x1 x2 x3 x4 x5 (ix2 a n) = ∑ r : Fin 4096, hval x0 x1 r a * whole x2 x3 x4 x5 r n := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  refine Finset.sum_congr rfl fun r _ => (mul_comm _ _).trans (congrArg₂ (· * ·) rfl ?_)
  unfold whole
  by_cases h0 : n.val < 1024
  · rw [dif_pos h0, dif_pos h0]
  rw [dif_neg h0, dif_neg h0]
  by_cases h1 : n.val < 1536
  · rw [dif_pos (by omega : n.val - 1024 < 512), dif_pos h1]
  rw [dif_neg (by omega : ¬ n.val - 1024 < 512), dif_neg h1]
  by_cases h2 : n.val < 3584
  · rw [dif_pos (by omega : n.val - 1024 - 512 < 2048), dif_pos h2]
    exact congrArg x4 (congrArg (ix2 r) (Fin.ext (by show n.val - 1024 - 512 = n.val - 1536; omega)))
  rw [dif_neg (by omega : ¬ n.val - 1024 - 512 < 2048), dif_neg h2]
  exact congrArg x5 (congrArg (ix2 r) (Fin.ext (by show n.val - 1024 - 512 - 2048 = n.val - 3584; omega)))

theorem at_h (u : Fin cfg0.N) (k : Fin 512) (a : Fin 1024) (hl : u.val * 512 + k.val < 4096) : k0_pay4 (F := Ideal) (iblk m c 0 u) (iblk m c 1 u) (ix2 k a)
    = hval (m ((c : Thread nD τ).loc main_arg0)) (m ((c : Thread nD τ).loc main_arg1)) ⟨u.val * 512 + k.val, hl⟩ a := by
  unfold hval
  pointwise [k0_pay4]
  blk_point [iblk, V, idx u]

theorem at_piece (u : Fin cfg0.N) (k : Fin 512) (n : Fin 3712) (hl : u.val * 512 + k.val < 4096) : piece (iblk m c 2 u) (iblk m c 3 u) (iblk m c 4 u) (iblk m c 5 u) k n
    = whole (m ((c : Thread nD τ).loc main_arg2)) (m ((c : Thread nD τ).loc main_arg3)) (m ((c : Thread nD τ).loc main_arg4)) (m ((c : Thread nD τ).loc main_arg5)) ⟨u.val * 512 + k.val, hl⟩ n := by
  unfold piece whole
  by_cases h0 : n.val < 1024
  · rw [dif_pos h0, dif_pos h0]
    blk_point [iblk, V, idx u]
  rw [dif_neg h0, dif_neg h0]
  by_cases h1 : n.val < 1536
  · rw [dif_pos h1, dif_pos h1]
    blk_point [iblk, V, idx u]
  rw [dif_neg h1, dif_neg h1]
  by_cases h2 : n.val < 3584
  · rw [dif_pos h2, dif_pos h2]
    blk_point [iblk, V, idx u]
  rw [dif_neg h2, dif_neg h2]
  blk_point [iblk, V, idx u]

theorem final : (dats m 0 c).arrAt 6 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, Pipeline.eq_sum_fin_of_reset_step_apply_of_flush (fun n h => outsAt0 m c n h) 8 (fun _ => (0 : EReal)) _
    (fun t h j => by rw [stepA m c t h]) (fun t h j => by rw [stepB m c t h]) t ((flush0_6 t).mp hf) _]
  obtain ⟨a, n, rfl⟩ : ∃ (a : Fin 1024) (n : Fin 3712), y = ix2 a n := ⟨y 0, y 1, by blk_ext⟩
  refine (zero_add (M := EReal) _).trans ?_
  refine Eq.trans ?_ (congrArg (val_main_v17 (F := Ideal) _ _ _ _ _ _) (show ix2 a n = _ by blk_ext [idx t]))
  refine Eq.trans ?_ (ref_dw _ _ _ _ _ _ a n).symm
  have h8 : t.val % 8 = 7 := (flush0_6 t).mp hf
  have ht : t.val < 8 := by have := t.isLt; simp only [N_0] at this; omega
  refine Fin.sum_mul_add_congr fun s k hl => ?_
  have hs : (⟨8 * (t.val / 8) + s.val, Pipeline.run_point_lt_of_flush t ((flush0_6 t).mp hf) s⟩ : Fin cfg0.N) = ⟨s.val, by show s.val < grid0.N; rw [N_0]; exact s.isLt⟩ := Fin.ext (by show 8 * (t.val / 8) + s.val = s.val; omega)
  rw [hs]
  exact congrArg₂ (· * ·) (at_h m c ⟨s.val, by show s.val < grid0.N; rw [N_0]; exact s.isLt⟩ k a hl) (at_piece m c ⟨s.val, by show s.val < grid0.N; rw [N_0]; exact s.isLt⟩ k n hl)

end Cert.Proof.InBwdW

end
-- ==== Proof.Norm.lean ====
/- The gradient of the root-mean-square normalisation of one row, in the two forms the programs print. -/
module

public import proofs.«01_k».proof.Proof.Real

@[expose] public section

noncomputable section

namespace Cert.Proof

open Idealize.ShloMosaic

theorem width : Ideal.ofBits .f32 1149239296#32 = ((1024 : ℝ) : EReal) := by
  simp [Ideal.ofBits, Ideal.ieee, -EReal.coe_mul]; norm_num

theorem minus_half : Ideal.ofBits .f32 3204448256#32 = ((-1 / 2 : ℝ) : EReal) := by
  simp [Ideal.ofBits, Ideal.ieee, -EReal.coe_mul]; norm_num

theorem small : ∃ e : ℝ, 0 < e ∧ Ideal.ofBits .f32 897988541#32 = ((e : ℝ) : EReal) := by
  refine ⟨(8796093 : ℝ) / 2 ^ 43, by positivity, ?_⟩
  simp [Ideal.ofBits, Ideal.ieee, -EReal.coe_mul]; norm_num

/-- The mean square of a row plus the small constant. -/
def msq (X : Fin 1024 → EReal) : EReal :=
  Ideal.div (∑ k, X k * X k) (Ideal.ofBits .f32 1149239296#32) + Ideal.ofBits .f32 897988541#32

theorem msq_real (x : Fin 1024 → ℝ) : ∃ v : ℝ, 0 < v ∧ msq (fun k => (x k : EReal)) = (v : EReal) ∧ Ideal.rsqrt (msq fun k => (x k : EReal)) = (((Real.sqrt v)⁻¹ : ℝ) : EReal) := by
  obtain ⟨e, he, hs⟩ := small
  have h : msq (fun k => (x k : EReal)) = (((∑ k, x k * x k) * (1 / 1024) + e : ℝ) : EReal) := by
    unfold msq
    rw [hs, width, Ideal.div_coe (by norm_num)]
    simp only [← EReal.coe_mul, coe_sum, ← EReal.coe_add]
  have hv : 0 < (∑ k, x k * x k) * (1 / 1024) + e := by
    have : 0 ≤ ∑ k, x k * x k := Finset.sum_nonneg fun k _ => mul_self_nonneg (x k)
    positivity
  refine ⟨_, hv, h, ?_⟩
  rw [h, Ideal.rsqrt_coe, if_neg (not_lt.mpr hv.le), if_neg hv.ne']

/-- With a real row and a real gradient of the normalised row, the closed form equals the one differentiation gives. -/
theorem norm_grad {X U : Fin 1024 → EReal} {x u : Fin 1024 → ℝ} (hx : ∀ k, X k = (x k : EReal)) (hu : ∀ k, U k = (u k : EReal)) (j : Fin 1024) :
    Ideal.rsqrt (msq X) * (U j - X j * Ideal.rsqrt (msq X) * Ideal.div (∑ k, U k * (X k * Ideal.rsqrt (msq X))) (Ideal.ofBits .f32 1149239296#32))
      = U j * Ideal.rsqrt (msq X)
        + X j * Ideal.div ((∑ k, X k * U k) * (Ideal.ofBits .f32 3204448256#32 * Ideal.div (Ideal.rsqrt (msq X)) (msq X))) (Ideal.ofBits .f32 1149239296#32)
        + Ideal.div ((∑ k, X k * U k) * (Ideal.ofBits .f32 3204448256#32 * Ideal.div (Ideal.rsqrt (msq X)) (msq X))) (Ideal.ofBits .f32 1149239296#32) * X j := by
  obtain rfl : X = fun k => (x k : EReal) := funext hx
  obtain rfl : U = fun k => (u k : EReal) := funext hu
  obtain ⟨v, hv, hm, hr⟩ := msq_real x
  rw [hr, hm, width, minus_half, Ideal.div_coe (by norm_num), Ideal.div_coe (by norm_num), Ideal.div_coe hv.ne']
  simp only [← EReal.coe_mul, coe_sum, ← EReal.coe_add, ← EReal.coe_sub]
  refine congrArg _ ?_
  have hq : Real.sqrt v ≠ 0 := (Real.sqrt_pos.mpr hv).ne'
  have hsq : (Real.sqrt v)⁻¹ * (Real.sqrt v)⁻¹ = 1 / v := by rw [← mul_inv, Real.mul_self_sqrt hv.le, one_div]
  have hsum : (∑ k, u k * (x k * (Real.sqrt v)⁻¹)) = (∑ k, x k * u k) * (Real.sqrt v)⁻¹ := by
    rw [Finset.sum_mul]; exact Finset.sum_congr rfl fun k _ => by ring
  rw [hsum, ← hsq]
  ring

/-- Both forms are real. -/
theorem norm_real {X U : Fin 1024 → EReal} {x u : Fin 1024 → ℝ} (hx : ∀ k, X k = (x k : EReal)) (hu : ∀ k, U k = (u k : EReal)) (j : Fin 1024) :
    ∃ r : ℝ, Ideal.rsqrt (msq X) * (U j - X j * Ideal.rsqrt (msq X) * Ideal.div (∑ k, U k * (X k * Ideal.rsqrt (msq X))) (Ideal.ofBits .f32 1149239296#32)) = (r : EReal) := by
  obtain rfl : X = fun k => (x k : EReal) := funext hx
  obtain rfl : U = fun k => (u k : EReal) := funext hu
  obtain ⟨v, hv, hm, hr⟩ := msq_real x
  rw [hr, width, Ideal.div_coe (by norm_num)]
  simp only [← EReal.coe_mul, coe_sum, ← EReal.coe_add, ← EReal.coe_sub]
  exact ⟨_, rfl⟩

end Cert.Proof

end
-- ==== Proof.InBwdX.lean ====
/- The gradient of the in-projection's input and of its norm's weights. -/
module

public import proofs.«01_k».proof.Proof.Gen.Kernel3Ideal.Value
public import proofs.«01_k».proof.Proof.Gen.Reference3Ideal.Read
public import proofs.«01_k».proof.Proof.Cut
public import proofs.«01_k».proof.Proof.Norm
public import Idealize.ShloMosaic.Lib.Pipeline.ReadBack

@[expose] public section

set_option maxRecDepth 16384

noncomputable section

namespace Cert.Proof.InBwdX

open Cert.Kernel3Ideal Cert.Kernel3Ideal.Gen
open Cert.Reference3Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![t.val, 0] ∧ win0_7.index t = ![t.val, 0] ∧ win0_8.index t = ![t.val, 0] ∧ win0_9.index t = ![0, 0] :=
  (by decide +kernel : ∀ t : Fin grid0.N, _)

/-- The gradient of the projected row: the four pieces' products added. -/
def dh (x3 : FVec Ideal S1024x3712 .bf16) (x4 : FVec Ideal S4096x1024 .bf16) (x5 : FVec Ideal S4096x512 .bf16) (x6 : FVec Ideal S4096x2048 .bf16) (x7 : FVec Ideal S4096x128 .bf16) (i : Fin 4096) (j : Fin 1024) : EReal :=
  ∑ k : Fin 1024, x4 (ix2 i k) * x3 (ix2 j ⟨k.val, by omega⟩) + ∑ k : Fin 512, x5 (ix2 i k) * x3 (ix2 j ⟨1024 + k.val, by omega⟩)
    + ∑ k : Fin 2048, x6 (ix2 i k) * x3 (ix2 j ⟨1536 + k.val, by omega⟩) + ∑ k : Fin 128, x7 (ix2 i k) * x3 (ix2 j ⟨3584 + k.val, by omega⟩)

theorem ref_dh (x3 : FVec Ideal S1024x3712 .bf16) (x4 : FVec Ideal S4096x1024 .bf16) (x5 : FVec Ideal S4096x512 .bf16) (x6 : FVec Ideal S4096x2048 .bf16) (x7 : FVec Ideal S4096x128 .bf16)
    (i : Fin 4096) (j : Fin 1024) : val_main_v19 (F := Ideal) x3 x4 x5 x6 x7 (ix2 i j) = dh x3 x4 x5 x6 x7 i j := by
  pointwise [val_main_v19, val_main_v2, val_main_v1, val_main_v0]
  rw [sum_pieces]
  refine congrArg₂ (· + ·) (congrArg₂ (· + ·) (congrArg₂ (· + ·) ?_ ?_) ?_) ?_
  · refine Finset.sum_congr rfl fun k _ => ?_
    rw [dif_pos (by show k.val < 1024; omega)]
  · refine Finset.sum_congr rfl fun k _ => ?_
    rw [dif_neg (by show ¬ 1024 + k.val < 1024; omega), dif_pos (by show 1024 + k.val - 1024 < 512; omega)]
    blk_point []
  · refine Finset.sum_congr rfl fun k _ => ?_
    rw [dif_neg (by show ¬ 1536 + k.val < 1024; omega), dif_neg (by show ¬ 1536 + k.val - 1024 < 512; omega), dif_pos (by show 1536 + k.val - 1024 - 512 < 2048; omega)]
    blk_point []
  · refine Finset.sum_congr rfl fun k _ => ?_
    rw [dif_neg (by show ¬ 3584 + k.val < 1024; omega), dif_neg (by show ¬ 3584 + k.val - 1024 < 512; omega), dif_neg (by show ¬ 3584 + k.val - 1024 - 512 < 2048; omega)]
    blk_point []

/-- The input's gradient as the normalisation's closed form. -/
theorem ref_dx (x0 : FVec Ideal S4096x1024 .f32) (x1 : FVec Ideal S4096x1024 .f32) (x2 : FVec Ideal S1x1024 .f32) (x3 : FVec Ideal S1024x3712 .bf16) (x4 : FVec Ideal S4096x1024 .bf16) (x5 : FVec Ideal S4096x512 .bf16) (x6 : FVec Ideal S4096x2048 .bf16) (x7 : FVec Ideal S4096x128 .bf16)
    (i : Fin 4096) (j : Fin 1024) {x u : Fin 1024 → ℝ} (hx : ∀ k, x0 (ix2 i k) = (x k : EReal)) (hu : ∀ k, dh x3 x4 x5 x6 x7 i k * x2 (ix2 0 k) = (u k : EReal)) :
    x1 (ix2 i j) + Ideal.rsqrt (msq fun k => x0 (ix2 i k)) * (dh x3 x4 x5 x6 x7 i j * x2 (ix2 0 j)
        - x0 (ix2 i j) * Ideal.rsqrt (msq fun k => x0 (ix2 i k)) * Ideal.div (∑ k, dh x3 x4 x5 x6 x7 i k * x2 (ix2 0 k) * (x0 (ix2 i k) * Ideal.rsqrt (msq fun k => x0 (ix2 i k)))) (Ideal.ofBits .f32 1149239296#32))
      = val_main_v39 (F := Ideal) x0 x1 x2 x3 x4 x5 x6 x7 (ix2 i j) := by
  rw [norm_grad (X := fun k => x0 (ix2 i k)) (U := fun k => dh x3 x4 x5 x6 x7 i k * x2 (ix2 0 k)) hx hu j]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6]
  simp only [Finset.univ_unique, Finset.sum_singleton, ref_dh, ← add_assoc]
  rfl

theorem ref_dg (x0 : FVec Ideal S4096x1024 .f32) (x3 : FVec Ideal S1024x3712 .bf16) (x4 : FVec Ideal S4096x1024 .bf16) (x5 : FVec Ideal S4096x512 .bf16) (x6 : FVec Ideal S4096x2048 .bf16) (x7 : FVec Ideal S4096x128 .bf16)
    (i : Fin 8) (j : Fin 1024) : val_main_v40 (F := Ideal) x0 x3 x4 x5 x6 x7 (ix2 i j) = ∑ r : Fin 4096, dh x3 x4 x5 x6 x7 r j * (x0 (ix2 r j) * Ideal.rsqrt (msq fun k => x0 (ix2 r k))) := by
  pointwise [val_main_v40, val_main_v22, val_main_v21, val_main_v20, val_main_v15, val_main_v14, val_main_v10, val_main_v9, val_main_v8, val_main_v7, val_main_v6, val_main_v5, val_main_v4, val_main_v3, val_main_cst, val_main_cst_0, val_main_cst_1, val_main_cst_3]
  simp only [ref_dh]
  exact Finset.sum_congr rfl fun r _ => mul_comm _ _

theorem final8 (hf : ∀ i : Fin 4096, ∃ x u : Fin 1024 → ℝ, (∀ k, (m ((c : Thread nD τ).loc main_arg0)) (ix2 i k) = (x k : EReal)) ∧ (∀ k, dh (m ((c : Thread nD τ).loc main_arg3)) (m ((c : Thread nD τ).loc main_arg4)) (m ((c : Thread nD τ).loc main_arg5)) (m ((c : Thread nD τ).loc main_arg6)) (m ((c : Thread nD τ).loc main_arg7)) i k * (show EReal from (m ((c : Thread nD τ).loc main_arg2)) (ix2 0 k)) = (u k : EReal))) :
    (dats m 0 c).arrAt 8 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  obtain ⟨i, j, rfl⟩ : ∃ (i : Fin 512) (j : Fin 1024), y = ix2 i j := ⟨y 0, y 1, by blk_ext⟩
  have hl : 512 * t.val + i.val < 4096 := by have := t.isLt; simp only [N_0] at this; omega
  refine Eq.trans ?_ (congrArg (val_main_v39 (F := Ideal) _ _ _ _ _ _ _ _) (show ix2 (⟨512 * t.val + i, hl⟩ : Fin 4096) j = _ by blk_ext [idx t]))
  obtain ⟨x, u, hx, hu⟩ := hf ⟨512 * t.val + i, hl⟩
  refine Eq.trans ?_ (ref_dx _ _ _ _ _ _ _ _ _ j hx hu)
  by_cases h : t.val % 8 = 0
  · rw [outsAt0_A m c t h]
    frame_out
    pointwise [k0_pay3, k0_pay6, k0_pay7, k0_pay5, k0_pay1, dh, msq]
    blk_point [iblk, V, idx t]
  · rw [outsAt0_B m c t h]
    frame_out
    pointwise [k0_pay3, k0_pay6, k0_pay7, k0_pay5, k0_pay1, dh, msq]
    blk_point [iblk, V, idx t]

/-- What row `r` adds to the norm's weights' gradient. -/
def term (x0 : FVec Ideal S4096x1024 .f32) (x3 : FVec Ideal S1024x3712 .bf16) (x4 : FVec Ideal S4096x1024 .bf16) (x5 : FVec Ideal S4096x512 .bf16) (x6 : FVec Ideal S4096x2048 .bf16) (x7 : FVec Ideal S4096x128 .bf16)
    (r : Fin 4096) (j : Fin 1024) : EReal := dh x3 x4 x5 x6 x7 r j * (x0 (ix2 r j) * Ideal.rsqrt (msq fun k => x0 (ix2 r k)))

theorem lt_rows (t : Fin cfg0.N) (r : Fin 512) : t.val * 512 + r.val < 4096 := by have : t.val < 8 := lt_of_lt_of_eq t.isLt N_0; omega

theorem stepB (t : Fin cfg0.N) (h : ¬ t.val % 8 = 0) (y : S8x1024.Idx) : (outsAt0 m c t.val t.isLt).2 y
    = (outsAt0 m c (t.val - 1) (by omega)).2 y + ∑ r : Fin 512, term (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 512 + r.val, lt_rows t r⟩ (y 1) := by
  obtain ⟨i, j, rfl⟩ : ∃ (i : Fin 8) (j : Fin 1024), y = ix2 i j := ⟨y 0, y 1, by blk_ext⟩
  rw [outsAt0_B m c t h]
  frame_out
  pointwise [k0_pay2, k0_pay6, k0_pay7, k0_pay5, k0_pay1, dh, msq, term]
  blk_point [iblk, V, idx t]

theorem stepA (t : Fin cfg0.N) (h : t.val % 8 = 0) (y : S8x1024.Idx) : (outsAt0 m c t.val t.isLt).2 y
    = (fun _ => (0 : EReal)) y + ∑ r : Fin 512, term (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 512 + r.val, lt_rows t r⟩ (y 1) := by
  obtain ⟨i, j, rfl⟩ : ∃ (i : Fin 8) (j : Fin 1024), y = ix2 i j := ⟨y 0, y 1, by blk_ext⟩
  rw [outsAt0_A m c t h]
  frame_out
  pointwise [k0_pay2, k0_pay6, k0_pay7, k0_pay5, k0_pay1, k0_pay4, dh, msq, term]
  blk_point [iblk, V, idx t]

theorem final9 : (dats m 0 c).arrAt 9 cfg0.N = val_main_v40 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9, Pipeline.eq_sum_fin_of_reset_step_apply_of_flush (fun n h => (outsAt0 m c n h).2) 8 (fun _ => (0 : EReal)) _
    (fun t h j => by rw [stepA m c t h]) (fun t h j => by rw [stepB m c t h]) t ((flush0_9 t).mp hf) _]
  obtain ⟨i, j, rfl⟩ : ∃ (i : Fin 8) (j : Fin 1024), y = ix2 i j := ⟨y 0, y 1, by blk_ext⟩
  refine (zero_add (M := EReal) _).trans ?_
  refine Eq.trans ?_ (congrArg (val_main_v40 (F := Ideal) _ _ _ _ _ _) (show ix2 i j = _ by blk_ext [idx t]))
  refine Eq.trans ?_ (ref_dg _ _ _ _ _ _ i j).symm
  have h8 : t.val % 8 = 7 := (flush0_9 t).mp hf
  have ht : t.val < 8 := by have := t.isLt; simp only [N_0] at this; omega
  refine Fin.sum_mul_add_congr fun s k hl => ?_
  refine congrArg (fun r => term (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) r j) (Fin.ext ?_)
  show (8 * (t.val / 8) + s.val) * 512 + k.val = s.val * 512 + k.val
  omega

end Cert.Proof.InBwdX

end
-- ==== Proof.OutBwd.lean ====
/- The gradient of the merged heads, of the out-projection's weights and of its norm's weights. -/
module

public import proofs.«01_k».proof.Proof.Gen.Kernel4Ideal.Value
public import proofs.«01_k».proof.Proof.Gen.Reference4Ideal.Read
public import proofs.«01_k».proof.Proof.Cut
public import proofs.«01_k».proof.Proof.Norm
public import Idealize.ShloMosaic.Lib.Pipeline.ReadBack
public import Idealize.ShloMosaic.Lib.StableHlo.RunRead

@[expose] public section

set_option maxRecDepth 16384

noncomputable section

namespace Cert.Proof.OutBwd

open Cert.Kernel4Ideal Cert.Kernel4Ideal.Gen
open Cert.Reference4Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![t.val, 0] ∧ win0_8.index t = ![0, 0] ∧ win0_9.index t = ![0, 0] :=
  (by decide +kernel : ∀ t : Fin grid0.N, _)

theorem V_y : V m c main_v3 = val_main_v3 (F := Ideal) (m ((c : Thread nD τ).loc main_arg1)) (m ((c : Thread nD τ).loc main_arg2)) (m ((c : Thread nD τ).loc main_arg3)) (m ((c : Thread nD τ).loc main_arg4)) := by
  unfold_abbrev_sides
  simp only [hostOps0]
  after_reads_simp
  rfl

/-- The gradient of the product's row as the normalisation's closed form. -/
theorem ref_dy (x0 : FVec Ideal S4096x1024 .f32) (x1 x2 : FVec Ideal S4096x256 .bf16) (x3 : FVec Ideal S4096x512 .bf16) (x4 : FVec Ideal S1024x1024 .bf16) (x5 : FVec Ideal S1x1024 .f32) (i : Fin 4096) (j : Fin 1024) {x u : Fin 1024 → ℝ}
    (hx : ∀ k, val_main_v3 (F := Ideal) x1 x2 x3 x4 (ix2 i k) = (x k : EReal)) (hu : ∀ k, x0 (ix2 i k) * x5 (ix2 0 k) = (u k : EReal)) :
    Ideal.rsqrt (msq fun k => val_main_v3 (F := Ideal) x1 x2 x3 x4 (ix2 i k)) * (x0 (ix2 i j) * x5 (ix2 0 j)
        - val_main_v3 (F := Ideal) x1 x2 x3 x4 (ix2 i j) * Ideal.rsqrt (msq fun k => val_main_v3 (F := Ideal) x1 x2 x3 x4 (ix2 i k))
          * Ideal.div (∑ k, x0 (ix2 i k) * x5 (ix2 0 k) * (val_main_v3 (F := Ideal) x1 x2 x3 x4 (ix2 i k) * Ideal.rsqrt (msq fun k => val_main_v3 (F := Ideal) x1 x2 x3 x4 (ix2 i k)))) (Ideal.ofBits .f32 1149239296#32))
      = val_main_v37 (F := Ideal) x0 x1 x2 x3 x4 x5 (ix2 i j) := by
  rw [norm_grad (X := fun k => val_main_v3 (F := Ideal) x1 x2 x3 x4 (ix2 i k)) (U := fun k => x0 (ix2 i k) * x5 (ix2 0 k)) hx hu j]
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6]
  simp only [Finset.univ_unique, Finset.sum_singleton]
  rfl

theorem ref_dm (x0 : FVec Ideal S4096x1024 .f32) (x1 x2 : FVec Ideal S4096x256 .bf16) (x3 : FVec Ideal S4096x512 .bf16) (x4 : FVec Ideal S1024x1024 .bf16) (x5 : FVec Ideal S1x1024 .f32) (i : Fin 4096) (j : Fin 1024) : val_main_v40 (F := Ideal) x0 x1 x2 x3 x4 x5 (ix2 i j)
    = ∑ k : Fin 1024, val_main_v37 (F := Ideal) x0 x1 x2 x3 x4 x5 (ix2 i k) * x4 (ix2 j k) := by
  pointwise [val_main_v40, val_main_v2]

/-- A row of the merged heads. -/
def cat (x1 x2 : FVec Ideal S4096x256 .bf16) (x3 : FVec Ideal S4096x512 .bf16) (r : Fin 4096) (n : Fin 1024) : EReal :=
  if h0 : n.val < 256 then x1 (ix2 r ⟨n.val, h0⟩) else
  if h1 : n.val < 512 then x2 (ix2 r ⟨n.val - 256, by omega⟩) else x3 (ix2 r ⟨n.val - 512, by omega⟩)

theorem cat_a (x1 x2 : FVec Ideal S4096x256 .bf16) (x3 : FVec Ideal S4096x512 .bf16) (r : Fin 4096) (n : Fin 1024) (j : Fin 256) (h : n.val = j.val) : cat x1 x2 x3 r n = x1 (ix2 r j) := by
  unfold cat
  rw [dif_pos (by omega)]
  exact congrArg x1 (congrArg (ix2 r) (Fin.ext h))

theorem cat_b (x1 x2 : FVec Ideal S4096x256 .bf16) (x3 : FVec Ideal S4096x512 .bf16) (r : Fin 4096) (n : Fin 1024) (j : Fin 256) (h : n.val = 256 + j.val) : cat x1 x2 x3 r n = x2 (ix2 r j) := by
  unfold cat
  rw [dif_neg (by omega), dif_pos (by omega)]
  exact congrArg x2 (congrArg (ix2 r) (Fin.ext (by show n.val - 256 = j.val; omega)))

theorem cat_c (x1 x2 : FVec Ideal S4096x256 .bf16) (x3 : FVec Ideal S4096x512 .bf16) (r : Fin 4096) (n : Fin 1024) (j : Fin 512) (h : n.val = 512 + j.val) : cat x1 x2 x3 r n = x3 (ix2 r j) := by
  unfold cat
  rw [dif_neg (by omega), dif_neg (by omega)]
  exact congrArg x3 (congrArg (ix2 r) (Fin.ext (by show n.val - 512 = j.val; omega)))

theorem ref_dw (x0 : FVec Ideal S4096x1024 .f32) (x1 x2 : FVec Ideal S4096x256 .bf16) (x3 : FVec Ideal S4096x512 .bf16) (x4 : FVec Ideal S1024x1024 .bf16) (x5 : FVec Ideal S1x1024 .f32) (n : Fin 1024) (j : Fin 1024) : val_main_v39 (F := Ideal) x0 x1 x2 x3 x4 x5 (ix2 n j)
    = ∑ r : Fin 4096, cat x1 x2 x3 r n * val_main_v37 (F := Ideal) x0 x1 x2 x3 x4 x5 (ix2 r j) := by
  pointwise [val_main_v39, val_main_v38, val_main_v1, val_main_v0]
  refine Finset.sum_congr rfl fun r _ => (mul_comm _ _).trans (congrArg₂ (· * ·) ?_ rfl)
  unfold cat
  by_cases h0 : n.val < 256
  · rw [dif_pos h0, dif_pos h0]
  rw [dif_neg h0, dif_neg h0]
  by_cases h1 : n.val < 512
  · rw [dif_pos (by omega : n.val - 256 < 256), dif_pos h1]
  rw [dif_neg (by omega : ¬ n.val - 256 < 256), dif_neg h1]
  exact congrArg x3 (congrArg (ix2 r) (Fin.ext (by show n.val - 256 - 256 = n.val - 512; omega)))

/-- What a row adds to the norm's weights' gradient. -/
def term (x0 : FVec Ideal S4096x1024 .f32) (y : FVec Ideal S4096x1024 .f32) (r : Fin 4096) (j : Fin 1024) : EReal :=
  x0 (ix2 r j) * (y (ix2 r j) * Ideal.rsqrt (msq fun k => y (ix2 r k)))

theorem ref_dg (x0 : FVec Ideal S4096x1024 .f32) (x1 x2 : FVec Ideal S4096x256 .bf16) (x3 : FVec Ideal S4096x512 .bf16) (x4 : FVec Ideal S1024x1024 .bf16)
    (i : Fin 8) (j : Fin 1024) : val_main_v41 (F := Ideal) x0 x1 x2 x3 x4 (ix2 i j) = ∑ r : Fin 4096, term x0 (val_main_v3 (F := Ideal) x1 x2 x3 x4) r j := by
  pointwise [val_main_v41, val_main_v21, val_main_v20, val_main_v19, val_main_v16, val_main_v15, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6]
  exact Finset.sum_congr rfl fun r _ => mul_comm _ _

theorem lt_rows (t : Fin cfg0.N) (r : Fin 512) : t.val * 512 + r.val < 4096 := by have : t.val < 8 := lt_of_lt_of_eq t.isLt N_0; omega

theorem at_y (t : Fin cfg0.N) (r : Fin 512) (k : Fin 1024) : iblk m c 1 t (ix2 r k) = val_main_v3 (F := Ideal) (m ((c : Thread nD τ).loc main_arg1)) (m ((c : Thread nD τ).loc main_arg2)) (m ((c : Thread nD τ).loc main_arg3)) (m ((c : Thread nD τ).loc main_arg4)) (ix2 ⟨t.val * 512 + r.val, lt_rows t r⟩ k) := by
  rw [← V_y m c]
  generalize hA : V m c main_v3 = A
  unfold iblk
  rw [hA]
  blk_point [iblk, V, idx t]

/-- The rows the normalisation differentiates are real. -/
def RealRows (x0 y : FVec Ideal S4096x1024 .f32) (x5 : FVec Ideal S1x1024 .f32) : Prop :=
  ∀ i : Fin 4096, ∃ x u : Fin 1024 → ℝ, (∀ k, y (ix2 i k) = (x k : EReal)) ∧ ∀ k, x0 (ix2 i k) * x5 (ix2 0 k) = (u k : EReal)

theorem at_dy (hf : RealRows (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) (m ((c : Thread nD τ).loc main_arg5))) (t : Fin cfg0.N) (r : Fin 512) (j : Fin 1024) :
    k0_pay11 (F := Ideal) (iblk m c 1 t) (iblk m c 0 t) (iblk m c 6 t) (ix2 r j) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, lt_rows t r⟩ j) := by
  obtain ⟨x, u, hx, hu⟩ := hf ⟨t.val * 512 + r.val, lt_rows t r⟩
  refine Eq.trans ?_ (ref_dy _ _ _ _ _ _ _ j hx hu)
  pointwise [k0_pay11, k0_pay10, k0_pay9, k0_pay8, k0_pay7, msq]
  simp only [at_y]
  blk_point [iblk, V, idx t]

theorem final7 (hf : RealRows (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) (m ((c : Thread nD τ).loc main_arg5))) : (dats m 0 c).arrAt 7 cfg0.N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨i, j, rfl⟩ : ∃ (i : Fin 512) (j : Fin 1024), y = ix2 i j := ⟨y 0, y 1, by blk_ext⟩
  refine Eq.trans ?_ (congrArg (val_main_v40 (F := Ideal) _ _ _ _ _ _) (show ix2 (⟨t.val * 512 + i.val, lt_rows t i⟩ : Fin 4096) j = _ by blk_ext [idx t]))
  refine Eq.trans ?_ (ref_dm _ _ _ _ _ _ _ j).symm
  by_cases h : t.val % 8 = 0
  · rw [outsAt0_A m c t h]
    frame_out
    pointwise [k0_pay1]
    simp only [at_dy m c hf]
    blk_point [iblk, V, idx t]
  · rw [outsAt0_B m c t h]
    frame_out
    pointwise [k0_pay1]
    simp only [at_dy m c hf]
    blk_point [iblk, V, idx t]

theorem at_oa (t : Fin cfg0.N) (r : Fin 512) (k : Fin 256) : iblk m c 2 t (ix2 r k) = m ((c : Thread nD τ).loc main_arg1) (ix2 (⟨t.val * 512 + r.val, lt_rows t r⟩ : Fin 4096) k) := by
  blk_point [iblk, V, idx t]
theorem at_ob (t : Fin cfg0.N) (r : Fin 512) (k : Fin 256) : iblk m c 3 t (ix2 r k) = m ((c : Thread nD τ).loc main_arg2) (ix2 (⟨t.val * 512 + r.val, lt_rows t r⟩ : Fin 4096) k) := by
  blk_point [iblk, V, idx t]
theorem at_oc (t : Fin cfg0.N) (r : Fin 512) (k : Fin 512) : iblk m c 4 t (ix2 r k) = m ((c : Thread nD τ).loc main_arg3) (ix2 (⟨t.val * 512 + r.val, lt_rows t r⟩ : Fin 4096) k) := by
  blk_point [iblk, V, idx t]

/-- What the point `t`'s 512 rows add to the weights' gradient. -/
def part (t : Fin cfg0.N) (y : S1024x1024.Idx) : EReal :=
  ∑ r : Fin 512, cat (m ((c : Thread nD τ).loc main_arg1)) (m ((c : Thread nD τ).loc main_arg2)) (m ((c : Thread nD τ).loc main_arg3)) ⟨t.val * 512 + r.val, lt_rows t r⟩ (y 0) * val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, lt_rows t r⟩ (y 1))

theorem dwB (hf : RealRows (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) (m ((c : Thread nD τ).loc main_arg5))) (t : Fin cfg0.N) (hn : ¬ t.val % 8 = 0) (y : S1024x1024.Idx) : (outsAt0 m c t.val t.isLt).2.1 y
    = (outsAt0 m c (t.val - 1) (by omega)).2.1 y + part m c t y := by
  rw [outsAt0_B m c t hn]
  frame_out
  have hd := at_dy m c hf t
  have ha := at_oa m c t
  have hb := at_ob m c t
  have hc := at_oc m c t
  generalize k0_pay11 (iblk m c 1 t) (iblk m c 0 t) (iblk m c 6 t) = d at hd ⊢
  generalize iblk m c 2 t = x2 at ha ⊢
  generalize iblk m c 3 t = x3 at hb ⊢
  generalize iblk m c 4 t = x4 at hc ⊢
  refine View.canon_append_of_piecesOf (s := S1024x1024) (e := .f32) (Val := Elt Ideal) (fun y => (outsAt0 m c (t.val - 1) (by omega)).2.1 y + part m c t y) [] [_, _, _] ⟨?_, ?_, ?_, trivial⟩ y (View.cover_of_tiledBy _ ![256, 1024] (by sl_kernel_rfl) y)
  · intro x
    pointwise [k0_pay4]
    refine congrArg₂ (· + ·) (congrArg _ (by blk_ext)) (Finset.sum_congr rfl fun k _ => congrArg₂ (· * ·) ((hc k (x 0)).trans (cat_c _ _ _ _ _ (x 0) (by blk_simp)).symm) ((hd k (x 1)).trans (congrArg _ (by blk_ext))))
  · intro x
    pointwise [k0_pay3]
    refine congrArg₂ (· + ·) (congrArg _ (by blk_ext)) (Finset.sum_congr rfl fun k _ => congrArg₂ (· * ·) ((hb k (x 0)).trans (cat_b _ _ _ _ _ (x 0) (by blk_simp)).symm) ((hd k (x 1)).trans (congrArg _ (by blk_ext))))
  · intro x
    pointwise [k0_pay2]
    refine congrArg₂ (· + ·) (congrArg _ (by blk_ext)) (Finset.sum_congr rfl fun k _ => congrArg₂ (· * ·) ((ha k (x 0)).trans (cat_a _ _ _ _ _ (x 0) (by blk_simp)).symm) ((hd k (x 1)).trans (congrArg _ (by blk_ext))))

theorem dwA (hf : RealRows (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) (m ((c : Thread nD τ).loc main_arg5))) (t : Fin cfg0.N) (hn : t.val % 8 = 0) (y : S1024x1024.Idx) : (outsAt0 m c t.val t.isLt).2.1 y
    = (fun _ => (0 : EReal)) y + part m c t y := by
  rw [outsAt0_A m c t hn]
  frame_out
  have hd := at_dy m c hf t
  have ha := at_oa m c t
  have hb := at_ob m c t
  have hc := at_oc m c t
  generalize k0_pay11 (iblk m c 1 t) (iblk m c 0 t) (iblk m c 6 t) = d at hd ⊢
  generalize iblk m c 2 t = x2 at ha ⊢
  generalize iblk m c 3 t = x3 at hb ⊢
  generalize iblk m c 4 t = x4 at hc ⊢
  refine View.canon_append_of_piecesOf (s := S1024x1024) (e := .f32) (Val := Elt Ideal) (fun y => (0 : EReal) + part m c t y) [_] [_, _, _] ⟨?_, ?_, ?_, trivial⟩ y (View.cover_of_tiledBy _ ![256, 1024] (by sl_kernel_rfl) y)
  · intro x
    dsimp only
    rw [View.readCov_skip _ _ _ _ _ (by decide +kernel)]
    rw [View.readCov_skip _ _ _ _ _ (by decide +kernel)]
    rw [View.readCov_fill _ _ _ _ _ (by decide)]
    pointwise [k0_pay4, k0_pay5]
    refine (Finset.sum_congr rfl fun k _ => congrArg₂ (· * ·) ((hc k (x 0)).trans (cat_c _ _ _ _ _ (x 0) (by blk_simp)).symm) ((hd k (x 1)).trans (congrArg _ (by blk_ext))))
  · intro x
    dsimp only
    rw [View.readCov_skip _ _ _ _ _ (by decide +kernel)]
    rw [View.readCov_fill _ _ _ _ _ (by decide)]
    pointwise [k0_pay3, k0_pay5]
    refine (Finset.sum_congr rfl fun k _ => congrArg₂ (· * ·) ((hb k (x 0)).trans (cat_b _ _ _ _ _ (x 0) (by blk_simp)).symm) ((hd k (x 1)).trans (congrArg _ (by blk_ext))))
  · intro x
    dsimp only
    rw [View.readCov_fill _ _ _ _ _ (by decide)]
    pointwise [k0_pay2, k0_pay5]
    refine (Finset.sum_congr rfl fun k _ => congrArg₂ (· * ·) ((ha k (x 0)).trans (cat_a _ _ _ _ _ (x 0) (by blk_simp)).symm) ((hd k (x 1)).trans (congrArg _ (by blk_ext))))

theorem final8 (hf : RealRows (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) (m ((c : Thread nD τ).loc main_arg5))) : (dats m 0 c).arrAt 8 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t ht y => ?_
  blk_simp
  rw [after0_8, Pipeline.eq_sum_fin_of_reset_step_apply_of_flush (fun n h => (outsAt0 m c n h).2.1) 8 (fun _ => (0 : EReal)) _
    (fun t h j => by rw [dwA m c hf t h]) (fun t h j => by rw [dwB m c hf t h]) t ((flush0_8 t).mp ht) _]
  obtain ⟨i, j, rfl⟩ : ∃ (i : Fin 1024) (j : Fin 1024), y = ix2 i j := ⟨y 0, y 1, by blk_ext⟩
  refine (zero_add (M := EReal) _).trans ?_
  refine Eq.trans ?_ (congrArg (val_main_v39 (F := Ideal) _ _ _ _ _ _) (show ix2 i j = _ by blk_ext [idx t]))
  refine Eq.trans ?_ (ref_dw _ _ _ _ _ _ i j).symm
  have h8 : t.val % 8 = 7 := (flush0_8 t).mp ht
  have h9 : t.val < 8 := lt_of_lt_of_eq t.isLt N_0
  refine Fin.sum_mul_add_congr fun s k hl => ?_
  refine congrArg (fun r => cat (m ((c : Thread nD τ).loc main_arg1)) (m ((c : Thread nD τ).loc main_arg2)) (m ((c : Thread nD τ).loc main_arg3)) r i * val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r j)) (Fin.ext ?_)
  show (8 * (t.val / 8) + s.val) * 512 + k.val = s.val * 512 + k.val
  omega

theorem dgB (t : Fin cfg0.N) (h : ¬ t.val % 8 = 0) (y : S8x1024.Idx) : (outsAt0 m c t.val t.isLt).2.2 y
    = (outsAt0 m c (t.val - 1) (by omega)).2.2 y + ∑ r : Fin 512, term (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) ⟨t.val * 512 + r.val, lt_rows t r⟩ (y 1) := by
  obtain ⟨i, j, rfl⟩ : ∃ (i : Fin 8) (j : Fin 1024), y = ix2 i j := ⟨y 0, y 1, by blk_ext⟩
  rw [outsAt0_B m c t h]
  frame_out
  pointwise [k0_pay10, k0_pay9, k0_pay8, k0_pay7, msq, term]
  simp only [at_y]
  blk_point [iblk, V, idx t]

theorem dgA (t : Fin cfg0.N) (h : t.val % 8 = 0) (y : S8x1024.Idx) : (outsAt0 m c t.val t.isLt).2.2 y
    = (fun _ => (0 : EReal)) y + ∑ r : Fin 512, term (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) ⟨t.val * 512 + r.val, lt_rows t r⟩ (y 1) := by
  obtain ⟨i, j, rfl⟩ : ∃ (i : Fin 8) (j : Fin 1024), y = ix2 i j := ⟨y 0, y 1, by blk_ext⟩
  rw [outsAt0_A m c t h]
  frame_out
  pointwise [k0_pay10, k0_pay9, k0_pay8, k0_pay7, k0_pay6, msq, term]
  simp only [at_y]
  blk_point [iblk, V, idx t]

theorem final9 : (dats m 0 c).arrAt 9 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t ht y => ?_
  blk_simp
  rw [after0_9, Pipeline.eq_sum_fin_of_reset_step_apply_of_flush (fun n h => (outsAt0 m c n h).2.2) 8 (fun _ => (0 : EReal)) _
    (fun t h j => by rw [dgA m c t h]) (fun t h j => by rw [dgB m c t h]) t ((flush0_9 t).mp ht) _]
  obtain ⟨i, j, rfl⟩ : ∃ (i : Fin 8) (j : Fin 1024), y = ix2 i j := ⟨y 0, y 1, by blk_ext⟩
  refine (zero_add (M := EReal) _).trans ?_
  refine Eq.trans ?_ (congrArg (val_main_v41 (F := Ideal) _ _ _ _ _) (show ix2 i j = _ by blk_ext [idx t]))
  refine Eq.trans ?_ (ref_dg _ _ _ _ _ i j).symm
  have h8 : t.val % 8 = 7 := (flush0_9 t).mp ht
  have h9 : t.val < 8 := lt_of_lt_of_eq t.isLt N_0
  refine Fin.sum_mul_add_congr fun s k hl => ?_
  refine congrArg (fun r => term (m ((c : Thread nD τ).loc main_arg0)) (val_main_v3 (F := Ideal) (m ((c : Thread nD τ).loc main_arg1)) (m ((c : Thread nD τ).loc main_arg2)) (m ((c : Thread nD τ).loc main_arg3)) (m ((c : Thread nD τ).loc main_arg4))) r j) (Fin.ext ?_)
  show (8 * (t.val / 8) + s.val) * 512 + k.val = s.val * 512 + k.val
  omega

end Cert.Proof.OutBwd

end
-- ==== Proof.OutFwd.lean ====
/- The out-projection's forward call: the merged heads times the weights, normalised and added to the residual. -/
module

public import proofs.«01_k».proof.Proof.Gen.Kernel5Ideal.Value
public import proofs.«01_k».proof.Proof.Gen.Reference5Ideal.Read
public import proofs.«01_k».proof.Proof.Cut

@[expose] public section

set_option maxRecDepth 16384

noncomputable section

namespace Cert.Proof.OutFwd

open Cert.Kernel5Ideal Cert.Kernel5Ideal.Gen
open Cert.Reference5Ideal.Read
open Idealize.ShloMosaic Idealize.ShloMosaic.TcCoe Idealize.SL.Sem

theorem ref_y (x1 x2 : FVec Ideal S4096x256 .bf16) (x3 : FVec Ideal S4096x512 .bf16) (x4 : FVec Ideal S1024x1024 .bf16) (i : Fin 4096) (j : Fin 1024) :
    val_main_v3 (F := Ideal) x1 x2 x3 x4 (ix2 i j) = ∑ k : Fin 256, x1 (ix2 i k) * x4 (ix2 ⟨k.val, by omega⟩ j) + ∑ k : Fin 256, x2 (ix2 i k) * x4 (ix2 ⟨256 + k.val, by omega⟩ j)
      + ∑ k : Fin 512, x3 (ix2 i k) * x4 (ix2 ⟨512 + k.val, by omega⟩ j) := by
  pointwise [val_main_v3, val_main_v2, val_main_v1, val_main_v0]
  rw [sum_heads]
  refine congrArg₂ (· + ·) (congrArg₂ (· + ·) ?_ ?_) ?_
  · refine Finset.sum_congr rfl fun k _ => ?_
    rw [dif_pos (by show k.val < 256; omega)]
  · refine Finset.sum_congr rfl fun k _ => ?_
    rw [dif_neg (by show ¬ 256 + k.val < 256; omega), dif_pos (by show 256 + k.val - 256 < 256; omega)]
    blk_point []
  · refine Finset.sum_congr rfl fun k _ => ?_
    rw [dif_neg (by show ¬ 512 + k.val < 256; omega), dif_neg (by show ¬ 512 + k.val - 256 < 256; omega)]
    blk_point []

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

theorem final6 : (dats m 0 c).arrAt 6 cfg0.N = val_main_v3 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨i, j, rfl⟩ : ∃ (i : Fin 512) (j : Fin 1024), y = ix2 i j := ⟨y 0, y 1, by blk_ext⟩
  pointwise [k0_pay1]
  refine Eq.trans ?_ (Eq.trans (ref_y _ _ _ _ ⟨512 * t.val + i, by have := t.isLt; simp only [N_0] at this; omega⟩ j).symm (congrArg _ ?_))
  · blk_point [iblk, V, idx t]
  · blk_ext [idx t]

theorem final7 : (dats m 0 c).arrAt 7 cfg0.N = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  frame_out
  obtain ⟨i, j, rfl⟩ : ∃ (i : Fin 512) (j : Fin 1024), y = ix2 i j := ⟨y 0, y 1, by blk_ext⟩
  refine Eq.trans ?_ (congrArg (val_main_v16 (F := Ideal) _ _ _ _ _ _) (show ix2 (⟨512 * t.val + i, by have := t.isLt; simp only [N_0] at this; omega⟩ : Fin 4096) j = _ by blk_ext [idx t]))
  pointwise [k0_pay2, val_main_v16, val_main_v15, val_main_v14, val_main_v13, val_main_v12, val_main_v11, val_main_v10, val_main_v9, val_main_v8, val_main_v7, val_main_v6, val_main_v5, val_main_v4, val_main_cst, val_main_cst_0, val_main_cst_1]
  simp only [ref_y]
  pointwise [k0_pay1]
  blk_point [iblk, V, idx t]

end Cert.Proof.OutFwd

end
-- ==== Proof.InFwd.lean ====
/- The in-projection's forward call: normalised rows times the weights. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Proof.InFwd

open Cert.Kernel6Ideal Cert.Kernel6Ideal.Gen
open Cert.Reference6Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem final : (dats m 0 c).arrAt 3 cfg0.N = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.Proof.InFwd

end
-- ==== Proof.LossFwd.lean ====
/- The last layer's out-projection with the loss head: the product, the cotangent of the loss, and the sum of the squared errors. -/
module

public import proofs.«01_k».proof.Proof.Gen.Kernel7Ideal.Value
public import proofs.«01_k».proof.Proof.Gen.Reference7Ideal.Read
public import proofs.«01_k».proof.Proof.OutFwd
public import proofs.«01_k».proof.Proof.Norm

@[expose] public section

set_option maxRecDepth 16384

noncomputable section

namespace Cert.Proof.LossFwd

open Cert.Kernel7Ideal Cert.Kernel7Ideal.Gen
open Cert.Reference7Ideal.Read
open Idealize.ShloMosaic Idealize.ShloMosaic.TcCoe Idealize.SL.Sem

theorem ref_y (x1 x2 : FVec Ideal S4096x256 .bf16) (x3 : FVec Ideal S4096x512 .bf16) (x4 : FVec Ideal S1024x1024 .bf16) (i : Fin 4096) (j : Fin 1024) :
    val_main_v3 (F := Ideal) x1 x2 x3 x4 (ix2 i j) = ∑ k : Fin 256, x1 (ix2 i k) * x4 (ix2 ⟨k.val, by omega⟩ j) + ∑ k : Fin 256, x2 (ix2 i k) * x4 (ix2 ⟨256 + k.val, by omega⟩ j)
      + ∑ k : Fin 512, x3 (ix2 i k) * x4 (ix2 ⟨512 + k.val, by omega⟩ j) :=
  OutFwd.ref_y x1 x2 x3 x4 i j

/-- The product, as the three pieces' sum. -/
def prod (x1 x2 : FVec Ideal S4096x256 .bf16) (x3 : FVec Ideal S4096x512 .bf16) (x4 : FVec Ideal S1024x1024 .bf16) (i : Fin 4096) (j : Fin 1024) : EReal :=
  ∑ k : Fin 256, x1 (ix2 i k) * x4 (ix2 ⟨k.val, by omega⟩ j) + ∑ k : Fin 256, x2 (ix2 i k) * x4 (ix2 ⟨256 + k.val, by omega⟩ j)
      + ∑ k : Fin 512, x3 (ix2 i k) * x4 (ix2 ⟨512 + k.val, by omega⟩ j)

/-- The residual output of row `i`, less the target. -/
def err (x0 : FVec Ideal S4096x1024 .f32) (x1 x2 : FVec Ideal S4096x256 .bf16) (x3 : FVec Ideal S4096x512 .bf16) (x4 : FVec Ideal S1024x1024 .bf16) (x5 : FVec Ideal S1x1024 .f32)
    (x6 : FVec Ideal S4096x1024 .f32) (i : Fin 4096) (j : Fin 1024) : EReal :=
  x0 (ix2 i j) + prod x1 x2 x3 x4 i j * Ideal.rsqrt (msq fun k => prod x1 x2 x3 x4 i k) * x5 (ix2 0 j) - x6 (ix2 i j)

theorem ref_err (x0 : FVec Ideal S4096x1024 .f32) (x1 x2 : FVec Ideal S4096x256 .bf16) (x3 : FVec Ideal S4096x512 .bf16) (x4 : FVec Ideal S1024x1024 .bf16) (x5 : FVec Ideal S1x1024 .f32)
    (x6 : FVec Ideal S4096x1024 .f32) (i : Fin 4096) (j : Fin 1024) :
    val_main_v17 (F := Ideal) x0 x1 x2 x3 x4 x5 x6 (ix2 i j) = err x0 x1 x2 x3 x4 x5 x6 i j := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [ref_y]
  rfl

theorem two : Ideal.ofBits .f32 1073741824#32 = ((2 : ℝ) : EReal) := by
  simp [Ideal.ofBits, Ideal.ieee, -EReal.coe_mul]; norm_num

theorem half : Ideal.ofBits .f32 1056964608#32 = ((1 / 2 : ℝ) : EReal) := by
  simp [Ideal.ofBits, Ideal.ieee, -EReal.coe_mul]; norm_num

theorem over : Ideal.ofBits .f32 981467136#32 = ((1 / 1024 : ℝ) : EReal) := by
  simp [Ideal.ofBits, Ideal.ieee, -EReal.coe_mul]; norm_num

/-- The loss's cotangent: half over the width, times twice the error. -/
theorem ref_dx (x0 : FVec Ideal S4096x1024 .f32) (x1 x2 : FVec Ideal S4096x256 .bf16) (x3 : FVec Ideal S4096x512 .bf16) (x4 : FVec Ideal S1024x1024 .bf16) (x5 : FVec Ideal S1x1024 .f32)
    (x6 : FVec Ideal S4096x1024 .f32) (i : Fin 4096) (j : Fin 1024) :
    val_main_v31 (F := Ideal) x0 x1 x2 x3 x4 x5 x6 (ix2 i j) = err x0 x1 x2 x3 x4 x5 x6 i j * Ideal.ofBits .f32 981467136#32 := by
  pointwise [val_main_v31, val_main_v30, val_main_v29, val_main_v28, val_main_v27, val_main_v26, val_main_v20, val_main_v19, val_main_cst_2, val_main_cst_7, val_main_cst_8, val_main_cst_9]
  simp only [ref_err]
  rw [half, width, two, over, Ideal.div_coe (by norm_num : (1024 : ℝ) ≠ 0), mul_comm (err x0 x1 x2 x3 x4 x5 x6 i j), ← mul_assoc, ← EReal.coe_mul, ← EReal.coe_mul]
  exact congrArg (fun a : ℝ => (a : EReal) * err x0 x1 x2 x3 x4 x5 x6 i j) (by norm_num)

/-- The sum of the squared errors. -/
theorem ref_l (x0 : FVec Ideal S4096x1024 .f32) (x1 x2 : FVec Ideal S4096x256 .bf16) (x3 : FVec Ideal S4096x512 .bf16) (x4 : FVec Ideal S1024x1024 .bf16) (x5 : FVec Ideal S1x1024 .f32)
    (x6 : FVec Ideal S4096x1024 .f32) (i : Fin 8) (j : Fin 128) :
    val_main_v35 (F := Ideal) x0 x1 x2 x3 x4 x5 x6 (ix2 i j) = ∑ r : Fin 4096, ∑ k : Fin 1024, err x0 x1 x2 x3 x4 x5 x6 r k * err x0 x1 x2 x3 x4 x5 x6 r k := by
  pointwise [val_main_v35, val_main_v34, val_main_v33, val_main_cst_10]
  exact Finset.sum_congr rfl fun r _ => Finset.sum_congr rfl fun k _ => congrArg₂ (· * ·) (ref_err x0 x1 x2 x3 x4 x5 x6 r k) (ref_err x0 x1 x2 x3 x4 x5 x6 r k)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

theorem lt_rows (t : Fin cfg0.N) (r : Fin 512) : t.val * 512 + r.val < 4096 := by have : t.val < 8 := lt_of_lt_of_eq t.isLt N_0; omega

theorem final7 : (dats m 0 c).arrAt 7 cfg0.N = val_main_v3 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨i, j, rfl⟩ : ∃ (i : Fin 512) (j : Fin 1024), y = ix2 i j := ⟨y 0, y 1, by blk_ext⟩
  refine Eq.trans ?_ (congrArg (val_main_v3 (F := Ideal) _ _ _ _) (show ix2 (⟨t.val * 512 + i.val, lt_rows t i⟩ : Fin 4096) j = _ by blk_ext [idx t]))
  refine Eq.trans ?_ (ref_y _ _ _ _ _ _).symm
  by_cases h : t.val % 8 = 0
  · rw [outsAt0_A m c t h]
    frame_out
    pointwise [k0_pay3]
    blk_point [iblk, V, idx t]
  · rw [outsAt0_B m c t h]
    frame_out
    pointwise [k0_pay3]
    blk_point [iblk, V, idx t]

theorem final8 : (dats m 0 c).arrAt 8 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  obtain ⟨i, j, rfl⟩ : ∃ (i : Fin 512) (j : Fin 1024), y = ix2 i j := ⟨y 0, y 1, by blk_ext⟩
  refine Eq.trans ?_ (congrArg (val_main_v31 (F := Ideal) _ _ _ _ _ _ _) (show ix2 (⟨t.val * 512 + i.val, lt_rows t i⟩ : Fin 4096) j = _ by blk_ext [idx t]))
  refine Eq.trans ?_ (ref_dx _ _ _ _ _ _ _ _ _).symm
  by_cases h : t.val % 8 = 0
  · rw [outsAt0_A m c t h]
    frame_out
    pointwise [k0_pay5, k0_pay4, k0_pay3, err, prod, msq]
    blk_point [iblk, V, idx t]
  · rw [outsAt0_B m c t h]
    frame_out
    pointwise [k0_pay5, k0_pay4, k0_pay3, err, prod, msq]
    blk_point [iblk, V, idx t]

/-- What row `r` adds to the sum. -/
def term (x0 : FVec Ideal S4096x1024 .f32) (x1 x2 : FVec Ideal S4096x256 .bf16) (x3 : FVec Ideal S4096x512 .bf16) (x4 : FVec Ideal S1024x1024 .bf16) (x5 : FVec Ideal S1x1024 .f32)
    (x6 : FVec Ideal S4096x1024 .f32) (r : Fin 4096) : EReal := ∑ k : Fin 1024, err x0 x1 x2 x3 x4 x5 x6 r k * err x0 x1 x2 x3 x4 x5 x6 r k

theorem stepB (t : Fin cfg0.N) (h : ¬ t.val % 8 = 0) (y : S8x128.Idx) : (outsAt0 m c t.val t.isLt).2.2 y
    = (outsAt0 m c (t.val - 1) (by omega)).2.2 y + ∑ r : Fin 512, term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, lt_rows t r⟩ := by
  obtain ⟨i, j, rfl⟩ : ∃ (i : Fin 8) (j : Fin 128), y = ix2 i j := ⟨y 0, y 1, by blk_ext⟩
  rw [outsAt0_B m c t h]
  frame_out
  pointwise [k0_pay2, k0_pay4, k0_pay3, err, prod, msq, term]
  blk_point [iblk, V, idx t]

theorem stepA (t : Fin cfg0.N) (h : t.val % 8 = 0) (y : S8x128.Idx) : (outsAt0 m c t.val t.isLt).2.2 y
    = (fun _ => (0 : EReal)) y + ∑ r : Fin 512, term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, lt_rows t r⟩ := by
  obtain ⟨i, j, rfl⟩ : ∃ (i : Fin 8) (j : Fin 128), y = ix2 i j := ⟨y 0, y 1, by blk_ext⟩
  rw [outsAt0_A m c t h]
  frame_out
  pointwise [k0_pay2, k0_pay4, k0_pay3, k0_pay1, err, prod, msq, term]
  blk_point [iblk, V, idx t]

theorem final9 : (dats m 0 c).arrAt 9 cfg0.N = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, Pipeline.eq_sum_fin_of_reset_step_apply_of_flush (fun n h => (outsAt0 m c n h).2.2) 8 (fun _ => (0 : EReal)) _
    (fun t h j => by rw [stepA m c t h]) (fun t h j => by rw [stepB m c t h]) t ((flush0_9 t).mp hf) _]
  obtain ⟨i, j, rfl⟩ : ∃ (i : Fin 8) (j : Fin 128), y = ix2 i j := ⟨y 0, y 1, by blk_ext⟩
  refine (zero_add (M := EReal) _).trans ?_
  refine Eq.trans ?_ (congrArg (val_main_v35 (F := Ideal) _ _ _ _ _ _ _) (show ix2 i j = _ by blk_ext [idx t]))
  refine Eq.trans ?_ (ref_l _ _ _ _ _ _ _ i j).symm
  have h8 : t.val % 8 = 7 := (flush0_9 t).mp hf
  have ht : t.val < 8 := by have := t.isLt; simp only [N_0] at this; omega
  refine Fin.sum_mul_add_congr fun s k hl => ?_
  refine congrArg (fun r => term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r) (Fin.ext ?_)
  show (8 * (t.val / 8) + s.val) * 512 + k.val = s.val * 512 + k.val
  omega

end Cert.Proof.LossFwd

end
-- ==== Proof.Adam.lean ====
/- The optimiser's update of the in-projection's weights: the gradient's two halves set end to end, and the moments and the step from it. -/
module

public import proofs.«01_k».proof.Proof.Gen.Kernel8Ideal.Value
public import proofs.«01_k».proof.Proof.Gen.Reference8Ideal.Read
public import proofs.«01_k».proof.Proof.Cut

@[expose] public section

set_option maxRecDepth 16384

noncomputable section

namespace Cert.Proof.Adam

open Cert.Kernel8Ideal Cert.Kernel8Ideal.Gen
open Cert.Reference8Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 8, 0] ∧ win0_1.index t = ![t.val / 8, t.val % 4, 0] ∧ win0_2.index t = ![t.val / 8, t.val % 4, 0] ∧ win0_3.index t = ![t.val / 8, t.val % 8, 0]
    ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0]
    ∧ (grid0.coords t 1).val = t.val / 4 % 2 :=
  (by decide +kernel : ∀ t : Fin grid0.N, _)

/-- Which half of the rows the point is in. -/
theorem half : ∀ t : Fin cfg0.N, Scalar.cmpi CmpIPredicate.eq (BitVec.ofNat 32 (grid0.coords t 1).val) 0#32 = if t.val % 8 < 4 then 1#1 else 0#1 :=
  (by decide +kernel : ∀ t : Fin grid0.N, _)

theorem lt_layers (t : Fin cfg0.N) : t.val / 8 < 2 := by have : t.val < 16 := lt_of_lt_of_eq t.isLt N_0; omega

theorem lt_rows (t : Fin cfg0.N) (r : Fin 128) : t.val % 8 * 128 + r.val < 1024 := by omega

/-- The gradient block the point selects is the block of the halves set end to end. -/
theorem grad (t : Fin cfg0.N) (r : Fin 128) (k : Fin 898) :
    k0_pay4 (F := Ideal) (grid0.coords t) (iblk m c 1 t) (iblk m c 2 t) (ix2 r k)
      = val_main_v0 (F := Ideal) (m ((c : Thread nD τ).loc main_arg1)) (m ((c : Thread nD τ).loc main_arg2)) (ix3 (⟨t.val / 8, lt_layers t⟩ : Fin 2) (⟨t.val % 8 * 128 + r.val, lt_rows t r⟩ : Fin 1024) k) := by
  pointwise [k0_pay4, val_main_v0]
  rw [half t]
  by_cases h : t.val % 8 < 4
  · rw [if_pos h, dif_pos (by omega)]
    refine Eq.trans (if_pos rfl) ?_
    blk_point [iblk, V, idx t]
  · rw [if_neg h, dif_neg (by omega)]
    refine Eq.trans (if_neg (by decide)) ?_
    blk_point [iblk, V, idx t]

theorem final5 : (dats m 0 c).arrAt 5 cfg0.N = val_main_v0 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨r, k, rfl⟩ : ∃ (r : Fin 128) (k : Fin 898), y = ix3 (0 : Fin 1) r k := ⟨y 1, y 2, by blk_ext⟩
  refine Eq.trans ?_ (congrArg (val_main_v0 (F := Ideal) _ _) (show ix3 (⟨t.val / 8, lt_layers t⟩ : Fin 2) (⟨t.val % 8 * 128 + r.val, lt_rows t r⟩ : Fin 1024) k = _ by blk_ext [idx t]))
  pointwise [k0_pay5]
  rw [grad]

theorem final7 : (dats m 0 c).arrAt 7 cfg0.N = val_main_v5 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, k, rfl⟩ : ∃ (r : Fin 128) (k : Fin 898), y = ix3 (0 : Fin 1) r k := ⟨y 1, y 2, by blk_ext⟩
  refine Eq.trans ?_ (congrArg (val_main_v5 (F := Ideal) _ _ _) (show ix3 (⟨t.val / 8, lt_layers t⟩ : Fin 2) (⟨t.val % 8 * 128 + r.val, lt_rows t r⟩ : Fin 1024) k = _ by blk_ext [idx t]))
  pointwise [k0_pay2, k0_pay7, val_main_v5, val_main_v4, val_main_v3, val_main_v2, val_main_v1, val_main_cst, val_main_cst_0]
  rw [grad]
  blk_point [iblk, V, idx t]

theorem final8 : (dats m 0 c).arrAt 8 cfg0.N = val_main_v11 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  obtain ⟨r, k, rfl⟩ : ∃ (r : Fin 128) (k : Fin 898), y = ix3 (0 : Fin 1) r k := ⟨y 1, y 2, by blk_ext⟩
  refine Eq.trans ?_ (congrArg (val_main_v11 (F := Ideal) _ _ _) (show ix3 (⟨t.val / 8, lt_layers t⟩ : Fin 2) (⟨t.val % 8 * 128 + r.val, lt_rows t r⟩ : Fin 1024) k = _ by blk_ext [idx t]))
  pointwise [k0_pay3, k0_pay8, val_main_v11, val_main_v10, val_main_v9, val_main_v8, val_main_v7, val_main_v6, val_main_cst_1, val_main_cst_2]
  rw [grad]
  blk_point [iblk, V, idx t]

theorem final6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, k, rfl⟩ : ∃ (r : Fin 128) (k : Fin 898), y = ix3 (0 : Fin 1) r k := ⟨y 1, y 2, by blk_ext⟩
  refine Eq.trans ?_ (congrArg (val_main_v24 (F := Ideal) _ _ _ _ _) (show ix3 (⟨t.val / 8, lt_layers t⟩ : Fin 2) (⟨t.val % 8 * 128 + r.val, lt_rows t r⟩ : Fin 1024) k = _ by blk_ext [idx t]))
  pointwise [k0_pay1, k0_pay6, k0_pay9, k0_pay10, k0_pay7, k0_pay8, val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, val_main_v5, val_main_v4, val_main_v3, val_main_v2, val_main_v1, val_main_cst, val_main_cst_0, val_main_v11, val_main_v10, val_main_v9, val_main_v8, val_main_v7, val_main_v6, val_main_cst_1, val_main_cst_2]
  rw [grad]
  blk_point [iblk, V, idx t]

end Cert.Proof.Adam

end
-- ==== Proof.AdamOut.lean ====
/- The optimiser's update of the out-projection's weights: the gradient's two halves set end to end, and the moments and the step from it. -/
module

public import proofs.«01_k».proof.Proof.Gen.Kernel9Ideal.Value
public import proofs.«01_k».proof.Proof.Gen.Reference9Ideal.Read
public import proofs.«01_k».proof.Proof.Cut

@[expose] public section

set_option maxRecDepth 16384

noncomputable section

namespace Cert.Proof.AdamOut

open Cert.Kernel9Ideal Cert.Kernel9Ideal.Gen
open Cert.Reference9Ideal.Read
open Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 2, t.val % 2, 0] ∧ win0_1.index t = ![t.val / 2, 0, 0] ∧ win0_2.index t = ![t.val / 2, 0, 0] ∧ win0_3.index t = ![t.val / 2, t.val % 2, 0]
    ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0]
    ∧ (grid0.coords t 1).val = t.val % 2 :=
  (by decide +kernel : ∀ t : Fin grid0.N, _)

/-- Which half of the rows the point is in. -/
theorem half : ∀ t : Fin cfg0.N, Scalar.cmpi CmpIPredicate.eq (BitVec.ofNat 32 (grid0.coords t 1).val) 0#32 = if t.val % 2 = 0 then 1#1 else 0#1 :=
  (by decide +kernel : ∀ t : Fin grid0.N, _)

theorem lt_layers (t : Fin cfg0.N) : t.val / 2 < 2 := by have : t.val < 4 := lt_of_lt_of_eq t.isLt N_0; omega

theorem lt_rows (t : Fin cfg0.N) (r : Fin 128) : t.val % 2 * 128 + r.val < 256 := by omega

/-- The gradient block the point selects is the block of the halves set end to end. -/
theorem grad (t : Fin cfg0.N) (r : Fin 128) (k : Fin 1024) :
    k0_pay4 (F := Ideal) (grid0.coords t) (iblk m c 1 t) (iblk m c 2 t) (ix2 r k)
      = val_main_v0 (F := Ideal) (m ((c : Thread nD τ).loc main_arg1)) (m ((c : Thread nD τ).loc main_arg2)) (ix3 (⟨t.val / 2, lt_layers t⟩ : Fin 2) (⟨t.val % 2 * 128 + r.val, lt_rows t r⟩ : Fin 256) k) := by
  pointwise [k0_pay4, val_main_v0]
  rw [half t]
  by_cases h : t.val % 2 = 0
  · rw [if_pos h, dif_pos (by omega)]
    refine Eq.trans (if_pos rfl) ?_
    blk_point [iblk, V, idx t]
  · rw [if_neg h, dif_neg (by omega)]
    refine Eq.trans (if_neg (by decide)) ?_
    blk_point [iblk, V, idx t]

theorem final5 : (dats m 0 c).arrAt 5 cfg0.N = val_main_v0 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨r, k, rfl⟩ : ∃ (r : Fin 128) (k : Fin 1024), y = ix3 (0 : Fin 1) r k := ⟨y 1, y 2, by blk_ext⟩
  refine Eq.trans ?_ (congrArg (val_main_v0 (F := Ideal) _ _) (show ix3 (⟨t.val / 2, lt_layers t⟩ : Fin 2) (⟨t.val % 2 * 128 + r.val, lt_rows t r⟩ : Fin 256) k = _ by blk_ext [idx t]))
  pointwise [k0_pay5]
  rw [grad]

theorem final7 : (dats m 0 c).arrAt 7 cfg0.N = val_main_v5 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, k, rfl⟩ : ∃ (r : Fin 128) (k : Fin 1024), y = ix3 (0 : Fin 1) r k := ⟨y 1, y 2, by blk_ext⟩
  refine Eq.trans ?_ (congrArg (val_main_v5 (F := Ideal) _ _ _) (show ix3 (⟨t.val / 2, lt_layers t⟩ : Fin 2) (⟨t.val % 2 * 128 + r.val, lt_rows t r⟩ : Fin 256) k = _ by blk_ext [idx t]))
  pointwise [k0_pay2, k0_pay7, val_main_v5, val_main_v4, val_main_v3, val_main_v2, val_main_v1, val_main_cst, val_main_cst_0]
  rw [grad]
  blk_point [iblk, V, idx t]

theorem final8 : (dats m 0 c).arrAt 8 cfg0.N = val_main_v11 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  obtain ⟨r, k, rfl⟩ : ∃ (r : Fin 128) (k : Fin 1024), y = ix3 (0 : Fin 1) r k := ⟨y 1, y 2, by blk_ext⟩
  refine Eq.trans ?_ (congrArg (val_main_v11 (F := Ideal) _ _ _) (show ix3 (⟨t.val / 2, lt_layers t⟩ : Fin 2) (⟨t.val % 2 * 128 + r.val, lt_rows t r⟩ : Fin 256) k = _ by blk_ext [idx t]))
  pointwise [k0_pay3, k0_pay8, val_main_v11, val_main_v10, val_main_v9, val_main_v8, val_main_v7, val_main_v6, val_main_cst_1, val_main_cst_2]
  rw [grad]
  blk_point [iblk, V, idx t]

theorem final6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, k, rfl⟩ : ∃ (r : Fin 128) (k : Fin 1024), y = ix3 (0 : Fin 1) r k := ⟨y 1, y 2, by blk_ext⟩
  refine Eq.trans ?_ (congrArg (val_main_v24 (F := Ideal) _ _ _ _ _) (show ix3 (⟨t.val / 2, lt_layers t⟩ : Fin 2) (⟨t.val % 2 * 128 + r.val, lt_rows t r⟩ : Fin 256) k = _ by blk_ext [idx t]))
  pointwise [k0_pay1, k0_pay6, k0_pay9, k0_pay10, k0_pay7, k0_pay8, val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, val_main_v5, val_main_v4, val_main_v3, val_main_v2, val_main_v1, val_main_cst, val_main_cst_0, val_main_v11, val_main_v10, val_main_v9, val_main_v8, val_main_v7, val_main_v6, val_main_cst_1, val_main_cst_2]
  rw [grad]
  blk_point [iblk, V, idx t]

end Cert.Proof.AdamOut

end
-- ==== Proof.Finite.lean ====
/- What the two preconditions of the projection gradients say: every number they test is a real number. -/
module

public import proofs.«01_k».proof.Proof.Gen.Pre_finite3
public import proofs.«01_k».proof.Proof.Gen.Pre_finite4
public import proofs.«01_k».proof.Proof.Value

@[expose] public section

set_option maxRecDepth 16384

noncomputable section

namespace Cert.Proof.Finite

open Idealize.ShloMosaic Idealize.ShloMosaic.TcCoe Idealize.SL.Sem

/-- The number is a real one. -/
def IsReal (x : EReal) : Prop := ∃ r : ℝ, x = (r : EReal)

theorem IsReal.add {x y : EReal} : IsReal x → IsReal y → IsReal (x + y) :=
  fun ⟨r, hr⟩ ⟨s, hs⟩ => ⟨r + s, by rw [hr, hs, EReal.coe_add]⟩

theorem IsReal.mul {x y : EReal} : IsReal x → IsReal y → IsReal (x * y) :=
  fun ⟨r, hr⟩ ⟨s, hs⟩ => ⟨r * s, by rw [hr, hs, EReal.coe_mul]⟩

theorem IsReal.sum {ι : Type} [Fintype ι] {f : ι → EReal} (h : ∀ k, IsReal (f k)) : IsReal (∑ k, f k) := by
  choose r hr using h
  exact ⟨∑ k, r k, (Finset.sum_congr rfl fun k _ => hr k).trans (coe_sum _ _)⟩

theorem ix2_of_val {A B : ℕ} {a a' : Fin A} {b b' : Fin B} (ha : a.val = a'.val) (hb : b.val = b'.val) : ix2 a b = ix2 a' b' := by
  rw [Fin.ext ha, Fin.ext hb]

/-- A number that compares below infinity in size is real, also when its index is spelt differently. -/
theorem real_at {s : Shape} {X : s.Idx → EReal} {y y' : s.Idx} (h : BitVec.ofBool (decide (max (X y) (-X y) < Ideal.ofBits FTy.f32 2139095040#32)) = 1#1) (e : y = y') : IsReal (X y') :=
  e ▸ real_of_lt _ h

section three

variable (x0 : FVec Ideal Cert.Pre_finite3.S4096x1024 .f32) (x1 : FVec Ideal Cert.Pre_finite3.S4096x1024 .f32) (x2 : FVec Ideal Cert.Pre_finite3.S1x1024 .f32) (x3 : FVec Ideal Cert.Pre_finite3.S1024x3712 .bf16) (x4 : FVec Ideal Cert.Pre_finite3.S4096x1024 .bf16) (x5 : FVec Ideal Cert.Pre_finite3.S4096x512 .bf16) (x6 : FVec Ideal Cert.Pre_finite3.S4096x2048 .bf16) (x7 : FVec Ideal Cert.Pre_finite3.S4096x128 .bf16)
  (h : ∀ y, Cert.Pre_finite3.fn (F := Ideal) x0 x1 x2 x3 x4 x5 x6 x7 y = 1#1)

include h

theorem three0 (i : Fin 4096) (k : Fin 1024) : IsReal (x0 (ix2 i k)) := by
  have e := h (ix2 ⟨i.val, by omega⟩ ⟨k.val, by omega⟩)
  pointwise [Cert.Pre_finite3.fn, Cert.Pre_finite3.fn_part1] at e
  exact real_at (X := x0) e (ix2_of_val rfl (by show k.val = k.val; omega))

theorem three2 (k : Fin 1024) : IsReal (x2 (ix2 0 k)) := by
  have e := h (ix2 ⟨0, by omega⟩ ⟨1024 + k.val, by omega⟩)
  pointwise [Cert.Pre_finite3.fn, Cert.Pre_finite3.fn_part1] at e
  exact real_at (X := x2) e (ix2_of_val (by rfl) rfl)

theorem three3 (i : Fin 1024) (k : Fin 3712) : IsReal (x3 (ix2 i k)) := by
  have e := h (ix2 ⟨i.val, by omega⟩ ⟨2048 + k.val, by omega⟩)
  pointwise [Cert.Pre_finite3.fn, Cert.Pre_finite3.fn_part1] at e
  rw [dif_neg (by show ¬ 2048 + k.val < 1024; omega), dif_neg (by show ¬ 2048 + k.val - 1024 < 1024; omega), dif_pos (by show 2048 + k.val - 1024 - 1024 < 3712; omega)] at e
  exact real_at (X := x3) e (ix2_of_val (by show i.val % 1024 = i.val; omega) (by show 2048 + k.val - 1024 - 1024 = k.val; omega))

theorem three4 (i : Fin 4096) (k : Fin 1024) : IsReal (x4 (ix2 i k)) := by
  have e := h (ix2 ⟨i.val, by omega⟩ ⟨5760 + k.val, by omega⟩)
  pointwise [Cert.Pre_finite3.fn, Cert.Pre_finite3.fn_part1] at e
  rw [dif_neg (by show ¬ 5760 + k.val < 1024; omega), dif_neg (by show ¬ 5760 + k.val - 1024 < 1024; omega), dif_neg (by show ¬ 5760 + k.val - 1024 - 1024 < 3712; omega), dif_pos (by show 5760 + k.val - 1024 - 1024 - 3712 < 1024; omega)] at e
  exact real_at (X := x4) e (ix2_of_val rfl (by show 5760 + k.val - 1024 - 1024 - 3712 = k.val; omega))

theorem three5 (i : Fin 4096) (k : Fin 512) : IsReal (x5 (ix2 i k)) := by
  have e := h (ix2 ⟨i.val, by omega⟩ ⟨6784 + k.val, by omega⟩)
  pointwise [Cert.Pre_finite3.fn, Cert.Pre_finite3.fn_part1] at e
  rw [dif_neg (by show ¬ 6784 + k.val < 1024; omega), dif_neg (by show ¬ 6784 + k.val - 1024 < 1024; omega), dif_neg (by show ¬ 6784 + k.val - 1024 - 1024 < 3712; omega), dif_neg (by show ¬ 6784 + k.val - 1024 - 1024 - 3712 < 1024; omega), dif_pos (by show 6784 + k.val - 1024 - 1024 - 3712 - 1024 < 512; omega)] at e
  exact real_at (X := x5) e (ix2_of_val rfl (by show 6784 + k.val - 1024 - 1024 - 3712 - 1024 = k.val; omega))

theorem three6 (i : Fin 4096) (k : Fin 2048) : IsReal (x6 (ix2 i k)) := by
  have e := h (ix2 ⟨i.val, by omega⟩ ⟨7296 + k.val, by omega⟩)
  pointwise [Cert.Pre_finite3.fn, Cert.Pre_finite3.fn_part1] at e
  rw [dif_neg (by show ¬ 7296 + k.val < 1024; omega), dif_neg (by show ¬ 7296 + k.val - 1024 < 1024; omega), dif_neg (by show ¬ 7296 + k.val - 1024 - 1024 < 3712; omega), dif_neg (by show ¬ 7296 + k.val - 1024 - 1024 - 3712 < 1024; omega), dif_neg (by show ¬ 7296 + k.val - 1024 - 1024 - 3712 - 1024 < 512; omega), dif_pos (by show 7296 + k.val - 1024 - 1024 - 3712 - 1024 - 512 < 2048; omega)] at e
  exact real_at (X := x6) e (ix2_of_val rfl (by show 7296 + k.val - 1024 - 1024 - 3712 - 1024 - 512 = k.val; omega))

theorem three7 (i : Fin 4096) (k : Fin 128) : IsReal (x7 (ix2 i k)) := by
  have e := h (ix2 ⟨i.val, by omega⟩ ⟨9344 + k.val, by omega⟩)
  pointwise [Cert.Pre_finite3.fn, Cert.Pre_finite3.fn_part1] at e
  rw [dif_neg (by show ¬ 9344 + k.val < 1024; omega), dif_neg (by show ¬ 9344 + k.val - 1024 < 1024; omega), dif_neg (by show ¬ 9344 + k.val - 1024 - 1024 < 3712; omega), dif_neg (by show ¬ 9344 + k.val - 1024 - 1024 - 3712 < 1024; omega), dif_neg (by show ¬ 9344 + k.val - 1024 - 1024 - 3712 - 1024 < 512; omega), dif_neg (by show ¬ 9344 + k.val - 1024 - 1024 - 3712 - 1024 - 512 < 2048; omega)] at e
  exact real_at (X := x7) e (ix2_of_val rfl (by show 9344 + k.val - 1024 - 1024 - 3712 - 1024 - 512 - 2048 = k.val; omega))

end three

section four

variable (x0 : FVec Ideal Cert.Pre_finite4.S4096x1024 .f32) (x1 : FVec Ideal Cert.Pre_finite4.S4096x256 .bf16) (x2 : FVec Ideal Cert.Pre_finite4.S4096x256 .bf16) (x3 : FVec Ideal Cert.Pre_finite4.S4096x512 .bf16) (x4 : FVec Ideal Cert.Pre_finite4.S1024x1024 .bf16) (x5 : FVec Ideal Cert.Pre_finite4.S1x1024 .f32)
  (h : ∀ y, Cert.Pre_finite4.fn (F := Ideal) x0 x1 x2 x3 x4 x5 y = 1#1)

include h

theorem four0 (i : Fin 4096) (k : Fin 1024) : IsReal (x0 (ix2 i k)) := by
  have e := h (ix2 ⟨i.val, by omega⟩ ⟨k.val, by omega⟩)
  pointwise [Cert.Pre_finite4.fn_part1, Cert.Pre_finite4.fn] at e
  exact real_at (X := x0) e (ix2_of_val rfl (by show k.val = k.val; omega))

theorem four1 (i : Fin 4096) (k : Fin 256) : IsReal (x1 (ix2 i k)) := by
  have e := h (ix2 ⟨i.val, by omega⟩ ⟨1024 + k.val, by omega⟩)
  pointwise [Cert.Pre_finite4.fn_part1, Cert.Pre_finite4.fn] at e
  exact real_at (X := x1) e (ix2_of_val rfl rfl)

theorem four2 (i : Fin 4096) (k : Fin 256) : IsReal (x2 (ix2 i k)) := by
  have e := h (ix2 ⟨i.val, by omega⟩ ⟨1280 + k.val, by omega⟩)
  pointwise [Cert.Pre_finite4.fn_part1, Cert.Pre_finite4.fn] at e
  rw [dif_neg (by show ¬ 1280 + k.val < 1024; omega), dif_neg (by show ¬ 1280 + k.val - 1024 < 256; omega), dif_pos (by show 1280 + k.val - 1024 - 256 < 256; omega)] at e
  exact real_at (X := x2) e (ix2_of_val rfl (by show 1280 + k.val - 1024 - 256 = k.val; omega))

theorem four3 (i : Fin 4096) (k : Fin 512) : IsReal (x3 (ix2 i k)) := by
  have e := h (ix2 ⟨i.val, by omega⟩ ⟨1536 + k.val, by omega⟩)
  pointwise [Cert.Pre_finite4.fn_part1, Cert.Pre_finite4.fn] at e
  rw [dif_neg (by show ¬ 1536 + k.val < 1024; omega), dif_neg (by show ¬ 1536 + k.val - 1024 < 256; omega), dif_neg (by show ¬ 1536 + k.val - 1024 - 256 < 256; omega), dif_pos (by show 1536 + k.val - 1024 - 256 - 256 < 512; omega)] at e
  exact real_at (X := x3) e (ix2_of_val rfl (by show 1536 + k.val - 1024 - 256 - 256 = k.val; omega))

theorem four4 (i : Fin 1024) (k : Fin 1024) : IsReal (x4 (ix2 i k)) := by
  have e := h (ix2 ⟨i.val, by omega⟩ ⟨2048 + k.val, by omega⟩)
  pointwise [Cert.Pre_finite4.fn_part1, Cert.Pre_finite4.fn] at e
  rw [dif_neg (by show ¬ 2048 + k.val < 1024; omega), dif_neg (by show ¬ 2048 + k.val - 1024 < 256; omega), dif_neg (by show ¬ 2048 + k.val - 1024 - 256 < 256; omega), dif_neg (by show ¬ 2048 + k.val - 1024 - 256 - 256 < 512; omega), dif_pos (by show 2048 + k.val - 1024 - 256 - 256 - 512 < 1024; omega)] at e
  exact real_at (X := x4) e (ix2_of_val (by show i.val % 1024 = i.val; omega) (by show 2048 + k.val - 1024 - 256 - 256 - 512 = k.val; omega))

theorem four5 (k : Fin 1024) : IsReal (x5 (ix2 0 k)) := by
  have e := h (ix2 ⟨0, by omega⟩ ⟨3072 + k.val, by omega⟩)
  pointwise [Cert.Pre_finite4.fn_part1, Cert.Pre_finite4.fn] at e
  rw [dif_neg (by show ¬ 3072 + k.val < 1024; omega), dif_neg (by show ¬ 3072 + k.val - 1024 < 256; omega), dif_neg (by show ¬ 3072 + k.val - 1024 - 256 < 256; omega), dif_neg (by show ¬ 3072 + k.val - 1024 - 256 - 256 < 512; omega), dif_neg (by show ¬ 3072 + k.val - 1024 - 256 - 256 - 512 < 1024; omega)] at e
  exact real_at (X := x5) e (ix2_of_val (by rfl) (by show 3072 + k.val - 1024 - 256 - 256 - 512 - 1024 = k.val; omega))

end four

end Cert.Proof.Finite

end
-- ==== Proof.Calls.lean ====
/- The value claims of the projection and optimiser calls: each kernel's arrays, block by block, are the arrays its reference computes. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.InBwdW
public import proofs.«01_k».proof.Proof.Gen.Kernel3Ideal
public import proofs.«01_k».proof.Proof.Gen.Reference3Ideal
public import proofs.«01_k».proof.Proof.Gen.Reference3Ideal.Run
public import proofs.«01_k».proof.Proof.InBwdX
public import proofs.«01_k».proof.Proof.Gen.Kernel4Ideal
public import proofs.«01_k».proof.Proof.Gen.Reference4Ideal
public import proofs.«01_k».proof.Proof.Gen.Reference4Ideal.Run
public import proofs.«01_k».proof.Proof.OutBwd
public import proofs.«01_k».proof.Proof.Gen.Kernel5Ideal
public import proofs.«01_k».proof.Proof.Gen.Reference5Ideal
public import proofs.«01_k».proof.Proof.Gen.Reference5Ideal.Run
public import proofs.«01_k».proof.Proof.OutFwd
public import proofs.«01_k».proof.Proof.Gen.Kernel6Ideal
public import proofs.«01_k».proof.Proof.Gen.Reference6Ideal
public import proofs.«01_k».proof.Proof.Gen.Reference6Ideal.Run
public import proofs.«01_k».proof.Proof.InFwd
public import proofs.«01_k».proof.Proof.Gen.Kernel7Ideal
public import proofs.«01_k».proof.Proof.Gen.Reference7Ideal
public import proofs.«01_k».proof.Proof.Gen.Reference7Ideal.Run
public import proofs.«01_k».proof.Proof.LossFwd
public import proofs.«01_k».proof.Proof.Gen.Kernel8Ideal
public import proofs.«01_k».proof.Proof.Gen.Reference8Ideal
public import proofs.«01_k».proof.Proof.Gen.Reference8Ideal.Run
public import proofs.«01_k».proof.Proof.Adam
public import proofs.«01_k».proof.Proof.Gen.Kernel9Ideal
public import proofs.«01_k».proof.Proof.Gen.Reference9Ideal
public import proofs.«01_k».proof.Proof.Gen.Reference9Ideal.Run
public import proofs.«01_k».proof.Proof.AdamOut
public import proofs.«01_k».proof.Proof.Finite

@[expose] public section

noncomputable section

namespace Cert.Proof.Calls

open Idealize.ShloMosaic Idealize.ShloMosaic.TcCoe Idealize.SL Idealize.SL.Sem
open Cert.Proof.Finite

/-- The rows of the in-projection's input are real, and so are those of the gradient that reaches it. -/
theorem rows3 (x0 x1 : FVec Ideal Cert.Pre_finite3.S4096x1024 .f32) (x2 : FVec Ideal Cert.Pre_finite3.S1x1024 .f32) (x3 : FVec Ideal Cert.Pre_finite3.S1024x3712 .bf16)
    (x4 : FVec Ideal Cert.Pre_finite3.S4096x1024 .bf16) (x5 : FVec Ideal Cert.Pre_finite3.S4096x512 .bf16) (x6 : FVec Ideal Cert.Pre_finite3.S4096x2048 .bf16) (x7 : FVec Ideal Cert.Pre_finite3.S4096x128 .bf16)
    (h : ∀ y, Cert.Pre_finite3.fn (F := Ideal) x0 x1 x2 x3 x4 x5 x6 x7 y = 1#1) (i : Fin 4096) :
    ∃ x u : Fin 1024 → ℝ, (∀ k, x0 (ix2 i k) = (x k : EReal)) ∧ (∀ k, InBwdX.dh x3 x4 x5 x6 x7 i k * (show EReal from x2 (ix2 0 k)) = (u k : EReal)) := by
  have hx (k : Fin 1024) : IsReal (x0 (ix2 i k)) := three0 _ _ _ _ _ _ _ _ h i k
  have hu (k : Fin 1024) : IsReal (InBwdX.dh x3 x4 x5 x6 x7 i k * (show EReal from x2 (ix2 0 k))) :=
    IsReal.mul (IsReal.add (IsReal.add (IsReal.add
      (IsReal.sum fun l => IsReal.mul (three4 _ _ _ _ _ _ _ _ h i l) (three3 _ _ _ _ _ _ _ _ h k _))
      (IsReal.sum fun l => IsReal.mul (three5 _ _ _ _ _ _ _ _ h i l) (three3 _ _ _ _ _ _ _ _ h k _)))
      (IsReal.sum fun l => IsReal.mul (three6 _ _ _ _ _ _ _ _ h i l) (three3 _ _ _ _ _ _ _ _ h k _)))
      (IsReal.sum fun l => IsReal.mul (three7 _ _ _ _ _ _ _ _ h i l) (three3 _ _ _ _ _ _ _ _ h k _)))
      (three2 _ _ _ _ _ _ _ _ h k)
  choose x hx using hx
  choose u hu using hu
  exact ⟨x, u, hx, hu⟩

/-- The rows of the out-projection's product are real, and so are those of the gradient that reaches its norm. -/
theorem rows4 (x0 : FVec Ideal Cert.Pre_finite4.S4096x1024 .f32) (x1 x2 : FVec Ideal Cert.Pre_finite4.S4096x256 .bf16) (x3 : FVec Ideal Cert.Pre_finite4.S4096x512 .bf16)
    (x4 : FVec Ideal Cert.Pre_finite4.S1024x1024 .bf16) (x5 : FVec Ideal Cert.Pre_finite4.S1x1024 .f32)
    (h : ∀ y, Cert.Pre_finite4.fn (F := Ideal) x0 x1 x2 x3 x4 x5 y = 1#1) : OutBwd.RealRows x0 (Cert.Reference4Ideal.Read.val_main_v3 (F := Ideal) x1 x2 x3 x4) x5 := by
  intro i
  have hy (k : Fin 1024) : IsReal (Cert.Reference4Ideal.Read.val_main_v3 (F := Ideal) x1 x2 x3 x4 (ix2 i k)) := by
    pointwise [Cert.Reference4Ideal.Read.val_main_v3, Cert.Reference4Ideal.Read.val_main_v2, Cert.Reference4Ideal.Read.val_main_v1, Cert.Reference4Ideal.Read.val_main_v0]
    refine IsReal.sum fun l => IsReal.mul ?_ (four4 _ _ _ _ _ _ h l k)
    split_ifs <;> first | exact four1 _ _ _ _ _ _ h i _ | exact four2 _ _ _ _ _ _ h i _ | exact four3 _ _ _ _ _ _ h i _
  have hu (k : Fin 1024) : IsReal (x0 (ix2 i k) * x5 (ix2 0 k)) := IsReal.mul (four0 _ _ _ _ _ _ h i k) (four5 _ _ _ _ _ _ h k)
  choose y hy using hy
  choose u hu using hu
  exact ⟨y, u, hy, hu⟩

theorem algebraic2 : Cert.algebraic_Kernel2Ideal_Reference2Ideal := by
  intro m g m' g' _ hargs
  refine ⟨fun c => Cert.Reference2Ideal.Read.val_main_v17 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), ?_, ?_⟩
  · refine (θ_run Cert.Kernel2Ideal.defs _ _).mono (fun r h c => ?_) (Cert.Kernel2Ideal.Value.run_blocks (F := Ideal) m g)
    obtain ⟨h0, hr⟩ := h c
    exact ⟨h0.trans (InBwdW.final m c), hr⟩
  · refine (θ_run Cert.Reference2Ideal.defs _ _).mono (fun r h c => ?_) (Cert.Reference2Ideal.Value.run (F := Ideal) m' g')
    obtain ⟨e0, e1, e2, e3, e4, e5⟩ := hargs c
    obtain ⟨h0, hr⟩ := h c
    refine ⟨h0.trans ((Cert.Reference2Ideal.Read.val_main_v17_eq (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))).trans ?_), hr⟩
    · rw [e0, e1, e2, e3, e4, e5]

theorem algebraic3 : Cert.algebraic_Kernel3Ideal_Reference3Ideal_pre_finite3 := by
  intro m g m' g' hpre hargs
  have hf (c : Dev Cert.Kernel3Ideal.nD) := rows3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) fun y => congrFun (hpre c) y
  refine ⟨fun c => Cert.Reference3Ideal.Read.val_main_v39 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)), fun c => Cert.Reference3Ideal.Read.val_main_v40 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)), ?_, ?_⟩
  · refine (θ_run Cert.Kernel3Ideal.defs _ _).mono (fun r h c => ?_) (Cert.Kernel3Ideal.Value.run_blocks (F := Ideal) m g)
    obtain ⟨h0, h1, hr⟩ := h c
    exact ⟨h0.trans (InBwdX.final8 m c (hf c)), h1.trans (InBwdX.final9 m c), hr⟩
  · refine (θ_run Cert.Reference3Ideal.defs _ _).mono (fun r h c => ?_) (Cert.Reference3Ideal.Value.run (F := Ideal) m' g')
    obtain ⟨e0, e1, e2, e3, e4, e5, e6, e7⟩ := hargs c
    obtain ⟨h0, h1, hr⟩ := h c
    refine ⟨h0.trans ((Cert.Reference3Ideal.Read.val_main_v39_eq m' c).trans ?_), h1.trans ((Cert.Reference3Ideal.Read.val_main_v40_eq (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))).trans ?_), hr⟩
    · rw [e0, e1, e2, e3, e4, e5, e6, e7]
    · rw [e0, e3, e4, e5, e6, e7]

theorem algebraic4 : Cert.algebraic_Kernel4Ideal_Reference4Ideal_pre_finite4 := by
  intro m g m' g' hpre hargs
  have hf (c : Dev Cert.Kernel4Ideal.nD) := rows4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) fun y => congrFun (hpre c) y
  refine ⟨fun c => Cert.Reference4Ideal.Read.val_main_v40 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)), fun c => Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)), fun c => Cert.Reference4Ideal.Read.val_main_v41 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · refine (θ_run Cert.Kernel4Ideal.defs _ _).mono (fun r h c => ?_) (Cert.Kernel4Ideal.Value.run_blocks (F := Ideal) m g)
    obtain ⟨h0, h1, h2, hr⟩ := h c
    exact ⟨h0.trans (OutBwd.final7 m c (hf c)), h1.trans (OutBwd.final8 m c (hf c)), h2.trans (OutBwd.final9 m c), hr⟩
  · refine (θ_run Cert.Reference4Ideal.defs _ _).mono (fun r h c => ?_) (Cert.Reference4Ideal.Value.run (F := Ideal) m' g')
    obtain ⟨e0, e1, e2, e3, e4, e5⟩ := hargs c
    obtain ⟨h0, h1, h2, hr⟩ := h c
    refine ⟨h0.trans ((Cert.Reference4Ideal.Read.val_main_v40_eq m' c).trans ?_), h1.trans ((Cert.Reference4Ideal.Read.val_main_v39_eq m' c).trans ?_), h2.trans ((Cert.Reference4Ideal.Read.val_main_v41_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))).trans ?_), hr⟩
    · rw [e0, e1, e2, e3, e4, e5]
    · rw [e0, e1, e2, e3, e4, e5]
    · rw [e0, e1, e2, e3, e4]

theorem algebraic5 : Cert.algebraic_Kernel5Ideal_Reference5Ideal := by
  intro m g m' g' _ hargs
  refine ⟨fun c => Cert.Reference5Ideal.Read.val_main_v3 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), fun c => Cert.Reference5Ideal.Read.val_main_v16 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)), ?_, ?_⟩
  · refine (θ_run Cert.Kernel5Ideal.defs _ _).mono (fun r h c => ?_) (Cert.Kernel5Ideal.Value.run_blocks (F := Ideal) m g)
    obtain ⟨h0, h1, hr⟩ := h c
    exact ⟨h0.trans (OutFwd.final6 m c), h1.trans (OutFwd.final7 m c), hr⟩
  · refine (θ_run Cert.Reference5Ideal.defs _ _).mono (fun r h c => ?_) (Cert.Reference5Ideal.Value.run (F := Ideal) m' g')
    obtain ⟨e0, e1, e2, e3, e4, e5⟩ := hargs c
    obtain ⟨h0, h1, hr⟩ := h c
    refine ⟨h0.trans ((Cert.Reference5Ideal.Read.val_main_v3_eq (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))).trans ?_), h1.trans ((Cert.Reference5Ideal.Read.val_main_v16_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))).trans ?_), hr⟩
    · rw [e1, e2, e3, e4]
    · rw [e0, e1, e2, e3, e4, e5]

theorem algebraic6 : Cert.algebraic_Kernel6Ideal_Reference6Ideal := by
  intro m g m' g' _ hargs
  refine ⟨fun c => Cert.Reference6Ideal.Read.val_main_v13 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun r h c => ?_) (Cert.Kernel6Ideal.Value.run_blocks (F := Ideal) m g)
    obtain ⟨h0, hr⟩ := h c
    exact ⟨h0.trans (InFwd.final m c), hr⟩
  · refine (θ_run Cert.Reference6Ideal.defs _ _).mono (fun r h c => ?_) (Cert.Reference6Ideal.Value.run (F := Ideal) m' g')
    obtain ⟨e0, e1, e2⟩ := hargs c
    obtain ⟨h0, hr⟩ := h c
    refine ⟨h0.trans ((Cert.Reference6Ideal.Read.val_main_v13_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), hr⟩
    · rw [e0, e1, e2]

theorem algebraic7 : Cert.algebraic_Kernel7Ideal_Reference7Ideal := by
  intro m g m' g' _ hargs
  refine ⟨fun c => Cert.Reference7Ideal.Read.val_main_v3 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), fun c => Cert.Reference7Ideal.Read.val_main_v31 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)), fun c => Cert.Reference7Ideal.Read.val_main_v35 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)), ?_, ?_⟩
  · refine (θ_run Cert.Kernel7Ideal.defs _ _).mono (fun r h c => ?_) (Cert.Kernel7Ideal.Value.run_blocks (F := Ideal) m g)
    obtain ⟨h0, h1, h2, hr⟩ := h c
    exact ⟨h0.trans (LossFwd.final7 m c), h1.trans (LossFwd.final8 m c), h2.trans (LossFwd.final9 m c), hr⟩
  · refine (θ_run Cert.Reference7Ideal.defs _ _).mono (fun r h c => ?_) (Cert.Reference7Ideal.Value.run (F := Ideal) m' g')
    obtain ⟨e0, e1, e2, e3, e4, e5, e6⟩ := hargs c
    obtain ⟨h0, h1, h2, hr⟩ := h c
    refine ⟨h0.trans ((Cert.Reference7Ideal.Read.val_main_v3_eq (F := Ideal) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4))).trans ?_), h1.trans ((Cert.Reference7Ideal.Read.val_main_v31_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6))).trans ?_), h2.trans ((Cert.Reference7Ideal.Read.val_main_v35_eq m' c).trans ?_), hr⟩
    · rw [e1, e2, e3, e4]
    · rw [e0, e1, e2, e3, e4, e5, e6]
    · rw [e0, e1, e2, e3, e4, e5, e6]

theorem algebraic8 : Cert.algebraic_Kernel8Ideal_Reference8Ideal := by
  intro m g m' g' _ hargs
  refine ⟨fun c => Cert.Reference8Ideal.Read.val_main_v0 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), fun c => Cert.Reference8Ideal.Read.val_main_v24 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), fun c => Cert.Reference8Ideal.Read.val_main_v5 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)), fun c => Cert.Reference8Ideal.Read.val_main_v11 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg4)), ?_, ?_⟩
  · refine (θ_run Cert.Kernel8Ideal.defs _ _).mono (fun r h c => ?_) (Cert.Kernel8Ideal.Value.run_blocks (F := Ideal) m g)
    obtain ⟨h0, h1, h2, h3, hr⟩ := h c
    exact ⟨h0.trans (Adam.final5 m c), h1.trans (Adam.final6 m c), h2.trans (Adam.final7 m c), h3.trans (Adam.final8 m c), hr⟩
  · refine (θ_run Cert.Reference8Ideal.defs _ _).mono (fun r h c => ?_) (Cert.Reference8Ideal.Value.run (F := Ideal) m' g')
    obtain ⟨e0, e1, e2, e3, e4⟩ := hargs c
    obtain ⟨h0, h1, h2, h3, hr⟩ := h c
    refine ⟨h0.trans ((Cert.Reference8Ideal.Read.val_main_v0_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))).trans ?_), h1.trans ((Cert.Reference8Ideal.Read.val_main_v24_eq (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))).trans ?_), h2.trans ((Cert.Reference8Ideal.Read.val_main_v5_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3))).trans ?_), h3.trans ((Cert.Reference8Ideal.Read.val_main_v11_eq (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg4))).trans ?_), hr⟩
    · rw [e1, e2]
    · rw [e0, e1, e2, e3, e4]
    · rw [e1, e2, e3]
    · rw [e1, e2, e4]

theorem algebraic9 : Cert.algebraic_Kernel9Ideal_Reference9Ideal := by
  intro m g m' g' _ hargs
  refine ⟨fun c => Cert.Reference9Ideal.Read.val_main_v0 (F := Ideal) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), fun c => Cert.Reference9Ideal.Read.val_main_v24 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), fun c => Cert.Reference9Ideal.Read.val_main_v5 (F := Ideal) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), fun c => Cert.Reference9Ideal.Read.val_main_v11 (F := Ideal) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg4)), ?_, ?_⟩
  · refine (θ_run Cert.Kernel9Ideal.defs _ _).mono (fun r h c => ?_) (Cert.Kernel9Ideal.Value.run_blocks (F := Ideal) m g)
    obtain ⟨h0, h1, h2, h3, hr⟩ := h c
    exact ⟨h0.trans (AdamOut.final5 m c), h1.trans (AdamOut.final6 m c), h2.trans (AdamOut.final7 m c), h3.trans (AdamOut.final8 m c), hr⟩
  · refine (θ_run Cert.Reference9Ideal.defs _ _).mono (fun r h c => ?_) (Cert.Reference9Ideal.Value.run (F := Ideal) m' g')
    obtain ⟨e0, e1, e2, e3, e4⟩ := hargs c
    obtain ⟨h0, h1, h2, h3, hr⟩ := h c
    refine ⟨h0.trans ((Cert.Reference9Ideal.Read.val_main_v0_eq (F := Ideal) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))).trans ?_), h1.trans ((Cert.Reference9Ideal.Read.val_main_v24_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4))).trans ?_), h2.trans ((Cert.Reference9Ideal.Read.val_main_v5_eq (F := Ideal) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))).trans ?_), h3.trans ((Cert.Reference9Ideal.Read.val_main_v11_eq (F := Ideal) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg4))).trans ?_), hr⟩
    · rw [e1, e2]
    · rw [e0, e1, e2, e3, e4]
    · rw [e1, e2, e3]
    · rw [e1, e2, e4]

end Cert.Proof.Calls

end
-- ==== Proof.FoxRow.lean ====
/- One row of the attention's forward call, over the extended reals: the running maximum and the running sums while the key
   tiles are absorbed one after the other, and the sums at the row's end. -/
module

public import proofs.«01_k».proof.Proof.RefA

@[expose] public section

noncomputable section

namespace Cert.Proof.FoxFwd

open Idealize.ShloMosaic
open Cert.Proof.ReferenceIdeal (sub_exp fold_real)

/-- The causal exponential of column `j` of row `i`, shifted by `μ`. -/
def ex (S : ℕ → ℝ) (i : ℕ) (μ : ℝ) (j : ℕ) : ℝ := if j ≤ i then Real.exp (S j - μ) else 0

/-- What a row carries after `n` key tiles: before the first the maximum is minus infinity and the sums are zero; later the
    maximum is a real and the sums are the shifted exponentials' over the columns so far, weighted by `w`. -/
def RowSt (S : ℕ → ℝ) (w : ℕ → ℕ → ℝ) (i n : ℕ) (m : EReal) (acc : Fin 128 → EReal) : Prop :=
  (n = 0 ∧ m = ⊥ ∧ ∀ d, acc d = 0) ∨
    ∃ μ : ℝ, m = ((μ : ℝ) : EReal) ∧ ∀ d, acc d = (((∑ j ∈ Finset.range (1024 * n), ex S i μ j * w j d.val) : ℝ) : EReal)

theorem RowSt.init (S : ℕ → ℝ) (w : ℕ → ℕ → ℝ) (i : ℕ) {m : EReal} {acc : Fin 128 → EReal} (hm : m = ⊥) (ha : ∀ d, acc d = 0) : RowSt S w i 0 m acc :=
  Or.inl ⟨rfl, hm, ha⟩

/-- The columns of one more tile. -/
theorem sum_tile (f : ℕ → ℝ) (n : ℕ) :
    ∑ j ∈ Finset.range (1024 * (n + 1)), f j = ∑ j ∈ Finset.range (1024 * n), f j + ∑ s : Fin 1024, f (1024 * n + s.val) := by
  rw [show 1024 * (n + 1) = 1024 * n + 1024 by ring, Finset.sum_range_add, Finset.sum_range (fun s => f (1024 * n + s))]

/-- One key tile absorbed. -/
theorem RowSt.step {S : ℕ → ℝ} {w : ℕ → ℕ → ℝ} {i n : ℕ} {m m' : EReal} {acc acc' : Fin 128 → EReal} (h : RowSt S w i n m acc) (hn : 1024 * n ≤ i)
    (s : Fin 1024 → EReal) (hs : ∀ c, s c = if 1024 * n + c.val ≤ i then ((S (1024 * n + c.val) : ℝ) : EReal) else ⊥)
    (hm : m' = max m (Finset.univ.fold max ⊥ s))
    (ha : ∀ d, acc' d = Ideal.exp (m - m') * acc d + ∑ c : Fin 1024, Ideal.exp (s c - m') * ((w (1024 * n + c.val) d.val : ℝ) : EReal)) :
    RowSt S w i (n + 1) m' acc' := by
  obtain ⟨r, hr⟩ := fold_real s (fun c => by
    rw [hs]; split
    · exact EReal.coe_ne_top _
    · exact bot_ne_top) (0 : Fin 1024) (by rw [hs, if_pos (by simpa using hn)]; exact EReal.coe_ne_bot _)
  rw [hr] at hm
  have key : ∀ (μ : ℝ) (d : Fin 128), (∑ c : Fin 1024, Ideal.exp (s c - ((μ : ℝ) : EReal)) * ((w (1024 * n + c.val) d.val : ℝ) : EReal))
      = ((∑ c : Fin 1024, ex S i μ (1024 * n + c.val) * w (1024 * n + c.val) d.val : ℝ) : EReal) := by
    intro μ d
    rw [← coe_sum]
    refine Finset.sum_congr rfl fun c _ => ?_
    rw [hs, sub_exp, EReal.coe_mul]; rfl
  rcases h with ⟨h0, hb, hz⟩ | ⟨μ, hμ, hz⟩
  · subst h0
    rw [hb, max_eq_right bot_le] at hm
    refine Or.inr ⟨r, hm, fun d => ?_⟩
    rw [ha, hz, mul_zero, zero_add, hm, key, sum_tile]
    simp
  · have hm2 : m' = ((max μ r : ℝ) : EReal) := by rw [hm, hμ]; exact (EReal.coe_strictMono.monotone.map_max (a := μ) (b := r)).symm
    refine Or.inr ⟨max μ r, hm2, fun d => ?_⟩
    rw [ha, hz, hm2, hμ, key, ← EReal.coe_sub, Ideal.exp_coe, ← EReal.coe_mul, ← EReal.coe_add, sum_tile, Finset.mul_sum]
    refine congrArg (fun x : ℝ => ((x : ℝ) : EReal)) (congrArg₂ _ (Finset.sum_congr rfl fun j _ => ?_) rfl)
    unfold ex
    split
    · rw [← mul_assoc, ← Real.exp_add]; congr 2; ring
    · ring

/-- The whole row: the sums reach over all the columns, since those past the diagonal are zero. -/
theorem RowSt.done {S : ℕ → ℝ} {w : ℕ → ℕ → ℝ} {i n : ℕ} {m : EReal} {acc : Fin 128 → EReal} (h : RowSt S w i (n + 1) m acc) (hn : i < 1024 * (n + 1)) (hn2 : n + 1 ≤ 2) :
    ∃ μ : ℝ, m = ((μ : ℝ) : EReal) ∧ ∀ d, acc d = ((∑ j : Fin 2048, ex S i μ j.val * w j.val d.val : ℝ) : EReal) := by
  rcases h with ⟨h0, -, -⟩ | ⟨μ, hμ, hz⟩
  · exact absurd h0 (Nat.succ_ne_zero n)
  · refine ⟨μ, hμ, fun d => ?_⟩
    rw [hz]
    refine congrArg (fun x : ℝ => ((x : ℝ) : EReal)) ?_
    rw [Finset.sum_fin_eq_sum_range, ← Finset.sum_subset (Finset.range_subset_range.2 (by omega : 1024 * (n + 1) ≤ 2048))]
    · refine Finset.sum_congr rfl fun j hj => ?_
      rw [dif_pos (lt_of_lt_of_le (Finset.mem_range.1 hj) (by omega))]
    · intro j _ hj
      rw [Finset.mem_range, not_lt] at hj
      split
      · unfold ex; rw [if_neg (fun hle => absurd (lt_of_le_of_lt hle hn) (not_lt.2 hj)), zero_mul]
      · rfl

end Cert.Proof.FoxFwd

end
-- ==== Proof.FoxTile.lean ====
/- The vectors of one tile of the attention's forward call, entry by entry, over the extended reals. -/
module

public import proofs.«01_k».proof.Proof.Gen.Kernel10Ideal.Value
public import proofs.«01_k».proof.Proof.FoxRow
public import Idealize.ShloMosaic.Lib.Pipeline.ValueKit

@[expose] public section

set_option maxRecDepth 16384
set_option maxHeartbeats 1000000

noncomputable section

namespace Cert.Proof.FoxFwd

open Cert.Kernel10Ideal Cert.Kernel10Ideal.Gen
open Idealize.ShloMosaic Idealize.ShloMosaic.TcCoe Idealize.ShloMosaic.Tactic

/-- The mask of the diagonal tile is minus infinity. -/
theorem mask_bot : Named.named (F := Ideal) Cert.Kernel10Ideal.κ "mask" (φ := .f32) 0xF149F2CA#32 = ⊥ :=
  IdealRules.named_const.ideal_named_scalar _ _ _ _ rfl

theorem sel25 (d : Fin 128) (a b : EReal) : Scalar.select (k0_pay25 (ix2 0 d)) a b = if hd d = 0 then a else b := by
  by_cases h : d.val < 64
  · rw [show k0_pay25 (ix2 0 d) = 1#1 by pointwise [k0_pay25]; revert d; decide, hd_lt d h]; rfl
  · rw [show k0_pay25 (ix2 0 d) = 0#1 by pointwise [k0_pay25]; revert d; decide, hd_ge d h]; rfl

/-- The new running maximum. -/
theorem mx (m : FVec Ideal S1024x1 .f32) (s : FVec Ideal S1024x1024 .f32) (r : Fin 1024) :
    k0_pay35 m s (ix2 r 0) = max (m (ix2 r 0)) (Finset.univ.fold max ⊥ fun j => s (ix2 r j)) := by
  pointwise [k0_pay35]
  rw [show (Ideal.ofBits FTy.f32 4286578688#32) = ⊥ from Cert.Proof.ReferenceIdeal.bot_bits]

/-- The new running sums. -/
theorem ac (m : FVec Ideal S1024x1 .f32) (a : FVec Ideal S1024x128 .f32) (s : FVec Ideal S1024x1024 .f32) (w : FVec Ideal S1024x128 .bf16) (r : Fin 1024) (d : Fin 128) :
    k0_pay36 m a s w (ix2 r d) = Ideal.exp (m (ix2 r 0) - k0_pay35 m s (ix2 r 0)) * a (ix2 r d)
      + ∑ j : Fin 1024, Ideal.exp (s (ix2 r j) - k0_pay35 m s (ix2 r 0)) * w (ix2 j d) := by
  pointwise [k0_pay36]

/-- The gated scores of a tile. -/
theorem sc (q : FVec Ideal S1024x128 .bf16) (u : FVec Ideal S1024x1 .f32) (k : Vec Ideal S1x1024x128 .f32) (w : Vec Ideal S1x1x1x1024 .f32) (r j : Fin 1024) :
    k0_pay9 q u k w (ix2 r j) = (∑ d : Fin 128, q (ix2 r d) * k (ix3 0 j d)) + (u (ix2 r 0) - w (ix4 0 0 0 j)) := by
  pointwise [k0_pay9, k0_pay8]

/-- The masked scores of the diagonal tile. -/
theorem ms (i : grid0.Coords) (n : BitVec 32) (hn : n = BitVec.ofNat 32 (i 2).val) (s : FVec Ideal S1024x1024 .f32) (r j : Fin 1024) :
    k0_pay45 (k0_pay31 i) n s (ix2 r j) = if j.val ≤ r.val then s (ix2 r j) else ⊥ := by
  subst hn
  pointwise [k0_pay45, k0_pay31]
  have hT : (i 2).val < 2 := (i 2).isLt
  have e : ∀ x : ℕ, x < 1024 → (BitVec.ofNat 32 x + BitVec.ofNat 32 (i 2).val * 1024#32).toInt = x + 1024 * (i 2).val := by
    intro x hx
    rw [BitVec.toInt_eq_toNat_cond]
    simp only [BitVec.toNat_add, BitVec.toNat_mul, BitVec.toNat_ofNat]
    split <;> omega
  unfold IntOp.cmpi IntOp.addi Scalar.muli IntOp.muli
  simp only [BitVec.sle, e _ r.isLt, e _ j.isLt]
  by_cases h : j.val ≤ r.val
  · rw [if_pos h, decide_eq_true (by omega)]; rfl
  · rw [if_neg h, decide_eq_false (by omega)]; exact mask_bot

theorem q0 (x : Vec Ideal S1x1024x512 .f32) (r : Fin 1024) (d : Fin 128) :
    k0_pay27 x (ix2 r d) = if hd d = 0 then x (ix3 0 r ⟨d.val, by omega⟩) * ((1 / 8 : ℝ) : EReal) else 0 := by
  pointwise [k0_pay27, k0_pay26, k0_pay24]
  rw [sel25, eighth]

theorem q1 (x : Vec Ideal S1x1024x512 .f32) (r : Fin 1024) (d : Fin 128) :
    k0_pay28 x (ix2 r d) = if hd d = 0 then 0 else x (ix3 0 r ⟨d.val, by omega⟩) * ((1 / 8 : ℝ) : EReal) := by
  pointwise [k0_pay28, k0_pay26, k0_pay24]
  rw [sel25, eighth]

theorem v0 (x : Vec Ideal S1x1024x128 .f32) (r : Fin 1024) (d : Fin 128) :
    k0_pay12 k0_pay25 x (ix2 r d) = if hd d = 0 then x (ix3 0 r d) else 1 := by
  pointwise [k0_pay12, k0_pay11]
  rw [sel25]

theorem v1 (x : Vec Ideal S1x1024x128 .f32) (r : Fin 1024) (d : Fin 128) :
    k0_pay13 k0_pay25 x (ix2 r d) = if hd d = 0 then 1 else x (ix3 0 r d) := by
  pointwise [k0_pay13, k0_pay11]
  rw [sel25]

/-- The lane of the other head's half. -/
def oth (d : Fin 128) : Fin 128 := ⟨(d.val + 64) % 128, Nat.mod_lt _ (by omega)⟩

theorem hd_oth (d : Fin 128) : hd (oth d) = 1 - hd d := by revert d; decide

theorem r2 (a : FVec Ideal S1024x128 .f32) (r : Fin 1024) (d : Fin 128) : k0_pay2 a (ix2 r d) = a (ix2 r (oth d)) := by
  pointwise [k0_pay2]
  congr 2

variable (w : FVec Ideal S1024x128 .bf16) (a : FVec Ideal S1024x128 .f32) (x : FVec Ideal S1024x1024 .bf16) (y : FVec Ideal S1024x128 .f32)

theorem r3 (r : Fin 1024) (d : Fin 128) : k0_pay3 w x y (ix2 r d) = k0_pay1 w x y (ix2 r (oth d)) := r2 (k0_pay1 w x y) r d

theorem out4 (r : Fin 1024) (d : Fin 128) : k0_pay4 k0_pay25 w a x y (ix2 r d)
    = if hd d = 0 then Ideal.div (a (ix2 r d)) (a (ix2 r (oth d))) else Ideal.div (k0_pay1 w x y (ix2 r d)) (k0_pay1 w x y (ix2 r (oth d))) := by
  pointwise [k0_pay4]
  rw [sel25, r2, r3]

theorem out5 (r : Fin 1024) (d : Fin 128) : k0_pay5 k0_pay25 w a x y (ix3 0 r d) = k0_pay4 k0_pay25 w a x y (ix2 r d) := by
  pointwise [k0_pay5]

theorem out6 (g : Vec Ideal S1x1024x512 .f32) (r : Fin 1024) (d : Fin 128) : k0_pay6 (k0_pay24 g) k0_pay25 w a x y (ix3 0 r d)
    = k0_pay4 k0_pay25 w a x y (ix2 r d) * (g (ix3 0 r ⟨384 + d.val, by omega⟩) * Ideal.div 1 (1 + Ideal.exp (0 - g (ix3 0 r ⟨384 + d.val, by omega⟩)))) := by
  pointwise [k0_pay6, k0_pay24]

theorem out7 (m m' : FVec Ideal S1024x1 .f32) (r : Fin 1024) (d : Fin 128) : k0_pay7 k0_pay25 w m a m' x y (ix3 0 r d)
    = if hd d = 0 then m (ix2 r 0) + Ideal.log (a (ix2 r (oth d))) else m' (ix2 r 0) + Ideal.log (k0_pay1 w x y (ix2 r (oth d))) := by
  pointwise [k0_pay7]
  rw [sel25, r2, r3]

end Cert.Proof.FoxFwd

end
-- ==== Proof.FoxCell.lean ====
/- One query tile of the attention's forward call over the reals: the state of its rows after the key tiles, and the three
   outputs of its rows. -/
module

public import proofs.«01_k».proof.Proof.FoxTile

@[expose] public section

set_option maxRecDepth 16384
set_option maxHeartbeats 1000000

noncomputable section

namespace Cert.Proof.FoxFwd

open Cert.Kernel10Ideal Cert.Kernel10Ideal.Gen
open Idealize.ShloMosaic Idealize.ShloMosaic.TcCoe Idealize.ShloMosaic.Tactic

variable (Z : Prob) (b p : ℕ)

/-- The values on one head's lanes, one elsewhere. -/
def wt (h j d : ℕ) : ℝ := if d / 64 = h then Z.v b j (128 * p + d) else 1

/-- The state of head `h`'s rows of query tile `T` after `n` key tiles. -/
def TileSt (h T n : ℕ) (m : FVec Ideal S1024x1 .f32) (a : FVec Ideal S1024x128 .f32) : Prop :=
  ∀ r : Fin 1024, RowSt (Z.S b (2 * p + h) (1024 * T + r.val)) (wt Z b p h) (1024 * T + r.val) n (m (ix2 r 0)) (fun d => a (ix2 r d))

variable {Z b p}

theorem TileSt.init (h T : ℕ) : TileSt Z b p h T 0 (k0_pay32 (F := Ideal)) (k0_pay33 (F := Ideal)) := fun r =>
  RowSt.init _ _ _ (by pointwise [k0_pay32]; exact mask_bot) (fun d => by pointwise [k0_pay33])

theorem TileSt.step {h T n : ℕ} {m : FVec Ideal S1024x1 .f32} {a : FVec Ideal S1024x128 .f32} (H : TileSt Z b p h T n m a) (hn : n ≤ T)
    {s : FVec Ideal S1024x1024 .f32} {w : FVec Ideal S1024x128 .bf16}
    (hs : ∀ r j : Fin 1024, s (ix2 r j) = if 1024 * n + j.val ≤ 1024 * T + r.val then ((Z.S b (2 * p + h) (1024 * T + r.val) (1024 * n + j.val) : ℝ) : EReal) else ⊥)
    (hw : ∀ (j : Fin 1024) (d : Fin 128), w (ix2 j d) = ((wt Z b p h (1024 * n + j.val) d.val : ℝ) : EReal)) :
    TileSt Z b p h T (n + 1) (k0_pay35 m s) (k0_pay36 m a s w) := fun r =>
  (H r).step (by omega) (fun j => s (ix2 r j)) (hs r) (mx m s r) (fun d => by
    rw [ac]; simp only [hw])

/-- What the blocks of one grid point hold. -/
structure Cell (Z : Prob) (b p T : ℕ) (xq : Vec Ideal S1x1024x512 .f32) (u0 u1 : Vec Ideal S1x1024x1 .f32) : Prop where
  q : ∀ (r : Fin 1024) (d : Fin 128), xq (ix3 0 r ⟨d.val, by omega⟩) = ((Z.q b (1024 * T + r.val) (128 * p + d.val) : ℝ) : EReal)
  g : ∀ (r : Fin 1024) (d : Fin 128), xq (ix3 0 r ⟨384 + d.val, by omega⟩) = ((Z.g b (1024 * T + r.val) (128 * p + d.val) : ℝ) : EReal)
  u0 : ∀ r : Fin 1024, u0 (ix3 0 r 0) = ((Z.c b (2 * p + 0) (1024 * T + r.val) : ℝ) : EReal)
  u1 : ∀ r : Fin 1024, u1 (ix3 0 r 0) = ((Z.c b (2 * p + 1) (1024 * T + r.val) : ℝ) : EReal)

/-- What the loads of one key tile hold. -/
structure Keys (Z : Prob) (b p n : ℕ) (k v : Vec Ideal S1x1024x128 .f32) (c0 c1 : Vec Ideal S1x1x1x1024 .f32) : Prop where
  k : ∀ (j : Fin 1024) (d : Fin 128), k (ix3 0 j d) = ((Z.k b (1024 * n + j.val) (128 * p + d.val) : ℝ) : EReal)
  v : ∀ (j : Fin 1024) (d : Fin 128), v (ix3 0 j d) = ((Z.v b (1024 * n + j.val) (128 * p + d.val) : ℝ) : EReal)
  c0 : ∀ j : Fin 1024, c0 (ix4 0 0 0 j) = ((Z.c b (2 * p + 0) (1024 * n + j.val) : ℝ) : EReal)
  c1 : ∀ j : Fin 1024, c1 (ix4 0 0 0 j) = ((Z.c b (2 * p + 1) (1024 * n + j.val) : ℝ) : EReal)

variable {T n : ℕ} {xq : Vec Ideal S1x1024x512 .f32} {u0 u1 : Vec Ideal S1x1024x1 .f32} {k v : Vec Ideal S1x1024x128 .f32} {c0 c1 : Vec Ideal S1x1x1x1024 .f32}

theorem score (h : ℕ) (hh : h < 2) (i j : ℕ) :
    ((∑ d : Fin 128, lane h d (Z.q b i (128 * p + d.val) * (1 / 8) * Z.k b j (128 * p + d.val))) + (Z.c b (2 * p + h) i - Z.c b (2 * p + h) j)) = Z.S b (2 * p + h) i j := by
  rw [sum_lane h hh, Prob.S, Finset.sum_mul]
  refine congrArg₂ _ (Finset.sum_congr rfl fun x _ => ?_) rfl
  rw [Prob.ln_col _ h hh]; ring

theorem Cell.s0 (C : Cell Z b p T xq u0 u1) (K : Keys Z b p n k v c0 c1) (r j : Fin 1024) :
    k0_pay9 (k0_pay27 xq) (k0_pay29 u0) k c0 (ix2 r j) = ((Z.S b (2 * p + 0) (1024 * T + r.val) (1024 * n + j.val) : ℝ) : EReal) := by
  have e : k0_pay29 u0 (ix2 r 0) = u0 (ix3 0 r 0) := by pointwise [k0_pay29]
  rw [sc, e, C.u0, K.c0, ← score 0 (by omega), EReal.coe_add, EReal.coe_sub, ← coe_sum]
  refine congrArg₂ _ (Finset.sum_congr rfl fun d _ => ?_) rfl
  rw [q0, C.q, K.k]; unfold lane
  split
  · rw [← EReal.coe_mul, ← EReal.coe_mul]
  · rw [zero_mul]; rfl

theorem Cell.s1 (C : Cell Z b p T xq u0 u1) (K : Keys Z b p n k v c0 c1) (r j : Fin 1024) :
    k0_pay9 (k0_pay28 xq) (k0_pay30 u1) k c1 (ix2 r j) = ((Z.S b (2 * p + 1) (1024 * T + r.val) (1024 * n + j.val) : ℝ) : EReal) := by
  have e : k0_pay30 u1 (ix2 r 0) = u1 (ix3 0 r 0) := by pointwise [k0_pay30]
  rw [sc, e, C.u1, K.c1, ← score 1 (by omega), EReal.coe_add, EReal.coe_sub, ← coe_sum]
  refine congrArg₂ _ (Finset.sum_congr rfl fun d _ => ?_) rfl
  rw [q1, C.q, K.k]; unfold lane
  by_cases h : hd d = 0
  · rw [if_pos h, if_neg (by omega), zero_mul]; rfl
  · have := Prob.hd_lt_two d
    rw [if_neg h, if_pos (by omega), ← EReal.coe_mul, ← EReal.coe_mul]

theorem Keys.w0 (K : Keys Z b p n k v c0 c1) (j : Fin 1024) (d : Fin 128) :
    k0_pay12 k0_pay25 v (ix2 j d) = ((wt Z b p 0 (1024 * n + j.val) d.val : ℝ) : EReal) := by
  rw [v0, K.v]; unfold wt hd
  split <;> rfl

theorem Keys.w1 (K : Keys Z b p n k v c0 c1) (j : Fin 1024) (d : Fin 128) :
    k0_pay13 k0_pay25 v (ix2 j d) = ((wt Z b p 1 (1024 * n + j.val) d.val : ℝ) : EReal) := by
  rw [v1, K.v]; unfold wt hd
  by_cases h : d.val / 64 = 0
  · rw [if_pos h, if_neg (by omega)]; rfl
  · rw [if_neg h, if_pos (by omega)]

/-- A tile left of the diagonal, either head. -/
theorem TileSt.full0 (C : Cell Z b p T xq u0 u1) (K : Keys Z b p n k v c0 c1) (hn : n < T) {m : FVec Ideal S1024x1 .f32} {a : FVec Ideal S1024x128 .f32} (H : TileSt Z b p 0 T n m a) :
    TileSt Z b p 0 T (n + 1) (k0_pay14 (k0_pay27 xq) (k0_pay29 u0) m k c0)
      (k0_pay34 m a (k0_pay12 k0_pay25 v) (k0_pay14 (k0_pay27 xq) (k0_pay29 u0) m k c0) (k0_pay15 (k0_pay27 xq) (k0_pay29 u0) m k c0)) :=
  H.step (s := k0_pay9 (k0_pay27 xq) (k0_pay29 u0) k c0) (w := k0_pay12 k0_pay25 v) (by omega)
    (fun r j => (C.s0 K r j).trans (if_pos (by omega)).symm) K.w0

theorem TileSt.full1 (C : Cell Z b p T xq u0 u1) (K : Keys Z b p n k v c0 c1) (hn : n < T) {m : FVec Ideal S1024x1 .f32} {a : FVec Ideal S1024x128 .f32} (H : TileSt Z b p 1 T n m a) :
    TileSt Z b p 1 T (n + 1) (k0_pay35 m (k0_pay10 (k0_pay28 xq) (k0_pay30 u1) k c1))
      (k0_pay36 m a (k0_pay10 (k0_pay28 xq) (k0_pay30 u1) k c1) (k0_pay13 k0_pay25 v)) :=
  H.step (s := k0_pay9 (k0_pay28 xq) (k0_pay30 u1) k c1) (w := k0_pay13 k0_pay25 v) (by omega)
    (fun r j => (C.s1 K r j).trans (if_pos (by omega)).symm) K.w1

/-- The diagonal tile, either head. -/
theorem TileSt.diag0 {i : grid0.Coords} {N : BitVec 32} (hN : N = BitVec.ofNat 32 (i 2).val) (C : Cell Z b p T xq u0 u1) (K : Keys Z b p T k v c0 c1)
    {m : FVec Ideal S1024x1 .f32} {a : FVec Ideal S1024x128 .f32} (H : TileSt Z b p 0 T T m a) :
    TileSt Z b p 0 T (T + 1) (k0_pay46 (k0_pay31 i) N m (k0_pay41 (k0_pay27 xq) (k0_pay29 u0) k c0))
      (k0_pay47 k0_pay25 (k0_pay31 i) N m a (k0_pay41 (k0_pay27 xq) (k0_pay29 u0) k c0) v) :=
  H.step (s := k0_pay45 (k0_pay31 i) N (k0_pay9 (k0_pay27 xq) (k0_pay29 u0) k c0)) (w := k0_pay12 k0_pay25 v) le_rfl
    (fun r j => (ms i N hN _ r j).trans (by rw [C.s0 K]; exact if_congr (by omega) rfl rfl)) K.w0

theorem TileSt.diag1 {i : grid0.Coords} {N : BitVec 32} (hN : N = BitVec.ofNat 32 (i 2).val) (C : Cell Z b p T xq u0 u1) (K : Keys Z b p T k v c0 c1)
    {m : FVec Ideal S1024x1 .f32} {a : FVec Ideal S1024x128 .f32} (H : TileSt Z b p 1 T T m a) :
    TileSt Z b p 1 T (T + 1) (k0_pay49 (k0_pay31 i) N m (k0_pay42 (k0_pay28 xq) (k0_pay30 u1) k c1))
      (k0_pay1 (k0_pay44 k0_pay25 v) (k0_pay50 (k0_pay31 i) N m (k0_pay42 (k0_pay28 xq) (k0_pay30 u1) k c1))
        (k0_pay51 (k0_pay31 i) N m a (k0_pay42 (k0_pay28 xq) (k0_pay30 u1) k c1))) :=
  H.step (s := k0_pay45 (k0_pay31 i) N (k0_pay9 (k0_pay28 xq) (k0_pay30 u1) k c1)) (w := k0_pay13 k0_pay25 v) le_rfl
    (fun r j => (ms i N hN _ r j).trans (by rw [C.s1 K]; exact if_congr (by omega) rfl rfl)) K.w1

/-- The quotient of a row's sums is the attention's output; the maximum plus the logarithm of the row sum is the logarithm of
    the unshifted row sum. -/
theorem TileSt.val {h : ℕ} {m : FVec Ideal S1024x1 .f32} {a : FVec Ideal S1024x128 .f32} (H : TileSt Z b p h T (T + 1) m a) (hT : T < 2)
    (r : Fin 1024) (d : Fin 128) (hd0 : hd d = h) :
    Ideal.div (a (ix2 r d)) (a (ix2 r (oth d))) = ((Z.o b (2 * p + h) (1024 * T + r.val) (d.val % 64) : ℝ) : EReal) ∧
    m (ix2 r 0) + Ideal.log (a (ix2 r (oth d))) = ((Real.log (Z.N (fun _ _ _ => 0) b (2 * p + h) (1024 * T + r.val)) : ℝ) : EReal) := by
  obtain ⟨μ, hm, ha⟩ := (H r).done (by omega) (by omega)
  have hi : 1024 * T + r.val < 2048 := by omega
  have hp := Z.N_pos (fun _ _ _ => μ) b (2 * p + h) _ hi
  have hp0 := Z.N_pos (fun _ _ _ => 0) b (2 * p + h) _ hi
  have e1 : a (ix2 r (oth d)) = ((Z.N (fun _ _ _ => μ) b (2 * p + h) (1024 * T + r.val) : ℝ) : EReal) := by
    refine (ha (oth d)).trans (congrArg (fun x : ℝ => ((x : ℝ) : EReal)) (Finset.sum_congr rfl fun j _ => ?_))
    have : ¬ (oth d).val / 64 = h := by
      have := hd_oth d; have := Prob.hd_lt_two d; unfold hd at *; omega
    rw [wt, if_neg this, mul_one]; rfl
  have e2 : a (ix2 r d) = ((∑ j : Fin 2048, Z.E (fun _ _ _ => μ) b (2 * p + h) (1024 * T + r.val) j * Z.v b j (64 * (2 * p + h) + d.val % 64) : ℝ) : EReal) := by
    refine (ha d).trans (congrArg (fun x : ℝ => ((x : ℝ) : EReal)) (Finset.sum_congr rfl fun j _ => ?_))
    rw [wt, if_pos (show d.val / 64 = h from hd0), Prob.lane_col, hd0]; rfl
  rw [e1, e2, hm]
  refine ⟨?_, ?_⟩
  · rw [div_real hp.ne', Finset.sum_div, Prob.o]
    refine congrArg (fun x : ℝ => ((x : ℝ) : EReal)) (Finset.sum_congr rfl fun j _ => ?_)
    rw [← Z.E_div (fun _ _ _ => μ)]; ring
  · rw [Ideal.log_coe, if_neg (not_le.2 hp), ← EReal.coe_add, Z.N_shift (fun _ _ _ => μ), Real.log_mul hp0.ne' (Real.exp_pos _).ne', Real.log_exp]
    congr 1; ring

end Cert.Proof.FoxFwd

end
-- ==== Proof.FoxHost.lean ====
/- The arrays the attention's forward call is launched on, and the blocks each of its grid points reads. -/
module

public import proofs.«01_k».proof.Proof.FoxCell
public import proofs.«01_k».proof.Proof.Host
public import proofs.«01_k».proof.Proof.Gen.Kernel10Ideal.Value
public import Idealize.ShloMosaic.Lib.Pipeline.ValueKit
public import Idealize.ShloMosaic.Lib.StableHlo.RunRead

@[expose] public section

set_option maxRecDepth 16384

noncomputable section

namespace Cert.Proof.FoxFwd

open Cert.Kernel10Ideal Cert.Kernel10Ideal.Gen
open Cert.Proof.KernelIdeal (H12 H53 H61 C12 C8 h9 h12 h53 h61)
open Cert.Proof.ReferenceIdeal (Reads)
open Idealize.ShloMosaic Idealize.ShloMosaic.TcCoe

/-- The batch entry, the pair of heads and the query tile a grid point works on. -/
abbrev gb (t : Fin cfg0.N) : Fin 2 := ⟨t.val / 8, by have : t.val < 16 := t.isLt; omega⟩
abbrev gp (t : Fin cfg0.N) : Fin 4 := ⟨t.val / 2 % 4, by omega⟩
abbrev gT (t : Fin cfg0.N) : Fin 2 := ⟨t.val % 2, by omega⟩

theorem gcoord : ∀ t : Fin cfg0.N, (grid0.coords t 2).val = t.val % 2 := (by decide +kernel : ∀ t : Fin grid0.N, _)

theorem gidx : ∀ t : Fin cfg0.N, win0_0.index t = ![t.val / 8, t.val % 2, 3 + t.val / 2 % 4] ∧ win0_1.index t = ![t.val / 8, 0, 3 + t.val / 2 % 4]
    ∧ win0_2.index t = ![t.val / 8, t.val % 2, t.val / 2 % 4] ∧ win0_3.index t = ![t.val / 8, t.val / 2 % 4, 0, 0] ∧ win0_4.index t = ![t.val / 8, t.val % 2, t.val / 2 % 4]
    ∧ win0_5.index t = ![t.val / 8, t.val % 2, t.val / 2 % 4] ∧ win0_6.index t = ![t.val / 8, t.val % 2, t.val / 2 % 4] :=
  (by decide +kernel : ∀ t : Fin grid0.N, _)

variable (m : (ℓ : Loc nD τ sig) → Buf (Elt Ideal) ℓ) (c : Dev nD) (t : Fin cfg0.N)

abbrev a0 : FVec Ideal S2x2048x512 .f32 := m ((c : Thread nD τ).loc main_arg0)
abbrev a1 : FVec Ideal S2x2048x512 .f32 := m ((c : Thread nD τ).loc main_arg1)
abbrev a2 : FVec Ideal S2x2048x512 .f32 := m ((c : Thread nD τ).loc main_arg2)
abbrev a3 : FVec Ideal S2x2048x512 .f32 := m ((c : Thread nD τ).loc main_arg3)
abbrev a4 : FVec Ideal S2x8x2048 .f32 := m ((c : Thread nD τ).loc main_arg4)

/-- What an operation over three references leaves, each operand's contents read at its own reference. -/
theorem three_result {x a b y : Ref sig .tc} (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem V12 : V m c main_v12 = H12 (a0 m c) (a1 m c) (a2 m c) (a3 m c) := by
  unfold_abbrev_sides
  simp only [hostOps0]
  simp (disch := decide) only [StableHlo.readAfter, StableHlo.readUpto, StableHlo.nullary_result', StableHlo.unary_result', StableHlo.reshape_result', StableHlo.nary4_result', three_result]
  show C12 (StableHlo.upto (τ := τ) (sig := sig) (Val := Elt Ideal) _ _ 14 (Proc.tc.devRef main_v10)) (StableHlo.upto (τ := τ) (sig := sig) (Val := Elt Ideal) _ _ 14 (Proc.tc.devRef main_v9)) (StableHlo.upto (τ := τ) (sig := sig) (Val := Elt Ideal) _ _ 14 (Proc.tc.devRef main_v11)) = _
  simp (disch := decide) only [StableHlo.readAfter, StableHlo.readUpto, StableHlo.nullary_result', StableHlo.unary_result', StableHlo.reshape_result', StableHlo.nary4_result', three_result]
  show C12 _ (fun i => shapeCast S2x2048x2048 (C8 (StableHlo.upto (τ := τ) (sig := sig) (Val := Elt Ideal) _ _ 8 (Proc.tc.devRef main_v4)) (StableHlo.upto (τ := τ) (sig := sig) (Val := Elt Ideal) _ _ 8 (Proc.tc.devRef main_v5)) (StableHlo.upto (τ := τ) (sig := sig) (Val := Elt Ideal) _ _ 8 (Proc.tc.devRef main_v6)) (StableHlo.upto (τ := τ) (sig := sig) (Val := Elt Ideal) _ _ 8 (Proc.tc.devRef main_v7))) shapeCasts_S2x2048x4x4x128_S2x2048x2048 i) _ = _
  simp (disch := decide) only [StableHlo.readAfter, StableHlo.readUpto, StableHlo.nullary_result', StableHlo.unary_result', StableHlo.reshape_result', StableHlo.nary4_result', three_result]
  rfl

theorem V16 : V m c main_v16 = H61 (a4 m c) := by
  unfold_abbrev_sides
  simp only [hostOps0]
  after_reads_simp
  rfl

theorem V19 : V m c main_v19 = H53 (a4 m c) := by
  unfold_abbrev_sides
  simp only [hostOps0]
  after_reads_simp
  rfl

theorem rd0 (A : FVec Ideal S2x2048x3712 .f32) (i : Fin 1024) (n : Fin 512) :
    (cfg0.win 0).fill (cfg0.grid.coords t) dflt0_0 (((cfg0.win 0).blk t).view.read (Elt Ideal) A) (ix3 0 i n)
      = A (ix3 (gb t) ⟨1024 * (gT t).val + i.val, by have := (gT t).isLt; omega⟩ ⟨1536 + (512 * (gp t).val + n.val), by have := (gp t).isLt; omega⟩) := by
  unfold Pipeline.Window.fill
  rw [dif_pos (moved0_0 t _)]
  blk_ext [gidx t]

theorem rd1 (A : FVec Ideal S2x2048x3712 .f32) (i : Fin 2048) (n : Fin 512) :
    (cfg0.win 1).fill (cfg0.grid.coords t) dflt0_1 (((cfg0.win 1).blk t).view.read (Elt Ideal) A) (ix3 0 i n)
      = A (ix3 (gb t) i ⟨1536 + (512 * (gp t).val + n.val), by have := (gp t).isLt; omega⟩) := by
  unfold Pipeline.Window.fill
  rw [dif_pos (moved0_1 t _)]
  blk_ext [gidx t]

theorem rd2 (A : FVec Ideal S2x2048x512 .f32) (i : Fin 1024) (d : Fin 128) :
    ((cfg0.win 2).blk t).view.read (Elt Ideal) A (ix3 0 i d)
      = A (ix3 (gb t) ⟨1024 * (gT t).val + i.val, by have := (gT t).isLt; omega⟩ ⟨128 * (gp t).val + d.val, by have := (gp t).isLt; omega⟩) := by
  blk_ext [gidx t]

theorem rd3 (A : FVec Ideal S2x4x8x2048 .f32) (s : Fin 8) (j : Fin 2048) :
    ((cfg0.win 3).blk t).view.read (Elt Ideal) A (ix4 0 0 s j) = A (ix4 (gb t) (gp t) s j) := by
  blk_ext [gidx t]

variable {m c} {Z : Prob} {x5 : FVec Ideal S2x2048x512 .f32}

/-- The packed projections at a column of one pair of heads. -/
theorem packed (R : Reads Z (a0 m c) (a1 m c) (a2 m c) (a3 m c) (a4 m c) x5) (b : Fin 2) (i : Fin 2048) (p s : Fin 4) (d : Fin 128) (n : ℕ) (hn : n = 1536 + (512 * p.val + 128 * s.val + d.val)) (hn' : n < 3712) :
    V m c main_v12 (ix3 b i ⟨n, hn'⟩) = (((if s.val = 0 then Z.q b i (128 * p + d) else if s.val = 1 then Z.k b i (128 * p + d) else if s.val = 2 then Z.v b i (128 * p + d) else Z.g b i (128 * p + d)) : ℝ) : EReal) := by
  subst hn
  rw [V12]
  exact (h12 b i p s d).trans (h9 R b i p s d)

theorem rows (R : Reads Z (a0 m c) (a1 m c) (a2 m c) (a3 m c) (a4 m c) x5) (i : Fin 1024) (s : Fin 4) (d : Fin 128) (n : ℕ) (hn : n = 128 * s.val + d.val) (hn' : n < 512) :
    X0_0 m c t (ix3 0 i ⟨n, hn'⟩) = (((if s.val = 0 then Z.q (gb t) (1024 * (gT t).val + i.val) (128 * (gp t).val + d) else if s.val = 1 then Z.k (gb t) (1024 * (gT t).val + i.val) (128 * (gp t).val + d) else if s.val = 2 then Z.v (gb t) (1024 * (gT t).val + i.val) (128 * (gp t).val + d) else Z.g (gb t) (1024 * (gT t).val + i.val) (128 * (gp t).val + d)) : ℝ) : EReal) :=
  (rd0 t (V m c main_v12) i ⟨n, hn'⟩).trans (packed R (gb t) ⟨1024 * (gT t).val + i.val, _⟩ (gp t) s d _ (by simp only []; omega) _)

theorem keys (R : Reads Z (a0 m c) (a1 m c) (a2 m c) (a3 m c) (a4 m c) x5) (i : Fin 2048) (s : Fin 4) (d : Fin 128) (n : ℕ) (hn : n = 128 * s.val + d.val) (hn' : n < 512) :
    X0_1 m c t (ix3 0 i ⟨n, hn'⟩) = (((if s.val = 0 then Z.q (gb t) i (128 * (gp t).val + d) else if s.val = 1 then Z.k (gb t) i (128 * (gp t).val + d) else if s.val = 2 then Z.v (gb t) i (128 * (gp t).val + d) else Z.g (gb t) i (128 * (gp t).val + d)) : ℝ) : EReal) :=
  (rd1 t (V m c main_v12) i ⟨n, hn'⟩).trans (packed R (gb t) i (gp t) s d _ (by simp only []; omega) _)

theorem gates (R : Reads Z (a0 m c) (a1 m c) (a2 m c) (a3 m c) (a4 m c) x5) (i : Fin 1024) (h : Fin 2) (n : ℕ) (hn : n = 64 * h.val) (hn' : n < 128) :
    iblk m c 2 t (ix3 0 i ⟨n, hn'⟩) = ((Z.c (gb t) (2 * (gp t).val + h.val) (1024 * (gT t).val + i.val) : ℝ) : EReal) := by
  have e := h61 R (gb t) ⟨1024 * (gT t).val + i.val, by have := (gT t).isLt; omega⟩ ⟨2 * (gp t).val + h.val, by have := (gp t).isLt; omega⟩ 0
  refine ((rd2 t (V m c main_v16) i ⟨n, hn'⟩).trans ?_).trans e
  rw [V16]
  refine congrArg (H61 (a4 m c)) (congrArg (ix3 _ _) (Fin.ext ?_))
  simp only [Fin.val_zero]
  omega

theorem gatesT (R : Reads Z (a0 m c) (a1 m c) (a2 m c) (a3 m c) (a4 m c) x5) (s : Fin 8) (hs : s.val < 2) (j : Fin 2048) :
    iblk m c 3 t (ix4 0 0 s j) = ((Z.c (gb t) (2 * (gp t).val + s.val) j : ℝ) : EReal) := by
  refine (rd3 t (V m c main_v19) s j).trans ?_
  rw [V19]
  exact h53 R (gb t) (gp t) s j hs

end Cert.Proof.FoxFwd
-- ==== Proof.FoxFwd.lean ====
/- The loops of the attention's forward call, and what each of its grid points leaves in its three outputs. -/
module

public import proofs.«01_k».proof.Proof.FoxHost
public import Idealize.ShloMosaic.Lib.WritesUnit

@[expose] public section

set_option maxRecDepth 16384
set_option maxHeartbeats 4000000

noncomputable section

namespace Cert.Proof.FoxFwd

open Cert.Kernel10Ideal Cert.Kernel10Ideal.Gen
open Cert.Proof.ReferenceIdeal (Reads)
open Idealize.ShloMosaic Idealize.ShloMosaic.TcCoe Idealize.SL.Sem

/-! ## The two loops: how many trips, and where they load -/

theorem two (i : grid0.Coords) : (i 2).val = 0 ∨ (i 2).val = 1 := by
  have h : (i 2).val < 2 := (i 2).isLt
  omega

theorem tr2 (i : grid0.Coords) : (k0_t2_loop i).trips = 0 := by
  rcases two i with h | h <;> (unfold k0_t2_loop; rw [h]; decide)

theorem tr1_0 (i : grid0.Coords) (h : (i 2).val = 0) : (k0_t1_loop i).trips = 0 := by
  unfold k0_t1_loop; rw [h]; decide

theorem tr1_1 (i : grid0.Coords) (h : (i 2).val = 1) : (k0_t1_loop i).trips = 1 := by
  unfold k0_t1_loop; rw [h]; decide

theorem st2 (𝒱 : Variants) (c : Dev nD) (bd : Option 𝒱.V) (i : grid0.Coords) (arg3 : Memref sig .tc .vmem S1x1024x512 .f32) (harg3 : arg3.IsWhole) (arg4 : Memref sig .tc .vmem S1x2048x512 .f32) (harg4 : arg4.IsWhole) (arg5 : Memref sig .tc .vmem S1x1024x128 .f32) (harg5 : arg5.IsWhole) (arg6 : Memref sig .tc .vmem S1x1x8x2048 .f32) (harg6 : arg6.IsWhole) (arg7 : Memref sig .tc .vmem S1x1024x128 .bf16) (harg7 : arg7.IsWhole) (arg8 : Memref sig .tc .vmem S1x1024x128 .f32) (harg8 : arg8.IsWhole) (arg9 : Memref sig .tc .vmem S1x1024x128 .f32) (harg9 : arg9.IsWhole) (v4 : IVec S1x128 1) (v12 : FVec Ideal S1024x128 .bf16) (v17 : FVec Ideal S1024x128 .bf16) (v19 : FVec Ideal S1024x1 .f32) (v21 : FVec Ideal S1024x1 .f32) (v22 : BitVec 32) (v26 : FVec Ideal S1024x1 .f32) (v27 : FVec Ideal S1024x128 .f32) (c1024_i32_11 : BitVec 32) (v28 : BitVec 32) (v33 : BitVec 32) (v35 : BitVec 32) (c0_i32_14 : BitVec 32) (v49 : BitVec 32) (X_arg4 : BufTy.Contents (Elt Ideal) arg4.view.ty) (X_arg6 : BufTy.Contents (Elt Ideal) arg6.view.ty) (h0 : (k0_t2_loop i).trips = 0) (init : FVec Ideal S1024x1 .f32 × FVec Ideal S1024x128 .f32 × FVec Ideal S1024x1 .f32 × FVec Ideal S1024x128 .f32) (n : ℕ) :
    st_k0_t2 (F := Ideal) 𝒱 c bd i arg3 harg3 arg4 harg4 arg5 harg5 arg6 harg6 arg7 harg7 arg8 harg8 arg9 harg9 v4 v12 v17 v19 v21 v22 v26 v27 c1024_i32_11 v28 v33 v35 c0_i32_14 v49 X_arg4 X_arg6 init n = init := by
  induction n with
  | zero => rfl
  | succ n ih => rw [st_k0_t2.eq_2, ih]; unfold st_k0_t2Step; exact dif_neg (by omega)

theorem st1 (𝒱 : Variants) (c : Dev nD) (bd : Option 𝒱.V) (i : grid0.Coords) (arg3 : Memref sig .tc .vmem S1x1024x512 .f32) (harg3 : arg3.IsWhole) (arg4 : Memref sig .tc .vmem S1x2048x512 .f32) (harg4 : arg4.IsWhole) (arg5 : Memref sig .tc .vmem S1x1024x128 .f32) (harg5 : arg5.IsWhole) (arg6 : Memref sig .tc .vmem S1x1x8x2048 .f32) (harg6 : arg6.IsWhole) (arg7 : Memref sig .tc .vmem S1x1024x128 .bf16) (harg7 : arg7.IsWhole) (arg8 : Memref sig .tc .vmem S1x1024x128 .f32) (harg8 : arg8.IsWhole) (arg9 : Memref sig .tc .vmem S1x1024x128 .f32) (harg9 : arg9.IsWhole) (v4 : IVec S1x128 1) (v12 : FVec Ideal S1024x128 .bf16) (v17 : FVec Ideal S1024x128 .bf16) (v19 : FVec Ideal S1024x1 .f32) (v21 : FVec Ideal S1024x1 .f32) (v22 : BitVec 32) (v26 : FVec Ideal S1024x1 .f32) (v27 : FVec Ideal S1024x128 .f32) (c1024_i32_11 : BitVec 32) (v28 : BitVec 32) (v33 : BitVec 32) (v35 : BitVec 32) (c0_i32_14 : BitVec 32) (X_arg4 : BufTy.Contents (Elt Ideal) arg4.view.ty) (X_arg6 : BufTy.Contents (Elt Ideal) arg6.view.ty) (h0 : (k0_t1_loop i).trips = 0) (init : FVec Ideal S1024x1 .f32 × FVec Ideal S1024x128 .f32 × FVec Ideal S1024x1 .f32 × FVec Ideal S1024x128 .f32) (n : ℕ) :
    st_k0_t1 (F := Ideal) 𝒱 c bd i arg3 harg3 arg4 harg4 arg5 harg5 arg6 harg6 arg7 harg7 arg8 harg8 arg9 harg9 v4 v12 v17 v19 v21 v22 v26 v27 c1024_i32_11 v28 v33 v35 c0_i32_14 X_arg4 X_arg6 init n = init := by
  induction n with
  | zero => rfl
  | succ n ih => rw [st_k0_t1.eq_2, ih]; unfold st_k0_t1Step; exact dif_neg (by omega)

theorem st1' (𝒱 : Variants) (c : Dev nD) (bd : Option 𝒱.V) (i : grid0.Coords) (arg3 : Memref sig .tc .vmem S1x1024x512 .f32) (harg3 : arg3.IsWhole) (arg4 : Memref sig .tc .vmem S1x2048x512 .f32) (harg4 : arg4.IsWhole) (arg5 : Memref sig .tc .vmem S1x1024x128 .f32) (harg5 : arg5.IsWhole) (arg6 : Memref sig .tc .vmem S1x1x8x2048 .f32) (harg6 : arg6.IsWhole) (arg7 : Memref sig .tc .vmem S1x1024x128 .bf16) (harg7 : arg7.IsWhole) (arg8 : Memref sig .tc .vmem S1x1024x128 .f32) (harg8 : arg8.IsWhole) (arg9 : Memref sig .tc .vmem S1x1024x128 .f32) (harg9 : arg9.IsWhole) (v4 : IVec S1x128 1) (v12 : FVec Ideal S1024x128 .bf16) (v17 : FVec Ideal S1024x128 .bf16) (v19 : FVec Ideal S1024x1 .f32) (v21 : FVec Ideal S1024x1 .f32) (v22 : BitVec 32) (v26 : FVec Ideal S1024x1 .f32) (v27 : FVec Ideal S1024x128 .f32) (c1024_i32_11 : BitVec 32) (v28 : BitVec 32) (v33 : BitVec 32) (v35 : BitVec 32) (c0_i32_14 : BitVec 32) (X_arg4 : BufTy.Contents (Elt Ideal) arg4.view.ty) (X_arg6 : BufTy.Contents (Elt Ideal) arg6.view.ty) (h0 : (k0_t1_loop i).trips = 1) (init : FVec Ideal S1024x1 .f32 × FVec Ideal S1024x128 .f32 × FVec Ideal S1024x1 .f32 × FVec Ideal S1024x128 .f32) (n : ℕ) (hn : n ≠ 0) :
    st_k0_t1 (F := Ideal) 𝒱 c bd i arg3 harg3 arg4 harg4 arg5 harg5 arg6 harg6 arg7 harg7 arg8 harg8 arg9 harg9 v4 v12 v17 v19 v21 v22 v26 v27 c1024_i32_11 v28 v33 v35 c0_i32_14 X_arg4 X_arg6 init n = tripR_k0_t1 (F := Ideal) 𝒱 c bd i arg3 harg3 arg4 harg4 arg5 harg5 arg6 harg6 arg7 harg7 arg8 harg8 arg9 harg9 v4 v12 v17 v19 v21 v22 v26 v27 c1024_i32_11 v28 v33 v35 c0_i32_14 X_arg4 X_arg6 ⟨0, by omega⟩ init := by
  obtain ⟨n, rfl⟩ := Nat.exists_eq_succ_of_ne_zero hn
  clear hn
  induction n with
  | zero => exact st_k0_t1_succ (F := Ideal) 𝒱 c bd i arg3 harg3 arg4 harg4 arg5 harg5 arg6 harg6 arg7 harg7 arg8 harg8 arg9 harg9 v4 v12 v17 v19 v21 v22 v26 v27 c1024_i32_11 v28 v33 v35 c0_i32_14 X_arg4 X_arg6 init ⟨0, by omega⟩
  | succ n ih => rw [st_k0_t1.eq_2, ih]; unfold st_k0_t1Step; exact dif_neg (by omega)

theorem off1 (i : grid0.Coords) (h) : k0_off1 i ⟨0, h⟩ = ![0, 1024 * 0, 128] := by rfl
theorem off2 (i : grid0.Coords) (h) : k0_off2 i ⟨0, h⟩ = ![0, 0, 0, 1024 * 0] := by rfl
theorem off3 (i : grid0.Coords) (h) : k0_off3 i ⟨0, h⟩ = ![0, 0, 1, 1024 * 0] := by rfl
theorem off4 (i : grid0.Coords) (h) : k0_off4 i ⟨0, h⟩ = ![0, 1024 * 0, 256] := by rfl

theorem off9 (i : grid0.Coords) : k0_off9 i = ![0, 1024 * (i 2).val, 128] := by
  rcases two i with h | h <;> (unfold k0_off9; rw [h]; decide)
theorem off10 (i : grid0.Coords) : k0_off10 i = ![0, 0, 0, 1024 * (i 2).val] := by
  rcases two i with h | h <;> (unfold k0_off10; rw [h]; decide)
theorem off11 (i : grid0.Coords) : k0_off11 i = ![0, 0, 1, 1024 * (i 2).val] := by
  rcases two i with h | h <;> (unfold k0_off11; rw [h]; decide)
theorem off12 (i : grid0.Coords) : k0_off12 i = ![0, 1024 * (i 2).val, 256] := by
  rcases two i with h | h <;> (unfold k0_off12; rw [h]; decide)

/-- A load of a rectangle, as a load of the array read through the view. -/
theorem readAt_ld {s : Shape} {e : EltTy} {κ : Kind} {sp : Space} (v : View sig κ sp s e) (f : v.ty.Contents (Elt Ideal)) {off size : Fin s.rank → ℕ} (inb : ∀ a, off a + size a ≤ s.size a) :
    v.readAt (Elt Ideal) (Rect.unit off size inb).toLoadRect f = View.ld (v.read (Elt Ideal) f) (Rect.unit off size inb) := by
  funext y
  rw [View.readAt_apply]

/-- What the blocks of keys, values and gates hold. -/
structure Src (Z : Prob) (b p : ℕ) (Y : Vec Ideal S1x2048x512 .f32) (G : Vec Ideal S1x1x8x2048 .f32) : Prop where
  k : ∀ (j : Fin 2048) (d : Fin 128), Y (ix3 0 j ⟨128 + d.val, by omega⟩) = ((Z.k b j (128 * p + d.val) : ℝ) : EReal)
  v : ∀ (j : Fin 2048) (d : Fin 128), Y (ix3 0 j ⟨256 + d.val, by omega⟩) = ((Z.v b j (128 * p + d.val) : ℝ) : EReal)
  c : ∀ (s : Fin 8) (hs : s.val < 2) (j : Fin 2048), G (ix4 0 0 s j) = ((Z.c b (2 * p + s.val) j : ℝ) : EReal)

variable {Z : Prob} {b p T : ℕ} {Y : Vec Ideal S1x2048x512 .f32} {G : Vec Ideal S1x1x8x2048 .f32}

/-- The loads of one key tile. -/
theorem Src.keys (S : Src Z b p Y G) {n : ℕ} (hn : n < 2) {oA oB : Fin 3 → ℕ} {oC oD : Fin 4 → ℕ} (eA : oA = ![0, 1024 * n, 128]) (eB : oB = ![0, 1024 * n, 256]) (eC : oC = ![0, 0, 0, 1024 * n]) (eD : oD = ![0, 0, 1, 1024 * n]) (iA iB iC iD) :
    Keys Z b p n (View.ld Y (Rect.unit oA ![1, 1024, 128] iA)) (View.ld Y (Rect.unit oB ![1, 1024, 128] iB))
      (View.ld G (Rect.unit oC ![1, 1, 1, 1024] iC)) (View.ld G (Rect.unit oD ![1, 1, 1, 1024] iD)) := by
  subst eA eB eC eD
  refine ⟨fun j d => ?_, fun j d => ?_, fun j => ?_, fun j => ?_⟩
  · refine Eq.trans ?_ (S.k ⟨1024 * n + j.val, by omega⟩ d)
    exact congrArg Y (by idx_ext)
  · refine Eq.trans ?_ (S.v ⟨1024 * n + j.val, by omega⟩ d)
    exact congrArg Y (by idx_ext)
  · refine Eq.trans ?_ (S.c 0 (by decide) ⟨1024 * n + j.val, by omega⟩)
    exact congrArg G (by idx_ext)
  · refine Eq.trans ?_ (S.c 1 (by decide) ⟨1024 * n + j.val, by omega⟩)
    exact congrArg G (by idx_ext)

variable {xq : Vec Ideal S1x1024x512 .f32} {u0 u1 : Vec Ideal S1x1024x1 .f32}

/-- After the loop over the key tiles below the diagonal, both heads have seen all of them. -/
theorem loop_st (𝒱 : Variants) (c : Dev nD) (bd : Option 𝒱.V) (i : grid0.Coords) (arg3 : Memref sig .tc .vmem S1x1024x512 .f32) (harg3 : arg3.IsWhole) (arg4 : Memref sig .tc .vmem S1x2048x512 .f32) (harg4 : arg4.IsWhole) (arg5 : Memref sig .tc .vmem S1x1024x128 .f32) (harg5 : arg5.IsWhole) (arg6 : Memref sig .tc .vmem S1x1x8x2048 .f32) (harg6 : arg6.IsWhole) (arg7 : Memref sig .tc .vmem S1x1024x128 .bf16) (harg7 : arg7.IsWhole) (arg8 : Memref sig .tc .vmem S1x1024x128 .f32) (harg8 : arg8.IsWhole) (arg9 : Memref sig .tc .vmem S1x1024x128 .f32) (harg9 : arg9.IsWhole) (v22 : BitVec 32) (v26 : FVec Ideal S1024x1 .f32) (v27 : FVec Ideal S1024x128 .f32) (c1024_i32_11 : BitVec 32) (v28 : BitVec 32) (v33 : BitVec 32) (v35 : BitVec 32) (c0_i32_14 : BitVec 32) (X_arg4 : BufTy.Contents (Elt Ideal) arg4.view.ty) (X_arg6 : BufTy.Contents (Elt Ideal) arg6.view.ty)
    (C : Cell Z b p (i 2).val xq u0 u1) (S : Src Z b p (arg4.view.read (Elt Ideal) X_arg4) (arg6.view.read (Elt Ideal) X_arg6)) (n : ℕ) (hn : (i 2).val ≤ n)
    {m0 m1 : FVec Ideal S1024x1 .f32} {e0 e1 : FVec Ideal S1024x128 .f32} (H0 : TileSt Z b p 0 (i 2).val 0 m0 e0) (H1 : TileSt Z b p 1 (i 2).val 0 m1 e1) :
    let s := st_k0_t1 (F := Ideal) 𝒱 c bd i arg3 harg3 arg4 harg4 arg5 harg5 arg6 harg6 arg7 harg7 arg8 harg8 arg9 harg9 k0_pay25 (k0_pay27 xq) (k0_pay28 xq) (k0_pay29 u0) (k0_pay30 u1) v22 v26 v27 c1024_i32_11 v28 v33 v35 c0_i32_14 X_arg4 X_arg6 (m0, e0, m1, e1) n
    TileSt Z b p 0 (i 2).val (i 2).val s.1 s.2.1 ∧ TileSt Z b p 1 (i 2).val (i 2).val s.2.2.1 s.2.2.2 := by
  dsimp only
  rcases two i with h | h
  · rw [st1 (h0 := tr1_0 i h), h]
    rw [h] at H0 H1
    exact ⟨H0, H1⟩
  · rw [st1' (h0 := tr1_1 i h) (hn := by omega), h]
    rw [h] at H0 H1 C
    have K := S.keys (n := 0) (by decide) (off1 i (by rw [tr1_1 i h]; decide)) (off4 i (by rw [tr1_1 i h]; decide)) (off2 i (by rw [tr1_1 i h]; decide)) (off3 i (by rw [tr1_1 i h]; decide)) (by rw [off1]; decide) (by rw [off4]; decide) (by rw [off2]; decide) (by rw [off3]; decide)
    simp only [← readAt_ld] at K
    unfold tripR_k0_t1 trip_k0_t1
    exact ⟨TileSt.full0 C K (by decide) H0, TileSt.full1 C K (by decide) H1⟩

end Cert.Proof.FoxFwd

end
-- ==== Proof.FoxOut.lean ====
/- What each grid point of the attention's forward call leaves in its three outputs. -/
module

public import proofs.«01_k».proof.Proof.FoxFwd

@[expose] public section

set_option maxRecDepth 16384
set_option maxHeartbeats 4000000

noncomputable section

namespace Cert.Proof.FoxFwd

open Cert.Kernel10Ideal Cert.Kernel10Ideal.Gen
open Cert.Proof.ReferenceIdeal (Reads)
open Cert.Proof.Prob
open Idealize.ShloMosaic Idealize.ShloMosaic.TcCoe Idealize.SL.Sem

variable {m : (ℓ : Loc nD τ sig) → Buf (Elt Ideal) ℓ} {c : Dev nD} (t : Fin cfg0.N) {Z : Prob} {x5 : FVec Ideal S2x2048x512 .f32}

theorem cell (R : Reads Z (a0 m c) (a1 m c) (a2 m c) (a3 m c) (a4 m c) x5) (iA iB) :
    Cell Z (gb t) (gp t) (grid0.coords t 2).val (X0_0 m c t) (View.ld (iblk m c 2 t) (Rect.unit ![0, 0, 0] ![1, 1024, 1] iA)) (View.ld (iblk m c 2 t) (Rect.unit ![0, 0, 64] ![1, 1024, 1] iB)) := by
  rw [gcoord]
  refine ⟨fun r d => rows t R r 0 d _ (by simp) _, fun r d => rows t R r 3 d _ (by simp) _, fun r => ?_, fun r => ?_⟩
  · refine Eq.trans ?_ (gates t R r 0 0 (by simp) (by decide))
    exact congrArg (iblk m c 2 t) (by idx_ext)
  · refine Eq.trans ?_ (gates t R r 1 64 (by simp) (by decide))
    exact congrArg (iblk m c 2 t) (by idx_ext)

theorem src (R : Reads Z (a0 m c) (a1 m c) (a2 m c) (a3 m c) (a4 m c) x5) : Src Z (gb t) (gp t) (X0_1 m c t) (iblk m c 3 t) :=
  ⟨fun j d => keys t R j 1 d _ (by simp) _, fun j d => keys t R j 2 d _ (by simp) _, fun s hs j => gatesT t R s hs j⟩

/-- A gate times its logistic function. -/
theorem gate (x : ℝ) : (x : EReal) * Ideal.div 1 (1 + Ideal.exp (0 - (x : EReal))) = ((x * sg x : ℝ) : EReal) := by
  rw [← EReal.coe_zero, ← EReal.coe_sub, Ideal.exp_coe, ← EReal.coe_one, ← EReal.coe_add, div_real (exp_pos' _), sg, ← EReal.coe_mul]

theorem at4 (R : Reads Z (a0 m c) (a1 m c) (a2 m c) (a3 m c) (a4 m c) x5) (r : Fin 1024) (d : Fin 128) :
    (dats (F := Ideal) m 0 c).after 4 t (ix3 0 r d) = ((Z.o (gb t) (2 * (gp t).val + hd d) (1024 * (gT t).val + r.val) (d.val % 64) * (Z.g (gb t) (1024 * (gT t).val + r.val) (128 * (gp t).val + d.val) * sg (Z.g (gb t) (1024 * (gT t).val + r.val) (128 * (gp t).val + d.val))) : ℝ) : EReal) := by
  have C := cell t R
  have S := src t R
  have K := S.keys (n := (grid0.coords t 2).val) (grid0.coords t 2).isLt (off9 (grid0.coords t)) (off12 (grid0.coords t)) (off10 (grid0.coords t)) (off11 (grid0.coords t))
  rw [show (gT t).val = (grid0.coords t 2).val from (gcoord t).symm]
  rw [after0_4]
  unfold outsAt0 out0_A_4
  dsimp only
  frame_out
  rw [st2 (h0 := tr2 (grid0.coords t)), out6, out4, (C inb_S1x1024x128_S1x1024x1_0_0_0 inb_S1x1024x128_S1x1024x1_0_0_64).g r d, gate]
  refine Eq.trans ?_ (EReal.coe_mul _ _).symm
  refine congrArg₂ (fun z w : EReal => z * w) ?_ rfl
  by_cases hd0 : hd d = 0
  · rw [if_pos hd0, hd0]
    refine ((TileSt.diag0 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).1).val (grid0.coords t 2).isLt r d hd0).1
    · rcases two (grid0.coords t) with h | h <;> (rw [h]; decide)
    · rw [Memref.IsWhole.read_unread, Memref.IsWhole.read_unread]; exact S
    · rcases two (grid0.coords t) with h | h <;> (rw [h]; decide)
  · have hd1 : hd d = 1 := by have := hd_lt_two d; omega
    rw [if_neg hd0, hd1]
    refine ((TileSt.diag1 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).2).val (grid0.coords t 2).isLt r d hd1).1
    · rcases two (grid0.coords t) with h | h <;> (rw [h]; decide)
    · rw [Memref.IsWhole.read_unread, Memref.IsWhole.read_unread]; exact S
    · rcases two (grid0.coords t) with h | h <;> (rw [h]; decide)

theorem at5 (R : Reads Z (a0 m c) (a1 m c) (a2 m c) (a3 m c) (a4 m c) x5) (r : Fin 1024) (d : Fin 128) :
    (dats (F := Ideal) m 0 c).after 5 t (ix3 0 r d) = ((Z.o (gb t) (2 * (gp t).val + hd d) (1024 * (gT t).val + r.val) (d.val % 64) : ℝ) : EReal) := by
  have C := cell t R
  have S := src t R
  have K := S.keys (n := (grid0.coords t 2).val) (grid0.coords t 2).isLt (off9 (grid0.coords t)) (off12 (grid0.coords t)) (off10 (grid0.coords t)) (off11 (grid0.coords t))
  rw [show (gT t).val = (grid0.coords t 2).val from (gcoord t).symm]
  rw [after0_5]
  unfold outsAt0 out0_A_5
  dsimp only
  frame_out
  rw [st2 (h0 := tr2 (grid0.coords t)), out5, out4]
  by_cases hd0 : hd d = 0
  · rw [if_pos hd0, hd0]
    refine ((TileSt.diag0 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).1).val (grid0.coords t 2).isLt r d hd0).1
    · rcases two (grid0.coords t) with h | h <;> (rw [h]; decide)
    · rw [Memref.IsWhole.read_unread, Memref.IsWhole.read_unread]; exact S
    · rcases two (grid0.coords t) with h | h <;> (rw [h]; decide)
  · have hd1 : hd d = 1 := by have := hd_lt_two d; omega
    rw [if_neg hd0, hd1]
    refine ((TileSt.diag1 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).2).val (grid0.coords t 2).isLt r d hd1).1
    · rcases two (grid0.coords t) with h | h <;> (rw [h]; decide)
    · rw [Memref.IsWhole.read_unread, Memref.IsWhole.read_unread]; exact S
    · rcases two (grid0.coords t) with h | h <;> (rw [h]; decide)

theorem at6 (R : Reads Z (a0 m c) (a1 m c) (a2 m c) (a3 m c) (a4 m c) x5) (r : Fin 1024) (d : Fin 128) :
    (dats (F := Ideal) m 0 c).after 6 t (ix3 0 r d) = ((Real.log (Z.N (fun _ _ _ => 0) (gb t) (2 * (gp t).val + hd d) (1024 * (gT t).val + r.val)) : ℝ) : EReal) := by
  have C := cell t R
  have S := src t R
  have K := S.keys (n := (grid0.coords t 2).val) (grid0.coords t 2).isLt (off9 (grid0.coords t)) (off12 (grid0.coords t)) (off10 (grid0.coords t)) (off11 (grid0.coords t))
  rw [show (gT t).val = (grid0.coords t 2).val from (gcoord t).symm]
  rw [after0_6]
  unfold outsAt0 out0_A_6
  dsimp only
  frame_out
  rw [st2 (h0 := tr2 (grid0.coords t)), out7]
  by_cases hd0 : hd d = 0
  · rw [if_pos hd0, hd0]
    refine ((TileSt.diag0 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).1).val (grid0.coords t 2).isLt r d hd0).2
    · rcases two (grid0.coords t) with h | h <;> (rw [h]; decide)
    · rw [Memref.IsWhole.read_unread, Memref.IsWhole.read_unread]; exact S
    · rcases two (grid0.coords t) with h | h <;> (rw [h]; decide)
  · have hd1 : hd d = 1 := by have := hd_lt_two d; omega
    rw [if_neg hd0, hd1]
    refine ((TileSt.diag1 ?_ (C inb_S1x1024x128_S1x1024x1_0_0_0 inb_S1x1024x128_S1x1024x1_0_0_64) (K (k0_off9_inb _) (k0_off12_inb _) (k0_off10_inb _) (k0_off11_inb _)) (loop_st (S := ?_) (C := C inb_S1x1024x128_S1x1024x1_0_0_0 inb_S1x1024x128_S1x1024x1_0_0_64) (hn := ?_) (H0 := TileSt.init 0 _) (H1 := TileSt.init 1 _) ..).2).val (grid0.coords t 2).isLt r d hd1).2
    · rcases two (grid0.coords t) with h | h <;> (rw [h]; decide)
    · rw [Memref.IsWhole.read_unread, Memref.IsWhole.read_unread]; exact S
    · rcases two (grid0.coords t) with h | h <;> (rw [h]; decide)

end Cert.Proof.FoxFwd

end
-- ==== Proof.FoxRef.lean ====
/- The plain attention's forward call over the reals: the masked logits, the row maximum, the weights, the output, its gate and
   the logarithm of the row sum. -/
module

public import proofs.«01_k».proof.Proof.RefA
public import proofs.«01_k».proof.Proof.Gen.Reference10Ideal.Read
public import Idealize.ShloMosaic.Lib.Pipeline.ValueKit

@[expose] public section

set_option maxRecDepth 16384

noncomputable section

namespace Cert.Proof.FoxFwd

open Cert.Reference10Ideal Cert.Reference10Ideal.Gen Cert.Reference10Ideal.Read
open Idealize.ShloMosaic Idealize.ShloMosaic.TcCoe
open Cert.Proof.ReferenceIdeal (Reads bot_bits sel_sge fold_real sub_exp)

variable {Z : Prob} {x0 x1 x2 x3 x5 : FVec Ideal S2x2048x512 .f32} {x4 : FVec Ideal S2x8x2048 .f32}

theorem f23 (R : Reads Z x0 x1 x2 x3 x4 x5) (b : Fin 2) (h : Fin 8) (i j : Fin 2048) :
    val_main_v23 (F := Ideal) x0 x1 x4 (ix4 b h i j) = if j.val ≤ i.val then ((Z.S b h i j : ℝ) : EReal) else ⊥ := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1]
  refine (sel_sge i j _ _).trans ?_
  rw [sel_sge]
  split
  · simp only [R.q, R.k, R.c, eighth, ← EReal.coe_mul, coe_sum, ← EReal.coe_add, ← EReal.coe_sub, Prob.S]
    simp only [mul_comm]
  · exact bot_bits

theorem f24 (R : Reads Z x0 x1 x2 x3 x4 x5) (b : Fin 2) (h : Fin 8) (i : Fin 2048) :
    ∃ r : ℝ, val_main_v24 (F := Ideal) x0 x1 x4 (ix3 b h i) = ((r : ℝ) : EReal) := by
  pointwise [val_main_v24, val_main_cst_2]
  rw [show (Ideal.ofBits .f32 4286578688#32) = ⊥ from bot_bits]
  refine fold_real _ (fun j => ?_) i ?_
  · rw [f23 R]; split
    · exact EReal.coe_ne_top _
    · exact bot_ne_top
  · rw [f23 R, if_pos le_rfl]; exact EReal.coe_ne_bot _

theorem f28 (R : Reads Z x0 x1 x2 x3 x4 x5) (b : Fin 2) (h : Fin 8) (i : Fin 2048) {μ : ℝ} (hM : val_main_v24 (F := Ideal) x0 x1 x4 (ix3 b h i) = ((μ : ℝ) : EReal))
    (j : Fin 2048) : val_main_v28 (F := Ideal) x0 x1 x4 (ix4 b h i j) = ((Z.E (fun _ _ _ => μ) b h i j : ℝ) : EReal) := by
  pointwise [val_main_v28, val_main_v27, val_main_v26, val_main_v25]
  rw [hM, f23 R]
  exact sub_exp _ _ _

theorem f29 (R : Reads Z x0 x1 x2 x3 x4 x5) (b : Fin 2) (h : Fin 8) (i : Fin 2048) {μ : ℝ} (hM : val_main_v24 (F := Ideal) x0 x1 x4 (ix3 b h i) = ((μ : ℝ) : EReal)) :
    val_main_v29 (F := Ideal) x0 x1 x4 (ix3 b h i) = ((Z.N (fun _ _ _ => μ) b h i : ℝ) : EReal) := by
  pointwise [val_main_v29, val_main_cst_3]
  simp only [f28 R b h i hM, coe_sum]
  rfl

theorem f32 (R : Reads Z x0 x1 x2 x3 x4 x5) (b : Fin 2) (h : Fin 8) (i j : Fin 2048) :
    val_main_v32 (F := Ideal) x0 x1 x4 (ix4 b h i j) = ((Z.W b h i j : ℝ) : EReal) := by
  obtain ⟨μ, hM⟩ := f24 R b h i
  pointwise [val_main_v32, val_main_v31, val_main_v30]
  rw [f28 R b h i hM, f29 R b h i hM, div_real (Z.N_pos _ b h i i.isLt).ne', Z.E_div]

/-- The attention's output. -/
theorem f35 (R : Reads Z x0 x1 x2 x3 x4 x5) (b : Fin 2) (i : Fin 2048) (h : Fin 8) (x : Fin 64) :
    val_main_v35 (F := Ideal) x0 x1 x2 x4 (ix3 b i ⟨64 * h.val + x.val, by omega⟩) = ((Z.o b h i x : ℝ) : EReal) := by
  pointwise [val_main_v35, val_main_v34, val_main_v33, val_main_v2]
  simp only [R.v, f32 R, ← EReal.coe_mul, coe_sum, Prob.o, mul_comm]

/-- The gated output. -/
theorem f41 (R : Reads Z x0 x1 x2 x3 x4 x5) (b : Fin 2) (i : Fin 2048) (h : Fin 8) (x : Fin 64) :
    val_main_v41 (F := Ideal) x0 x1 x2 x3 x4 (ix3 b i ⟨64 * h.val + x.val, by omega⟩)
      = ((Z.o b h i x * (Z.g b i (64 * h + x) * sg (Z.g b i (64 * h + x))) : ℝ) : EReal) := by
  pointwise [val_main_v41, val_main_v40, val_main_v39, val_main_call0_v5, val_main_call0_v4, val_main_call0_cst_0, val_main_call0_v3, val_main_call0_v2, val_main_call0_cst, val_main_call0_v1, val_main_call0_v0]
  simp only [f35 R, R.g, ← EReal.coe_neg, Ideal.exp_coe, ← EReal.coe_one, ← EReal.coe_add, div_real (exp_pos' _), sg, zero_sub, ← EReal.coe_mul]

/-- The logarithm of the row sum. -/
theorem f38 (R : Reads Z x0 x1 x2 x3 x4 x5) (b : Fin 2) (i : Fin 2048) (h : Fin 8) :
    val_main_v38 (F := Ideal) x0 x1 x4 (ix3 b h i) = ((Real.log (Z.N (fun _ _ _ => 0) b h i) : ℝ) : EReal) := by
  obtain ⟨μ, hM⟩ := f24 R b h i
  have e : val_main_v38 (F := Ideal) x0 x1 x4 (ix3 b h i) = val_main_v37 (F := Ideal) x0 x1 x4 (ix4 b h i 0) := by
    rw [val_main_v38_apply]; exact congrArg _ (by idx_ext)
  rw [e]
  have e1 : idx_main_v25 (ix4 b h i 0) = ix3 b h i := by idx_ext
  have e2 : idx_main_v30 (ix4 b h i 0) = ix3 b h i := by idx_ext
  rw [val_main_v37_apply, val_main_v36_apply, val_main_v30_apply, val_main_v25_apply, e1, e2]
  have hp := Z.N_pos (fun _ _ _ => μ) b h i i.isLt
  have hp0 := Z.N_pos (fun _ _ _ => 0) b h i i.isLt
  rw [f29 R b h i hM, hM]
  refine (congrArg (fun z => ((μ : ℝ) : EReal) + z) (Ideal.log_coe _)).trans ?_
  rw [if_neg (not_le.2 hp), ← EReal.coe_add, Z.N_shift (fun _ _ _ => μ), Real.log_mul hp0.ne' (Real.exp_pos _).ne', Real.log_exp]
  exact congrArg (fun z : ℝ => ((z : ℝ) : EReal)) (by ring)

/-- The logarithm spread over the head's lanes. -/
theorem f44 (R : Reads Z x0 x1 x2 x3 x4 x5) (b : Fin 2) (i : Fin 2048) (h : Fin 8) (x : Fin 64) :
    val_main_v44 (F := Ideal) x0 x1 x4 (ix3 b i ⟨64 * h.val + x.val, by omega⟩) = ((Real.log (Z.N (fun _ _ _ => 0) b h i) : ℝ) : EReal) := by
  pointwise [val_main_v44, val_main_v43, val_main_v42]
  exact f38 R b i h

end Cert.Proof.FoxFwd

end
-- ==== Proof.FoxEnd.lean ====
/- What the whole grid of the attention's forward call leaves in its three results: the reference's arrays. -/
module

public import proofs.«01_k».proof.Proof.FoxOut
public import proofs.«01_k».proof.Proof.FoxRef
public import proofs.«01_k».proof.Proof.Out

@[expose] public section

set_option maxRecDepth 16384

noncomputable section

namespace Cert.Proof.FoxFwd

open Cert.Kernel10Ideal Cert.Kernel10Ideal.Gen
open Cert.Reference10Ideal.Read (val_main_v35 val_main_v41 val_main_v44)
open Cert.Proof.ReferenceIdeal (Reads)
open Cert.Proof.KernelIdeal (at_col)
open Cert.Proof.Prob
open Idealize.ShloMosaic Idealize.ShloMosaic.TcCoe

variable {m : (ℓ : Loc nD τ sig) → Buf (Elt Ideal) ℓ} {c : Dev nD} {Z : Prob} {x5 : FVec Ideal S2x2048x512 .f32}

theorem end4 (R : Reads Z (a0 m c) (a1 m c) (a2 m c) (a3 m c) (a4 m c) x5) :
    (dats (F := Ideal) m 0 c).arrAt 4 cfg0.N = val_main_v41 (F := Ideal) (a0 m c) (a1 m c) (a2 m c) (a3 m c) (a4 m c) := by
  refine (dats (F := Ideal) m 0 c).arrAt_eq_of_covers 4 _ (by decide +kernel) fun t hf y => ?_
  blk_simp
  have e (r : Fin 1024) (d : Fin 128) := (at4 t R r d).trans (Eq.trans (by rw [lane_col]) (at_col (S := val_main_v41 (F := Ideal) (a0 m c) (a1 m c) (a2 m c) (a3 m c) (a4 m c)) (f := fun h x => Z.o (gb t) h (1024 * (gT t).val + r.val) x * (Z.g (gb t) (1024 * (gT t).val + r.val) (64 * h + x) * sg (Z.g (gb t) (1024 * (gT t).val + r.val) (64 * h + x)))) (b := gb t) (i := ⟨1024 * (gT t).val + r.val, by have := (gT t).isLt; omega⟩)
    (fun h x => f41 R (gb t) ⟨1024 * (gT t).val + r.val, by have := (gT t).isLt; omega⟩ h x) (gp t) d (by have := (gp t).isLt; omega)).symm)
  generalize val_main_v41 (F := Ideal) (a0 m c) (a1 m c) (a2 m c) (a3 m c) (a4 m c) = G at e ⊢
  have ey := eq_ix3 y
  generalize y 0 = y0 at ey
  generalize y 1 = y1 at ey
  generalize y 2 = y2 at ey
  subst ey
  have h0 : y0 = (0 : Fin 1) := Fin.ext (by have := y0.isLt; change y0.val < 1 at this; change y0.val = 0; omega)
  subst h0
  refine (e y1 y2).trans ?_
  blk_ext [gidx t]

theorem end5 (R : Reads Z (a0 m c) (a1 m c) (a2 m c) (a3 m c) (a4 m c) x5) :
    (dats (F := Ideal) m 0 c).arrAt 5 cfg0.N = val_main_v35 (F := Ideal) (a0 m c) (a1 m c) (a2 m c) (a4 m c) := by
  refine (dats (F := Ideal) m 0 c).arrAt_eq_of_covers 5 _ (by decide +kernel) fun t hf y => ?_
  blk_simp
  have e (r : Fin 1024) (d : Fin 128) := (at5 t R r d).trans (at_col (S := val_main_v35 (F := Ideal) (a0 m c) (a1 m c) (a2 m c) (a4 m c)) (f := fun h x => Z.o (gb t) h (1024 * (gT t).val + r.val) x) (b := gb t) (i := ⟨1024 * (gT t).val + r.val, by have := (gT t).isLt; omega⟩)
    (fun h x => f35 R (gb t) ⟨1024 * (gT t).val + r.val, by have := (gT t).isLt; omega⟩ h x) (gp t) d (by have := (gp t).isLt; omega)).symm
  generalize val_main_v35 (F := Ideal) (a0 m c) (a1 m c) (a2 m c) (a4 m c) = G at e ⊢
  have ey := eq_ix3 y
  generalize y 0 = y0 at ey
  generalize y 1 = y1 at ey
  generalize y 2 = y2 at ey
  subst ey
  have h0 : y0 = (0 : Fin 1) := Fin.ext (by have := y0.isLt; change y0.val < 1 at this; change y0.val = 0; omega)
  subst h0
  refine (e y1 y2).trans ?_
  blk_ext [gidx t]

theorem end6 (R : Reads Z (a0 m c) (a1 m c) (a2 m c) (a3 m c) (a4 m c) x5) :
    (dats (F := Ideal) m 0 c).arrAt 6 cfg0.N = val_main_v44 (F := Ideal) (a0 m c) (a1 m c) (a4 m c) := by
  refine (dats (F := Ideal) m 0 c).arrAt_eq_of_covers 6 _ (by decide +kernel) fun t hf y => ?_
  blk_simp
  have e (r : Fin 1024) (d : Fin 128) := (at6 t R r d).trans (at_col (S := val_main_v44 (F := Ideal) (a0 m c) (a1 m c) (a4 m c)) (f := fun h x => Real.log (Z.N (fun _ _ _ => 0) (gb t) h (1024 * (gT t).val + r.val))) (b := gb t) (i := ⟨1024 * (gT t).val + r.val, by have := (gT t).isLt; omega⟩)
    (fun h x => f44 R (gb t) ⟨1024 * (gT t).val + r.val, by have := (gT t).isLt; omega⟩ h x) (gp t) d (by have := (gp t).isLt; omega)).symm
  generalize val_main_v44 (F := Ideal) (a0 m c) (a1 m c) (a4 m c) = G at e ⊢
  have ey := eq_ix3 y
  generalize y 0 = y0 at ey
  generalize y 1 = y1 at ey
  generalize y 2 = y2 at ey
  subst ey
  have h0 : y0 = (0 : Fin 1) := Fin.ext (by have := y0.isLt; change y0.val < 1 at this; change y0.val = 0; omega)
  subst h0
  refine (e y1 y2).trans ?_
  blk_ext [gidx t]

end Cert.Proof.FoxFwd

end
-- ==== Proof.FoxClaims.lean ====
/- The claims of the attention's forward call. -/
module

public import proofs.«01_k».proof.Proof.FoxEnd
public import proofs.«01_k».proof.Proof.Value
public import proofs.«01_k».proof.Proof.Gen.Kernel10.Frame
public import proofs.«01_k».proof.Proof.Gen.Reference10Ideal.Run
public import proofs.«01_k».proof.Proof.Gen.Pre_finite10

@[expose] public section

set_option maxRecDepth 16384

noncomputable section

namespace Cert.Proof.FoxFwd

open Cert.Kernel10Ideal Cert.Kernel10Ideal.Gen
open Cert.Reference10Ideal.Read (val_main_v35 val_main_v41 val_main_v44)
open Cert.Proof.ReferenceIdeal (Reads)
open Idealize.ShloMosaic Idealize.ShloMosaic.TcCoe Idealize.SL Idealize.SL.Sem

/-- Finite arguments are arrays of reals. -/
theorem reads (x0 x1 x2 x3 : FVec Ideal S2x2048x512 .f32) (x4 : FVec Ideal S2x8x2048 .f32)
    (h : ∀ y, Cert.Pre_finite10.fn (F := Ideal) x0 x1 x2 x3 x4 y = 1#1) :
    ∃ Z : Prob, Reads Z x0 x1 x2 x3 x4 (broadcastInDim S2x2048x512 ![] Cert.Pre_finite10.Facts.bcast_S_S2x2048x512 (constant (F := Ideal) S_ .f32 0x00000000#32)) :=
  Cert.Proof.reads_of _ _ _ _ _ _ h

theorem kernel : Cert.quiescent_Kernel10 := fun m ρ _ => Cert.Kernel10.Gen.frame (F := Bits) m ρ
theorem kernelIdeal : Cert.quiescent_Kernel10Ideal := fun m ρ _ => Cert.Kernel10Ideal.Gen.frame (F := Ideal) m ρ
theorem kernelIdeal_pre : Cert.quiescent_Kernel10Ideal_pre_finite10 := fun m ρ _ => Cert.Kernel10Ideal.Gen.frame (F := Ideal) m ρ
theorem referenceIdeal : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)
theorem referenceIdeal_pre : Cert.quiescent_Reference10Ideal_pre_finite10 := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

/-- Each mask the kernel prints is the named constant. -/
theorem preserves : Cert.preserves_Kernel10_Kernel10Ideal :=
  IdealRules.named_const.statement Cert.Kernel10Ideal.κ "mask" .f32 0xF149F2CA#32 ⊥ rfl

/-- On finite arguments the call and the plain attention leave the same three arrays. -/
theorem algebraic : Cert.algebraic_Kernel10Ideal_Reference10Ideal_pre_finite10 := by
  intro m g m' g' hpre hargs
  refine ⟨fun c => val_main_v41 (F := Ideal) (a0 m c) (a1 m c) (a2 m c) (a3 m c) (a4 m c), fun c => val_main_v35 (F := Ideal) (a0 m c) (a1 m c) (a2 m c) (a4 m c),
    fun c => val_main_v44 (F := Ideal) (a0 m c) (a1 m c) (a4 m c), ?_, ?_⟩
  · refine (θ_run Cert.Kernel10Ideal.defs _ _).mono (fun r h c => ?_) (Cert.Kernel10Ideal.Value.run_blocks (F := Ideal) m g)
    obtain ⟨Z, R⟩ := reads _ _ _ _ _ fun y => congrFun (hpre c) y
    obtain ⟨h4, h5, h6, hr⟩ := h c
    exact ⟨h4.trans (end4 R), h5.trans (end5 R), h6.trans (end6 R), hr⟩
  · refine (θ_run Cert.Reference10Ideal.defs _ _).mono (fun r h c => ?_) (Cert.Reference10Ideal.Value.run (F := Ideal) m' g')
    obtain ⟨e0, e1, e2, e3, e4⟩ := hargs c
    obtain ⟨h0, h1, h2, hr⟩ := h c
    refine ⟨h0.trans ((Cert.Reference10Ideal.Read.val_main_v41_eq m' c).trans ?_), h1.trans ((Cert.Reference10Ideal.Read.val_main_v35_eq m' c).trans ?_), h2.trans ((Cert.Reference10Ideal.Read.val_main_v44_eq m' c).trans ?_), hr⟩
    · rw [e0, e1, e2, e3, e4]
    · rw [e0, e1, e2, e4]
    · rw [e0, e1, e4]

end Cert.Proof.FoxFwd

end
-- ==== Proof.Small.lean ====
/- The update of the small weights. -/
module

public import proofs.«01_k».proof.Proof.FoxClaims
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.Gen.Reference11Ideal.Run
public import proofs.«01_k».proof.Proof.Gen.Pre_finite11

@[expose] public section

set_option maxRecDepth 16384

noncomputable section

namespace Cert.Proof.Small

open Cert.Kernel11Ideal Cert.Kernel11Ideal.Gen
open Cert.Reference11Ideal.Read
open Idealize.ShloMosaic Idealize.ShloMosaic.TcCoe Idealize.SL Idealize.SL.Sem

/-- The two positions of a window of two rows and one column. -/
theorem place : ∀ n : Fin 2, ((⟨2, ![2, 1]⟩ : Shape).rowMajor.symm n 0).val = n.val ∧ ((⟨2, ![2, 1]⟩ : Shape).rowMajor.symm n 1).val = 0 := by decide +kernel

theorem zero_bits : Ideal.ofBits FTy.f32 0#32 = 0 := by simp [Ideal.ofBits, Ideal.ieee]

theorem nil : val_main_call1_call0_v0 (F := Ideal) (Shape.Idx.first Cert.Reference11Ideal.Gen.h_S_) = 0 := by
  refine Eq.trans ?_ zero_bits
  rfl

theorem w420 (a0 : FVec Ideal S328x128 .f32) (j : Fin 256) : val_main_v42 (F := Ideal) a0 (ix2 0 j) = 0 + val_main_v35 a0 (ix2 0 j) + val_main_v35 a0 (ix2 1 j) := by
  unfold val_main_v42 Host.reduceWindowAdd
  change Idealize.ShloMosaic.Ideal.hostReduceWindowAdd _ _ _ _ _ _ _ _ = _
  unfold Ideal.hostReduceWindowAdd Host.reduceWindow
  change List.foldl _ _ (List.finRange 2) = _
  rw [show List.finRange 2 = [0, 1] from rfl]
  dsimp only [List.foldl]
  rw [dif_pos, dif_pos]
  · rw [nil]
    refine congrArg₂ _ (congrArg₂ _ rfl (congrArg _ ?_)) (congrArg _ ?_) <;> funext a <;> apply Fin.ext <;> fin_cases a
    · exact (congrArg (fun z : ℕ => 0 * 1 + z - 0) (place 0).1).trans (by simp)
    · exact (congrArg (fun z : ℕ => j.val * 1 + z - 0) (place 0).2).trans (by simp)
    · exact (congrArg (fun z : ℕ => 0 * 1 + z - 0) (place 1).1).trans (by simp)
    · exact (congrArg (fun z : ℕ => j.val * 1 + z - 0) (place 1).2).trans (by simp)
  · intro a; fin_cases a
    · exact ⟨Nat.zero_le _, lt_of_eq_of_lt ((congrArg (fun z : ℕ => 0 * 1 + z - 0) (place 1).1).trans (by simp)) (by decide : 1 < 2)⟩
    · exact ⟨Nat.zero_le _, lt_of_eq_of_lt ((congrArg (fun z : ℕ => j.val * 1 + z - 0) (place 1).2).trans (by simp)) j.isLt⟩
  · intro a; fin_cases a
    · exact ⟨Nat.zero_le _, lt_of_eq_of_lt ((congrArg (fun z : ℕ => 0 * 1 + z - 0) (place 0).1).trans (by simp)) (by decide : 0 < 2)⟩
    · exact ⟨Nat.zero_le _, lt_of_eq_of_lt ((congrArg (fun z : ℕ => j.val * 1 + z - 0) (place 0).2).trans (by simp)) j.isLt⟩

theorem w421 (a0 : FVec Ideal S328x128 .f32) (j : Fin 256) : val_main_v42 (F := Ideal) a0 (ix2 1 j) = 0 + val_main_v35 a0 (ix2 1 j) + 0 := by
  unfold val_main_v42 Host.reduceWindowAdd
  change Idealize.ShloMosaic.Ideal.hostReduceWindowAdd _ _ _ _ _ _ _ _ = _
  unfold Ideal.hostReduceWindowAdd Host.reduceWindow
  change List.foldl _ _ (List.finRange 2) = _
  rw [show List.finRange 2 = [0, 1] from rfl]
  dsimp only [List.foldl]
  rw [dif_pos, dif_neg]
  · rw [nil]
    refine congrArg₂ _ (congrArg₂ _ rfl (congrArg _ ?_)) rfl
    funext a; apply Fin.ext; fin_cases a
    · exact (congrArg (fun z : ℕ => 1 * 1 + z - 0) (place 0).1).trans (by simp)
    · exact (congrArg (fun z : ℕ => j.val * 1 + z - 0) (place 0).2).trans (by simp)
  · intro H
    exact absurd (lt_of_eq_of_lt (congrArg (fun z : ℕ => 1 * 1 + z - 0) (place 1).1).symm (H 0).2 : 2 < 2) (by decide)
  · intro a; fin_cases a
    · exact ⟨Nat.zero_le _, lt_of_eq_of_lt ((congrArg (fun z : ℕ => 1 * 1 + z - 0) (place 0).1).trans (by simp)) (by decide : 1 < 2)⟩
    · exact ⟨Nat.zero_le _, lt_of_eq_of_lt ((congrArg (fun z : ℕ => j.val * 1 + z - 0) (place 0).2).trans (by simp)) j.isLt⟩

theorem w41 (a0 : FVec Ideal S328x128 .f32) (j : Fin 256) : val_main_v41 (F := Ideal) a0 (ix2 0 j) = 0 + (0 + (-val_main_v35 a0 (ix2 0 j) + -val_main_v35 a0 (ix2 1 j))) := by
  pointwise [val_main_v41, val_main_v40, val_main_v39, val_main_v38, val_main_v37, val_main_v36, val_main_cst_10, val_main_cst_9]
  rw [Fin.sum_univ_one, Fin.sum_univ_two]
  try rw [zero_bits]
theorem w41' (a0 : FVec Ideal S328x128 .f32) (j : Fin 256) : val_main_v41 (F := Ideal) a0 (ix2 1 j) = 0 := by
  pointwise [val_main_v41, val_main_cst_11]
/-- A column's larger entry. -/
theorem fold_two (b : EReal) (f : Fin 2 → EReal) : Finset.fold max b f Finset.univ = max (f 0) (max (f 1) b) := by
  rw [show (Finset.univ : Finset (Fin 2)) = insert 0 {1} from rfl, Finset.fold_insert (by decide), Finset.fold_singleton]

theorem bot_bits : Ideal.ofBits FTy.f32 4286578688#32 = ⊥ := by simp [Ideal.ofBits, Ideal.ieee]

variable {a0 : FVec Ideal S328x128 .f32} {a1 : FVec Ideal S2x256 .f32} {j : Fin 256} {a b : ℝ} {g h : EReal}

/-- The two exponentials of a column. -/
def E (a b : ℝ) : ℝ := Real.exp (a - max a b)

def E' (a b : ℝ) : ℝ := Real.exp (b - max a b)

theorem E_pos (a b : ℝ) : 0 < E a b := Real.exp_pos _

theorem E'_pos (a b : ℝ) : 0 < E' a b := Real.exp_pos _

theorem sum_ne (a b : ℝ) : E a b + E' a b ≠ 0 := (add_pos (E_pos a b) (E'_pos a b)).ne'

theorem exp_first (a b : ℝ) : Ideal.exp ((a : EReal) - max (a : EReal) (b : EReal)) = ((E a b : ℝ) : EReal) := by
  rw [← EReal.coe_strictMono.monotone.map_max, ← EReal.coe_sub, Ideal.exp_coe]; rfl

theorem exp_second (a b : ℝ) : Ideal.exp ((b : EReal) - max (a : EReal) (b : EReal)) = ((E' a b : ℝ) : EReal) := by
  rw [← EReal.coe_strictMono.monotone.map_max, ← EReal.coe_sub, Ideal.exp_coe]; rfl

/-- The first row's cotangent as the plain mathematics writes it: the sum, less itself. -/
def dz (g h : EReal) : EReal := 0 + (0 + (-g + -h)) + (0 + g + h)

/-- Two cotangents are both reals, or the first row's is minus infinity however it is written. -/
theorem reals_or (g h : EReal) : (∃ r s : ℝ, g = (r : EReal) ∧ h = (s : EReal)) ∨ (g + h - (g + h) = ⊥ ∧ dz g h = ⊥) := by
  unfold dz
  induction g using EReal.rec <;> induction h using EReal.rec
  case coe.coe r s => exact Or.inl ⟨r, s, rfl, rfl⟩
  all_goals exact Or.inr (by constructor <;> simp [← EReal.coe_neg])

theorem part_pos (a b : ℝ) : 0 < E a b / (E a b + E' a b) := div_pos (E_pos a b) (add_pos (E_pos a b) (E'_pos a b))

theorem part'_pos (a b : ℝ) : 0 < E' a b / (E a b + E' a b) := div_pos (E'_pos a b) (add_pos (E_pos a b) (E'_pos a b))

theorem sq_pos (a b : ℝ) : 0 < 1 / ((E a b + E' a b) * (E a b + E' a b)) := by
  have h := add_pos (E_pos a b) (E'_pos a b)
  positivity

theorem inv_pos' (a b : ℝ) : 0 < 1 / (E a b + E' a b) := by
  have h := add_pos (E_pos a b) (E'_pos a b)
  positivity

/-- A cotangent's part in the transpose of the quotient: the same for both rows of the column. -/
def In (a b : ℝ) (g h : EReal) : EReal :=
  -(dz g h * ((1 / ((E a b + E' a b) * (E a b + E' a b)) : ℝ) : EReal) * ((E a b : ℝ) : EReal) + h * ((1 / ((E a b + E' a b) * (E a b + E' a b)) : ℝ) : EReal) * ((E' a b : ℝ) : EReal))

theorem in_top (a b : ℝ) (g h : EReal) (hz : dz g h = ⊥) : In a b g h = ⊤ := by
  unfold In
  rw [hz, EReal.bot_mul_coe_of_pos (sq_pos a b), EReal.bot_mul_coe_of_pos (E_pos a b), EReal.bot_add, EReal.neg_bot]

theorem kern (a b : ℝ) (g h : EReal) :
    Ideal.div (Ideal.exp ((a : EReal) - max (a : EReal) b)) (Ideal.exp ((a : EReal) - max (a : EReal) b) + Ideal.exp ((b : EReal) - max (a : EReal) b))
      * (g + h - (g + h) - (Ideal.div (Ideal.exp ((a : EReal) - max (a : EReal) b)) (Ideal.exp ((a : EReal) - max (a : EReal) b) + Ideal.exp ((b : EReal) - max (a : EReal) b)) * (g + h - (g + h))
        + Ideal.div (Ideal.exp ((b : EReal) - max (a : EReal) b)) (Ideal.exp ((a : EReal) - max (a : EReal) b) + Ideal.exp ((b : EReal) - max (a : EReal) b)) * h))
      = (Ideal.div (dz g h) ((E a b + E' a b : ℝ) : EReal) + In a b g h) * ((E a b : ℝ) : EReal) := by
  rw [exp_first, exp_second, ← EReal.coe_add, div_real (sum_ne a b), div_real (sum_ne a b), Ideal.div_coe (sum_ne a b)]
  rcases reals_or g h with ⟨r, s, rfl, rfl⟩ | ⟨hd, hz⟩
  · unfold In dz
    simp only [← EReal.coe_zero, ← EReal.coe_add, ← EReal.coe_sub, ← EReal.coe_mul, ← EReal.coe_neg]
    have hn := sum_ne a b
    exact congrArg (fun z : ℝ => ((z : ℝ) : EReal)) (by field_simp; ring)
  · rw [hd, in_top a b g h hz, hz, EReal.coe_mul_bot_of_pos (part_pos a b), EReal.bot_add, EReal.bot_mul_coe_of_pos (inv_pos' a b), EReal.bot_add,
      EReal.bot_mul_coe_of_pos (E_pos a b), sub_eq_add_neg, EReal.neg_bot, EReal.bot_add, EReal.coe_mul_bot_of_pos (part_pos a b)]

theorem kern' (a b : ℝ) (g h : EReal) :
    Ideal.div (Ideal.exp ((b : EReal) - max (a : EReal) b)) (Ideal.exp ((a : EReal) - max (a : EReal) b) + Ideal.exp ((b : EReal) - max (a : EReal) b))
      * (h - (Ideal.div (Ideal.exp ((a : EReal) - max (a : EReal) b)) (Ideal.exp ((a : EReal) - max (a : EReal) b) + Ideal.exp ((b : EReal) - max (a : EReal) b)) * (g + h - (g + h))
        + Ideal.div (Ideal.exp ((b : EReal) - max (a : EReal) b)) (Ideal.exp ((a : EReal) - max (a : EReal) b) + Ideal.exp ((b : EReal) - max (a : EReal) b)) * h))
      = (Ideal.div h ((E a b + E' a b : ℝ) : EReal) + In a b g h) * ((E' a b : ℝ) : EReal) := by
  rw [exp_first, exp_second, ← EReal.coe_add, div_real (sum_ne a b), div_real (sum_ne a b), Ideal.div_coe (sum_ne a b)]
  rcases reals_or g h with ⟨r, s, rfl, rfl⟩ | ⟨hd, hz⟩
  · unfold In dz
    simp only [← EReal.coe_zero, ← EReal.coe_add, ← EReal.coe_sub, ← EReal.coe_mul, ← EReal.coe_neg]
    have hn := sum_ne a b
    exact congrArg (fun z : ℝ => ((z : ℝ) : EReal)) (by field_simp; ring)
  · rw [hd, in_top a b g h hz, EReal.coe_mul_bot_of_pos (part_pos a b), EReal.bot_add, sub_eq_add_neg, EReal.neg_bot]
    induction h using EReal.rec with
    | bot => rw [EReal.bot_mul_coe_of_pos (inv_pos' a b), EReal.bot_add, EReal.coe_mul_bot_of_pos (part'_pos a b), EReal.bot_mul_coe_of_pos (E'_pos a b)]
    | coe s => rw [← EReal.coe_mul, EReal.coe_add_top, EReal.coe_add_top, EReal.coe_mul_top_of_pos (part'_pos a b), EReal.top_mul_coe_of_pos (E'_pos a b)]
    | top => rw [EReal.top_mul_coe_of_pos (inv_pos' a b), EReal.top_add_top, EReal.coe_mul_top_of_pos (part'_pos a b), EReal.top_mul_coe_of_pos (E'_pos a b)]

theorem top (ha : a1 (ix2 0 j) = (a : EReal)) (hb : a1 (ix2 1 j) = (b : EReal)) : val_main_v7 (F := Ideal) a1 (ix1 j) = max (a : EReal) b := by
  pointwise [val_main_v7, val_main_v6, val_main_v0, val_main_cst, val_main_cst_1]
  rw [bot_bits, fold_two, ha, hb, max_eq_left (bot_le : (⊥ : EReal) ≤ _), max_eq_right (bot_le : (⊥ : EReal) ≤ _)]

theorem first (ha : a1 (ix2 0 j) = (a : EReal)) (hb : a1 (ix2 1 j) = (b : EReal)) : val_main_v20 (F := Ideal) a1 (ix2 0 j) = ((E a b : ℝ) : EReal) := by
  pointwise [val_main_v20, val_main_v19, val_main_v18, val_main_v17]
  rw [top ha hb, ha, exp_first]

theorem second (ha : a1 (ix2 0 j) = (a : EReal)) (hb : a1 (ix2 1 j) = (b : EReal)) : val_main_v20 (F := Ideal) a1 (ix2 1 j) = ((E' a b : ℝ) : EReal) := by
  pointwise [val_main_v20, val_main_v19, val_main_v18, val_main_v17]
  rw [top ha hb, hb, exp_second]

theorem total (ha : a1 (ix2 0 j) = (a : EReal)) (hb : a1 (ix2 1 j) = (b : EReal)) : val_main_v22 (F := Ideal) a1 (ix2 0 j) = ((E a b + E' a b : ℝ) : EReal) := by
  pointwise [val_main_v22, val_main_v21, val_main_cst_7]
  rw [Fin.sum_univ_two, first ha hb, second ha hb, EReal.coe_add]

theorem square (ha : a1 (ix2 0 j) = (a : EReal)) (hb : a1 (ix2 1 j) = (b : EReal)) :
    val_main_v27 (F := Ideal) a1 (ix2 0 j) = ((1 / ((E a b + E' a b) * (E a b + E' a b)) : ℝ) : EReal) := by
  pointwise [val_main_v27, val_main_v26, val_main_v25, val_main_cst_8]
  rw [total ha hb, ← EReal.coe_mul, show (1 : EReal) = ((1 : ℝ) : EReal) from rfl, div_real (mul_ne_zero (sum_ne a b) (sum_ne a b))]

theorem cot : val_main_v41 (F := Ideal) a0 (ix2 0 j) + val_main_v42 (F := Ideal) a0 (ix2 0 j) = dz (val_main_v35 (F := Ideal) a0 (ix2 0 j)) (val_main_v35 (F := Ideal) a0 (ix2 1 j)) := by
  rw [w41, w420]
  rfl

theorem cot' : val_main_v41 (F := Ideal) a0 (ix2 1 j) + val_main_v42 (F := Ideal) a0 (ix2 1 j) = val_main_v35 (F := Ideal) a0 (ix2 1 j) := by
  rw [w41', w421, zero_add, zero_add, add_zero]

theorem inner (ha : a1 (ix2 0 j) = (a : EReal)) (hb : a1 (ix2 1 j) = (b : EReal)) (i : Fin 2) :
    val_main_v53 (F := Ideal) a0 a1 (ix2 i j) = In a b (val_main_v35 (F := Ideal) a0 (ix2 0 j)) (val_main_v35 (F := Ideal) a0 (ix2 1 j)) := by
  pointwise [val_main_v53, val_main_v52, val_main_v50, val_main_v49, val_main_v48, val_main_v47, val_main_v46, val_main_v45, val_main_v44, val_main_v43, val_main_cst_12, val_main_cst_13]
  rw [Fin.sum_univ_one, Fin.sum_univ_two, cot, cot', first ha hb, second ha hb, square ha hb]
  rfl

theorem ref (ha : a1 (ix2 0 j) = (a : EReal)) (hb : a1 (ix2 1 j) = (b : EReal)) (hg : val_main_v35 (F := Ideal) a0 (ix2 0 j) = g) (hh : val_main_v35 (F := Ideal) a0 (ix2 1 j) = h) :
    val_main_v55 (F := Ideal) a0 a1 (ix2 0 j) = (Ideal.div (dz g h) ((E a b + E' a b : ℝ) : EReal) + In a b g h) * ((E a b : ℝ) : EReal) := by
  pointwise [val_main_v55, val_main_v54, val_main_v51, val_main_v50, val_main_v43]
  rw [inner ha hb, cot, first ha hb, total ha hb, hg, hh]

theorem ref' (ha : a1 (ix2 0 j) = (a : EReal)) (hb : a1 (ix2 1 j) = (b : EReal)) (hg : val_main_v35 (F := Ideal) a0 (ix2 0 j) = g) (hh : val_main_v35 (F := Ideal) a0 (ix2 1 j) = h) :
    val_main_v55 (F := Ideal) a0 a1 (ix2 1 j) = (Ideal.div h ((E a b + E' a b : ℝ) : EReal) + In a b g h) * ((E' a b : ℝ) : EReal) := by
  pointwise [val_main_v55, val_main_v54, val_main_v51, val_main_v50, val_main_v43]
  rw [inner ha hb, cot', second ha hb, total ha hb, hg, hh]

/-- What the gradient needs: each entry of the bounds is a real. -/
def Fine (a1 : FVec Ideal S2x256 .f32) : Prop := ∀ (i : Fin 2) (j : Fin 256), ∃ r : ℝ, a1 (ix2 i j) = (r : EReal)

theorem left (a0 : FVec Ideal S328x128 .f32) (i : Fin 2) (k : Fin 128) : val_main_v35 (F := Ideal) a0 (ix2 i (⟨k.val, by omega⟩ : Fin 256)) = a0 (ix2 (⟨2 * i.val, by omega⟩ : Fin 328) k) := by
  pointwise [val_main_v35, val_main_v34]
  exact congrArg a0 (by blk_ext)

theorem right (a0 : FVec Ideal S328x128 .f32) (i : Fin 2) (k : Fin 128) : val_main_v35 (F := Ideal) a0 (ix2 i (⟨128 + k.val, by omega⟩ : Fin 256)) = a0 (ix2 (⟨2 * i.val + 1, by omega⟩ : Fin 328) k) := by
  pointwise [val_main_v35, val_main_v34]
  exact congrArg a0 (by blk_ext)

theorem grad (H : Fine a1) : k0_pay3 (F := Ideal) a1 a0 = val_main_v58 (F := Ideal) a0 a1 := by
  funext y
  obtain ⟨r, k, rfl⟩ : ∃ (r : Fin 328) (k : Fin 128), y = ix2 r k := ⟨y 0, y 1, by blk_ext⟩
  rcases r with ⟨r, hr⟩
  obtain ⟨a, ha⟩ := H 0 ⟨k.val, by omega⟩
  obtain ⟨b, hb⟩ := H 1 ⟨k.val, by omega⟩
  obtain ⟨a', ha'⟩ := H 0 ⟨128 + k.val, by omega⟩
  obtain ⟨b', hb'⟩ := H 1 ⟨128 + k.val, by omega⟩
  have hg := left a0 0 k
  have hh := left a0 1 k
  have hg' := right a0 0 k
  have hh' := right a0 1 k
  match r, hr with
  | 0, _ =>
    pointwise [k0_pay3, val_main_v58, val_main_v56]
    refine Eq.trans ?_ ((kern a b _ _).trans (ref ha hb hg hh).symm)
    rw [← ha, ← hb]
    rfl
  | 1, _ =>
    pointwise [k0_pay3, val_main_v58, val_main_v56]
    refine Eq.trans ?_ ((kern a' b' _ _).trans (ref ha' hb' hg' hh').symm)
    rw [← ha', ← hb']
    rfl
  | 2, _ =>
    pointwise [k0_pay3, val_main_v58, val_main_v56]
    refine Eq.trans ?_ ((kern' a b _ _).trans (ref' ha hb hg hh).symm)
    rw [← ha, ← hb]
    rfl
  | 3, _ =>
    pointwise [k0_pay3, val_main_v58, val_main_v56]
    refine Eq.trans ?_ ((kern' a' b' _ _).trans (ref' ha' hb' hg' hh').symm)
    rw [← ha', ← hb']
    rfl
  | r + 4, hr =>
    pointwise [k0_pay3, val_main_v58, val_main_v57]
    rw [dif_neg (by omega), dif_neg (by omega), dif_neg (by omega), dif_neg (by omega), dif_neg (by omega)]
    exact congrArg a0 (by blk_ext)

theorem fine {a0 a2 a3 a4 : FVec Ideal S328x128 .f32} {a1 : FVec Ideal S2x256 .f32} (h : ∀ y, Cert.Pre_finite11.fn (F := Ideal) a0 a1 a2 a3 a4 y = 1#1) : Fine a1 := by
  intro i j
  have e := h (ix2 i j)
  pointwise [Cert.Pre_finite11.fn] at e
  exact Cert.Proof.real_of_lt _ e

theorem ld0 (X : Vec Ideal S328x128 .f32) : View.ld X r0_1 = X := View.ld_unit_zero (S := S328x128) (by decide) _ X

theorem ld1 (X : Vec Ideal S2x256 .f32) : View.ld X r0_0 = X := View.ld_unit_zero (S := S2x256) (by decide) _ X

theorem mean (H : Fine a1) (a2 a3 a4 : FVec Ideal S328x128 .f32) : k0_pay6 (F := Ideal) a0 a1 a2 a3 a4 = val_main_v63 (F := Ideal) a0 a1 a3 := by
  unfold k0_pay6
  rw [ld1, ld0, ld0]
  funext y
  obtain ⟨r, k, rfl⟩ : ∃ (r : Fin 328) (k : Fin 128), y = ix2 r k := ⟨y 0, y 1, by blk_ext⟩
  pointwise [k0_pay4, val_main_v63, val_main_v62, val_main_v61, val_main_v60, val_main_v59, val_main_cst_14, val_main_cst_15]
  rw [grad H]

theorem spread (H : Fine a1) (a2 a3 a4 : FVec Ideal S328x128 .f32) :
    k0_pay1 (F := Ideal) (k0_pay5 a0 a1 a2 a3 a4) a4 (Scalar.ofBits .f32 0x3F7FBE77#32) = val_main_v69 (F := Ideal) a0 a1 a4 := by
  unfold k0_pay5
  rw [ld1, ld0, grad H]
  funext y
  obtain ⟨r, k, rfl⟩ : ∃ (r : Fin 328) (k : Fin 128), y = ix2 r k := ⟨y 0, y 1, by blk_ext⟩
  pointwise [k0_pay1, val_main_v69, val_main_v68, val_main_v67, val_main_v66, val_main_v65, val_main_v64, val_main_cst_16, val_main_cst_17]

theorem step (H : Fine a1) (a2 a3 a4 : FVec Ideal S328x128 .f32) :
    k0_pay2 (F := Ideal) (k0_pay5 a0 a1 a2 a3 a4) a2 a4 (k0_pay6 a0 a1 a2 a3 a4) (Scalar.ofBits .f32 0x3F7FBE77#32) = val_main_v82 (F := Ideal) a0 a1 a2 a3 a4 := by
  rw [mean H]
  funext y
  obtain ⟨r, k, rfl⟩ : ∃ (r : Fin 328) (k : Fin 128), y = ix2 r k := ⟨y 0, y 1, by blk_ext⟩
  pointwise [k0_pay2, val_main_v82, val_main_v81, val_main_v80, val_main_v79, val_main_v78, val_main_v77, val_main_v76, val_main_v75, val_main_v74, val_main_v73, val_main_v72, val_main_v71, val_main_v70, val_main_cst_18, val_main_cst_19, val_main_cst_20, val_main_cst_21, val_main_cst_22]
  rw [show k0_pay1 (F := Ideal) (k0_pay5 a0 a1 a2 a3 a4) a4 (Ideal.ofBits FTy.f32 1065336439#32) = val_main_v69 (F := Ideal) a0 a1 a4 from spread H a2 a3 a4]

theorem kernel : Cert.quiescent_Kernel11 := fun m ρ _ => Cert.Kernel11.Gen.frame (F := Bits) m ρ
theorem kernelIdeal : Cert.quiescent_Kernel11Ideal := fun m ρ _ => Cert.Kernel11Ideal.Gen.frame (F := Ideal) m ρ
theorem kernelIdeal_pre : Cert.quiescent_Kernel11Ideal_pre_finite11 := fun m ρ _ => Cert.Kernel11Ideal.Gen.frame (F := Ideal) m ρ
theorem referenceIdeal : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)
theorem referenceIdeal_pre : Cert.quiescent_Reference11Ideal_pre_finite11 := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

/-- On finite bounds and cotangents the call and the plain update leave the same four arrays. -/
theorem algebraic : Cert.algebraic_Kernel11Ideal_Reference11Ideal_pre_finite11 := by
  intro m g m' g' hpre hargs
  refine ⟨fun c => val_main_v58 (F := Ideal) (m ((c : Thread nD τ).loc main_arg0)) (m ((c : Thread nD τ).loc main_arg1)),
    fun c => val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v63 (F := Ideal) (m ((c : Thread nD τ).loc main_arg0)) (m ((c : Thread nD τ).loc main_arg1)) (m ((c : Thread nD τ).loc main_arg3)),
    fun c => val_main_v69 (F := Ideal) (m ((c : Thread nD τ).loc main_arg0)) (m ((c : Thread nD τ).loc main_arg1)) (m ((c : Thread nD τ).loc main_arg4)), ?_, ?_⟩
  · refine (θ_run Cert.Kernel11Ideal.defs _ _).mono (fun r h c => ?_) (Cert.Kernel11Ideal.Value.run (F := Ideal) m g)
    have H := fine fun y => congrFun (hpre c) y
    obtain ⟨h5, h6, h7, h8, hr⟩ := h c
    exact ⟨h5.trans (grad H), h6.trans (step H _ _ _), h7.trans (mean H _ _ _), h8.trans (spread H (m ((c : Thread nD τ).loc main_arg2)) (m ((c : Thread nD τ).loc main_arg3)) _), hr⟩
  · refine (θ_run Cert.Reference11Ideal.defs _ _).mono (fun r h c => ?_) (Cert.Reference11Ideal.Value.run (F := Ideal) m' g')
    obtain ⟨e0, e1, e2, e3, e4⟩ := hargs c
    obtain ⟨h0, h1, h2, h3, hr⟩ := h c
    refine ⟨h0.trans ((Cert.Reference11Ideal.Read.val_main_v58_eq m' c).trans ?_), h1.trans ((Cert.Reference11Ideal.Read.val_main_v82_eq m' c).trans ?_),
      h2.trans ((Cert.Reference11Ideal.Read.val_main_v63_eq m' c).trans ?_), h3.trans ((Cert.Reference11Ideal.Read.val_main_v69_eq m' c).trans ?_), hr⟩
    · rw [e0, e1]
    · rw [e0, e1, e2, e3, e4]
    · rw [e0, e1, e3]
    · rw [e0, e1, e4]

end Cert.Proof.Small

end
-- ==== Proof.lean ====
/- The claims of this directory, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Pre_finite
public import proofs.«01_k».proof.Proof.Gen.Pre_finite3
public import proofs.«01_k».proof.Proof.Gen.Pre_finite4
public import proofs.«01_k».proof.Proof.Gen.Kernel10
public import proofs.«01_k».proof.Proof.Gen.Kernel10Ideal
public import proofs.«01_k».proof.Proof.Gen.Reference10Ideal
public import proofs.«01_k».proof.Proof.Gen.Pre_finite10
public import proofs.«01_k».proof.Proof.Gen.Kernel11
public import proofs.«01_k».proof.Proof.Gen.Kernel11Ideal
public import proofs.«01_k».proof.Proof.Gen.Reference11Ideal
public import proofs.«01_k».proof.Proof.Gen.Pre_finite11
public import proofs.«01_k».proof.Proof.Frames
public import proofs.«01_k».proof.Proof.CallFrames
public import proofs.«01_k».proof.Proof.Value
public import proofs.«01_k».proof.Proof.Calls
public import proofs.«01_k».proof.Proof.FoxClaims
public import proofs.«01_k».proof.Proof.Small

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.Pre_finite3.Gen.facts, Cert.Pre_finite4.Gen.facts, Cert.Pre_finite10.Gen.facts, Cert.Pre_finite11.Gen.facts,
    frame_kernel, frame_kernelIdeal, frame_kernelIdeal_pre, frame_referenceIdeal, frame_referenceIdeal_pre,
    Calls.kernel2, Calls.kernelIdeal2, Calls.referenceIdeal2,
    Calls.kernel3, Calls.kernelIdeal3, Calls.kernelIdeal3_pre, Calls.referenceIdeal3, Calls.referenceIdeal3_pre,
    Calls.kernel4, Calls.kernelIdeal4, Calls.kernelIdeal4_pre, Calls.referenceIdeal4, Calls.referenceIdeal4_pre,
    Calls.kernel5, Calls.kernelIdeal5, Calls.referenceIdeal5,
    Calls.kernel6, Calls.kernelIdeal6, Calls.referenceIdeal6,
    Calls.kernel7, Calls.kernelIdeal7, Calls.referenceIdeal7,
    Calls.kernel8, Calls.kernelIdeal8, Calls.referenceIdeal8,
    Calls.kernel9, Calls.kernelIdeal9, Calls.referenceIdeal9,
    FoxFwd.kernel, FoxFwd.kernelIdeal, FoxFwd.kernelIdeal_pre, FoxFwd.referenceIdeal, FoxFwd.referenceIdeal_pre,
    Small.kernel, Small.kernelIdeal, Small.kernelIdeal_pre, Small.referenceIdeal, Small.referenceIdeal_pre,
    trivial, algebraic, trivial, Calls.algebraic2, trivial, Calls.algebraic3, trivial, Calls.algebraic4, trivial, Calls.algebraic5, trivial, Calls.algebraic6, trivial, Calls.algebraic7, trivial, Calls.algebraic8, trivial, Calls.algebraic9, FoxFwd.preserves, FoxFwd.algebraic, trivial, Small.algebraic⟩

end Cert.Proof

end
